-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastReferenceIdeal (m : (ℓ : Loc Cert.LastReferenceIdeal.nD Cert.LastReferenceIdeal.τ Cert.LastReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutReferenceIdeal (m : (ℓ : Loc Cert.MlaOutReferenceIdeal.nD Cert.MlaOutReferenceIdeal.τ Cert.MlaOutReferenceIdeal.sig) → Buf (Elt Ideal) ℓ) : Prop :=
  True

def Pre_Keys (m : (ℓ : Loc Cert.Keys.nD Cert.Keys.τ Cert.Keys.sig) → Buf (Elt Bits) ℓ) : Prop :=
  True

def Pre_KeysIdeal (m : (ℓ : Loc Cert.KeysIdeal.nD Cert.KeysIdeal.τ Cert.KeysIdeal.sig) → Buf (Elt Ideal) ℓ) : Prop :=
  True

def Pre_KeysReferenceIdeal (m : (ℓ : Loc Cert.KeysReferenceIdeal.nD Cert.KeysReferenceIdeal.τ Cert.KeysReferenceIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnReferenceIdeal (m : (ℓ : Loc Cert.GdnReferenceIdeal.nD Cert.GdnReferenceIdeal.τ Cert.GdnReferenceIdeal.sig) → Buf (Elt Ideal) ℓ) : Prop :=
  True

def Pre_KeysSample (m : (ℓ : Loc Cert.KeysSample.nD Cert.KeysSample.τ Cert.KeysSample.sig) → Buf (Elt Bits) ℓ) : Prop :=
  True

def Pre_KeysSampleIdeal (m : (ℓ : Loc Cert.KeysSampleIdeal.nD Cert.KeysSampleIdeal.τ Cert.KeysSampleIdeal.sig) → Buf (Elt Ideal) ℓ) : Prop :=
  True

def Pre_KeysSampleReferenceIdeal (m : (ℓ : Loc Cert.KeysSampleReferenceIdeal.nD Cert.KeysSampleReferenceIdeal.τ Cert.KeysSampleReferenceIdeal.sig) → Buf (Elt Ideal) ℓ) : Prop :=
  True

def Pre_GdnSample (m : (ℓ : Loc Cert.GdnSample.nD Cert.GdnSample.τ Cert.GdnSample.sig) → Buf (Elt Bits) ℓ) : Prop :=
  True

def Pre_GdnSampleIdeal (m : (ℓ : Loc Cert.GdnSampleIdeal.nD Cert.GdnSampleIdeal.τ Cert.GdnSampleIdeal.sig) → Buf (Elt Ideal) ℓ) : Prop :=
  True

def Pre_GdnSampleReferenceIdeal (m : (ℓ : Loc Cert.GdnSampleReferenceIdeal.nD Cert.GdnSampleReferenceIdeal.τ Cert.GdnSampleReferenceIdeal.sig) → Buf (Elt Ideal) ℓ) : Prop :=
  True

def Pre_LastSample (m : (ℓ : Loc Cert.LastSample.nD Cert.LastSample.τ Cert.LastSample.sig) → Buf (Elt Bits) ℓ) : Prop :=
  True

def Pre_LastSampleIdeal (m : (ℓ : Loc Cert.LastSampleIdeal.nD Cert.LastSampleIdeal.τ Cert.LastSampleIdeal.sig) → Buf (Elt Ideal) ℓ) : Prop :=
  True

def Pre_LastSampleReferenceIdeal (m : (ℓ : Loc Cert.LastSampleReferenceIdeal.nD Cert.LastSampleReferenceIdeal.τ Cert.LastSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2)
      ∧ r.2.mem ((c.tc : Thread Cert.Last.nD Cert.Last.τ).loc Cert.Last.main_arg3) = m ((c.tc : Thread Cert.Last.nD Cert.Last.τ).loc Cert.Last.main_arg3)
      ∧ r.2.mem ((c.tc : Thread Cert.Last.nD Cert.Last.τ).loc Cert.Last.main_arg4) = m ((c.tc : Thread Cert.Last.nD Cert.Last.τ).loc Cert.Last.main_arg4)
      ∧ r.2.mem ((c.tc : Thread Cert.Last.nD Cert.Last.τ).loc Cert.Last.main_arg5) = m ((c.tc : Thread Cert.Last.nD Cert.Last.τ).loc Cert.Last.main_arg5))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
      ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
      ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
      ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ r.2.sem = fun _ => 0)

def quiescent_LastReferenceIdeal [hLastReferenceIdeal : Cert.LastReferenceIdeal.Facts] : Prop :=
  ∀ (m : (ℓ : Loc Cert.LastReferenceIdeal.nD Cert.LastReferenceIdeal.τ Cert.LastReferenceIdeal.sig) → Buf (Elt Ideal) ℓ) (g : Dev Cert.LastReferenceIdeal.nD → PrngReg), Pre_LastReferenceIdeal m →
    θ_run (Cert.LastReferenceIdeal.defs (F := Ideal)) (onTc (τ := Cert.LastReferenceIdeal.τ) (Cert.LastReferenceIdeal.main (F := Ideal))) ⟨m, fun _ => 0, g⟩ (fun r => (∀ c : Dev Cert.LastReferenceIdeal.nD,
      r.2.mem ((c.tc : Thread Cert.LastReferenceIdeal.nD Cert.LastReferenceIdeal.τ).loc Cert.LastReferenceIdeal.main_arg0) = m ((c.tc : Thread Cert.LastReferenceIdeal.nD Cert.LastReferenceIdeal.τ).loc Cert.LastReferenceIdeal.main_arg0)
      ∧ r.2.mem ((c.tc : Thread Cert.LastReferenceIdeal.nD Cert.LastReferenceIdeal.τ).loc Cert.LastReferenceIdeal.main_arg1) = m ((c.tc : Thread Cert.LastReferenceIdeal.nD Cert.LastReferenceIdeal.τ).loc Cert.LastReferenceIdeal.main_arg1)
      ∧ r.2.mem ((c.tc : Thread Cert.LastReferenceIdeal.nD Cert.LastReferenceIdeal.τ).loc Cert.LastReferenceIdeal.main_arg2) = m ((c.tc : Thread Cert.LastReferenceIdeal.nD Cert.LastReferenceIdeal.τ).loc Cert.LastReferenceIdeal.main_arg2)
      ∧ r.2.mem ((c.tc : Thread Cert.LastReferenceIdeal.nD Cert.LastReferenceIdeal.τ).loc Cert.LastReferenceIdeal.main_arg3) = m ((c.tc : Thread Cert.LastReferenceIdeal.nD Cert.LastReferenceIdeal.τ).loc Cert.LastReferenceIdeal.main_arg3)
      ∧ r.2.mem ((c.tc : Thread Cert.LastReferenceIdeal.nD Cert.LastReferenceIdeal.τ).loc Cert.LastReferenceIdeal.main_arg4) = m ((c.tc : Thread Cert.LastReferenceIdeal.nD Cert.LastReferenceIdeal.τ).loc Cert.LastReferenceIdeal.main_arg4)
      ∧ r.2.mem ((c.tc : Thread Cert.LastReferenceIdeal.nD Cert.LastReferenceIdeal.τ).loc Cert.LastReferenceIdeal.main_arg5) = m ((c.tc : Thread Cert.LastReferenceIdeal.nD Cert.LastReferenceIdeal.τ).loc Cert.LastReferenceIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1)
      ∧ r.2.mem ((c.tc : Thread Cert.MlaOut.nD Cert.MlaOut.τ).loc Cert.MlaOut.main_arg2) = m ((c.tc : Thread Cert.MlaOut.nD Cert.MlaOut.τ).loc Cert.MlaOut.main_arg2)
      ∧ r.2.mem ((c.tc : Thread Cert.MlaOut.nD Cert.MlaOut.τ).loc Cert.MlaOut.main_arg3) = m ((c.tc : Thread Cert.MlaOut.nD Cert.MlaOut.τ).loc Cert.MlaOut.main_arg3))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
      ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
      ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3))
      ∧ r.2.sem = fun _ => 0)

def quiescent_MlaOutReferenceIdeal [hMlaOutReferenceIdeal : Cert.MlaOutReferenceIdeal.Facts] : Prop :=
  ∀ (m : (ℓ : Loc Cert.MlaOutReferenceIdeal.nD Cert.MlaOutReferenceIdeal.τ Cert.MlaOutReferenceIdeal.sig) → Buf (Elt Ideal) ℓ) (g : Dev Cert.MlaOutReferenceIdeal.nD → PrngReg), Pre_MlaOutReferenceIdeal m →
    θ_run (Cert.MlaOutReferenceIdeal.defs (F := Ideal)) (onTc (τ := Cert.MlaOutReferenceIdeal.τ) (Cert.MlaOutReferenceIdeal.main (F := Ideal))) ⟨m, fun _ => 0, g⟩ (fun r => (∀ c : Dev Cert.MlaOutReferenceIdeal.nD,
      r.2.mem ((c.tc : Thread Cert.MlaOutReferenceIdeal.nD Cert.MlaOutReferenceIdeal.τ).loc Cert.MlaOutReferenceIdeal.main_arg0) = m ((c.tc : Thread Cert.MlaOutReferenceIdeal.nD Cert.MlaOutReferenceIdeal.τ).loc Cert.MlaOutReferenceIdeal.main_arg0)
      ∧ r.2.mem ((c.tc : Thread Cert.MlaOutReferenceIdeal.nD Cert.MlaOutReferenceIdeal.τ).loc Cert.MlaOutReferenceIdeal.main_arg1) = m ((c.tc : Thread Cert.MlaOutReferenceIdeal.nD Cert.MlaOutReferenceIdeal.τ).loc Cert.MlaOutReferenceIdeal.main_arg1)
      ∧ r.2.mem ((c.tc : Thread Cert.MlaOutReferenceIdeal.nD Cert.MlaOutReferenceIdeal.τ).loc Cert.MlaOutReferenceIdeal.main_arg2) = m ((c.tc : Thread Cert.MlaOutReferenceIdeal.nD Cert.MlaOutReferenceIdeal.τ).loc Cert.MlaOutReferenceIdeal.main_arg2)
      ∧ r.2.mem ((c.tc : Thread Cert.MlaOutReferenceIdeal.nD Cert.MlaOutReferenceIdeal.τ).loc Cert.MlaOutReferenceIdeal.main_arg3) = m ((c.tc : Thread Cert.MlaOutReferenceIdeal.nD Cert.MlaOutReferenceIdeal.τ).loc Cert.MlaOutReferenceIdeal.main_arg3))
      ∧ r.2.sem = fun _ => 0)

def quiescent_Keys [hKeys : Cert.Keys.Facts] : Prop :=
  ∀ (m : (ℓ : Loc Cert.Keys.nD Cert.Keys.τ Cert.Keys.sig) → Buf (Elt Bits) ℓ) (g : Dev Cert.Keys.nD → PrngReg), Pre_Keys m →
    θ_run (Cert.Keys.defs (F := Bits)) (onTc (τ := Cert.Keys.τ) (Cert.Keys.main (F := Bits))) ⟨m, fun _ => 0, g⟩ (fun r => (∀ c : Dev Cert.Keys.nD,
      r.2.mem ((c.tc : Thread Cert.Keys.nD Cert.Keys.τ).loc Cert.Keys.main_arg0) = m ((c.tc : Thread Cert.Keys.nD Cert.Keys.τ).loc Cert.Keys.main_arg0)
      ∧ r.2.mem ((c.tc : Thread Cert.Keys.nD Cert.Keys.τ).loc Cert.Keys.main_arg1) = m ((c.tc : Thread Cert.Keys.nD Cert.Keys.τ).loc Cert.Keys.main_arg1)
      ∧ r.2.mem ((c.tc : Thread Cert.Keys.nD Cert.Keys.τ).loc Cert.Keys.main_arg2) = m ((c.tc : Thread Cert.Keys.nD Cert.Keys.τ).loc Cert.Keys.main_arg2))
      ∧ r.2.sem = fun _ => 0)

def quiescent_KeysIdeal [hKeysIdeal : Cert.KeysIdeal.Facts] : Prop :=
  ∀ (m : (ℓ : Loc Cert.KeysIdeal.nD Cert.KeysIdeal.τ Cert.KeysIdeal.sig) → Buf (Elt Ideal) ℓ) (g : Dev Cert.KeysIdeal.nD → PrngReg), Pre_KeysIdeal m →
    θ_run (Cert.KeysIdeal.defs (F := Ideal)) (onTc (τ := Cert.KeysIdeal.τ) (Cert.KeysIdeal.main (F := Ideal))) ⟨m, fun _ => 0, g⟩ (fun r => (∀ c : Dev Cert.KeysIdeal.nD,
      r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
      ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
      ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ r.2.sem = fun _ => 0)

def quiescent_KeysReferenceIdeal [hKeysReferenceIdeal : Cert.KeysReferenceIdeal.Facts] : Prop :=
  ∀ (m : (ℓ : Loc Cert.KeysReferenceIdeal.nD Cert.KeysReferenceIdeal.τ Cert.KeysReferenceIdeal.sig) → Buf (Elt Ideal) ℓ) (g : Dev Cert.KeysReferenceIdeal.nD → PrngReg), Pre_KeysReferenceIdeal m →
    θ_run (Cert.KeysReferenceIdeal.defs (F := Ideal)) (onTc (τ := Cert.KeysReferenceIdeal.τ) (Cert.KeysReferenceIdeal.main (F := Ideal))) ⟨m, fun _ => 0, g⟩ (fun r => (∀ c : Dev Cert.KeysReferenceIdeal.nD,
      r.2.mem ((c.tc : Thread Cert.KeysReferenceIdeal.nD Cert.KeysReferenceIdeal.τ).loc Cert.KeysReferenceIdeal.main_arg0) = m ((c.tc : Thread Cert.KeysReferenceIdeal.nD Cert.KeysReferenceIdeal.τ).loc Cert.KeysReferenceIdeal.main_arg0)
      ∧ r.2.mem ((c.tc : Thread Cert.KeysReferenceIdeal.nD Cert.KeysReferenceIdeal.τ).loc Cert.KeysReferenceIdeal.main_arg1) = m ((c.tc : Thread Cert.KeysReferenceIdeal.nD Cert.KeysReferenceIdeal.τ).loc Cert.KeysReferenceIdeal.main_arg1)
      ∧ r.2.mem ((c.tc : Thread Cert.KeysReferenceIdeal.nD Cert.KeysReferenceIdeal.τ).loc Cert.KeysReferenceIdeal.main_arg2) = m ((c.tc : Thread Cert.KeysReferenceIdeal.nD Cert.KeysReferenceIdeal.τ).loc Cert.KeysReferenceIdeal.main_arg2))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2))
      ∧ r.2.sem = fun _ => 0)

def quiescent_GdnReferenceIdeal [hGdnReferenceIdeal : Cert.GdnReferenceIdeal.Facts] : Prop :=
  ∀ (m : (ℓ : Loc Cert.GdnReferenceIdeal.nD Cert.GdnReferenceIdeal.τ Cert.GdnReferenceIdeal.sig) → Buf (Elt Ideal) ℓ) (g : Dev Cert.GdnReferenceIdeal.nD → PrngReg), Pre_GdnReferenceIdeal m →
    θ_run (Cert.GdnReferenceIdeal.defs (F := Ideal)) (onTc (τ := Cert.GdnReferenceIdeal.τ) (Cert.GdnReferenceIdeal.main (F := Ideal))) ⟨m, fun _ => 0, g⟩ (fun r => (∀ c : Dev Cert.GdnReferenceIdeal.nD,
      r.2.mem ((c.tc : Thread Cert.GdnReferenceIdeal.nD Cert.GdnReferenceIdeal.τ).loc Cert.GdnReferenceIdeal.main_arg0) = m ((c.tc : Thread Cert.GdnReferenceIdeal.nD Cert.GdnReferenceIdeal.τ).loc Cert.GdnReferenceIdeal.main_arg0)
      ∧ r.2.mem ((c.tc : Thread Cert.GdnReferenceIdeal.nD Cert.GdnReferenceIdeal.τ).loc Cert.GdnReferenceIdeal.main_arg1) = m ((c.tc : Thread Cert.GdnReferenceIdeal.nD Cert.GdnReferenceIdeal.τ).loc Cert.GdnReferenceIdeal.main_arg1)
      ∧ r.2.mem ((c.tc : Thread Cert.GdnReferenceIdeal.nD Cert.GdnReferenceIdeal.τ).loc Cert.GdnReferenceIdeal.main_arg2) = m ((c.tc : Thread Cert.GdnReferenceIdeal.nD Cert.GdnReferenceIdeal.τ).loc Cert.GdnReferenceIdeal.main_arg2))
      ∧ r.2.sem = fun _ => 0)

def quiescent_KeysSample [hKeysSample : Cert.KeysSample.Facts] : Prop :=
  ∀ (m : (ℓ : Loc Cert.KeysSample.nD Cert.KeysSample.τ Cert.KeysSample.sig) → Buf (Elt Bits) ℓ) (g : Dev Cert.KeysSample.nD → PrngReg), Pre_KeysSample m →
    θ_run (Cert.KeysSample.defs (F := Bits)) (onTc (τ := Cert.KeysSample.τ) (Cert.KeysSample.main (F := Bits))) ⟨m, fun _ => 0, g⟩ (fun r => (∀ c : Dev Cert.KeysSample.nD,
      r.2.mem ((c.tc : Thread Cert.KeysSample.nD Cert.KeysSample.τ).loc Cert.KeysSample.main_arg0) = m ((c.tc : Thread Cert.KeysSample.nD Cert.KeysSample.τ).loc Cert.KeysSample.main_arg0)
      ∧ r.2.mem ((c.tc : Thread Cert.KeysSample.nD Cert.KeysSample.τ).loc Cert.KeysSample.main_arg1) = m ((c.tc : Thread Cert.KeysSample.nD Cert.KeysSample.τ).loc Cert.KeysSample.main_arg1)
      ∧ r.2.mem ((c.tc : Thread Cert.KeysSample.nD Cert.KeysSample.τ).loc Cert.KeysSample.main_arg2) = m ((c.tc : Thread Cert.KeysSample.nD Cert.KeysSample.τ).loc Cert.KeysSample.main_arg2))
      ∧ r.2.sem = fun _ => 0)

def quiescent_KeysSampleIdeal [hKeysSampleIdeal : Cert.KeysSampleIdeal.Facts] : Prop :=
  ∀ (m : (ℓ : Loc Cert.KeysSampleIdeal.nD Cert.KeysSampleIdeal.τ Cert.KeysSampleIdeal.sig) → Buf (Elt Ideal) ℓ) (g : Dev Cert.KeysSampleIdeal.nD → PrngReg), Pre_KeysSampleIdeal m →
    θ_run (Cert.KeysSampleIdeal.defs (F := Ideal)) (onTc (τ := Cert.KeysSampleIdeal.τ) (Cert.KeysSampleIdeal.main (F := Ideal))) ⟨m, fun _ => 0, g⟩ (fun r => (∀ c : Dev Cert.KeysSampleIdeal.nD,
      r.2.mem ((c.tc : Thread Cert.KeysSampleIdeal.nD Cert.KeysSampleIdeal.τ).loc Cert.KeysSampleIdeal.main_arg0) = m ((c.tc : Thread Cert.KeysSampleIdeal.nD Cert.KeysSampleIdeal.τ).loc Cert.KeysSampleIdeal.main_arg0)
      ∧ r.2.mem ((c.tc : Thread Cert.KeysSampleIdeal.nD Cert.KeysSampleIdeal.τ).loc Cert.KeysSampleIdeal.main_arg1) = m ((c.tc : Thread Cert.KeysSampleIdeal.nD Cert.KeysSampleIdeal.τ).loc Cert.KeysSampleIdeal.main_arg1)
      ∧ r.2.mem ((c.tc : Thread Cert.KeysSampleIdeal.nD Cert.KeysSampleIdeal.τ).loc Cert.KeysSampleIdeal.main_arg2) = m ((c.tc : Thread Cert.KeysSampleIdeal.nD Cert.KeysSampleIdeal.τ).loc Cert.KeysSampleIdeal.main_arg2))
      ∧ r.2.sem = fun _ => 0)

def quiescent_KeysSampleReferenceIdeal [hKeysSampleReferenceIdeal : Cert.KeysSampleReferenceIdeal.Facts] : Prop :=
  ∀ (m : (ℓ : Loc Cert.KeysSampleReferenceIdeal.nD Cert.KeysSampleReferenceIdeal.τ Cert.KeysSampleReferenceIdeal.sig) → Buf (Elt Ideal) ℓ) (g : Dev Cert.KeysSampleReferenceIdeal.nD → PrngReg), Pre_KeysSampleReferenceIdeal m →
    θ_run (Cert.KeysSampleReferenceIdeal.defs (F := Ideal)) (onTc (τ := Cert.KeysSampleReferenceIdeal.τ) (Cert.KeysSampleReferenceIdeal.main (F := Ideal))) ⟨m, fun _ => 0, g⟩ (fun r => (∀ c : Dev Cert.KeysSampleReferenceIdeal.nD,
      r.2.mem ((c.tc : Thread Cert.KeysSampleReferenceIdeal.nD Cert.KeysSampleReferenceIdeal.τ).loc Cert.KeysSampleReferenceIdeal.main_arg0) = m ((c.tc : Thread Cert.KeysSampleReferenceIdeal.nD Cert.KeysSampleReferenceIdeal.τ).loc Cert.KeysSampleReferenceIdeal.main_arg0)
      ∧ r.2.mem ((c.tc : Thread Cert.KeysSampleReferenceIdeal.nD Cert.KeysSampleReferenceIdeal.τ).loc Cert.KeysSampleReferenceIdeal.main_arg1) = m ((c.tc : Thread Cert.KeysSampleReferenceIdeal.nD Cert.KeysSampleReferenceIdeal.τ).loc Cert.KeysSampleReferenceIdeal.main_arg1)
      ∧ r.2.mem ((c.tc : Thread Cert.KeysSampleReferenceIdeal.nD Cert.KeysSampleReferenceIdeal.τ).loc Cert.KeysSampleReferenceIdeal.main_arg2) = m ((c.tc : Thread Cert.KeysSampleReferenceIdeal.nD Cert.KeysSampleReferenceIdeal.τ).loc Cert.KeysSampleReferenceIdeal.main_arg2))
      ∧ r.2.sem = fun _ => 0)

def quiescent_GdnSample [hGdnSample : Cert.GdnSample.Facts] : Prop :=
  ∀ (m : (ℓ : Loc Cert.GdnSample.nD Cert.GdnSample.τ Cert.GdnSample.sig) → Buf (Elt Bits) ℓ) (g : Dev Cert.GdnSample.nD → PrngReg), Pre_GdnSample m →
    θ_run (Cert.GdnSample.defs (F := Bits)) (onTc (τ := Cert.GdnSample.τ) (Cert.GdnSample.main (F := Bits))) ⟨m, fun _ => 0, g⟩ (fun r => (∀ c : Dev Cert.GdnSample.nD,
      r.2.mem ((c.tc : Thread Cert.GdnSample.nD Cert.GdnSample.τ).loc Cert.GdnSample.main_arg0) = m ((c.tc : Thread Cert.GdnSample.nD Cert.GdnSample.τ).loc Cert.GdnSample.main_arg0)
      ∧ r.2.mem ((c.tc : Thread Cert.GdnSample.nD Cert.GdnSample.τ).loc Cert.GdnSample.main_arg1) = m ((c.tc : Thread Cert.GdnSample.nD Cert.GdnSample.τ).loc Cert.GdnSample.main_arg1)
      ∧ r.2.mem ((c.tc : Thread Cert.GdnSample.nD Cert.GdnSample.τ).loc Cert.GdnSample.main_arg2) = m ((c.tc : Thread Cert.GdnSample.nD Cert.GdnSample.τ).loc Cert.GdnSample.main_arg2))
      ∧ r.2.sem = fun _ => 0)

def quiescent_GdnSampleIdeal [hGdnSampleIdeal : Cert.GdnSampleIdeal.Facts] : Prop :=
  ∀ (m : (ℓ : Loc Cert.GdnSampleIdeal.nD Cert.GdnSampleIdeal.τ Cert.GdnSampleIdeal.sig) → Buf (Elt Ideal) ℓ) (g : Dev Cert.GdnSampleIdeal.nD → PrngReg), Pre_GdnSampleIdeal m →
    θ_run (Cert.GdnSampleIdeal.defs (F := Ideal)) (onTc (τ := Cert.GdnSampleIdeal.τ) (Cert.GdnSampleIdeal.main (F := Ideal))) ⟨m, fun _ => 0, g⟩ (fun r => (∀ c : Dev Cert.GdnSampleIdeal.nD,
      r.2.mem ((c.tc : Thread Cert.GdnSampleIdeal.nD Cert.GdnSampleIdeal.τ).loc Cert.GdnSampleIdeal.main_arg0) = m ((c.tc : Thread Cert.GdnSampleIdeal.nD Cert.GdnSampleIdeal.τ).loc Cert.GdnSampleIdeal.main_arg0)
      ∧ r.2.mem ((c.tc : Thread Cert.GdnSampleIdeal.nD Cert.GdnSampleIdeal.τ).loc Cert.GdnSampleIdeal.main_arg1) = m ((c.tc : Thread Cert.GdnSampleIdeal.nD Cert.GdnSampleIdeal.τ).loc Cert.GdnSampleIdeal.main_arg1)
      ∧ r.2.mem ((c.tc : Thread Cert.GdnSampleIdeal.nD Cert.GdnSampleIdeal.τ).loc Cert.GdnSampleIdeal.main_arg2) = m ((c.tc : Thread Cert.GdnSampleIdeal.nD Cert.GdnSampleIdeal.τ).loc Cert.GdnSampleIdeal.main_arg2))
      ∧ r.2.sem = fun _ => 0)

def quiescent_GdnSampleReferenceIdeal [hGdnSampleReferenceIdeal : Cert.GdnSampleReferenceIdeal.Facts] : Prop :=
  ∀ (m : (ℓ : Loc Cert.GdnSampleReferenceIdeal.nD Cert.GdnSampleReferenceIdeal.τ Cert.GdnSampleReferenceIdeal.sig) → Buf (Elt Ideal) ℓ) (g : Dev Cert.GdnSampleReferenceIdeal.nD → PrngReg), Pre_GdnSampleReferenceIdeal m →
    θ_run (Cert.GdnSampleReferenceIdeal.defs (F := Ideal)) (onTc (τ := Cert.GdnSampleReferenceIdeal.τ) (Cert.GdnSampleReferenceIdeal.main (F := Ideal))) ⟨m, fun _ => 0, g⟩ (fun r => (∀ c : Dev Cert.GdnSampleReferenceIdeal.nD,
      r.2.mem ((c.tc : Thread Cert.GdnSampleReferenceIdeal.nD Cert.GdnSampleReferenceIdeal.τ).loc Cert.GdnSampleReferenceIdeal.main_arg0) = m ((c.tc : Thread Cert.GdnSampleReferenceIdeal.nD Cert.GdnSampleReferenceIdeal.τ).loc Cert.GdnSampleReferenceIdeal.main_arg0)
      ∧ r.2.mem ((c.tc : Thread Cert.GdnSampleReferenceIdeal.nD Cert.GdnSampleReferenceIdeal.τ).loc Cert.GdnSampleReferenceIdeal.main_arg1) = m ((c.tc : Thread Cert.GdnSampleReferenceIdeal.nD Cert.GdnSampleReferenceIdeal.τ).loc Cert.GdnSampleReferenceIdeal.main_arg1)
      ∧ r.2.mem ((c.tc : Thread Cert.GdnSampleReferenceIdeal.nD Cert.GdnSampleReferenceIdeal.τ).loc Cert.GdnSampleReferenceIdeal.main_arg2) = m ((c.tc : Thread Cert.GdnSampleReferenceIdeal.nD Cert.GdnSampleReferenceIdeal.τ).loc Cert.GdnSampleReferenceIdeal.main_arg2))
      ∧ r.2.sem = fun _ => 0)

def quiescent_LastSample [hLastSample : Cert.LastSample.Facts] : Prop :=
  ∀ (m : (ℓ : Loc Cert.LastSample.nD Cert.LastSample.τ Cert.LastSample.sig) → Buf (Elt Bits) ℓ) (g : Dev Cert.LastSample.nD → PrngReg), Pre_LastSample m →
    θ_run (Cert.LastSample.defs (F := Bits)) (onTc (τ := Cert.LastSample.τ) (Cert.LastSample.main (F := Bits))) ⟨m, fun _ => 0, g⟩ (fun r => (∀ c : Dev Cert.LastSample.nD,
      r.2.mem ((c.tc : Thread Cert.LastSample.nD Cert.LastSample.τ).loc Cert.LastSample.main_arg0) = m ((c.tc : Thread Cert.LastSample.nD Cert.LastSample.τ).loc Cert.LastSample.main_arg0)
      ∧ r.2.mem ((c.tc : Thread Cert.LastSample.nD Cert.LastSample.τ).loc Cert.LastSample.main_arg1) = m ((c.tc : Thread Cert.LastSample.nD Cert.LastSample.τ).loc Cert.LastSample.main_arg1)
      ∧ r.2.mem ((c.tc : Thread Cert.LastSample.nD Cert.LastSample.τ).loc Cert.LastSample.main_arg2) = m ((c.tc : Thread Cert.LastSample.nD Cert.LastSample.τ).loc Cert.LastSample.main_arg2)
      ∧ r.2.mem ((c.tc : Thread Cert.LastSample.nD Cert.LastSample.τ).loc Cert.LastSample.main_arg3) = m ((c.tc : Thread Cert.LastSample.nD Cert.LastSample.τ).loc Cert.LastSample.main_arg3)
      ∧ r.2.mem ((c.tc : Thread Cert.LastSample.nD Cert.LastSample.τ).loc Cert.LastSample.main_arg4) = m ((c.tc : Thread Cert.LastSample.nD Cert.LastSample.τ).loc Cert.LastSample.main_arg4)
      ∧ r.2.mem ((c.tc : Thread Cert.LastSample.nD Cert.LastSample.τ).loc Cert.LastSample.main_arg5) = m ((c.tc : Thread Cert.LastSample.nD Cert.LastSample.τ).loc Cert.LastSample.main_arg5))
      ∧ r.2.sem = fun _ => 0)

def quiescent_LastSampleIdeal [hLastSampleIdeal : Cert.LastSampleIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg), Pre_LastSampleIdeal m →
    θ_run (Cert.LastSampleIdeal.defs (F := Ideal)) (onTc (τ := Cert.LastSampleIdeal.τ) (Cert.LastSampleIdeal.main (F := Ideal))) ⟨m, fun _ => 0, g⟩ (fun r => (∀ c : Dev Cert.LastSampleIdeal.nD,
      r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
      ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
      ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
      ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
      ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4)
      ∧ r.2.mem ((c.tc : Thread Cert.LastSampleIdeal.nD Cert.LastSampleIdeal.τ).loc Cert.LastSampleIdeal.main_arg5) = m ((c.tc : Thread Cert.LastSampleIdeal.nD Cert.LastSampleIdeal.τ).loc Cert.LastSampleIdeal.main_arg5))
      ∧ r.2.sem = fun _ => 0)

def quiescent_LastSampleReferenceIdeal [hLastSampleReferenceIdeal : Cert.LastSampleReferenceIdeal.Facts] : Prop :=
  ∀ (m : (ℓ : Loc Cert.LastSampleReferenceIdeal.nD Cert.LastSampleReferenceIdeal.τ Cert.LastSampleReferenceIdeal.sig) → Buf (Elt Ideal) ℓ) (g : Dev Cert.LastSampleReferenceIdeal.nD → PrngReg), Pre_LastSampleReferenceIdeal m →
    θ_run (Cert.LastSampleReferenceIdeal.defs (F := Ideal)) (onTc (τ := Cert.LastSampleReferenceIdeal.τ) (Cert.LastSampleReferenceIdeal.main (F := Ideal))) ⟨m, fun _ => 0, g⟩ (fun r => (∀ c : Dev Cert.LastSampleReferenceIdeal.nD,
      r.2.mem ((c.tc : Thread Cert.LastSampleReferenceIdeal.nD Cert.LastSampleReferenceIdeal.τ).loc Cert.LastSampleReferenceIdeal.main_arg0) = m ((c.tc : Thread Cert.LastSampleReferenceIdeal.nD Cert.LastSampleReferenceIdeal.τ).loc Cert.LastSampleReferenceIdeal.main_arg0)
      ∧ r.2.mem ((c.tc : Thread Cert.LastSampleReferenceIdeal.nD Cert.LastSampleReferenceIdeal.τ).loc Cert.LastSampleReferenceIdeal.main_arg1) = m ((c.tc : Thread Cert.LastSampleReferenceIdeal.nD Cert.LastSampleReferenceIdeal.τ).loc Cert.LastSampleReferenceIdeal.main_arg1)
      ∧ r.2.mem ((c.tc : Thread Cert.LastSampleReferenceIdeal.nD Cert.LastSampleReferenceIdeal.τ).loc Cert.LastSampleReferenceIdeal.main_arg2) = m ((c.tc : Thread Cert.LastSampleReferenceIdeal.nD Cert.LastSampleReferenceIdeal.τ).loc Cert.LastSampleReferenceIdeal.main_arg2)
      ∧ r.2.mem ((c.tc : Thread Cert.LastSampleReferenceIdeal.nD Cert.LastSampleReferenceIdeal.τ).loc Cert.LastSampleReferenceIdeal.main_arg3) = m ((c.tc : Thread Cert.LastSampleReferenceIdeal.nD Cert.LastSampleReferenceIdeal.τ).loc Cert.LastSampleReferenceIdeal.main_arg3)
      ∧ r.2.mem ((c.tc : Thread Cert.LastSampleReferenceIdeal.nD Cert.LastSampleReferenceIdeal.τ).loc Cert.LastSampleReferenceIdeal.main_arg4) = m ((c.tc : Thread Cert.LastSampleReferenceIdeal.nD Cert.LastSampleReferenceIdeal.τ).loc Cert.LastSampleReferenceIdeal.main_arg4)
      ∧ r.2.mem ((c.tc : Thread Cert.LastSampleReferenceIdeal.nD Cert.LastSampleReferenceIdeal.τ).loc Cert.LastSampleReferenceIdeal.main_arg5) = m ((c.tc : Thread Cert.LastSampleReferenceIdeal.nD Cert.LastSampleReferenceIdeal.τ).loc Cert.LastSampleReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v21) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4))

def preserves_Last_LastIdeal : Prop :=
  True

def algebraic_LastIdeal_LastReferenceIdeal [hLastIdeal : Cert.LastIdeal.Facts] [hLastReferenceIdeal : Cert.LastReferenceIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastReferenceIdeal.nD Cert.LastReferenceIdeal.τ Cert.LastReferenceIdeal.sig) → Buf (Elt Ideal) ℓ) (g' : Dev Cert.LastReferenceIdeal.nD → PrngReg), Pre_LastIdeal m →
    (∀ c : Dev Cert.LastIdeal.nD,
      m' ((c.tc : Thread Cert.LastReferenceIdeal.nD Cert.LastReferenceIdeal.τ).loc Cert.LastReferenceIdeal.main_arg0) = m ((c.tc : Thread Cert.LastIdeal.nD Cert.LastIdeal.τ).loc Cert.LastIdeal.main_arg0)
      ∧ m' ((c.tc : Thread Cert.LastReferenceIdeal.nD Cert.LastReferenceIdeal.τ).loc Cert.LastReferenceIdeal.main_arg1) = m ((c.tc : Thread Cert.LastIdeal.nD Cert.LastIdeal.τ).loc Cert.LastIdeal.main_arg1)
      ∧ m' ((c.tc : Thread Cert.LastReferenceIdeal.nD Cert.LastReferenceIdeal.τ).loc Cert.LastReferenceIdeal.main_arg2) = m ((c.tc : Thread Cert.LastIdeal.nD Cert.LastIdeal.τ).loc Cert.LastIdeal.main_arg2)
      ∧ m' ((c.tc : Thread Cert.LastReferenceIdeal.nD Cert.LastReferenceIdeal.τ).loc Cert.LastReferenceIdeal.main_arg3) = m ((c.tc : Thread Cert.LastIdeal.nD Cert.LastIdeal.τ).loc Cert.LastIdeal.main_arg3)
      ∧ m' ((c.tc : Thread Cert.LastReferenceIdeal.nD Cert.LastReferenceIdeal.τ).loc Cert.LastReferenceIdeal.main_arg4) = m ((c.tc : Thread Cert.LastIdeal.nD Cert.LastIdeal.τ).loc Cert.LastIdeal.main_arg4)
      ∧ m' ((c.tc : Thread Cert.LastReferenceIdeal.nD Cert.LastReferenceIdeal.τ).loc Cert.LastReferenceIdeal.main_arg5) = m ((c.tc : Thread Cert.LastIdeal.nD Cert.LastIdeal.τ).loc Cert.LastIdeal.main_arg5)) →
    ∃ (v0 : (c : Dev Cert.LastIdeal.nD) → Buf (Elt Ideal) ((c.tc : Thread Cert.LastIdeal.nD Cert.LastIdeal.τ).loc Cert.LastIdeal.main_v6)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v6) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2)
          ∧ r.2.mem ((c.tc : Thread Cert.LastIdeal.nD Cert.LastIdeal.τ).loc Cert.LastIdeal.main_arg3) = m ((c.tc : Thread Cert.LastIdeal.nD Cert.LastIdeal.τ).loc Cert.LastIdeal.main_arg3)
          ∧ r.2.mem ((c.tc : Thread Cert.LastIdeal.nD Cert.LastIdeal.τ).loc Cert.LastIdeal.main_arg4) = m ((c.tc : Thread Cert.LastIdeal.nD Cert.LastIdeal.τ).loc Cert.LastIdeal.main_arg4)
          ∧ r.2.mem ((c.tc : Thread Cert.LastIdeal.nD Cert.LastIdeal.τ).loc Cert.LastIdeal.main_arg5) = m ((c.tc : Thread Cert.LastIdeal.nD Cert.LastIdeal.τ).loc Cert.LastIdeal.main_arg5))
      ∧ θ_run (Cert.LastReferenceIdeal.defs (F := Ideal)) (onTc (τ := Cert.LastReferenceIdeal.τ) (Cert.LastReferenceIdeal.main (F := Ideal))) ⟨m', fun _ => 0, g'⟩ (fun r => ∀ c : Dev Cert.LastReferenceIdeal.nD,
          r.2.mem ((c.tc : Thread Cert.LastReferenceIdeal.nD Cert.LastReferenceIdeal.τ).loc Cert.LastReferenceIdeal.main_v34) = v0 c
          ∧ r.2.mem ((c.tc : Thread Cert.LastReferenceIdeal.nD Cert.LastReferenceIdeal.τ).loc Cert.LastReferenceIdeal.main_arg0) = m' ((c.tc : Thread Cert.LastReferenceIdeal.nD Cert.LastReferenceIdeal.τ).loc Cert.LastReferenceIdeal.main_arg0)
          ∧ r.2.mem ((c.tc : Thread Cert.LastReferenceIdeal.nD Cert.LastReferenceIdeal.τ).loc Cert.LastReferenceIdeal.main_arg1) = m' ((c.tc : Thread Cert.LastReferenceIdeal.nD Cert.LastReferenceIdeal.τ).loc Cert.LastReferenceIdeal.main_arg1)
          ∧ r.2.mem ((c.tc : Thread Cert.LastReferenceIdeal.nD Cert.LastReferenceIdeal.τ).loc Cert.LastReferenceIdeal.main_arg2) = m' ((c.tc : Thread Cert.LastReferenceIdeal.nD Cert.LastReferenceIdeal.τ).loc Cert.LastReferenceIdeal.main_arg2)
          ∧ r.2.mem ((c.tc : Thread Cert.LastReferenceIdeal.nD Cert.LastReferenceIdeal.τ).loc Cert.LastReferenceIdeal.main_arg3) = m' ((c.tc : Thread Cert.LastReferenceIdeal.nD Cert.LastReferenceIdeal.τ).loc Cert.LastReferenceIdeal.main_arg3)
          ∧ r.2.mem ((c.tc : Thread Cert.LastReferenceIdeal.nD Cert.LastReferenceIdeal.τ).loc Cert.LastReferenceIdeal.main_arg4) = m' ((c.tc : Thread Cert.LastReferenceIdeal.nD Cert.LastReferenceIdeal.τ).loc Cert.LastReferenceIdeal.main_arg4)
          ∧ r.2.mem ((c.tc : Thread Cert.LastReferenceIdeal.nD Cert.LastReferenceIdeal.τ).loc Cert.LastReferenceIdeal.main_arg5) = m' ((c.tc : Thread Cert.LastReferenceIdeal.nD Cert.LastReferenceIdeal.τ).loc Cert.LastReferenceIdeal.main_arg5))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2))

def preserves_MlaOut_MlaOutIdeal : Prop :=
  True

def algebraic_MlaOutIdeal_MlaOutReferenceIdeal [hMlaOutIdeal : Cert.MlaOutIdeal.Facts] [hMlaOutReferenceIdeal : Cert.MlaOutReferenceIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutReferenceIdeal.nD Cert.MlaOutReferenceIdeal.τ Cert.MlaOutReferenceIdeal.sig) → Buf (Elt Ideal) ℓ) (g' : Dev Cert.MlaOutReferenceIdeal.nD → PrngReg), Pre_MlaOutIdeal m →
    (∀ c : Dev Cert.MlaOutIdeal.nD,
      m' ((c.tc : Thread Cert.MlaOutReferenceIdeal.nD Cert.MlaOutReferenceIdeal.τ).loc Cert.MlaOutReferenceIdeal.main_arg0) = m ((c.tc : Thread Cert.MlaOutIdeal.nD Cert.MlaOutIdeal.τ).loc Cert.MlaOutIdeal.main_arg0)
      ∧ m' ((c.tc : Thread Cert.MlaOutReferenceIdeal.nD Cert.MlaOutReferenceIdeal.τ).loc Cert.MlaOutReferenceIdeal.main_arg1) = m ((c.tc : Thread Cert.MlaOutIdeal.nD Cert.MlaOutIdeal.τ).loc Cert.MlaOutIdeal.main_arg1)
      ∧ m' ((c.tc : Thread Cert.MlaOutReferenceIdeal.nD Cert.MlaOutReferenceIdeal.τ).loc Cert.MlaOutReferenceIdeal.main_arg2) = m ((c.tc : Thread Cert.MlaOutIdeal.nD Cert.MlaOutIdeal.τ).loc Cert.MlaOutIdeal.main_arg2)
      ∧ m' ((c.tc : Thread Cert.MlaOutReferenceIdeal.nD Cert.MlaOutReferenceIdeal.τ).loc Cert.MlaOutReferenceIdeal.main_arg3) = m ((c.tc : Thread Cert.MlaOutIdeal.nD Cert.MlaOutIdeal.τ).loc Cert.MlaOutIdeal.main_arg3)) →
    ∃ (v0 : (c : Dev Cert.MlaOutIdeal.nD) → Buf (Elt Ideal) ((c.tc : Thread Cert.MlaOutIdeal.nD Cert.MlaOutIdeal.τ).loc Cert.MlaOutIdeal.main_v5)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v5) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
          ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
          ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3))
      ∧ θ_run (Cert.MlaOutReferenceIdeal.defs (F := Ideal)) (onTc (τ := Cert.MlaOutReferenceIdeal.τ) (Cert.MlaOutReferenceIdeal.main (F := Ideal))) ⟨m', fun _ => 0, g'⟩ (fun r => ∀ c : Dev Cert.MlaOutReferenceIdeal.nD,
          r.2.mem ((c.tc : Thread Cert.MlaOutReferenceIdeal.nD Cert.MlaOutReferenceIdeal.τ).loc Cert.MlaOutReferenceIdeal.main_v6) = v0 c
          ∧ r.2.mem ((c.tc : Thread Cert.MlaOutReferenceIdeal.nD Cert.MlaOutReferenceIdeal.τ).loc Cert.MlaOutReferenceIdeal.main_arg0) = m' ((c.tc : Thread Cert.MlaOutReferenceIdeal.nD Cert.MlaOutReferenceIdeal.τ).loc Cert.MlaOutReferenceIdeal.main_arg0)
          ∧ r.2.mem ((c.tc : Thread Cert.MlaOutReferenceIdeal.nD Cert.MlaOutReferenceIdeal.τ).loc Cert.MlaOutReferenceIdeal.main_arg1) = m' ((c.tc : Thread Cert.MlaOutReferenceIdeal.nD Cert.MlaOutReferenceIdeal.τ).loc Cert.MlaOutReferenceIdeal.main_arg1)
          ∧ r.2.mem ((c.tc : Thread Cert.MlaOutReferenceIdeal.nD Cert.MlaOutReferenceIdeal.τ).loc Cert.MlaOutReferenceIdeal.main_arg2) = m' ((c.tc : Thread Cert.MlaOutReferenceIdeal.nD Cert.MlaOutReferenceIdeal.τ).loc Cert.MlaOutReferenceIdeal.main_arg2)
          ∧ r.2.mem ((c.tc : Thread Cert.MlaOutReferenceIdeal.nD Cert.MlaOutReferenceIdeal.τ).loc Cert.MlaOutReferenceIdeal.main_arg3) = m' ((c.tc : Thread Cert.MlaOutReferenceIdeal.nD Cert.MlaOutReferenceIdeal.τ).loc Cert.MlaOutReferenceIdeal.main_arg3))

def preserves_Keys_KeysIdeal : Prop :=
  True

def algebraic_KeysIdeal_KeysReferenceIdeal [hKeysIdeal : Cert.KeysIdeal.Facts] [hKeysReferenceIdeal : Cert.KeysReferenceIdeal.Facts] : Prop :=
  ∀ (m : (ℓ : Loc Cert.KeysIdeal.nD Cert.KeysIdeal.τ Cert.KeysIdeal.sig) → Buf (Elt Ideal) ℓ) (g : Dev Cert.KeysIdeal.nD → PrngReg)
    (m' : (ℓ : Loc Cert.KeysReferenceIdeal.nD Cert.KeysReferenceIdeal.τ Cert.KeysReferenceIdeal.sig) → Buf (Elt Ideal) ℓ) (g' : Dev Cert.KeysReferenceIdeal.nD → PrngReg), Pre_KeysIdeal m →
    (∀ c : Dev Cert.KeysIdeal.nD,
      m' ((c.tc : Thread Cert.KeysReferenceIdeal.nD Cert.KeysReferenceIdeal.τ).loc Cert.KeysReferenceIdeal.main_arg0) = m ((c.tc : Thread Cert.KeysIdeal.nD Cert.KeysIdeal.τ).loc Cert.KeysIdeal.main_arg0)
      ∧ m' ((c.tc : Thread Cert.KeysReferenceIdeal.nD Cert.KeysReferenceIdeal.τ).loc Cert.KeysReferenceIdeal.main_arg1) = m ((c.tc : Thread Cert.KeysIdeal.nD Cert.KeysIdeal.τ).loc Cert.KeysIdeal.main_arg1)
      ∧ m' ((c.tc : Thread Cert.KeysReferenceIdeal.nD Cert.KeysReferenceIdeal.τ).loc Cert.KeysReferenceIdeal.main_arg2) = m ((c.tc : Thread Cert.KeysIdeal.nD Cert.KeysIdeal.τ).loc Cert.KeysIdeal.main_arg2)) →
    ∃ (v0 : (c : Dev Cert.KeysIdeal.nD) → Buf (Elt Ideal) ((c.tc : Thread Cert.KeysIdeal.nD Cert.KeysIdeal.τ).loc Cert.KeysIdeal.main_v3_0)) (v1 : (c : Dev Cert.KeysIdeal.nD) → Buf (Elt Ideal) ((c.tc : Thread Cert.KeysIdeal.nD Cert.KeysIdeal.τ).loc Cert.KeysIdeal.main_v3_1)) (v2 : (c : Dev Cert.KeysIdeal.nD) → Buf (Elt Ideal) ((c.tc : Thread Cert.KeysIdeal.nD Cert.KeysIdeal.τ).loc Cert.KeysIdeal.main_v3_2)) (v3 : (c : Dev Cert.KeysIdeal.nD) → Buf (Elt Ideal) ((c.tc : Thread Cert.KeysIdeal.nD Cert.KeysIdeal.τ).loc Cert.KeysIdeal.main_v3_3)) (v4 : (c : Dev Cert.KeysIdeal.nD) → Buf (Elt Ideal) ((c.tc : Thread Cert.KeysIdeal.nD Cert.KeysIdeal.τ).loc Cert.KeysIdeal.main_v3_4)),
      θ_run (Cert.KeysIdeal.defs (F := Ideal)) (onTc (τ := Cert.KeysIdeal.τ) (Cert.KeysIdeal.main (F := Ideal))) ⟨m, fun _ => 0, g⟩ (fun r => ∀ c : Dev Cert.KeysIdeal.nD,
          r.2.mem ((c.tc : Thread Cert.KeysIdeal.nD Cert.KeysIdeal.τ).loc Cert.KeysIdeal.main_v3_0) = v0 c
          ∧ r.2.mem ((c.tc : Thread Cert.KeysIdeal.nD Cert.KeysIdeal.τ).loc Cert.KeysIdeal.main_v3_1) = v1 c
          ∧ r.2.mem ((c.tc : Thread Cert.KeysIdeal.nD Cert.KeysIdeal.τ).loc Cert.KeysIdeal.main_v3_2) = v2 c
          ∧ r.2.mem ((c.tc : Thread Cert.KeysIdeal.nD Cert.KeysIdeal.τ).loc Cert.KeysIdeal.main_v3_3) = v3 c
          ∧ r.2.mem ((c.tc : Thread Cert.KeysIdeal.nD Cert.KeysIdeal.τ).loc Cert.KeysIdeal.main_v3_4) = v4 c
          ∧ r.2.mem ((c.tc : Thread Cert.KeysIdeal.nD Cert.KeysIdeal.τ).loc Cert.KeysIdeal.main_arg0) = m ((c.tc : Thread Cert.KeysIdeal.nD Cert.KeysIdeal.τ).loc Cert.KeysIdeal.main_arg0)
          ∧ r.2.mem ((c.tc : Thread Cert.KeysIdeal.nD Cert.KeysIdeal.τ).loc Cert.KeysIdeal.main_arg1) = m ((c.tc : Thread Cert.KeysIdeal.nD Cert.KeysIdeal.τ).loc Cert.KeysIdeal.main_arg1)
          ∧ r.2.mem ((c.tc : Thread Cert.KeysIdeal.nD Cert.KeysIdeal.τ).loc Cert.KeysIdeal.main_arg2) = m ((c.tc : Thread Cert.KeysIdeal.nD Cert.KeysIdeal.τ).loc Cert.KeysIdeal.main_arg2))
      ∧ θ_run (Cert.KeysReferenceIdeal.defs (F := Ideal)) (onTc (τ := Cert.KeysReferenceIdeal.τ) (Cert.KeysReferenceIdeal.main (F := Ideal))) ⟨m', fun _ => 0, g'⟩ (fun r => ∀ c : Dev Cert.KeysReferenceIdeal.nD,
          r.2.mem ((c.tc : Thread Cert.KeysReferenceIdeal.nD Cert.KeysReferenceIdeal.τ).loc Cert.KeysReferenceIdeal.main_v20) = v0 c
          ∧ r.2.mem ((c.tc : Thread Cert.KeysReferenceIdeal.nD Cert.KeysReferenceIdeal.τ).loc Cert.KeysReferenceIdeal.main_v16) = v1 c
          ∧ r.2.mem ((c.tc : Thread Cert.KeysReferenceIdeal.nD Cert.KeysReferenceIdeal.τ).loc Cert.KeysReferenceIdeal.main_v17) = v2 c
          ∧ r.2.mem ((c.tc : Thread Cert.KeysReferenceIdeal.nD Cert.KeysReferenceIdeal.τ).loc Cert.KeysReferenceIdeal.main_v21) = v3 c
          ∧ r.2.mem ((c.tc : Thread Cert.KeysReferenceIdeal.nD Cert.KeysReferenceIdeal.τ).loc Cert.KeysReferenceIdeal.main_v22) = v4 c
          ∧ r.2.mem ((c.tc : Thread Cert.KeysReferenceIdeal.nD Cert.KeysReferenceIdeal.τ).loc Cert.KeysReferenceIdeal.main_arg0) = m' ((c.tc : Thread Cert.KeysReferenceIdeal.nD Cert.KeysReferenceIdeal.τ).loc Cert.KeysReferenceIdeal.main_arg0)
          ∧ r.2.mem ((c.tc : Thread Cert.KeysReferenceIdeal.nD Cert.KeysReferenceIdeal.τ).loc Cert.KeysReferenceIdeal.main_arg1) = m' ((c.tc : Thread Cert.KeysReferenceIdeal.nD Cert.KeysReferenceIdeal.τ).loc Cert.KeysReferenceIdeal.main_arg1)
          ∧ r.2.mem ((c.tc : Thread Cert.KeysReferenceIdeal.nD Cert.KeysReferenceIdeal.τ).loc Cert.KeysReferenceIdeal.main_arg2) = m' ((c.tc : Thread Cert.KeysReferenceIdeal.nD Cert.KeysReferenceIdeal.τ).loc Cert.KeysReferenceIdeal.main_arg2))

def preserves_Gdn_GdnIdeal : Prop :=
  True

def algebraic_GdnIdeal_GdnReferenceIdeal [hGdnIdeal : Cert.GdnIdeal.Facts] [hGdnReferenceIdeal : Cert.GdnReferenceIdeal.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnReferenceIdeal.nD Cert.GdnReferenceIdeal.τ Cert.GdnReferenceIdeal.sig) → Buf (Elt Ideal) ℓ) (g' : Dev Cert.GdnReferenceIdeal.nD → PrngReg), Pre_GdnIdeal m →
    (∀ c : Dev Cert.GdnIdeal.nD,
      m' ((c.tc : Thread Cert.GdnReferenceIdeal.nD Cert.GdnReferenceIdeal.τ).loc Cert.GdnReferenceIdeal.main_arg0) = m ((c.tc : Thread Cert.GdnIdeal.nD Cert.GdnIdeal.τ).loc Cert.GdnIdeal.main_arg0)
      ∧ m' ((c.tc : Thread Cert.GdnReferenceIdeal.nD Cert.GdnReferenceIdeal.τ).loc Cert.GdnReferenceIdeal.main_arg1) = m ((c.tc : Thread Cert.GdnIdeal.nD Cert.GdnIdeal.τ).loc Cert.GdnIdeal.main_arg1)
      ∧ m' ((c.tc : Thread Cert.GdnReferenceIdeal.nD Cert.GdnReferenceIdeal.τ).loc Cert.GdnReferenceIdeal.main_arg2) = m ((c.tc : Thread Cert.GdnIdeal.nD Cert.GdnIdeal.τ).loc Cert.GdnIdeal.main_arg2)) →
    ∃ (v0 : (c : Dev Cert.GdnIdeal.nD) → Buf (Elt Ideal) ((c.tc : Thread Cert.GdnIdeal.nD Cert.GdnIdeal.τ).loc Cert.GdnIdeal.main_v6_0)) (v1 : (c : Dev Cert.GdnIdeal.nD) → Buf (Elt Ideal) ((c.tc : Thread Cert.GdnIdeal.nD Cert.GdnIdeal.τ).loc Cert.GdnIdeal.main_v6_1)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v6_0) = v0 c
          ∧ r.2.mem ((c.tc : Thread Cert.GdnIdeal.nD Cert.GdnIdeal.τ).loc Cert.GdnIdeal.main_v6_1) = v1 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2))
      ∧ θ_run (Cert.GdnReferenceIdeal.defs (F := Ideal)) (onTc (τ := Cert.GdnReferenceIdeal.τ) (Cert.GdnReferenceIdeal.main (F := Ideal))) ⟨m', fun _ => 0, g'⟩ (fun r => ∀ c : Dev Cert.GdnReferenceIdeal.nD,
          r.2.mem ((c.tc : Thread Cert.GdnReferenceIdeal.nD Cert.GdnReferenceIdeal.τ).loc Cert.GdnReferenceIdeal.main_v15) = v0 c
          ∧ r.2.mem ((c.tc : Thread Cert.GdnReferenceIdeal.nD Cert.GdnReferenceIdeal.τ).loc Cert.GdnReferenceIdeal.main_v16) = v1 c
          ∧ r.2.mem ((c.tc : Thread Cert.GdnReferenceIdeal.nD Cert.GdnReferenceIdeal.τ).loc Cert.GdnReferenceIdeal.main_arg0) = m' ((c.tc : Thread Cert.GdnReferenceIdeal.nD Cert.GdnReferenceIdeal.τ).loc Cert.GdnReferenceIdeal.main_arg0)
          ∧ r.2.mem ((c.tc : Thread Cert.GdnReferenceIdeal.nD Cert.GdnReferenceIdeal.τ).loc Cert.GdnReferenceIdeal.main_arg1) = m' ((c.tc : Thread Cert.GdnReferenceIdeal.nD Cert.GdnReferenceIdeal.τ).loc Cert.GdnReferenceIdeal.main_arg1)
          ∧ r.2.mem ((c.tc : Thread Cert.GdnReferenceIdeal.nD Cert.GdnReferenceIdeal.τ).loc Cert.GdnReferenceIdeal.main_arg2) = m' ((c.tc : Thread Cert.GdnReferenceIdeal.nD Cert.GdnReferenceIdeal.τ).loc Cert.GdnReferenceIdeal.main_arg2))

def preserves_KeysSample_KeysSampleIdeal : Prop :=
  True

def algebraic_KeysSampleIdeal_KeysSampleReferenceIdeal [hKeysSampleIdeal : Cert.KeysSampleIdeal.Facts] [hKeysSampleReferenceIdeal : Cert.KeysSampleReferenceIdeal.Facts] : Prop :=
  ∀ (m : (ℓ : Loc Cert.KeysSampleIdeal.nD Cert.KeysSampleIdeal.τ Cert.KeysSampleIdeal.sig) → Buf (Elt Ideal) ℓ) (g : Dev Cert.KeysSampleIdeal.nD → PrngReg)
    (m' : (ℓ : Loc Cert.KeysSampleReferenceIdeal.nD Cert.KeysSampleReferenceIdeal.τ Cert.KeysSampleReferenceIdeal.sig) → Buf (Elt Ideal) ℓ) (g' : Dev Cert.KeysSampleReferenceIdeal.nD → PrngReg), Pre_KeysSampleIdeal m →
    (∀ c : Dev Cert.KeysSampleIdeal.nD,
      m' ((c.tc : Thread Cert.KeysSampleReferenceIdeal.nD Cert.KeysSampleReferenceIdeal.τ).loc Cert.KeysSampleReferenceIdeal.main_arg0) = m ((c.tc : Thread Cert.KeysSampleIdeal.nD Cert.KeysSampleIdeal.τ).loc Cert.KeysSampleIdeal.main_arg0)
      ∧ m' ((c.tc : Thread Cert.KeysSampleReferenceIdeal.nD Cert.KeysSampleReferenceIdeal.τ).loc Cert.KeysSampleReferenceIdeal.main_arg1) = m ((c.tc : Thread Cert.KeysSampleIdeal.nD Cert.KeysSampleIdeal.τ).loc Cert.KeysSampleIdeal.main_arg1)
      ∧ m' ((c.tc : Thread Cert.KeysSampleReferenceIdeal.nD Cert.KeysSampleReferenceIdeal.τ).loc Cert.KeysSampleReferenceIdeal.main_arg2) = m ((c.tc : Thread Cert.KeysSampleIdeal.nD Cert.KeysSampleIdeal.τ).loc Cert.KeysSampleIdeal.main_arg2)) →
    ∃ (v0 : (c : Dev Cert.KeysSampleIdeal.nD) → Buf (Elt Ideal) ((c.tc : Thread Cert.KeysSampleIdeal.nD Cert.KeysSampleIdeal.τ).loc Cert.KeysSampleIdeal.main_v3_0)) (v1 : (c : Dev Cert.KeysSampleIdeal.nD) → Buf (Elt Ideal) ((c.tc : Thread Cert.KeysSampleIdeal.nD Cert.KeysSampleIdeal.τ).loc Cert.KeysSampleIdeal.main_v3_1)) (v2 : (c : Dev Cert.KeysSampleIdeal.nD) → Buf (Elt Ideal) ((c.tc : Thread Cert.KeysSampleIdeal.nD Cert.KeysSampleIdeal.τ).loc Cert.KeysSampleIdeal.main_v3_2)) (v3 : (c : Dev Cert.KeysSampleIdeal.nD) → Buf (Elt Ideal) ((c.tc : Thread Cert.KeysSampleIdeal.nD Cert.KeysSampleIdeal.τ).loc Cert.KeysSampleIdeal.main_v3_3)) (v4 : (c : Dev Cert.KeysSampleIdeal.nD) → Buf (Elt Ideal) ((c.tc : Thread Cert.KeysSampleIdeal.nD Cert.KeysSampleIdeal.τ).loc Cert.KeysSampleIdeal.main_v3_4)),
      θ_run (Cert.KeysSampleIdeal.defs (F := Ideal)) (onTc (τ := Cert.KeysSampleIdeal.τ) (Cert.KeysSampleIdeal.main (F := Ideal))) ⟨m, fun _ => 0, g⟩ (fun r => ∀ c : Dev Cert.KeysSampleIdeal.nD,
          r.2.mem ((c.tc : Thread Cert.KeysSampleIdeal.nD Cert.KeysSampleIdeal.τ).loc Cert.KeysSampleIdeal.main_v3_0) = v0 c
          ∧ r.2.mem ((c.tc : Thread Cert.KeysSampleIdeal.nD Cert.KeysSampleIdeal.τ).loc Cert.KeysSampleIdeal.main_v3_1) = v1 c
          ∧ r.2.mem ((c.tc : Thread Cert.KeysSampleIdeal.nD Cert.KeysSampleIdeal.τ).loc Cert.KeysSampleIdeal.main_v3_2) = v2 c
          ∧ r.2.mem ((c.tc : Thread Cert.KeysSampleIdeal.nD Cert.KeysSampleIdeal.τ).loc Cert.KeysSampleIdeal.main_v3_3) = v3 c
          ∧ r.2.mem ((c.tc : Thread Cert.KeysSampleIdeal.nD Cert.KeysSampleIdeal.τ).loc Cert.KeysSampleIdeal.main_v3_4) = v4 c
          ∧ r.2.mem ((c.tc : Thread Cert.KeysSampleIdeal.nD Cert.KeysSampleIdeal.τ).loc Cert.KeysSampleIdeal.main_arg0) = m ((c.tc : Thread Cert.KeysSampleIdeal.nD Cert.KeysSampleIdeal.τ).loc Cert.KeysSampleIdeal.main_arg0)
          ∧ r.2.mem ((c.tc : Thread Cert.KeysSampleIdeal.nD Cert.KeysSampleIdeal.τ).loc Cert.KeysSampleIdeal.main_arg1) = m ((c.tc : Thread Cert.KeysSampleIdeal.nD Cert.KeysSampleIdeal.τ).loc Cert.KeysSampleIdeal.main_arg1)
          ∧ r.2.mem ((c.tc : Thread Cert.KeysSampleIdeal.nD Cert.KeysSampleIdeal.τ).loc Cert.KeysSampleIdeal.main_arg2) = m ((c.tc : Thread Cert.KeysSampleIdeal.nD Cert.KeysSampleIdeal.τ).loc Cert.KeysSampleIdeal.main_arg2))
      ∧ θ_run (Cert.KeysSampleReferenceIdeal.defs (F := Ideal)) (onTc (τ := Cert.KeysSampleReferenceIdeal.τ) (Cert.KeysSampleReferenceIdeal.main (F := Ideal))) ⟨m', fun _ => 0, g'⟩ (fun r => ∀ c : Dev Cert.KeysSampleReferenceIdeal.nD,
          r.2.mem ((c.tc : Thread Cert.KeysSampleReferenceIdeal.nD Cert.KeysSampleReferenceIdeal.τ).loc Cert.KeysSampleReferenceIdeal.main_v20) = v0 c
          ∧ r.2.mem ((c.tc : Thread Cert.KeysSampleReferenceIdeal.nD Cert.KeysSampleReferenceIdeal.τ).loc Cert.KeysSampleReferenceIdeal.main_v16) = v1 c
          ∧ r.2.mem ((c.tc : Thread Cert.KeysSampleReferenceIdeal.nD Cert.KeysSampleReferenceIdeal.τ).loc Cert.KeysSampleReferenceIdeal.main_v17) = v2 c
          ∧ r.2.mem ((c.tc : Thread Cert.KeysSampleReferenceIdeal.nD Cert.KeysSampleReferenceIdeal.τ).loc Cert.KeysSampleReferenceIdeal.main_v21) = v3 c
          ∧ r.2.mem ((c.tc : Thread Cert.KeysSampleReferenceIdeal.nD Cert.KeysSampleReferenceIdeal.τ).loc Cert.KeysSampleReferenceIdeal.main_v22) = v4 c
          ∧ r.2.mem ((c.tc : Thread Cert.KeysSampleReferenceIdeal.nD Cert.KeysSampleReferenceIdeal.τ).loc Cert.KeysSampleReferenceIdeal.main_arg0) = m' ((c.tc : Thread Cert.KeysSampleReferenceIdeal.nD Cert.KeysSampleReferenceIdeal.τ).loc Cert.KeysSampleReferenceIdeal.main_arg0)
          ∧ r.2.mem ((c.tc : Thread Cert.KeysSampleReferenceIdeal.nD Cert.KeysSampleReferenceIdeal.τ).loc Cert.KeysSampleReferenceIdeal.main_arg1) = m' ((c.tc : Thread Cert.KeysSampleReferenceIdeal.nD Cert.KeysSampleReferenceIdeal.τ).loc Cert.KeysSampleReferenceIdeal.main_arg1)
          ∧ r.2.mem ((c.tc : Thread Cert.KeysSampleReferenceIdeal.nD Cert.KeysSampleReferenceIdeal.τ).loc Cert.KeysSampleReferenceIdeal.main_arg2) = m' ((c.tc : Thread Cert.KeysSampleReferenceIdeal.nD Cert.KeysSampleReferenceIdeal.τ).loc Cert.KeysSampleReferenceIdeal.main_arg2))

def preserves_GdnSample_GdnSampleIdeal : Prop :=
  True

def algebraic_GdnSampleIdeal_GdnSampleReferenceIdeal [hGdnSampleIdeal : Cert.GdnSampleIdeal.Facts] [hGdnSampleReferenceIdeal : Cert.GdnSampleReferenceIdeal.Facts] : Prop :=
  ∀ (m : (ℓ : Loc Cert.GdnSampleIdeal.nD Cert.GdnSampleIdeal.τ Cert.GdnSampleIdeal.sig) → Buf (Elt Ideal) ℓ) (g : Dev Cert.GdnSampleIdeal.nD → PrngReg)
    (m' : (ℓ : Loc Cert.GdnSampleReferenceIdeal.nD Cert.GdnSampleReferenceIdeal.τ Cert.GdnSampleReferenceIdeal.sig) → Buf (Elt Ideal) ℓ) (g' : Dev Cert.GdnSampleReferenceIdeal.nD → PrngReg), Pre_GdnSampleIdeal m →
    (∀ c : Dev Cert.GdnSampleIdeal.nD,
      m' ((c.tc : Thread Cert.GdnSampleReferenceIdeal.nD Cert.GdnSampleReferenceIdeal.τ).loc Cert.GdnSampleReferenceIdeal.main_arg0) = m ((c.tc : Thread Cert.GdnSampleIdeal.nD Cert.GdnSampleIdeal.τ).loc Cert.GdnSampleIdeal.main_arg0)
      ∧ m' ((c.tc : Thread Cert.GdnSampleReferenceIdeal.nD Cert.GdnSampleReferenceIdeal.τ).loc Cert.GdnSampleReferenceIdeal.main_arg1) = m ((c.tc : Thread Cert.GdnSampleIdeal.nD Cert.GdnSampleIdeal.τ).loc Cert.GdnSampleIdeal.main_arg1)
      ∧ m' ((c.tc : Thread Cert.GdnSampleReferenceIdeal.nD Cert.GdnSampleReferenceIdeal.τ).loc Cert.GdnSampleReferenceIdeal.main_arg2) = m ((c.tc : Thread Cert.GdnSampleIdeal.nD Cert.GdnSampleIdeal.τ).loc Cert.GdnSampleIdeal.main_arg2)) →
    ∃ (v0 : (c : Dev Cert.GdnSampleIdeal.nD) → Buf (Elt Ideal) ((c.tc : Thread Cert.GdnSampleIdeal.nD Cert.GdnSampleIdeal.τ).loc Cert.GdnSampleIdeal.main_v6_0)) (v1 : (c : Dev Cert.GdnSampleIdeal.nD) → Buf (Elt Ideal) ((c.tc : Thread Cert.GdnSampleIdeal.nD Cert.GdnSampleIdeal.τ).loc Cert.GdnSampleIdeal.main_v6_1)),
      θ_run (Cert.GdnSampleIdeal.defs (F := Ideal)) (onTc (τ := Cert.GdnSampleIdeal.τ) (Cert.GdnSampleIdeal.main (F := Ideal))) ⟨m, fun _ => 0, g⟩ (fun r => ∀ c : Dev Cert.GdnSampleIdeal.nD,
          r.2.mem ((c.tc : Thread Cert.GdnSampleIdeal.nD Cert.GdnSampleIdeal.τ).loc Cert.GdnSampleIdeal.main_v6_0) = v0 c
          ∧ r.2.mem ((c.tc : Thread Cert.GdnSampleIdeal.nD Cert.GdnSampleIdeal.τ).loc Cert.GdnSampleIdeal.main_v6_1) = v1 c
          ∧ r.2.mem ((c.tc : Thread Cert.GdnSampleIdeal.nD Cert.GdnSampleIdeal.τ).loc Cert.GdnSampleIdeal.main_arg0) = m ((c.tc : Thread Cert.GdnSampleIdeal.nD Cert.GdnSampleIdeal.τ).loc Cert.GdnSampleIdeal.main_arg0)
          ∧ r.2.mem ((c.tc : Thread Cert.GdnSampleIdeal.nD Cert.GdnSampleIdeal.τ).loc Cert.GdnSampleIdeal.main_arg1) = m ((c.tc : Thread Cert.GdnSampleIdeal.nD Cert.GdnSampleIdeal.τ).loc Cert.GdnSampleIdeal.main_arg1)
          ∧ r.2.mem ((c.tc : Thread Cert.GdnSampleIdeal.nD Cert.GdnSampleIdeal.τ).loc Cert.GdnSampleIdeal.main_arg2) = m ((c.tc : Thread Cert.GdnSampleIdeal.nD Cert.GdnSampleIdeal.τ).loc Cert.GdnSampleIdeal.main_arg2))
      ∧ θ_run (Cert.GdnSampleReferenceIdeal.defs (F := Ideal)) (onTc (τ := Cert.GdnSampleReferenceIdeal.τ) (Cert.GdnSampleReferenceIdeal.main (F := Ideal))) ⟨m', fun _ => 0, g'⟩ (fun r => ∀ c : Dev Cert.GdnSampleReferenceIdeal.nD,
          r.2.mem ((c.tc : Thread Cert.GdnSampleReferenceIdeal.nD Cert.GdnSampleReferenceIdeal.τ).loc Cert.GdnSampleReferenceIdeal.main_v15) = v0 c
          ∧ r.2.mem ((c.tc : Thread Cert.GdnSampleReferenceIdeal.nD Cert.GdnSampleReferenceIdeal.τ).loc Cert.GdnSampleReferenceIdeal.main_v16) = v1 c
          ∧ r.2.mem ((c.tc : Thread Cert.GdnSampleReferenceIdeal.nD Cert.GdnSampleReferenceIdeal.τ).loc Cert.GdnSampleReferenceIdeal.main_arg0) = m' ((c.tc : Thread Cert.GdnSampleReferenceIdeal.nD Cert.GdnSampleReferenceIdeal.τ).loc Cert.GdnSampleReferenceIdeal.main_arg0)
          ∧ r.2.mem ((c.tc : Thread Cert.GdnSampleReferenceIdeal.nD Cert.GdnSampleReferenceIdeal.τ).loc Cert.GdnSampleReferenceIdeal.main_arg1) = m' ((c.tc : Thread Cert.GdnSampleReferenceIdeal.nD Cert.GdnSampleReferenceIdeal.τ).loc Cert.GdnSampleReferenceIdeal.main_arg1)
          ∧ r.2.mem ((c.tc : Thread Cert.GdnSampleReferenceIdeal.nD Cert.GdnSampleReferenceIdeal.τ).loc Cert.GdnSampleReferenceIdeal.main_arg2) = m' ((c.tc : Thread Cert.GdnSampleReferenceIdeal.nD Cert.GdnSampleReferenceIdeal.τ).loc Cert.GdnSampleReferenceIdeal.main_arg2))

def preserves_LastSample_LastSampleIdeal : Prop :=
  True

def algebraic_LastSampleIdeal_LastSampleReferenceIdeal [hLastSampleIdeal : Cert.LastSampleIdeal.Facts] [hLastSampleReferenceIdeal : Cert.LastSampleReferenceIdeal.Facts] : Prop :=
  ∀ (m : (ℓ : Loc Cert.LastSampleIdeal.nD Cert.LastSampleIdeal.τ Cert.LastSampleIdeal.sig) → Buf (Elt Ideal) ℓ) (g : Dev Cert.LastSampleIdeal.nD → PrngReg)
    (m' : (ℓ : Loc Cert.LastSampleReferenceIdeal.nD Cert.LastSampleReferenceIdeal.τ Cert.LastSampleReferenceIdeal.sig) → Buf (Elt Ideal) ℓ) (g' : Dev Cert.LastSampleReferenceIdeal.nD → PrngReg), Pre_LastSampleIdeal m →
    (∀ c : Dev Cert.LastSampleIdeal.nD,
      m' ((c.tc : Thread Cert.LastSampleReferenceIdeal.nD Cert.LastSampleReferenceIdeal.τ).loc Cert.LastSampleReferenceIdeal.main_arg0) = m ((c.tc : Thread Cert.LastSampleIdeal.nD Cert.LastSampleIdeal.τ).loc Cert.LastSampleIdeal.main_arg0)
      ∧ m' ((c.tc : Thread Cert.LastSampleReferenceIdeal.nD Cert.LastSampleReferenceIdeal.τ).loc Cert.LastSampleReferenceIdeal.main_arg1) = m ((c.tc : Thread Cert.LastSampleIdeal.nD Cert.LastSampleIdeal.τ).loc Cert.LastSampleIdeal.main_arg1)
      ∧ m' ((c.tc : Thread Cert.LastSampleReferenceIdeal.nD Cert.LastSampleReferenceIdeal.τ).loc Cert.LastSampleReferenceIdeal.main_arg2) = m ((c.tc : Thread Cert.LastSampleIdeal.nD Cert.LastSampleIdeal.τ).loc Cert.LastSampleIdeal.main_arg2)
      ∧ m' ((c.tc : Thread Cert.LastSampleReferenceIdeal.nD Cert.LastSampleReferenceIdeal.τ).loc Cert.LastSampleReferenceIdeal.main_arg3) = m ((c.tc : Thread Cert.LastSampleIdeal.nD Cert.LastSampleIdeal.τ).loc Cert.LastSampleIdeal.main_arg3)
      ∧ m' ((c.tc : Thread Cert.LastSampleReferenceIdeal.nD Cert.LastSampleReferenceIdeal.τ).loc Cert.LastSampleReferenceIdeal.main_arg4) = m ((c.tc : Thread Cert.LastSampleIdeal.nD Cert.LastSampleIdeal.τ).loc Cert.LastSampleIdeal.main_arg4)
      ∧ m' ((c.tc : Thread Cert.LastSampleReferenceIdeal.nD Cert.LastSampleReferenceIdeal.τ).loc Cert.LastSampleReferenceIdeal.main_arg5) = m ((c.tc : Thread Cert.LastSampleIdeal.nD Cert.LastSampleIdeal.τ).loc Cert.LastSampleIdeal.main_arg5)) →
    ∃ (v0 : (c : Dev Cert.LastSampleIdeal.nD) → Buf (Elt Ideal) ((c.tc : Thread Cert.LastSampleIdeal.nD Cert.LastSampleIdeal.τ).loc Cert.LastSampleIdeal.main_v6)),
      θ_run (Cert.LastSampleIdeal.defs (F := Ideal)) (onTc (τ := Cert.LastSampleIdeal.τ) (Cert.LastSampleIdeal.main (F := Ideal))) ⟨m, fun _ => 0, g⟩ (fun r => ∀ c : Dev Cert.LastSampleIdeal.nD,
          r.2.mem ((c.tc : Thread Cert.LastSampleIdeal.nD Cert.LastSampleIdeal.τ).loc Cert.LastSampleIdeal.main_v6) = v0 c
          ∧ r.2.mem ((c.tc : Thread Cert.LastSampleIdeal.nD Cert.LastSampleIdeal.τ).loc Cert.LastSampleIdeal.main_arg0) = m ((c.tc : Thread Cert.LastSampleIdeal.nD Cert.LastSampleIdeal.τ).loc Cert.LastSampleIdeal.main_arg0)
          ∧ r.2.mem ((c.tc : Thread Cert.LastSampleIdeal.nD Cert.LastSampleIdeal.τ).loc Cert.LastSampleIdeal.main_arg1) = m ((c.tc : Thread Cert.LastSampleIdeal.nD Cert.LastSampleIdeal.τ).loc Cert.LastSampleIdeal.main_arg1)
          ∧ r.2.mem ((c.tc : Thread Cert.LastSampleIdeal.nD Cert.LastSampleIdeal.τ).loc Cert.LastSampleIdeal.main_arg2) = m ((c.tc : Thread Cert.LastSampleIdeal.nD Cert.LastSampleIdeal.τ).loc Cert.LastSampleIdeal.main_arg2)
          ∧ r.2.mem ((c.tc : Thread Cert.LastSampleIdeal.nD Cert.LastSampleIdeal.τ).loc Cert.LastSampleIdeal.main_arg3) = m ((c.tc : Thread Cert.LastSampleIdeal.nD Cert.LastSampleIdeal.τ).loc Cert.LastSampleIdeal.main_arg3)
          ∧ r.2.mem ((c.tc : Thread Cert.LastSampleIdeal.nD Cert.LastSampleIdeal.τ).loc Cert.LastSampleIdeal.main_arg4) = m ((c.tc : Thread Cert.LastSampleIdeal.nD Cert.LastSampleIdeal.τ).loc Cert.LastSampleIdeal.main_arg4)
          ∧ r.2.mem ((c.tc : Thread Cert.LastSampleIdeal.nD Cert.LastSampleIdeal.τ).loc Cert.LastSampleIdeal.main_arg5) = m ((c.tc : Thread Cert.LastSampleIdeal.nD Cert.LastSampleIdeal.τ).loc Cert.LastSampleIdeal.main_arg5))
      ∧ θ_run (Cert.LastSampleReferenceIdeal.defs (F := Ideal)) (onTc (τ := Cert.LastSampleReferenceIdeal.τ) (Cert.LastSampleReferenceIdeal.main (F := Ideal))) ⟨m', fun _ => 0, g'⟩ (fun r => ∀ c : Dev Cert.LastSampleReferenceIdeal.nD,
          r.2.mem ((c.tc : Thread Cert.LastSampleReferenceIdeal.nD Cert.LastSampleReferenceIdeal.τ).loc Cert.LastSampleReferenceIdeal.main_v34) = v0 c
          ∧ r.2.mem ((c.tc : Thread Cert.LastSampleReferenceIdeal.nD Cert.LastSampleReferenceIdeal.τ).loc Cert.LastSampleReferenceIdeal.main_arg0) = m' ((c.tc : Thread Cert.LastSampleReferenceIdeal.nD Cert.LastSampleReferenceIdeal.τ).loc Cert.LastSampleReferenceIdeal.main_arg0)
          ∧ r.2.mem ((c.tc : Thread Cert.LastSampleReferenceIdeal.nD Cert.LastSampleReferenceIdeal.τ).loc Cert.LastSampleReferenceIdeal.main_arg1) = m' ((c.tc : Thread Cert.LastSampleReferenceIdeal.nD Cert.LastSampleReferenceIdeal.τ).loc Cert.LastSampleReferenceIdeal.main_arg1)
          ∧ r.2.mem ((c.tc : Thread Cert.LastSampleReferenceIdeal.nD Cert.LastSampleReferenceIdeal.τ).loc Cert.LastSampleReferenceIdeal.main_arg2) = m' ((c.tc : Thread Cert.LastSampleReferenceIdeal.nD Cert.LastSampleReferenceIdeal.τ).loc Cert.LastSampleReferenceIdeal.main_arg2)
          ∧ r.2.mem ((c.tc : Thread Cert.LastSampleReferenceIdeal.nD Cert.LastSampleReferenceIdeal.τ).loc Cert.LastSampleReferenceIdeal.main_arg3) = m' ((c.tc : Thread Cert.LastSampleReferenceIdeal.nD Cert.LastSampleReferenceIdeal.τ).loc Cert.LastSampleReferenceIdeal.main_arg3)
          ∧ r.2.mem ((c.tc : Thread Cert.LastSampleReferenceIdeal.nD Cert.LastSampleReferenceIdeal.τ).loc Cert.LastSampleReferenceIdeal.main_arg4) = m' ((c.tc : Thread Cert.LastSampleReferenceIdeal.nD Cert.LastSampleReferenceIdeal.τ).loc Cert.LastSampleReferenceIdeal.main_arg4)
          ∧ r.2.mem ((c.tc : Thread Cert.LastSampleReferenceIdeal.nD Cert.LastSampleReferenceIdeal.τ).loc Cert.LastSampleReferenceIdeal.main_arg5) = m' ((c.tc : Thread Cert.LastSampleReferenceIdeal.nD Cert.LastSampleReferenceIdeal.τ).loc Cert.LastSampleReferenceIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hLast : Cert.Last.Facts) (hLastIdeal : Cert.LastIdeal.Facts) (hLastReferenceIdeal : Cert.LastReferenceIdeal.Facts) (hOut : Cert.Out.Facts) (hOutIdeal : Cert.OutIdeal.Facts) (hOutReferenceIdeal : Cert.OutReferenceIdeal.Facts) (hMlaOut : Cert.MlaOut.Facts) (hMlaOutIdeal : Cert.MlaOutIdeal.Facts) (hMlaOutReferenceIdeal : Cert.MlaOutReferenceIdeal.Facts) (hKeys : Cert.Keys.Facts) (hKeysIdeal : Cert.KeysIdeal.Facts) (hKeysReferenceIdeal : Cert.KeysReferenceIdeal.Facts) (hGdn : Cert.Gdn.Facts) (hGdnIdeal : Cert.GdnIdeal.Facts) (hGdnReferenceIdeal : Cert.GdnReferenceIdeal.Facts) (hKeysSample : Cert.KeysSample.Facts) (hKeysSampleIdeal : Cert.KeysSampleIdeal.Facts) (hKeysSampleReferenceIdeal : Cert.KeysSampleReferenceIdeal.Facts) (hGdnSample : Cert.GdnSample.Facts) (hGdnSampleIdeal : Cert.GdnSampleIdeal.Facts) (hGdnSampleReferenceIdeal : Cert.GdnSampleReferenceIdeal.Facts) (hLastSample : Cert.LastSample.Facts) (hLastSampleIdeal : Cert.LastSampleIdeal.Facts) (hLastSampleReferenceIdeal : Cert.LastSampleReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Last (hLast := hLast)
    ∧ quiescent_LastIdeal (hLastIdeal := hLastIdeal)
    ∧ quiescent_LastReferenceIdeal (hLastReferenceIdeal := hLastReferenceIdeal)
    ∧ quiescent_Out (hOut := hOut)
    ∧ quiescent_OutIdeal (hOutIdeal := hOutIdeal)
    ∧ quiescent_OutReferenceIdeal (hOutReferenceIdeal := hOutReferenceIdeal)
    ∧ quiescent_MlaOut (hMlaOut := hMlaOut)
    ∧ quiescent_MlaOutIdeal (hMlaOutIdeal := hMlaOutIdeal)
    ∧ quiescent_MlaOutReferenceIdeal (hMlaOutReferenceIdeal := hMlaOutReferenceIdeal)
    ∧ quiescent_Keys (hKeys := hKeys)
    ∧ quiescent_KeysIdeal (hKeysIdeal := hKeysIdeal)
    ∧ quiescent_KeysReferenceIdeal (hKeysReferenceIdeal := hKeysReferenceIdeal)
    ∧ quiescent_Gdn (hGdn := hGdn)
    ∧ quiescent_GdnIdeal (hGdnIdeal := hGdnIdeal)
    ∧ quiescent_GdnReferenceIdeal (hGdnReferenceIdeal := hGdnReferenceIdeal)
    ∧ quiescent_KeysSample (hKeysSample := hKeysSample)
    ∧ quiescent_KeysSampleIdeal (hKeysSampleIdeal := hKeysSampleIdeal)
    ∧ quiescent_KeysSampleReferenceIdeal (hKeysSampleReferenceIdeal := hKeysSampleReferenceIdeal)
    ∧ quiescent_GdnSample (hGdnSample := hGdnSample)
    ∧ quiescent_GdnSampleIdeal (hGdnSampleIdeal := hGdnSampleIdeal)
    ∧ quiescent_GdnSampleReferenceIdeal (hGdnSampleReferenceIdeal := hGdnSampleReferenceIdeal)
    ∧ quiescent_LastSample (hLastSample := hLastSample)
    ∧ quiescent_LastSampleIdeal (hLastSampleIdeal := hLastSampleIdeal)
    ∧ quiescent_LastSampleReferenceIdeal (hLastSampleReferenceIdeal := hLastSampleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_Last_LastIdeal
    ∧ algebraic_LastIdeal_LastReferenceIdeal (hLastIdeal := hLastIdeal) (hLastReferenceIdeal := hLastReferenceIdeal)
    ∧ preserves_Out_OutIdeal
    ∧ algebraic_OutIdeal_OutReferenceIdeal (hOutIdeal := hOutIdeal) (hOutReferenceIdeal := hOutReferenceIdeal)
    ∧ preserves_MlaOut_MlaOutIdeal
    ∧ algebraic_MlaOutIdeal_MlaOutReferenceIdeal (hMlaOutIdeal := hMlaOutIdeal) (hMlaOutReferenceIdeal := hMlaOutReferenceIdeal)
    ∧ preserves_Keys_KeysIdeal
    ∧ algebraic_KeysIdeal_KeysReferenceIdeal (hKeysIdeal := hKeysIdeal) (hKeysReferenceIdeal := hKeysReferenceIdeal)
    ∧ preserves_Gdn_GdnIdeal
    ∧ algebraic_GdnIdeal_GdnReferenceIdeal (hGdnIdeal := hGdnIdeal) (hGdnReferenceIdeal := hGdnReferenceIdeal)
    ∧ preserves_KeysSample_KeysSampleIdeal
    ∧ algebraic_KeysSampleIdeal_KeysSampleReferenceIdeal (hKeysSampleIdeal := hKeysSampleIdeal) (hKeysSampleReferenceIdeal := hKeysSampleReferenceIdeal)
    ∧ preserves_GdnSample_GdnSampleIdeal
    ∧ algebraic_GdnSampleIdeal_GdnSampleReferenceIdeal (hGdnSampleIdeal := hGdnSampleIdeal) (hGdnSampleReferenceIdeal := hGdnSampleReferenceIdeal)
    ∧ preserves_LastSample_LastSampleIdeal
    ∧ algebraic_LastSampleIdeal_LastSampleReferenceIdeal (hLastSampleIdeal := hLastSampleIdeal) (hLastSampleReferenceIdeal := hLastSampleReferenceIdeal)
-- ==== Pre_finite.lean ====
abbrev S16x2048x16x256 : Shape := ⟨4, ![16, 2048, 16, 256]⟩
abbrev S16x2048x16x64 : Shape := ⟨4, ![16, 2048, 16, 64]⟩
abbrev S16x2048x256 : Shape := ⟨3, ![16, 2048, 256]⟩
abbrev S16x2048x64 : Shape := ⟨3, ![16, 2048, 64]⟩
abbrev S_ : Shape := ⟨0, ![]⟩

class Facts : Prop where
  bcast_S_S16x2048x16x256 : S_.BroadcastsInDim S16x2048x16x256 (![] : Fin 0 → Fin S16x2048x16x256.rank)
  bcast_S_S16x2048x16x64 : S_.BroadcastsInDim S16x2048x16x64 (![] : Fin 0 → Fin S16x2048x16x64.rank)
  bcast_S_S16x2048x256 : S_.BroadcastsInDim S16x2048x256 (![] : Fin 0 → Fin S16x2048x256.rank)
  bcast_S_S16x2048x64 : S_.BroadcastsInDim S16x2048x64 (![] : Fin 0 → Fin S16x2048x64.rank)

variable [Facts]

def fn {F : FTy → Type} [FloatOps F] (main_arg0 : FVec F S16x2048x16x256 .f32) (main_arg1 : FVec F S16x2048x16x64 .f32) (main_arg2 : FVec F S16x2048x256 .f32) (main_arg3 : FVec F S16x2048x64 .f32) : IVec S16x2048x16x256 1 × IVec S16x2048x16x64 1 × IVec S16x2048x256 1 × IVec S16x2048x64 1 :=
  let main_v0 : FVec F S16x2048x16x256 .f32 := Host.absf main_arg0
  let main_cst : FVec F S_ .f32 := constant S_ .f32 0x7F800000#32
  let main_v1 : FVec F S16x2048x16x256 .f32 := broadcastInDim S16x2048x16x256 ![] bcast_S_S16x2048x16x256 main_cst
  let main_v2 : IVec S16x2048x16x256 1 := cmpf .olt main_v0 main_v1
  let main_v3 : FVec F S16x2048x16x64 .f32 := Host.absf main_arg1
  let main_cst_0 : FVec F S_ .f32 := constant S_ .f32 0x7F800000#32
  let main_v4 : FVec F S16x2048x16x64 .f32 := broadcastInDim S16x2048x16x64 ![] bcast_S_S16x2048x16x64 main_cst_0
  let main_v5 : IVec S16x2048x16x64 1 := cmpf .olt main_v3 main_v4
  let main_v6 : FVec F S16x2048x256 .f32 := Host.absf main_arg2
  let main_cst_1 : FVec F S_ .f32 := constant S_ .f32 0x7F800000#32
  let main_v7 : FVec F S16x2048x256 .f32 := broadcastInDim S16x2048x256 ![] bcast_S_S16x2048x256 main_cst_1
  let main_v8 : IVec S16x2048x256 1 := cmpf .olt main_v6 main_v7
  let main_v9 : FVec F S16x2048x64 .f32 := Host.absf main_arg3
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  (main_v2, main_v5, main_v8, main_v11)
-- ==== Kernel.lean ====
abbrev S16x2048x16x256 : Shape := ⟨4, ![16, 2048, 16, 256]⟩
abbrev S16x2048x16x64 : Shape := ⟨4, ![16, 2048, 16, 64]⟩
abbrev S16x2048x256 : Shape := ⟨3, ![16, 2048, 256]⟩
abbrev S16x2048x64 : Shape := ⟨3, ![16, 2048, 64]⟩
abbrev S16x16x2048x256 : Shape := ⟨4, ![16, 16, 2048, 256]⟩
abbrev S_ : Shape := ⟨0, ![]⟩
abbrev S16x16x2048x64 : Shape := ⟨4, ![16, 16, 2048, 64]⟩
abbrev S16x16x2048x128 : Shape := ⟨4, ![16, 16, 2048, 128]⟩
abbrev S16x16x2048x384 : Shape := ⟨4, ![16, 16, 2048, 384]⟩
abbrev S16x2048x384 : Shape := ⟨3, ![16, 2048, 384]⟩
abbrev S16x32768x384 : Shape := ⟨3, ![16, 32768, 384]⟩
abbrev S32768x384 : Shape := ⟨2, ![32768, 384]⟩
abbrev S16x1x128x384 : Shape := ⟨4, ![16, 1, 128, 384]⟩
abbrev S1x2048x384 : Shape := ⟨3, ![1, 2048, 384]⟩
abbrev S16x1x128x256 : Shape := ⟨4, ![16, 1, 128, 256]⟩
abbrev S2048x128 : Shape := ⟨2, ![2048, 128]⟩
abbrev S2048x256 : Shape := ⟨2, ![2048, 256]⟩
abbrev S1x512x384 : Shape := ⟨3, ![1, 512, 384]⟩
abbrev S512x384 : Shape := ⟨2, ![512, 384]⟩
abbrev S8x1x128x384 : Shape := ⟨4, ![8, 1, 128, 384]⟩
abbrev S1024x384 : Shape := ⟨2, ![1024, 384]⟩
abbrev S1024x512 : Shape := ⟨2, ![1024, 512]⟩
abbrev S512x256 : Shape := ⟨2, ![512, 256]⟩
abbrev S1024x128 : Shape := ⟨2, ![1024, 128]⟩
abbrev S1024 : Shape := ⟨1, ![1024]⟩
abbrev S1024x1 : Shape := ⟨2, ![1024, 1]⟩
abbrev S1024x256 : Shape := ⟨2, ![1024, 256]⟩
abbrev S1x128x384 : Shape := ⟨3, ![1, 128, 384]⟩
abbrev S128x384 : Shape := ⟨2, ![128, 384]⟩
abbrev S128x256 : Shape := ⟨2, ![128, 256]⟩
abbrev S1x256x384 : Shape := ⟨3, ![1, 256, 384]⟩
abbrev S256x384 : Shape := ⟨2, ![256, 384]⟩
abbrev S256x256 : Shape := ⟨2, ![256, 256]⟩
abbrev S1x384x384 : Shape := ⟨3, ![1, 384, 384]⟩
abbrev S384x384 : Shape := ⟨2, ![384, 384]⟩
abbrev S384x256 : Shape := ⟨2, ![384, 256]⟩

abbrev nBuf : Space → Nat
  | .hbm => 39
  | .vmem => 9
  | .smem => 0
  | _ => 0

abbrev bufTy : (tb : Table) → Fin (tcTables nBuf tb) → BufTy
  | .hbm, ⟨0, _⟩ => ⟨S16x2048x16x256, .f32⟩
  | .hbm, ⟨1, _⟩ => ⟨S16x2048x16x64, .f32⟩
  | .hbm, ⟨2, _⟩ => ⟨S16x2048x256, .f32⟩
  | .hbm, ⟨3, _⟩ => ⟨S16x2048x64, .f32⟩
  | .hbm, ⟨4, _⟩ => ⟨S16x16x2048x256, .f32⟩
  | .hbm, ⟨5, _⟩ => ⟨S_, .f32⟩
  | .hbm, ⟨6, _⟩ => ⟨S16x16x2048x256, .f32⟩
  | .hbm, ⟨7, _⟩ => ⟨S16x16x2048x256, .f32⟩
  | .hbm, ⟨8, _⟩ => ⟨S16x16x2048x64, .f32⟩
  | .hbm, ⟨9, _⟩ => ⟨S_, .f32⟩
  | .hbm, ⟨10, _⟩ => ⟨S16x16x2048x64, .f32⟩
  | .hbm, ⟨11, _⟩ => ⟨S16x16x2048x64, .f32⟩
  | .hbm, ⟨12, _⟩ => ⟨S16x16x2048x128, .f32⟩
  | .hbm, ⟨13, _⟩ => ⟨S16x16x2048x128, .i32⟩
  | .hbm, ⟨14, _⟩ => ⟨S_, .i32⟩
  | .hbm, ⟨15, _⟩ => ⟨S16x16x2048x128, .i32⟩
  | .hbm, ⟨16, _⟩ => ⟨S16x16x2048x128, .i1⟩
  | .hbm, ⟨17, _⟩ => ⟨S16x16x2048x128, .i32⟩
  | .hbm, ⟨18, _⟩ => ⟨S_, .i32⟩
  | .hbm, ⟨19, _⟩ => ⟨S16x16x2048x128, .i32⟩
  | .hbm, ⟨20, _⟩ => ⟨S16x16x2048x128, .i32⟩
  | .hbm, ⟨21, _⟩ => ⟨S_, .i32⟩
  | .hbm, ⟨22, _⟩ => ⟨S16x16x2048x128, .i32⟩
  | .hbm, ⟨23, _⟩ => ⟨S16x16x2048x128, .i1⟩
  | .hbm, ⟨24, _⟩ => ⟨S16x16x2048x128, .i1⟩
  | .hbm, ⟨25, _⟩ => ⟨S_, .f32⟩
  | .hbm, ⟨26, _⟩ => ⟨S_, .f32⟩
  | .hbm, ⟨27, _⟩ => ⟨S16x16x2048x128, .f32⟩
  | .hbm, ⟨28, _⟩ => ⟨S16x16x2048x128, .f32⟩
  | .hbm, ⟨29, _⟩ => ⟨S16x16x2048x256, .bf16⟩
  | .hbm, ⟨30, _⟩ => ⟨S16x16x2048x128, .bf16⟩
  | .hbm, ⟨31, _⟩ => ⟨S16x16x2048x384, .bf16⟩
  | .hbm, ⟨32, _⟩ => ⟨S16x2048x384, .f32⟩
  | .hbm, ⟨33, _⟩ => ⟨S16x2048x384, .bf16⟩
  | .hbm, ⟨34, _⟩ => ⟨S16x32768x384, .bf16⟩
  | .hbm, ⟨35, _⟩ => ⟨S32768x384, .bf16⟩
  | .hbm, ⟨36, _⟩ => ⟨S16x16x2048x384, .bf16⟩
  | .hbm, ⟨37, _⟩ => ⟨S16x2048x384, .bf16⟩
  | .hbm, ⟨38, _⟩ => ⟨S16x16x2048x256, .bf16⟩
  | .local _ .vmem, ⟨0, _⟩ => ⟨S16x1x128x384, .bf16⟩
  | .local _ .vmem, ⟨1, _⟩ => ⟨S16x1x128x384, .bf16⟩
  | .local _ .vmem, ⟨2, _⟩ => ⟨S1x2048x384, .bf16⟩
  | .local _ .vmem, ⟨3, _⟩ => ⟨S1x2048x384, .bf16⟩
  | .local _ .vmem, ⟨4, _⟩ => ⟨S16x1x128x256, .bf16⟩
  | .local _ .vmem, ⟨5, _⟩ => ⟨S16x1x128x256, .bf16⟩
  | .local _ .vmem, ⟨6, _⟩ => ⟨S2048x128, .f32⟩
  | .local _ .vmem, ⟨7, _⟩ => ⟨S2048x128, .f32⟩
  | .local _ .vmem, ⟨8, _⟩ => ⟨S2048x256, .f32⟩
  | _, _ => ⟨S16x2048x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 16], ![false, false]⟩

@[reducible] def k0_t1_loop (i : grid0.Coords) : Scf.Loop 32 :=
  let c0_i32_12 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c4_i32 : BitVec 32 := 4#32
  let c0_i32_8 : BitVec 32 := 0#32
  let v18 : BitVec 1 := Scalar.cmpi .sgt c4_i32 c0_i32_8
  let v19 : BitVec 32 := Scalar.extui v18
  let c0_i32_9 : BitVec 32 := 0#32
  let v20 : BitVec 1 := Scalar.cmpi .slt c4_i32 c0_i32_9
  let v21 : BitVec 32 := Scalar.extui v20
  let v22 : BitVec 32 := Scalar.subi v19 v21
  let v23 : BitVec 1 := Scalar.cmpi .ne v17 v22
  let v24 : BitVec 32 := Scalar.remsi arg1 c4_i32
  let c0_i32_10 : BitVec 32 := 0#32
  let v25 : BitVec 1 := Scalar.cmpi .ne v24 c0_i32_10
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let v29 : BitVec 32 := Scalar.subi v28 c0_i32_12
  let c1_i32_13 : BitVec 32 := 1#32
  let v31 : BitVec 32 := Scalar.divsi v29 c1_i32_13
  let v32 : BitVec 32 := Scalar.muli v31 c1_i32_13
  let v33 : BitVec 32 := Scalar.addi c0_i32_12 v32
  let c1_i32_14 : BitVec 32 := 1#32
  ⟨c0_i32_12, v33, c1_i32_14⟩
def k0_mult1 (i : grid0.Coords) (k0_t1 : Fin (k0_t1_loop i).trips) : BitVec 32 :=
  let c0_i32_12 : BitVec 32 := 0#32
  let c1_i32_14 : BitVec 32 := 1#32
  let arg8 : BitVec 32 := Scf.iv c0_i32_12 c1_i32_14 k0_t1
  let c512_i32 : BitVec 32 := 512#32
  let v95 : BitVec 32 := Scalar.muli arg8 c512_i32
  v95
def k0_off1 (i : grid0.Coords) (k0_t1 : Fin (k0_t1_loop i).trips) : Fin 3 → Nat :=
  let c0_55 : Index := 0#32
  let c0_i32_12 : BitVec 32 := 0#32
  let c1_i32_14 : BitVec 32 := 1#32
  let arg8 : BitVec 32 := Scf.iv c0_i32_12 c1_i32_14 k0_t1
  let c512_i32 : BitVec 32 := 512#32
  let v95 : BitVec 32 := Scalar.muli arg8 c512_i32
  let v96 : BitVec 32 := v95
  let v97 : Index := Scalar.indexCast v96
  let c0_56 : Index := 0#32
  ![0, v97.toNat, 0]
@[reducible] def k0_t2_loop (i : grid0.Coords) : Scf.Loop 32 :=
  let c0_i32_12 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c4_i32 : BitVec 32 := 4#32
  let c0_i32_8 : BitVec 32 := 0#32
  let v18 : BitVec 1 := Scalar.cmpi .sgt c4_i32 c0_i32_8
  let v19 : BitVec 32 := Scalar.extui v18
  let c0_i32_9 : BitVec 32 := 0#32
  let v20 : BitVec 1 := Scalar.cmpi .slt c4_i32 c0_i32_9
  let v21 : BitVec 32 := Scalar.extui v20
  let v22 : BitVec 32 := Scalar.subi v19 v21
  let v23 : BitVec 1 := Scalar.cmpi .ne v17 v22
  let v24 : BitVec 32 := Scalar.remsi arg1 c4_i32
  let c0_i32_10 : BitVec 32 := 0#32
  let v25 : BitVec 1 := Scalar.cmpi .ne v24 c0_i32_10
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let v29 : BitVec 32 := Scalar.subi v28 c0_i32_12
  let c1_i32_13 : BitVec 32 := 1#32
  let v31 : BitVec 32 := Scalar.divsi v29 c1_i32_13
  let v32 : BitVec 32 := Scalar.muli v31 c1_i32_13
  let v33 : BitVec 32 := Scalar.addi c0_i32_12 v32
  let v30 : BitVec 32 := Scalar.addi c0_i32_12 v29
  let c1_i32_15 : BitVec 32 := 1#32
  ⟨v33, v30, c1_i32_15⟩
def k0_mult2 (i : grid0.Coords) (k0_t2 : Fin (k0_t2_loop i).trips) : BitVec 32 :=
  let c0_i32_12 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c4_i32 : BitVec 32 := 4#32
  let c0_i32_8 : BitVec 32 := 0#32
  let v18 : BitVec 1 := Scalar.cmpi .sgt c4_i32 c0_i32_8
  let v19 : BitVec 32 := Scalar.extui v18
  let c0_i32_9 : BitVec 32 := 0#32
  let v20 : BitVec 1 := Scalar.cmpi .slt c4_i32 c0_i32_9
  let v21 : BitVec 32 := Scalar.extui v20
  let v22 : BitVec 32 := Scalar.subi v19 v21
  let v23 : BitVec 1 := Scalar.cmpi .ne v17 v22
  let v24 : BitVec 32 := Scalar.remsi arg1 c4_i32
  let c0_i32_10 : BitVec 32 := 0#32
  let v25 : BitVec 1 := Scalar.cmpi .ne v24 c0_i32_10
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let v29 : BitVec 32 := Scalar.subi v28 c0_i32_12
  let c1_i32_13 : BitVec 32 := 1#32
  let v31 : BitVec 32 := Scalar.divsi v29 c1_i32_13
  let v32 : BitVec 32 := Scalar.muli v31 c1_i32_13
  let v33 : BitVec 32 := Scalar.addi c0_i32_12 v32
  let c1_i32_15 : BitVec 32 := 1#32
  let arg8 : BitVec 32 := Scf.iv v33 c1_i32_15 k0_t2
  let c512_i32 : BitVec 32 := 512#32
  let v95 : BitVec 32 := Scalar.muli arg8 c512_i32
  v95
def k0_off2 (i : grid0.Coords) (k0_t2 : Fin (k0_t2_loop i).trips) : Fin 3 → Nat :=
  let c0_55 : Index := 0#32
  let c0_i32_12 : BitVec 32 := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c4_i32 : BitVec 32 := 4#32
  let c0_i32_8 : BitVec 32 := 0#32
  let v18 : BitVec 1 := Scalar.cmpi .sgt c4_i32 c0_i32_8
  let v19 : BitVec 32 := Scalar.extui v18
  let c0_i32_9 : BitVec 32 := 0#32
  let v20 : BitVec 1 := Scalar.cmpi .slt c4_i32 c0_i32_9
  let v21 : BitVec 32 := Scalar.extui v20
  let v22 : BitVec 32 := Scalar.subi v19 v21
  let v23 : BitVec 1 := Scalar.cmpi .ne v17 v22
  let v24 : BitVec 32 := Scalar.remsi arg1 c4_i32
  let c0_i32_10 : BitVec 32 := 0#32
  let v25 : BitVec 1 := Scalar.cmpi .ne v24 c0_i32_10
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let v29 : BitVec 32 := Scalar.subi v28 c0_i32_12
  let c1_i32_13 : BitVec 32 := 1#32
  let v31 : BitVec 32 := Scalar.divsi v29 c1_i32_13
  let v32 : BitVec 32 := Scalar.muli v31 c1_i32_13
  let v33 : BitVec 32 := Scalar.addi c0_i32_12 v32
  let c1_i32_15 : BitVec 32 := 1#32
  let arg8 : BitVec 32 := Scf.iv v33 c1_i32_15 k0_t2
  let c512_i32 : BitVec 32 := 512#32
  let v95 : BitVec 32 := Scalar.muli arg8 c512_i32
  let v96 : BitVec 32 := v95
  let v97 : Index := Scalar.indexCast v96
  let c0_56 : Index := 0#32
  ![0, v97.toNat, 0]
def k0_cond1 (i : grid0.Coords) : BitVec 1 :=
  let arg1 : BitVec 32 := BitVec.ofNat 32 (i 1).val
  let c4_i32_16 : BitVec 32 := 4#32
  let c0_i32_17 : BitVec 32 := 0#32
  let v34 : BitVec 1 := Scalar.cmpi .eq c4_i32_16 c0_i32_17
  let c1_i32_18 : BitVec 32 := 1#32
  let v35 : BitVec 32 := Scalar.select v34 c1_i32_18 c4_i32_16
  let v36 : BitVec 32 := Scalar.remsi arg1 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let v45 : BitVec 32 := Scalar.extui v44
  let c0_i32_23 : BitVec 32 := 0#32
  let v46 : BitVec 1 := Scalar.cmpi .ne v45 c0_i32_23
  v46

def k0_mult3 (i : grid0.Coords) : BitVec 32 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c4_i32 : BitVec 32 := 4#32
  let c0_i32_8 : BitVec 32 := 0#32
  let v18 : BitVec 1 := Scalar.cmpi .sgt c4_i32 c0_i32_8
  let v19 : BitVec 32 := Scalar.extui v18
  let c0_i32_9 : BitVec 32 := 0#32
  let v20 : BitVec 1 := Scalar.cmpi .slt c4_i32 c0_i32_9
  let v21 : BitVec 32 := Scalar.extui v20
  let v22 : BitVec 32 := Scalar.subi v19 v21
  let v23 : BitVec 1 := Scalar.cmpi .ne v17 v22
  let v24 : BitVec 32 := Scalar.remsi arg1 c4_i32
  let c0_i32_10 : BitVec 32 := 0#32
  let v25 : BitVec 1 := Scalar.cmpi .ne v24 c0_i32_10
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let c512_i32 : BitVec 32 := 512#32
  let v95 : BitVec 32 := Scalar.muli v28 c512_i32
  v95
def k0_off3 (i : grid0.Coords) : Fin 3 → Nat :=
  let c0_55 : Index := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c4_i32 : BitVec 32 := 4#32
  let c0_i32_8 : BitVec 32 := 0#32
  let v18 : BitVec 1 := Scalar.cmpi .sgt c4_i32 c0_i32_8
  let v19 : BitVec 32 := Scalar.extui v18
  let c0_i32_9 : BitVec 32 := 0#32
  let v20 : BitVec 1 := Scalar.cmpi .slt c4_i32 c0_i32_9
  let v21 : BitVec 32 := Scalar.extui v20
  let v22 : BitVec 32 := Scalar.subi v19 v21
  let v23 : BitVec 1 := Scalar.cmpi .ne v17 v22
  let v24 : BitVec 32 := Scalar.remsi arg1 c4_i32
  let c0_i32_10 : BitVec 32 := 0#32
  let v25 : BitVec 1 := Scalar.cmpi .ne v24 c0_i32_10
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let c512_i32 : BitVec 32 := 512#32
  let v95 : BitVec 32 := Scalar.muli v28 c512_i32
  let v96 : BitVec 32 := v95
  let v97 : Index := Scalar.indexCast v96
  let c0_56 : Index := 0#32
  ![0, v97.toNat, 0]
def k0_cond2 (i : grid0.Coords) : BitVec 1 :=
  let arg1 : BitVec 32 := BitVec.ofNat 32 (i 1).val
  let c4_i32_24 : BitVec 32 := 4#32
  let c0_i32_25 : BitVec 32 := 0#32
  let v47 : BitVec 1 := Scalar.cmpi .eq c4_i32_24 c0_i32_25
  let c1_i32_26 : BitVec 32 := 1#32
  let v48 : BitVec 32 := Scalar.select v47 c1_i32_26 c4_i32_24
  let v49 : BitVec 32 := Scalar.remsi arg1 v48
  let c0_i32_28 : BitVec 32 := 0#32
  let v51 : BitVec 1 := Scalar.cmpi .slt v49 c0_i32_28
  let c0_i32_29 : BitVec 32 := 0#32
  let v52 : BitVec 1 := Scalar.cmpi .slt v48 c0_i32_29
  let v53 : BitVec 1 := Scalar.xori v51 v52
  let c0_i32_27 : BitVec 32 := 0#32
  let v50 : BitVec 1 := Scalar.cmpi .ne v49 c0_i32_27
  let v54 : BitVec 1 := Scalar.andi v53 v50
  let v55 : BitVec 32 := Scalar.addi v49 v48
  let v56 : BitVec 32 := Scalar.select v54 v55 v49
  let c1_i32_30 : BitVec 32 := 1#32
  let v57 : BitVec 1 := Scalar.cmpi .eq v56 c1_i32_30
  let v58 : BitVec 32 := Scalar.extui v57
  let c0_i32_31 : BitVec 32 := 0#32
  let v59 : BitVec 1 := Scalar.cmpi .ne v58 c0_i32_31
  v59

def k0_mult4 (i : grid0.Coords) : BitVec 32 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c4_i32 : BitVec 32 := 4#32
  let c0_i32_8 : BitVec 32 := 0#32
  let v18 : BitVec 1 := Scalar.cmpi .sgt c4_i32 c0_i32_8
  let v19 : BitVec 32 := Scalar.extui v18
  let c0_i32_9 : BitVec 32 := 0#32
  let v20 : BitVec 1 := Scalar.cmpi .slt c4_i32 c0_i32_9
  let v21 : BitVec 32 := Scalar.extui v20
  let v22 : BitVec 32 := Scalar.subi v19 v21
  let v23 : BitVec 1 := Scalar.cmpi .ne v17 v22
  let v24 : BitVec 32 := Scalar.remsi arg1 c4_i32
  let c0_i32_10 : BitVec 32 := 0#32
  let v25 : BitVec 1 := Scalar.cmpi .ne v24 c0_i32_10
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let c512_i32 : BitVec 32 := 512#32
  let v95 : BitVec 32 := Scalar.muli v28 c512_i32
  v95
def k0_off4 (i : grid0.Coords) : Fin 3 → Nat :=
  let c0_55 : Index := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c4_i32 : BitVec 32 := 4#32
  let c0_i32_8 : BitVec 32 := 0#32
  let v18 : BitVec 1 := Scalar.cmpi .sgt c4_i32 c0_i32_8
  let v19 : BitVec 32 := Scalar.extui v18
  let c0_i32_9 : BitVec 32 := 0#32
  let v20 : BitVec 1 := Scalar.cmpi .slt c4_i32 c0_i32_9
  let v21 : BitVec 32 := Scalar.extui v20
  let v22 : BitVec 32 := Scalar.subi v19 v21
  let v23 : BitVec 1 := Scalar.cmpi .ne v17 v22
  let v24 : BitVec 32 := Scalar.remsi arg1 c4_i32
  let c0_i32_10 : BitVec 32 := 0#32
  let v25 : BitVec 1 := Scalar.cmpi .ne v24 c0_i32_10
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let c512_i32 : BitVec 32 := 512#32
  let v95 : BitVec 32 := Scalar.muli v28 c512_i32
  let v96 : BitVec 32 := v95
  let v97 : Index := Scalar.indexCast v96
  let c0_56 : Index := 0#32
  ![0, v97.toNat, 0]
def k0_cond3 (i : grid0.Coords) : BitVec 1 :=
  let arg1 : BitVec 32 := BitVec.ofNat 32 (i 1).val
  let c4_i32_32 : BitVec 32 := 4#32
  let c0_i32_33 : BitVec 32 := 0#32
  let v60 : BitVec 1 := Scalar.cmpi .eq c4_i32_32 c0_i32_33
  let c1_i32_34 : BitVec 32 := 1#32
  let v61 : BitVec 32 := Scalar.select v60 c1_i32_34 c4_i32_32
  let v62 : BitVec 32 := Scalar.remsi arg1 v61
  let c0_i32_36 : BitVec 32 := 0#32
  let v64 : BitVec 1 := Scalar.cmpi .slt v62 c0_i32_36
  let c0_i32_37 : BitVec 32 := 0#32
  let v65 : BitVec 1 := Scalar.cmpi .slt v61 c0_i32_37
  let v66 : BitVec 1 := Scalar.xori v64 v65
  let c0_i32_35 : BitVec 32 := 0#32
  let v63 : BitVec 1 := Scalar.cmpi .ne v62 c0_i32_35
  let v67 : BitVec 1 := Scalar.andi v66 v63
  let v68 : BitVec 32 := Scalar.addi v62 v61
  let v69 : BitVec 32 := Scalar.select v67 v68 v62
  let c2_i32 : BitVec 32 := 2#32
  let v70 : BitVec 1 := Scalar.cmpi .eq v69 c2_i32
  let v71 : BitVec 32 := Scalar.extui v70
  let c0_i32_38 : BitVec 32 := 0#32
  let v72 : BitVec 1 := Scalar.cmpi .ne v71 c0_i32_38
  v72

def k0_mult5 (i : grid0.Coords) : BitVec 32 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c4_i32 : BitVec 32 := 4#32
  let c0_i32_8 : BitVec 32 := 0#32
  let v18 : BitVec 1 := Scalar.cmpi .sgt c4_i32 c0_i32_8
  let v19 : BitVec 32 := Scalar.extui v18
  let c0_i32_9 : BitVec 32 := 0#32
  let v20 : BitVec 1 := Scalar.cmpi .slt c4_i32 c0_i32_9
  let v21 : BitVec 32 := Scalar.extui v20
  let v22 : BitVec 32 := Scalar.subi v19 v21
  let v23 : BitVec 1 := Scalar.cmpi .ne v17 v22
  let v24 : BitVec 32 := Scalar.remsi arg1 c4_i32
  let c0_i32_10 : BitVec 32 := 0#32
  let v25 : BitVec 1 := Scalar.cmpi .ne v24 c0_i32_10
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let c512_i32 : BitVec 32 := 512#32
  let v95 : BitVec 32 := Scalar.muli v28 c512_i32
  v95
def k0_off5 (i : grid0.Coords) : Fin 3 → Nat :=
  let c0_55 : Index := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c4_i32 : BitVec 32 := 4#32
  let c0_i32_8 : BitVec 32 := 0#32
  let v18 : BitVec 1 := Scalar.cmpi .sgt c4_i32 c0_i32_8
  let v19 : BitVec 32 := Scalar.extui v18
  let c0_i32_9 : BitVec 32 := 0#32
  let v20 : BitVec 1 := Scalar.cmpi .slt c4_i32 c0_i32_9
  let v21 : BitVec 32 := Scalar.extui v20
  let v22 : BitVec 32 := Scalar.subi v19 v21
  let v23 : BitVec 1 := Scalar.cmpi .ne v17 v22
  let v24 : BitVec 32 := Scalar.remsi arg1 c4_i32
  let c0_i32_10 : BitVec 32 := 0#32
  let v25 : BitVec 1 := Scalar.cmpi .ne v24 c0_i32_10
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let c512_i32 : BitVec 32 := 512#32
  let v95 : BitVec 32 := Scalar.muli v28 c512_i32
  let v96 : BitVec 32 := v95
  let v97 : Index := Scalar.indexCast v96
  let c0_56 : Index := 0#32
  ![0, v97.toNat, 0]
def k0_cond4 (i : grid0.Coords) : BitVec 1 :=
  let arg1 : BitVec 32 := BitVec.ofNat 32 (i 1).val
  let c4_i32_39 : BitVec 32 := 4#32
  let c0_i32_40 : BitVec 32 := 0#32
  let v73 : BitVec 1 := Scalar.cmpi .eq c4_i32_39 c0_i32_40
  let c1_i32_41 : BitVec 32 := 1#32
  let v74 : BitVec 32 := Scalar.select v73 c1_i32_41 c4_i32_39
  let v75 : BitVec 32 := Scalar.remsi arg1 v74
  let c0_i32_43 : BitVec 32 := 0#32
  let v77 : BitVec 1 := Scalar.cmpi .slt v75 c0_i32_43
  let c0_i32_44 : BitVec 32 := 0#32
  let v78 : BitVec 1 := Scalar.cmpi .slt v74 c0_i32_44
  let v79 : BitVec 1 := Scalar.xori v77 v78
  let c0_i32_42 : BitVec 32 := 0#32
  let v76 : BitVec 1 := Scalar.cmpi .ne v75 c0_i32_42
  let v80 : BitVec 1 := Scalar.andi v79 v76
  let v81 : BitVec 32 := Scalar.addi v75 v74
  let v82 : BitVec 32 := Scalar.select v80 v81 v75
  let c3_i32 : BitVec 32 := 3#32
  let v83 : BitVec 1 := Scalar.cmpi .eq v82 c3_i32
  let v84 : BitVec 32 := Scalar.extui v83
  let c0_i32_45 : BitVec 32 := 0#32
  let v85 : BitVec 1 := Scalar.cmpi .ne v84 c0_i32_45
  v85

def k0_mult6 (i : grid0.Coords) : BitVec 32 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c4_i32 : BitVec 32 := 4#32
  let c0_i32_8 : BitVec 32 := 0#32
  let v18 : BitVec 1 := Scalar.cmpi .sgt c4_i32 c0_i32_8
  let v19 : BitVec 32 := Scalar.extui v18
  let c0_i32_9 : BitVec 32 := 0#32
  let v20 : BitVec 1 := Scalar.cmpi .slt c4_i32 c0_i32_9
  let v21 : BitVec 32 := Scalar.extui v20
  let v22 : BitVec 32 := Scalar.subi v19 v21
  let v23 : BitVec 1 := Scalar.cmpi .ne v17 v22
  let v24 : BitVec 32 := Scalar.remsi arg1 c4_i32
  let c0_i32_10 : BitVec 32 := 0#32
  let v25 : BitVec 1 := Scalar.cmpi .ne v24 c0_i32_10
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let c512_i32 : BitVec 32 := 512#32
  let v95 : BitVec 32 := Scalar.muli v28 c512_i32
  v95
def k0_off6 (i : grid0.Coords) : Fin 3 → Nat :=
  let c0_55 : Index := 0#32
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_7 : BitVec 32 := 0#32
  let v15 : BitVec 1 := Scalar.cmpi .slt arg1 c0_i32_7
  let v16 : BitVec 32 := Scalar.extui v15
  let v17 : BitVec 32 := Scalar.subi v14 v16
  let c4_i32 : BitVec 32 := 4#32
  let c0_i32_8 : BitVec 32 := 0#32
  let v18 : BitVec 1 := Scalar.cmpi .sgt c4_i32 c0_i32_8
  let v19 : BitVec 32 := Scalar.extui v18
  let c0_i32_9 : BitVec 32 := 0#32
  let v20 : BitVec 1 := Scalar.cmpi .slt c4_i32 c0_i32_9
  let v21 : BitVec 32 := Scalar.extui v20
  let v22 : BitVec 32 := Scalar.subi v19 v21
  let v23 : BitVec 1 := Scalar.cmpi .ne v17 v22
  let v24 : BitVec 32 := Scalar.remsi arg1 c4_i32
  let c0_i32_10 : BitVec 32 := 0#32
  let v25 : BitVec 1 := Scalar.cmpi .ne v24 c0_i32_10
  let v26 : BitVec 1 := Scalar.andi v23 v25
  let v12 : BitVec 32 := Scalar.divsi arg1 c4_i32
  let c1_i32 : BitVec 32 := 1#32
  let v27 : BitVec 32 := Scalar.subi v12 c1_i32
  let v28 : BitVec 32 := Scalar.select v26 v27 v12
  let c512_i32 : BitVec 32 := 512#32
  let v95 : BitVec 32 := Scalar.muli v28 c512_i32
  let v96 : BitVec 32 := v95
  let v97 : Index := Scalar.indexCast v96
  let c0_56 : Index := 0#32
  ![0, v97.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S16x1x128x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x16x256 : Shape := ⟨4, ![16, 2048, 16, 256]⟩
abbrev S16x2048x16x64 : Shape := ⟨4, ![16, 2048, 16, 64]⟩
abbrev S16x2048x256 : Shape := ⟨3, ![16, 2048, 256]⟩
abbrev S16x2048x64 : Shape := ⟨3, ![16, 2048, 64]⟩
abbrev S2048 : Shape := ⟨1, ![2048]⟩
abbrev S16x2048x2048x16 : Shape := ⟨4, ![16, 2048, 2048, 16]⟩
abbrev S16x16x2048x2048 : Shape := ⟨4, ![16, 16, 2048, 2048]⟩
abbrev S_ : Shape := ⟨0, ![]⟩
abbrev S1x2048 : Shape := ⟨2, ![1, 2048]⟩
abbrev S2048x1 : Shape := ⟨2, ![2048, 1]⟩
abbrev S2048x2048 : Shape := ⟨2, ![2048, 2048]⟩
abbrev S16x16x2048 : Shape := ⟨3, ![16, 16, 2048]⟩
abbrev S16x16x2048x1 : Shape := ⟨4, ![16, 16, 2048, 1]⟩
abbrev S16x256x16x2048 : Shape := ⟨4, ![16, 256, 16, 2048]⟩
abbrev S16x16x2048x256 : Shape := ⟨4, ![16, 16, 2048, 256]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x16x256, .f32⟩
  | .hbm, ⟨1, _⟩ => ⟨S16x2048x16x64, .f32⟩
  | .hbm, ⟨2, _⟩ => ⟨S16x2048x256, .f32⟩
  | .hbm, ⟨3, _⟩ => ⟨S16x2048x64, .f32⟩
  | .hbm, ⟨4, _⟩ => ⟨S2048, .i32⟩
  | .hbm, ⟨5, _⟩ => ⟨S16x2048x2048x16, .f32⟩
  | .hbm, ⟨6, _⟩ => ⟨S16x16x2048x2048, .f32⟩
  | .hbm, ⟨7, _⟩ => ⟨S16x2048x2048x16, .f32⟩
  | .hbm, ⟨8, _⟩ => ⟨S16x16x2048x2048, .f32⟩
  | .hbm, ⟨9, _⟩ => ⟨S16x16x2048x2048, .f32⟩
  | .hbm, ⟨10, _⟩ => ⟨S_, .f32⟩
  | .hbm, ⟨11, _⟩ => ⟨S16x16x2048x2048, .f32⟩
  | .hbm, ⟨12, _⟩ => ⟨S16x16x2048x2048, .f32⟩
  | .hbm, ⟨13, _⟩ => ⟨S1x2048, .i32⟩
  | .hbm, ⟨14, _⟩ => ⟨S2048x1, .i32⟩
  | .hbm, ⟨15, _⟩ => ⟨S2048x2048, .i32⟩
  | .hbm, ⟨16, _⟩ => ⟨S2048x2048, .i32⟩
  | .hbm, ⟨17, _⟩ => ⟨S2048x2048, .i1⟩
  | .hbm, ⟨18, _⟩ => ⟨S_, .f32⟩
  | .hbm, ⟨19, _⟩ => ⟨S_, .f32⟩
  | .hbm, ⟨20, _⟩ => ⟨S16x16x2048x2048, .i1⟩
  | .hbm, ⟨21, _⟩ => ⟨S16x16x2048x2048, .f32⟩
  | .hbm, ⟨22, _⟩ => ⟨S16x16x2048x2048, .f32⟩
  | .hbm, ⟨23, _⟩ => ⟨S_, .f32⟩
  | .hbm, ⟨24, _⟩ => ⟨S16x16x2048, .f32⟩
  | .hbm, ⟨25, _⟩ => ⟨S_, .f32⟩
  | .hbm, ⟨26, _⟩ => ⟨S16x16x2048, .f32⟩
  | .hbm, ⟨27, _⟩ => ⟨S16x16x2048, .f32⟩
  | .hbm, ⟨28, _⟩ => ⟨S16x16x2048x1, .f32⟩
  | .hbm, ⟨29, _⟩ => ⟨S16x16x2048x2048, .f32⟩
  | .hbm, ⟨30, _⟩ => ⟨S16x16x2048x2048, .f32⟩
  | .hbm, ⟨31, _⟩ => ⟨S16x16x2048x2048, .f32⟩
  | .hbm, ⟨32, _⟩ => ⟨S_, .f32⟩
  | .hbm, ⟨33, _⟩ => ⟨S16x16x2048, .f32⟩
  | .hbm, ⟨34, _⟩ => ⟨S16x16x2048x1, .f32⟩
  | .hbm, ⟨35, _⟩ => ⟨S16x16x2048x2048, .f32⟩
  | .hbm, ⟨36, _⟩ => ⟨S16x16x2048x2048, .f32⟩
  | .hbm, ⟨37, _⟩ => ⟨S16x256x16x2048, .f32⟩
  | .hbm, ⟨38, _⟩ => ⟨S16x2048x16x256, .f32⟩
  | .hbm, ⟨39, _⟩ => ⟨S16x16x2048x256, .f32⟩
  | .hbm, ⟨40, _⟩ => ⟨S16x16x2048x256, .bf16⟩
  | _, _ => ⟨S16x2048x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Ffn.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1024x1024, .f32⟩
  | .local _ .vmem, ⟨7, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnReferenceIdeal.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Last.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LastIdeal.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 13
  | .vmem => 9
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== LastReferenceIdeal.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 56
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x2816, .f32⟩
  | .hbm, ⟨35, _⟩ => ⟨S32768x1024, .f32⟩
  | .hbm, ⟨36, _⟩ => ⟨S_, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Out.lean ====
abbrev S16x2048x1024 : Shape := ⟨3, ![16, 2048, 1024]⟩
abbrev S32768x1024 : Shape := ⟨2, ![32768, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16x2048x1024, .f32⟩
  | .hbm, ⟨1, _⟩ => ⟨S32768x1024, .bf16⟩
  | .hbm, ⟨2, _⟩ => ⟨S1024x1024, .f32⟩
  | .hbm, ⟨3, _⟩ => ⟨S32768x1024, .f32⟩
  | .hbm, ⟨4, _⟩ => ⟨S1024x1024, .bf16⟩
  | .hbm, ⟨5, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OutReferenceIdeal.lean ====
abbrev S16x2048x1024 : Shape := ⟨3, ![16, 2048, 1024]⟩
abbrev S32768x1024 : Shape := ⟨2, ![32768, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S32768x1024, .bf16⟩
  | .hbm, ⟨2, _⟩ => ⟨S1024x1024, .f32⟩
  | .hbm, ⟨3, _⟩ => ⟨S32768x1024, .f32⟩
  | .hbm, ⟨4, _⟩ => ⟨S32768x1024, .f32⟩
  | .hbm, ⟨5, _⟩ => ⟨S32768x1024, .f32⟩
  | .hbm, ⟨6, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MlaOut.lean ====
abbrev S16x2048x1024 : Shape := ⟨3, ![16, 2048, 1024]⟩
abbrev S16x16x2048x256 : Shape := ⟨4, ![16, 16, 2048, 256]⟩
abbrev S256x16x128 : Shape := ⟨3, ![256, 16, 128]⟩
abbrev S2048x1024 : Shape := ⟨2, ![2048, 1024]⟩
abbrev S16x256x128 : Shape := ⟨3, ![16, 256, 128]⟩
abbrev S32768x1024 : Shape := ⟨2, ![32768, 1024]⟩
abbrev S16x32768x256 : Shape := ⟨3, ![16, 32768, 256]⟩
abbrev S512x1024 : Shape := ⟨2, ![512, 1024]⟩
abbrev S16x512x256 : Shape := ⟨3, ![16, 512, 256]⟩
abbrev S1x512x256 : Shape := ⟨3, ![1, 512, 256]⟩
abbrev S512x256 : Shape := ⟨2, ![512, 256]⟩
abbrev S1x256x128 : Shape := ⟨3, ![1, 256, 128]⟩
abbrev S256x128 : Shape := ⟨2, ![256, 128]⟩
abbrev S512x128 : Shape := ⟨2, ![512, 128]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S16x16x2048x256, .bf16⟩
  | .hbm, ⟨2, _⟩ => ⟨S256x16x128, .f32⟩
  | .hbm, ⟨3, _⟩ => ⟨S2048x1024, .f32⟩
  | .hbm, ⟨4, _⟩ => ⟨S16x256x128, .f32⟩
  | .hbm, ⟨5, _⟩ => ⟨S16x256x128, .bf16⟩
  | .hbm, ⟨6, _⟩ => ⟨S32768x1024, .f32⟩
  | .hbm, ⟨7, _⟩ => ⟨S16x32768x256, .bf16⟩
  | .hbm, ⟨8, _⟩ => ⟨S2048x1024, .bf16⟩
  | .hbm, ⟨9, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S16x512x256, .bf16⟩
  | .local _ .vmem, ⟨3, _⟩ => ⟨S16x512x256, .bf16⟩
  | .local _ .vmem, ⟨4, _⟩ => ⟨S16x256x128, .bf16⟩
  | .local _ .vmem, ⟨5, _⟩ => ⟨S2048x1024, .bf16⟩
  | .local _ .vmem, ⟨6, _⟩ => ⟨S512x1024, .f32⟩
  | .local _ .vmem, ⟨7, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MlaOutReferenceIdeal.lean ====
abbrev S16x2048x1024 : Shape := ⟨3, ![16, 2048, 1024]⟩
abbrev S16x16x2048x256 : Shape := ⟨4, ![16, 16, 2048, 256]⟩
abbrev S256x16x128 : Shape := ⟨3, ![256, 16, 128]⟩
abbrev S2048x1024 : Shape := ⟨2, ![2048, 1024]⟩
abbrev S32768x1024 : Shape := ⟨2, ![32768, 1024]⟩
abbrev S16x128x16x2048 : Shape := ⟨4, ![16, 128, 16, 2048]⟩
abbrev S16x2048x16x128 : Shape := ⟨4, ![16, 2048, 16, 128]⟩
abbrev S32768x2048 : Shape := ⟨2, ![32768, 2048]⟩

abbrev nBuf : Space → Nat
  | .hbm => 11
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x16x2048x256, .bf16⟩
  | .hbm, ⟨2, _⟩ => ⟨S256x16x128, .f32⟩
  | .hbm, ⟨3, _⟩ => ⟨S2048x1024, .f32⟩
  | .hbm, ⟨4, _⟩ => ⟨S32768x1024, .f32⟩
  | .hbm, ⟨5, _⟩ => ⟨S16x16x2048x256, .f32⟩
  | .hbm, ⟨6, _⟩ => ⟨S16x128x16x2048, .f32⟩
  | .hbm, ⟨7, _⟩ => ⟨S16x2048x16x128, .f32⟩
  | .hbm, ⟨8, _⟩ => ⟨S32768x2048, .f32⟩
  | .hbm, ⟨9, _⟩ => ⟨S32768x1024, .f32⟩
  | .hbm, ⟨10, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Keys.lean ====
abbrev S16x2048x1024 : Shape := ⟨3, ![16, 2048, 1024]⟩
abbrev S1024 : Shape := ⟨1, ![1024]⟩
abbrev S1024x3072 : Shape := ⟨2, ![1024, 3072]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S1024x3072, .bf16⟩
  | .hbm, ⟨5, _⟩ => ⟨S1x1024, .f32⟩
  | .hbm, ⟨6, _⟩ => ⟨S32768x1024, .bf16⟩
  | .hbm, ⟨7, _⟩ => ⟨S32768x1024, .f32⟩
  | .hbm, ⟨8, _⟩ => ⟨S32768x1024, .f32⟩
  | .hbm, ⟨9, _⟩ => ⟨S32768x1024, .bf16⟩
  | .hbm, ⟨10, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KeysIdeal.lean ====
abbrev S16x2048x1024 : Shape := ⟨3, ![16, 2048, 1024]⟩
abbrev S1024 : Shape := ⟨1, ![1024]⟩
abbrev S1024x3072 : Shape := ⟨2, ![1024, 3072]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 14
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S1024x3072, .bf16⟩
  | .hbm, ⟨5, _⟩ => ⟨S1x1024, .f32⟩
  | .hbm, ⟨6, _⟩ => ⟨S32768x1024, .bf16⟩
  | .hbm, ⟨7, _⟩ => ⟨S32768x1024, .f32⟩
  | .hbm, ⟨8, _⟩ => ⟨S32768x1024, .f32⟩
  | .hbm, ⟨9, _⟩ => ⟨S32768x1024, .bf16⟩
  | .hbm, ⟨10, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KeysReferenceIdeal.lean ====
abbrev S16x2048x1024 : Shape := ⟨3, ![16, 2048, 1024]⟩
abbrev S1024 : Shape := ⟨1, ![1024]⟩
abbrev S1024x3072 : Shape := ⟨2, ![1024, 3072]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3072 : Shape := ⟨2, ![32768, 3072]⟩

abbrev nBuf : Space → Nat
  | .hbm => 30
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x3072, .f32⟩
  | .hbm, ⟨3, _⟩ => ⟨S32768x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x3072, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S_, .f32⟩
  | .hbm, ⟨25, _⟩ => ⟨S32768x1024, .f32⟩
  | .hbm, ⟨26, _⟩ => ⟨S32768x1024, .f32⟩
  | .hbm, ⟨27, _⟩ => ⟨S32768x1024, .bf16⟩
  | .hbm, ⟨28, _⟩ => ⟨S32768x1024, .bf16⟩
  | .hbm, ⟨29, _⟩ => ⟨S32768x1024, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Gdn.lean ====
abbrev S16x2048x1024 : Shape := ⟨3, ![16, 2048, 1024]⟩
abbrev S1024 : Shape := ⟨1, ![1024]⟩
abbrev S1024x4112 : Shape := ⟨2, ![1024, 4112]⟩
abbrev S_ : Shape := ⟨0, ![]⟩
abbrev S1024x4224 : Shape := ⟨2, ![1024, 4224]⟩
abbrev S1024x128 : Shape := ⟨2, ![1024, 128]⟩
abbrev S128x1024 : Shape := ⟨2, ![128, 1024]⟩
abbrev S32768x1024 : Shape := ⟨2, ![32768, 1024]⟩
abbrev S1x1024 : Shape := ⟨2, ![1, 1024]⟩
abbrev S32768x3072 : Shape := ⟨2, ![32768, 3072]⟩
abbrev S32768x128 : Shape := ⟨2, ![32768, 128]⟩
abbrev S128x32768 : Shape := ⟨2, ![128, 32768]⟩
abbrev S512x1024 : Shape := ⟨2, ![512, 1024]⟩
abbrev S512x3072 : Shape := ⟨2, ![512, 3072]⟩
abbrev S512x128 : Shape := ⟨2, ![512, 128]⟩
abbrev S128x512 : Shape := ⟨2, ![128, 512]⟩
abbrev S512 : Shape := ⟨1, ![512]⟩
abbrev S512x1 : Shape := ⟨2, ![512, 1]⟩
abbrev S1024x1024 : Shape := ⟨2, ![1024, 1024]⟩

abbrev nBuf : Space → Nat
  | .hbm => 15
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4112, .f32⟩
  | .hbm, ⟨3, _⟩ => ⟨S_, .i32⟩
  | .hbm, ⟨4, _⟩ => ⟨S_, .f32⟩
  | .hbm, ⟨5, _⟩ => ⟨S1024x4224, .f32⟩
  | .hbm, ⟨6, _⟩ => ⟨S1024x4224, .bf16⟩
  | .hbm, ⟨7, _⟩ => ⟨S1024x128, .bf16⟩
  | .hbm, ⟨8, _⟩ => ⟨S128x1024, .bf16⟩
  | .hbm, ⟨9, _⟩ => ⟨S32768x1024, .f32⟩
  | .hbm, ⟨10, _⟩ => ⟨S1x1024, .f32⟩
  | .hbm, ⟨11, _⟩ => ⟨S32768x3072, .f32⟩
  | .hbm, ⟨12, _⟩ => ⟨S32768x1024, .f32⟩
  | .hbm, ⟨13, _⟩ => ⟨S32768x128, .f32⟩
  | .hbm, ⟨14, _⟩ => ⟨S128x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S128x1024, .bf16⟩
  | .local _ .vmem, ⟨5, _⟩ => ⟨S512x3072, .f32⟩
  | .local _ .vmem, ⟨6, _⟩ => ⟨S512x3072, .f32⟩
  | .local _ .vmem, ⟨7, _⟩ => ⟨S512x1024, .f32⟩
  | .local _ .vmem, ⟨8, _⟩ => ⟨S512x1024, .f32⟩
  | .local _ .vmem, ⟨9, _⟩ => ⟨S512x128, .f32⟩
  | .local _ .vmem, ⟨10, _⟩ => ⟨S512x128, .f32⟩
  | .local _ .vmem, ⟨11, _⟩ => ⟨S128x512, .f32⟩
  | .local _ .vmem, ⟨12, _⟩ => ⟨S128x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GdnIdeal.lean ====
abbrev S16x2048x1024 : Shape := ⟨3, ![16, 2048, 1024]⟩
abbrev S1024 : Shape := ⟨1, ![1024]⟩
abbrev S1024x4112 : Shape := ⟨2, ![1024, 4112]⟩
abbrev S_ : Shape := ⟨0, ![]⟩
abbrev S1024x4224 : Shape := ⟨2, ![1024, 4224]⟩
abbrev S1024x128 : Shape := ⟨2, ![1024, 128]⟩
abbrev S128x1024 : Shape := ⟨2, ![128, 1024]⟩
abbrev S32768x1024 : Shape := ⟨2, ![32768, 1024]⟩
abbrev S1x1024 : Shape := ⟨2, ![1, 1024]⟩
abbrev S32768x3072 : Shape := ⟨2, ![32768, 3072]⟩
abbrev S32768x128 : Shape := ⟨2, ![32768, 128]⟩
abbrev S128x32768 : Shape := ⟨2, ![128, 32768]⟩
abbrev S512x1024 : Shape := ⟨2, ![512, 1024]⟩
abbrev S512x3072 : Shape := ⟨2, ![512, 3072]⟩
abbrev S512x128 : Shape := ⟨2, ![512, 128]⟩
abbrev S128x512 : Shape := ⟨2, ![128, 512]⟩
abbrev S512 : Shape := ⟨1, ![512]⟩
abbrev S512x1 : Shape := ⟨2, ![512, 1]⟩
abbrev S1024x1024 : Shape := ⟨2, ![1024, 1024]⟩

abbrev nBuf : Space → Nat
  | .hbm => 15
  | .vmem => 13
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4112, .f32⟩
  | .hbm, ⟨3, _⟩ => ⟨S_, .i32⟩
  | .hbm, ⟨4, _⟩ => ⟨S_, .f32⟩
  | .hbm, ⟨5, _⟩ => ⟨S1024x4224, .f32⟩
  | .hbm, ⟨6, _⟩ => ⟨S1024x4224, .bf16⟩
  | .hbm, ⟨7, _⟩ => ⟨S1024x128, .bf16⟩
  | .hbm, ⟨8, _⟩ => ⟨S128x1024, .bf16⟩
  | .hbm, ⟨9, _⟩ => ⟨S32768x1024, .f32⟩
  | .hbm, ⟨10, _⟩ => ⟨S1x1024, .f32⟩
  | .hbm, ⟨11, _⟩ => ⟨S32768x3072, .f32⟩
  | .hbm, ⟨12, _⟩ => ⟨S32768x1024, .f32⟩
  | .hbm, ⟨13, _⟩ => ⟨S32768x128, .f32⟩
  | .hbm, ⟨14, _⟩ => ⟨S128x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4224, .bf16⟩
  | .local _ .vmem, ⟨4, _⟩ => ⟨S128x1024, .bf16⟩
  | .local _ .vmem, ⟨5, _⟩ => ⟨S512x3072, .f32⟩
  | .local _ .vmem, ⟨6, _⟩ => ⟨S512x3072, .f32⟩
  | .local _ .vmem, ⟨7, _⟩ => ⟨S512x1024, .f32⟩
  | .local _ .vmem, ⟨8, _⟩ => ⟨S512x1024, .f32⟩
  | .local _ .vmem, ⟨9, _⟩ => ⟨S512x128, .f32⟩
  | .local _ .vmem, ⟨10, _⟩ => ⟨S512x128, .f32⟩
  | .local _ .vmem, ⟨11, _⟩ => ⟨S128x512, .f32⟩
  | .local _ .vmem, ⟨12, _⟩ => ⟨S128x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GdnReferenceIdeal.lean ====
abbrev S16x2048x1024 : Shape := ⟨3, ![16, 2048, 1024]⟩
abbrev S1024 : Shape := ⟨1, ![1024]⟩
abbrev S1024x4112 : Shape := ⟨2, ![1024, 4112]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4112 : Shape := ⟨2, ![32768, 4112]⟩
abbrev S32768x3072 : Shape := ⟨2, ![32768, 3072]⟩

abbrev nBuf : Space → Nat
  | .hbm => 23
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4112, .f32⟩
  | .hbm, ⟨3, _⟩ => ⟨S32768x1024, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x4112, .f32⟩
  | .hbm, ⟨21, _⟩ => ⟨S32768x3072, .f32⟩
  | .hbm, ⟨22, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KeysSample.lean ====
abbrev S128x4x1024 : Shape := ⟨3, ![128, 4, 1024]⟩
abbrev S1024 : Shape := ⟨1, ![1024]⟩
abbrev S1024x3072 : Shape := ⟨2, ![1024, 3072]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩

abbrev nBuf : Space → Nat
  | .hbm => 11
  | .vmem => 8
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x3072, .f32⟩
  | .hbm, ⟨3, _⟩ => ⟨S512x1024, .f32⟩
  | .hbm, ⟨4, _⟩ => ⟨S1024x3072, .bf16⟩
  | .hbm, ⟨5, _⟩ => ⟨S1x1024, .f32⟩
  | .hbm, ⟨6, _⟩ => ⟨S512x1024, .bf16⟩
  | .hbm, ⟨7, _⟩ => ⟨S512x1024, .f32⟩
  | .hbm, ⟨8, _⟩ => ⟨S512x1024, .f32⟩
  | .hbm, ⟨9, _⟩ => ⟨S512x1024, .bf16⟩
  | .hbm, ⟨10, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S1024x3072, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v3_3 : Ref sig .tc := ⟨.hbm, 9, rfl⟩
abbrev main_v3_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KeysSampleReferenceIdeal.lean ====
abbrev S128x4x1024 : Shape := ⟨3, ![128, 4, 1024]⟩
abbrev S1024 : Shape := ⟨1, ![1024]⟩
abbrev S1024x3072 : Shape := ⟨2, ![1024, 3072]⟩
abbrev S512x1024 : Shape := ⟨2, ![512, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x3072 : Shape := ⟨2, ![512, 3072]⟩

abbrev nBuf : Space → Nat
  | .hbm => 30
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x3072, .f32⟩
  | .hbm, ⟨3, _⟩ => ⟨S512x1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x3072, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .bf16⟩
  | .hbm, ⟨28, _⟩ => ⟨S512x1024, .bf16⟩
  | .hbm, ⟨29, _⟩ => ⟨S512x1024, .bf16⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== GdnSample.lean ====
abbrev S128x4x1024 : Shape := ⟨3, ![128, 4, 1024]⟩
abbrev S1024 : Shape := ⟨1, ![1024]⟩
abbrev S1024x4112 : Shape := ⟨2, ![1024, 4112]⟩
abbrev S_ : Shape := ⟨0, ![]⟩
abbrev S1024x4224 : Shape := ⟨2, ![1024, 4224]⟩
abbrev S1024x128 : Shape := ⟨2, ![1024, 128]⟩
abbrev S128x1024 : Shape := ⟨2, ![128, 1024]⟩
abbrev S512x1024 : Shape := ⟨2, ![512, 1024]⟩
abbrev S1x1024 : Shape := ⟨2, ![1, 1024]⟩
abbrev S512x3072 : Shape := ⟨2, ![512, 3072]⟩
abbrev S512x128 : Shape := ⟨2, ![512, 128]⟩
abbrev S128x512 : Shape := ⟨2, ![128, 512]⟩
abbrev S512 : Shape := ⟨1, ![512]⟩
abbrev S512x1 : Shape := ⟨2, ![512, 1]⟩
abbrev S1024x1024 : Shape := ⟨2, ![1024, 1024]⟩

abbrev nBuf : Space → Nat
  | .hbm => 15
  | .vmem => 8
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x4112, .f32⟩
  | .hbm, ⟨3, _⟩ => ⟨S_, .i32⟩
  | .hbm, ⟨4, _⟩ => ⟨S_, .f32⟩
  | .hbm, ⟨5, _⟩ => ⟨S1024x4224, .f32⟩
  | .hbm, ⟨6, _⟩ => ⟨S1024x4224, .bf16⟩
  | .hbm, ⟨7, _⟩ => ⟨S1024x128, .bf16⟩
  | .hbm, ⟨8, _⟩ => ⟨S128x1024, .bf16⟩
  | .hbm, ⟨9, _⟩ => ⟨S512x1024, .f32⟩
  | .hbm, ⟨10, _⟩ => ⟨S1x1024, .f32⟩
  | .hbm, ⟨11, _⟩ => ⟨S512x3072, .f32⟩
  | .hbm, ⟨12, _⟩ => ⟨S512x1024, .f32⟩
  | .hbm, ⟨13, _⟩ => ⟨S512x128, .f32⟩
  | .hbm, ⟨14, _⟩ => ⟨S128x512, .f32⟩
  | .local _ .vmem, ⟨0, _⟩ => ⟨S512x1024, .f32⟩
  | .local _ .vmem, ⟨1, _⟩ => ⟨S1x1024, .f32⟩
  | .local _ .vmem, ⟨2, _⟩ => ⟨S1024x4224, .bf16⟩
  | .local _ .vmem, ⟨3, _⟩ => ⟨S128x1024, .bf16⟩
  | .local _ .vmem, ⟨4, _⟩ => ⟨S512x3072, .f32⟩
  | .local _ .vmem, ⟨5, _⟩ => ⟨S512x1024, .f32⟩
  | .local _ .vmem, ⟨6, _⟩ => ⟨S512x128, .f32⟩
  | .local _ .vmem, ⟨7, _⟩ => ⟨S128x512, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4224 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== GdnSampleReferenceIdeal.lean ====
abbrev S128x4x1024 : Shape := ⟨3, ![128, 4, 1024]⟩
abbrev S1024 : Shape := ⟨1, ![1024]⟩
abbrev S1024x4112 : Shape := ⟨2, ![1024, 4112]⟩
abbrev S512x1024 : Shape := ⟨2, ![512, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x4112 : Shape := ⟨2, ![512, 4112]⟩
abbrev S512x3072 : Shape := ⟨2, ![512, 3072]⟩

abbrev nBuf : Space → Nat
  | .hbm => 23
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x4112, .f32⟩
  | .hbm, ⟨3, _⟩ => ⟨S512x1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S1x1024, .f32⟩
  | .hbm, ⟨18, _⟩ => ⟨S512x1024, .f32⟩
  | .hbm, ⟨19, _⟩ => ⟨S512x1024, .f32⟩
  | .hbm, ⟨20, _⟩ => ⟨S512x4112, .f32⟩
  | .hbm, ⟨21, _⟩ => ⟨S512x3072, .f32⟩
  | .hbm, ⟨22, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== LastSample.lean ====
abbrev S128x4x1024 : Shape := ⟨3, ![128, 4, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 13
  | .vmem => 7
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S512x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S512x1024, .f32⟩
  | .local _ .vmem, ⟨0, _⟩ => ⟨S512x1024, .f32⟩
  | .local _ .vmem, ⟨1, _⟩ => ⟨S1x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== LastSampleReferenceIdeal.lean ====
abbrev S128x4x1024 : Shape := ⟨3, ![128, 4, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S_ : Shape := ⟨0, ![]⟩
abbrev S512 : Shape := ⟨1, ![512]⟩
abbrev S512x1 : Shape := ⟨2, ![512, 1]⟩
abbrev S1x1024 : Shape := ⟨2, ![1, 1024]⟩
abbrev S512x2816 : Shape := ⟨2, ![512, 2816]⟩

abbrev nBuf : Space → Nat
  | .hbm => 56
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S512x1024, .f32⟩
  | .hbm, ⟨7, _⟩ => ⟨S512x1024, .f32⟩
  | .hbm, ⟨8, _⟩ => ⟨S_, .f32⟩
  | .hbm, ⟨9, _⟩ => ⟨S512, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S_, .f32⟩
  | .hbm, ⟨15, _⟩ => ⟨S512x1, .f32⟩
  | .hbm, ⟨16, _⟩ => ⟨S512x1, .f32⟩
  | .hbm, ⟨17, _⟩ => ⟨S512x1, .f32⟩
  | .hbm, ⟨18, _⟩ => ⟨S512x1024, .f32⟩
  | .hbm, ⟨19, _⟩ => ⟨S512x1024, .f32⟩
  | .hbm, ⟨20, _⟩ => ⟨S1x1024, .f32⟩
  | .hbm, ⟨21, _⟩ => ⟨S512x1024, .f32⟩
  | .hbm, ⟨22, _⟩ => ⟨S512x1024, .f32⟩
  | .hbm, ⟨23, _⟩ => ⟨S512x2816, .f32⟩
  | .hbm, ⟨24, _⟩ => ⟨S512x2816, .f32⟩
  | .hbm, ⟨25, _⟩ => ⟨S512x2816, .f32⟩
  | .hbm, ⟨26, _⟩ => ⟨S_, .f32⟩
  | .hbm, ⟨27, _⟩ => ⟨S512x2816, .f32⟩
  | .hbm, ⟨28, _⟩ => ⟨S512x2816, .f32⟩
  | .hbm, ⟨29, _⟩ => ⟨S_, .f32⟩
  | .hbm, ⟨30, _⟩ => ⟨S512x2816, .f32⟩
  | .hbm, ⟨31, _⟩ => ⟨S512x2816, .f32⟩
  | .hbm, ⟨32, _⟩ => ⟨S512x2816, .f32⟩
  | .hbm, ⟨33, _⟩ => ⟨S512x2816, .f32⟩
  | .hbm, ⟨34, _⟩ => ⟨S512x2816, .f32⟩
  | .hbm, ⟨35, _⟩ => ⟨S512x1024, .f32⟩
  | .hbm, ⟨36, _⟩ => ⟨S_, .f32⟩
  | .hbm, ⟨37, _⟩ => ⟨S512x1024, .f32⟩
  | .hbm, ⟨38, _⟩ => ⟨S512x1024, .f32⟩
  | .hbm, ⟨39, _⟩ => ⟨S512x1024, .f32⟩
  | .hbm, ⟨40, _⟩ => ⟨S512x1024, .f32⟩
  | .hbm, ⟨41, _⟩ => ⟨S_, .f32⟩
  | .hbm, ⟨42, _⟩ => ⟨S512, .f32⟩
  | .hbm, ⟨43, _⟩ => ⟨S512x1, .f32⟩
  | .hbm, ⟨44, _⟩ => ⟨S_, .f32⟩
  | .hbm, ⟨45, _⟩ => ⟨S512x1, .f32⟩
  | .hbm, ⟨46, _⟩ => ⟨S512x1, .f32⟩
  | .hbm, ⟨47, _⟩ => ⟨S_, .f32⟩
  | .hbm, ⟨48, _⟩ => ⟨S512x1, .f32⟩
  | .hbm, ⟨49, _⟩ => ⟨S512x1, .f32⟩
  | .hbm, ⟨50, _⟩ => ⟨S512x1, .f32⟩
  | .hbm, ⟨51, _⟩ => ⟨S512x1024, .f32⟩
  | .hbm, ⟨52, _⟩ => ⟨S512x1024, .f32⟩
  | .hbm, ⟨53, _⟩ => ⟨S1x1024, .f32⟩
  | .hbm, ⟨54, _⟩ => ⟨S512x1024, .f32⟩
  | .hbm, ⟨55, _⟩ => ⟨S512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Proof.Online.lean ====
/- A softmax-weighted sum over a prefix of the keys, extended by one block of keys: the running maximum, the running
   sum of exponentials and the running weighted sum over the extended reals. -/
module

public import Idealize.ShloMosaic.PureOps.Ideal.Laws

@[expose] public section

noncomputable section

namespace Cert.Online

open Idealize.ShloMosaic

/-- The greatest of the first `N` scores (`⊥` of none). -/
def top (s : ℕ → EReal) (N : ℕ) : EReal := (Finset.range N).sup s

/-- The sum, over the first `N` scores, of the exponentials relative to the greatest. -/
def den (s : ℕ → EReal) (N : ℕ) : EReal := ∑ k ∈ Finset.range N, Ideal.exp (s k - top s N)

/-- The weighted sum of the first `N` values, the weights those exponentials. -/
def num (s v : ℕ → EReal) (N : ℕ) : EReal := ∑ k ∈ Finset.range N, Ideal.exp (s k - top s N) * v k

theorem exp_nonneg (x : EReal) : 0 ≤ Ideal.exp x := by
  induction x with
  | bot => exact le_refl _
  | top => exact le_top
  | coe r => rw [Ideal.exp_coe]; exact_mod_cast (Real.exp_pos r).le

theorem exp_ne_top {x : EReal} (h : x ≠ ⊤) : Ideal.exp x ≠ ⊤ := by
  induction x with
  | bot => exact EReal.zero_ne_top
  | top => exact absurd rfl h
  | coe r => exact EReal.coe_ne_top _

/-- `x - y` is not `+∞` where `x ≤ y`. -/
theorem sub_ne_top {x y : EReal} (h : x ≤ y) : x - y ≠ ⊤ := by
  induction y with
  | bot => obtain rfl := le_bot_iff.mp h; simp
  | top => simp
  | coe r => induction x with
    | bot => simp
    | top => exact absurd (top_le_iff.mp h) (EReal.coe_ne_top _)
    | coe q => exact EReal.coe_ne_top (q - r)

/-- Rescaling an exponential from one maximum to a greater one. -/
theorem exp_rescale {x m m' : EReal} (hx : x ≤ m) (hm : m ≤ m') :
    Ideal.exp (m - m') * Ideal.exp (x - m) = Ideal.exp (x - m') := by
  induction m' with
  | bot =>
    obtain rfl := le_bot_iff.mp hm; obtain rfl := le_bot_iff.mp hx; simp
  | top => simp
  | coe c =>
    induction m with
    | bot => obtain rfl := le_bot_iff.mp hx; simp
    | top => exact absurd (top_le_iff.mp hm) (EReal.coe_ne_top _)
    | coe b =>
      induction x with
      | bot => simp
      | top => exact absurd (top_le_iff.mp hx) (EReal.coe_ne_top _)
      | coe a =>
        rw [← EReal.coe_sub, ← EReal.coe_sub, ← EReal.coe_sub, Ideal.exp_coe, Ideal.exp_coe, Ideal.exp_coe, ← EReal.coe_mul,
          ← Real.exp_add]
        congr 2; ring

/-- A nonnegative factor other than `+∞` goes into a finite sum of extended reals. -/
theorem mul_sum {ι : Type*} (t : Finset ι) (a : EReal) (h0 : 0 ≤ a) (ht : a ≠ ⊤) (f : ι → EReal) :
    a * ∑ i ∈ t, f i = ∑ i ∈ t, a * f i := by
  classical
  induction t using Finset.induction_on with
  | empty => simp
  | insert i t hi ih =>
    rw [Finset.sum_insert hi, Finset.sum_insert hi, EReal.left_distrib_of_nonneg_of_ne_top h0 ht, ih]

theorem le_top {s : ℕ → EReal} {N k : ℕ} (h : k < N) : s k ≤ top s N :=
  Finset.le_sup (f := s) (Finset.mem_range.mpr h)

/-- The greatest of the first `N + W` scores, from the greatest of the first `N`. -/
theorem top_add (s : ℕ → EReal) (N W : ℕ) :
    top s (N + W) = max (top s N) ((Finset.range W).sup fun j => s (N + j)) := by
  induction W with
  | zero => simp [top]
  | succ W ih =>
    rw [← Nat.add_assoc, top, Finset.range_add_one, Finset.sup_insert, ← top, ih, Finset.range_add_one, Finset.sup_insert]
    exact (sup_left_comm _ _ _)

/-- The sum of exponentials over the first `N + W` scores: the sum over the first `N` rescaled, plus the block's. -/
theorem den_add (s : ℕ → EReal) (N W : ℕ) :
    den s (N + W) = Ideal.exp (top s N - top s (N + W)) * den s N
      + ∑ j ∈ Finset.range W, Ideal.exp (s (N + j) - top s (N + W)) := by
  have hle : top s N ≤ top s (N + W) := Finset.sup_mono (Finset.range_mono (Nat.le_add_right _ _))
  rw [den, Finset.sum_range_add, den, mul_sum _ _ (exp_nonneg _) (exp_ne_top (sub_ne_top hle))]
  congr 1
  exact Finset.sum_congr rfl fun k hk => (exp_rescale (le_top (Finset.mem_range.mp hk)) hle).symm

/-- The weighted sum of the first `N + W` values: the sum over the first `N` rescaled, plus the block's. -/
theorem num_add (s v : ℕ → EReal) (N W : ℕ) :
    num s v (N + W) = Ideal.exp (top s N - top s (N + W)) * num s v N
      + ∑ j ∈ Finset.range W, Ideal.exp (s (N + j) - top s (N + W)) * v (N + j) := by
  have hle : top s N ≤ top s (N + W) := Finset.sup_mono (Finset.range_mono (Nat.le_add_right _ _))
  rw [num, Finset.sum_range_add, num, mul_sum _ _ (exp_nonneg _) (exp_ne_top (sub_ne_top hle))]
  congr 1
  exact Finset.sum_congr rfl fun k hk => by
    rw [← mul_assoc, exp_rescale (le_top (Finset.mem_range.mp hk)) hle]

/-- Scores past `N` that are all `⊥` change no maximum. -/
theorem top_of_bot {s : ℕ → EReal} {N M : ℕ} (h : N ≤ M) (hb : ∀ k, N ≤ k → k < M → s k = ⊥) : top s M = top s N := by
  obtain ⟨W, rfl⟩ := Nat.exists_eq_add_of_le h
  rw [top_add]
  have : ((Finset.range W).sup fun j => s (N + j)) = ⊥ :=
    (Finset.sup_eq_bot_iff _ _).mpr fun j hj => hb _ (Nat.le_add_right _ _) (by have := Finset.mem_range.mp hj; omega)
  rw [this]; exact max_eq_left bot_le

theorem exp_bot_sub (x : EReal) : Ideal.exp (⊥ - x) = 0 := by rw [EReal.bot_sub]; rfl

/-- … nor the sum of exponentials. -/
theorem den_of_bot {s : ℕ → EReal} {N M : ℕ} (h : N ≤ M) (hb : ∀ k, N ≤ k → k < M → s k = ⊥) : den s M = den s N := by
  rw [den, top_of_bot h hb, den]
  refine (Finset.sum_subset (Finset.range_mono h) fun k hk hk' => ?_).symm
  rw [hb k (by simpa using hk') (Finset.mem_range.mp hk), exp_bot_sub]

/-- … nor the weighted sum. -/
theorem num_of_bot {s v : ℕ → EReal} {N M : ℕ} (h : N ≤ M) (hb : ∀ k, N ≤ k → k < M → s k = ⊥) : num s v M = num s v N := by
  rw [num, top_of_bot h hb, num]
  refine (Finset.sum_subset (Finset.range_mono h) fun k hk hk' => ?_).symm
  rw [hb k (by simpa using hk') (Finset.mem_range.mp hk), exp_bot_sub, zero_mul]

/-- A finite sum of reals, as extended reals. -/
theorem coe_sum {ι : Type*} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-- Where no score is `+∞` and one is real, the sum of exponentials is a positive real. -/
theorem den_pos {s : ℕ → EReal} {N k₀ : ℕ} (ht : ∀ k, k < N → s k ≠ ⊤) (hk : k₀ < N) (h₀ : s k₀ ≠ ⊥) :
    ∃ l : ℝ, 0 < l ∧ den s N = (l : EReal) := by
  have hM : top s N ≠ ⊤ := by
    have : top s N < ⊤ := (Finset.sup_lt_iff (by exact bot_lt_top)).mpr fun k hk' =>
      lt_top_iff_ne_top.mpr (ht k (Finset.mem_range.mp hk'))
    exact this.ne
  have hb : top s N ≠ ⊥ := fun h => h₀ (le_bot_iff.mp (h ▸ le_top hk))
  lift top s N to ℝ using ⟨hM, hb⟩ with M hMM
  have key : ∀ k, k < N → ∃ e : ℝ, 0 ≤ e ∧ Ideal.exp (s k - top s N) = (e : EReal) ∧ (s k ≠ ⊥ → 0 < e) := by
    intro k hk
    rw [← hMM]
    have := ht k hk
    induction h : s k with
    | bot => exact ⟨0, le_refl _, by rw [exp_bot_sub]; rfl, fun h => absurd rfl h⟩
    | top => exact absurd h this
    | coe r => exact ⟨Real.exp (r - M), (Real.exp_pos _).le, by rw [← EReal.coe_sub, Ideal.exp_coe], fun _ => Real.exp_pos _⟩
  choose! e he0 he hep using key
  refine ⟨∑ k ∈ Finset.range N, e k, ?_, ?_⟩
  · exact Finset.sum_pos' (fun k hk' => he0 k (Finset.mem_range.mp hk')) ⟨k₀, Finset.mem_range.mpr hk, hep k₀ hk h₀⟩
  · rw [den, Finset.sum_congr rfl fun k hk' => he k (Finset.mem_range.mp hk'), coe_sum]

/-- The weighted sum times the reciprocal of the sum of exponentials is the sum of the values under the normalised
    weights, whatever the values. -/
theorem num_div {s : ℕ → EReal} (v : ℕ → EReal) {N k₀ : ℕ} (ht : ∀ k, k < N → s k ≠ ⊤) (hk : k₀ < N) (h₀ : s k₀ ≠ ⊥) :
    num s v N * Ideal.div 1 (den s N)
      = ∑ k ∈ Finset.range N, Ideal.div (Ideal.exp (s k - top s N)) (den s N) * v k := by
  obtain ⟨l, hl, hd⟩ := den_pos ht hk h₀
  rw [hd, Ideal.div_coe hl.ne', one_mul, num, mul_comm, mul_sum _ _ (by exact_mod_cast (one_div_pos.mpr hl).le) (EReal.coe_ne_top _)]
  exact Finset.sum_congr rfl fun k _ => by rw [Ideal.div_coe hl.ne', ← mul_assoc]; congr 1; exact mul_comm _ _

end Cert.Online
-- ==== Proof.Update.lean ====
/-
  One update of the running softmax over a block of `W` keys, as the attention's body computes it for 1024 rows at
  once: the pieces (a slab's scores, the mask, the running maximum, the exponentials, the running sum, the running
  weighted sum) as functions of arrays, and each read at an index. `Holds` says what the three running arrays hold
  after `N` keys; `step` is that one update takes `Holds … N` to `Holds … (N + W)`.
-/
module

public import proofs.«01_k».proof.Proof.Gen.KernelIdeal.Skeleton
public import proofs.«01_k».proof.Proof.Online
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Cert.Attn

open Idealize.ShloMosaic Idealize.ShloMosaic.ValueIdx Cert.KernelIdeal Cert.KernelIdeal.Facts₀ Cert.Online

variable [Facts₀]

/-- 1024 rows of `W` scores. -/
abbrev Mat (W : ℕ) : Shape := ⟨2, ![1024, W]⟩

/-! ## The pieces -/

/-- A vector of 1024 entries, copied along 128 lanes. -/
def col (v : FVec Ideal S1024 .f32) : FVec Ideal S1024x128 .f32 :=
  broadcastTo S1024x128 (shapeCast S1024x1 v shapeCasts_S1024_S1024x1) broadcasts_S1024x1_S1024x128

/-- The new running maximum. -/
def mx {W : ℕ} (s : FVec Ideal (Mat W) .f32) (h : (Mat W).Reduces [1] S1024) (m : FVec Ideal S1024x128 .f32) :
    FVec Ideal S1024x128 .f32 :=
  maximumf m (col (multiReduction .maximumf [1] S1024 s 0xFF800000#32 h (.inl rfl) rfl))

/-- The exponentials of 128 columns of the scores, relative to the running maximum. -/
def ch {W : ℕ} (o : ℕ) (s : FVec Ideal (Mat W) .f32) (h : (Mat W).Slices ![0, o] S1024x128) (m : FVec Ideal S1024x128 .f32) :
    FVec Ideal S1024x128 .f32 :=
  exp (subf (extractStridedSlice S1024x128 ![0, o] s h) m)

/-- The new running sum. -/
def ln (al ps l : FVec Ideal S1024x128 .f32) : FVec Ideal S1024x128 .f32 :=
  addf (mulf al l) (col (multiReduction .add [1] S1024 ps 0x00000000#32 reduces_S1024x128_S1024 (.inl rfl) rfl))

/-- The new running weighted sum. -/
def an {W : ℕ} (al : FVec Ideal S1024x128 .f32) (p : FVec Ideal (Mat W) .bf16) (v : FVec Ideal ⟨2, ![W, 256]⟩ .bf16)
    (a : FVec Ideal S1024x256 .f32) : FVec Ideal S1024x256 .f32 :=
  addf (mulf (concatenate S1024x256 1 [⟨S1024x128, al⟩, ⟨S1024x128, al⟩] concatenates_S1024x128_S1024x128_S1024x256_d1) a)
    (matmul (DotDims.plain 1024 W 256) none p v (constant S1024x256 .f32 0x00000000#32))

/-- A slab's scores against `W` keys. -/
def score {W : ℕ} (k : FVec Ideal ⟨2, ![W, 384]⟩ .bf16) (q : Vec Ideal S8x1x128x384 .bf16) : FVec Ideal (Mat W) .f32 :=
  matmul (φ₁ := .bf16) (DotDims.transposedRhs 1024 384 W) none
    (shapeCast (α := Ideal .bf16) S1024x384 (shapeCast S8x1x128x384 q shapeCasts_S8x1x128x384_S8x1x128x384) shapeCasts_S8x1x128x384_S1024x384)
    k (constant (Mat W) .f32 0x00000000#32)

/-- The scores with the keys after the row's query masked out: the query block is `a`, the key block `b`. -/
def masked {W : ℕ} (h0 : (Mat W).Iotas .tc 32 [0]) (h1 : (Mat W).Iotas .tc 32 [1]) (a b : BitVec 32)
    (s : FVec Ideal (Mat W) .f32) : FVec Ideal (Mat W) .f32 :=
  select (cmpi .sle (addi (broadcast (Mat W) (Scalar.muli b 512#32)) (iota .tc (Mat W) 32 [1] h1))
      (addi (broadcast (Mat W) (Scalar.muli a 128#32)) (andi (iota .tc (Mat W) 32 [0] h0) (broadcast (Mat W) 127#32))))
    s (broadcast (Mat W) (Named.named κ "mask" 0xF149F2CA#32))

/-- A key's first 256 features: its value. -/
def vals {W : ℕ} (k : FVec Ideal ⟨2, ![W, 384]⟩ .bf16) (h : (⟨2, ![W, 384]⟩ : Shape).Slices ![0, 0] ⟨2, ![W, 256]⟩) :
    FVec Ideal ⟨2, ![W, 256]⟩ .bf16 :=
  extractStridedSlice ⟨2, ![W, 256]⟩ ![0, 0] k h

/-! ## The pieces at an index -/

theorem col_apply (v : FVec Ideal S1024 .f32) (r : Fin 1024) (x : Fin 128) : col v (ix2 r x) = v (ix1 r) := by
  unfold col
  rw [broadcastTo_apply _ _ _ (ix2 r (0 : Fin 1)) (fun a => match a with | ⟨0, _⟩ => rfl | ⟨1, _⟩ => rfl)]
  exact shapeCast_a_a1_apply v _ r 0

/-- The fold of the maximum over a row is the row's least upper bound. -/
theorem fold_max_bot {n : ℕ} (f : Fin n → EReal) (g : ℕ → EReal) (h : ∀ j : Fin n, f j = g j.val) :
    (Finset.univ : Finset (Fin n)).fold max ⊥ f = (Finset.range n).sup g := by
  have e : (Finset.univ : Finset (Fin n)).fold max ⊥ f = Finset.univ.sup f := rfl
  rw [e]
  refine le_antisymm (Finset.sup_le fun j _ => ?_) (Finset.sup_le fun k hk => ?_)
  · rw [h j]; exact Finset.le_sup (f := g) (Finset.mem_range.mpr j.isLt)
  · have hk' := Finset.mem_range.mp hk
    rw [← h ⟨k, hk'⟩]; exact Finset.le_sup (f := f) (Finset.mem_univ _)

theorem ofBits_neg_inf : Ideal.ofBits .f32 0xFF800000#32 = ⊥ := by
  simp [Ideal.ofBits, Ideal.ieee]

theorem mx_apply {W : ℕ} (s : FVec Ideal (Mat W) .f32) (h : (Mat W).Reduces [1] S1024) (m : FVec Ideal S1024x128 .f32)
    (r : Fin 1024) (x : Fin 128) (g : ℕ → EReal) (hg : ∀ j : Fin W, s (ix2 r j) = g j.val) :
    mx s h m (ix2 r x) = max (m (ix2 r x)) ((Finset.range W).sup g) := by
  unfold mx
  rw [maximumf_apply, col_apply]
  refine congrArg _ ((Ideal.multiReduction_maximumf_single s _ h _ _ (ix1 r)).trans ?_)
  have e : FloatOps.ofBits (F := Ideal) .f32 0xFF800000#32 = (⊥ : EReal) := ofBits_neg_inf
  rw [e]
  refine fold_max_bot (n := W) _ g fun j => ?_
  rw [← hg j]
  exact congrArg s (by funext a; match a with | ⟨0, _⟩ => rfl | ⟨1, _⟩ => rfl)

theorem ln_apply (al ps l : FVec Ideal S1024x128 .f32) (r : Fin 1024) (x : Fin 128) :
    ln al ps l (ix2 r x) = al (ix2 r x) * l (ix2 r x) + ∑ y : Fin 128, ps (ix2 r y) := by
  unfold ln
  rw [addf_apply, mulf_apply, col_apply]
  refine congrArg _ ((Ideal.multiReduction_add_single ps _ reduces_S1024x128_S1024 _ _ (ix1 r)).trans ?_)
  refine Finset.sum_congr rfl fun y _ => ?_
  exact congrArg ps (by funext a; match a with | ⟨0, _⟩ => rfl | ⟨1, _⟩ => rfl)

theorem ch_apply {W : ℕ} (o : ℕ) (s : FVec Ideal (Mat W) .f32) (h : (Mat W).Slices ![0, o] S1024x128)
    (m : FVec Ideal S1024x128 .f32) (r : Fin 1024) (x : Fin 128) (g : ℕ → EReal) (hg : ∀ j : Fin W, s (ix2 r j) = g j.val) :
    ch o s h m (ix2 r x) = Ideal.exp (g (o + x.val) - m (ix2 r x)) := by
  show Ideal.exp (extractStridedSlice S1024x128 ![0, o] s h (ix2 r x) - m (ix2 r x)) = _
  rw [slice2_axis1_eq o s h r x, hg]

theorem pair_apply (al : FVec Ideal S1024x128 .f32) (r : Fin 1024) (c : Fin 256) :
    concatenate S1024x256 1 [⟨S1024x128, al⟩, ⟨S1024x128, al⟩] concatenates_S1024x128_S1024x128_S1024x256_d1 (ix2 r c)
      = al (ix2 r ⟨c.val % 128, Nat.mod_lt _ (by decide)⟩) := by
  by_cases hc : c.val < 128
  · refine concatenate_pair_apply_left (t := S1024x256) 1 al al _ _ rfl _ fun b => ?_
    match b with
    | ⟨0, _⟩ => rfl
    | ⟨1, _⟩ => exact Nat.mod_eq_of_lt hc
  · refine concatenate_pair_apply_right (t := S1024x256) 1 al al _ _ rfl rfl _ (fun b hb => ?_) ?_
    · match b with
      | ⟨0, _⟩ => rfl
      | ⟨1, _⟩ => exact absurd rfl hb
    · show c.val % 128 + 128 = c.val
      omega

theorem an_apply {W : ℕ} (al : FVec Ideal S1024x128 .f32) (p : FVec Ideal (Mat W) .bf16) (v : FVec Ideal ⟨2, ![W, 256]⟩ .bf16)
    (a : FVec Ideal S1024x256 .f32) (r : Fin 1024) (c : Fin 256) :
    an al p v a (ix2 r c) = al (ix2 r ⟨c.val % 128, Nat.mod_lt _ (by decide)⟩) * a (ix2 r c)
      + ∑ j : Fin W, p (ix2 r j) * v (ix2 j c) := by
  unfold an
  rw [addf_apply, mulf_apply, pair_apply]
  congr 1
  refine (Ideal.matmul_plain_apply none p v _ r c).trans ?_
  rw [constant_apply, Ideal.ofBits_zero_f32, zero_add]

theorem score_apply {W : ℕ} (k : FVec Ideal ⟨2, ![W, 384]⟩ .bf16) (q : Vec Ideal S8x1x128x384 .bf16) (r : Fin 1024) (j : Fin W) :
    score k q (ix2 r j)
      = ∑ e : Fin 384, q (ix4 (n0 := 8) ⟨r.val / 128, by omega⟩ (0 : Fin 1) (n2 := 128) ⟨r.val % 128, by omega⟩ e) * k (ix2 j e) := by
  unfold score
  refine (Ideal.matmul_transposedRhs_apply none _ k _ r j).trans ?_
  rw [constant_apply, Ideal.ofBits_zero_f32, zero_add, shapeCast_self]
  refine Finset.sum_congr rfl fun e _ => ?_
  congr 1
  refine shapeCast_apply _ _ _ _ ?_
  rw [Shape.rowMajor_val_four, Shape.rowMajor_val_two]
  show ((r.val / 128 * 1 + 0) * 128 + r.val % 128) * 384 + e.val = r.val * 384 + e.val
  omega

theorem vals_apply {W : ℕ} (k : FVec Ideal ⟨2, ![W, 384]⟩ .bf16) (h : (⟨2, ![W, 384]⟩ : Shape).Slices ![0, 0] ⟨2, ![W, 256]⟩)
    (j : Fin W) (c : Fin 256) : vals k h (ix2 j c) = k (ix2 j ⟨c.val, by omega⟩) :=
  slice2_axis1_apply 0 k h j c _ (by simp)

/-- The mask at an index: the score where the key's position is at most the query's, else `-∞`. -/
theorem masked_apply {W : ℕ} (h0 : (Mat W).Iotas .tc 32 [0]) (h1 : (Mat W).Iotas .tc 32 [1]) (a b : ℕ) (ha : a < 16) (hb : b < 4)
    (hW : W ≤ 512) (s : FVec Ideal (Mat W) .f32) (r : Fin 1024) (j : Fin W) :
    masked h0 h1 (BitVec.ofNat 32 a) (BitVec.ofNat 32 b) s (ix2 r j)
      = if b * 512 + j.val ≤ a * 128 + r.val % 128 then s (ix2 r j) else ⊥ := by
  have hr := r.isLt
  have hj := j.isLt
  unfold masked
  rw [select_apply]
  have e0 : iota .tc (Mat W) 32 [0] h0 (ix2 r j) = BitVec.ofNat 32 r.val := iota_single_apply _ _ _ _ _ _
  have e1 : iota .tc (Mat W) 32 [1] h1 (ix2 r j) = BitVec.ofNat 32 j.val := iota_single_apply _ _ _ _ _ _
  have hk : (BitVec.ofNat 32 b * 512#32 + BitVec.ofNat 32 j.val).toInt = ((b * 512 + j.val : ℕ) : ℤ) := by
    rw [BitVec.toInt_eq_toNat_of_lt] <;> simp [BitVec.toNat_add, BitVec.toNat_mul] <;> omega
  have hand : (BitVec.ofNat 32 r.val &&& 127#32) = BitVec.ofNat 32 (r.val % 128) := by
    apply BitVec.eq_of_toNat_eq
    rw [BitVec.toNat_and]
    have : r.val % 2 ^ 32 = r.val := Nat.mod_eq_of_lt (by omega)
    simp only [BitVec.toNat_ofNat, this]
    have h2 : 127 % 2 ^ 32 = 2 ^ 7 - 1 := by norm_num
    rw [h2, Nat.and_two_pow_sub_one_eq_mod]
    omega
  have hq : (BitVec.ofNat 32 a * 128#32 + BitVec.ofNat 32 (r.val % 128)).toInt = ((a * 128 + r.val % 128 : ℕ) : ℤ) := by
    rw [BitVec.toInt_eq_toNat_of_lt] <;> simp [BitVec.toNat_add, BitVec.toNat_mul] <;> omega
  have ec : cmpi .sle (addi (broadcast (Mat W) (Scalar.muli (BitVec.ofNat 32 b) 512#32)) (iota .tc (Mat W) 32 [1] h1))
      (addi (broadcast (Mat W) (Scalar.muli (BitVec.ofNat 32 a) 128#32)) (andi (iota .tc (Mat W) 32 [0] h0) (broadcast (Mat W) 127#32)))
      (ix2 r j) = if b * 512 + j.val ≤ a * 128 + r.val % 128 then 1#1 else 0#1 := by
    show BitVec.ofBool ((BitVec.ofNat 32 b * 512#32 + iota .tc (Mat W) 32 [1] h1 (ix2 r j)).sle
      (BitVec.ofNat 32 a * 128#32 + (iota .tc (Mat W) 32 [0] h0 (ix2 r j) &&& 127#32))) = _
    rw [e0, e1, hand, BitVec.sle, hk, hq]
    by_cases h : b * 512 + j.val ≤ a * 128 + r.val % 128
    · rw [if_pos h, decide_eq_true (by exact_mod_cast h)]; rfl
    · rw [if_neg h, decide_eq_false (by exact_mod_cast h)]; rfl
  rw [ec]
  by_cases h : b * 512 + j.val ≤ a * 128 + r.val % 128
  · rw [if_pos h, if_pos h]; rfl
  · rw [if_neg h, if_neg h]; rfl

/-! ## One update -/

/-- After `N` keys the three running arrays hold, on every lane, the greatest score, the sum of the exponentials and
their weighted sum. -/
structure Holds (f : Fin 1024 → ℕ → EReal) (v : ℕ → ℕ → EReal) (N : ℕ) (m l : FVec Ideal S1024x128 .f32)
    (a : FVec Ideal S1024x256 .f32) : Prop where
  max : ∀ r x, m (ix2 r x) = top (f r) N
  sum : ∀ r x, l (ix2 r x) = den (f r) N
  acc : ∀ r (c : Fin 256), a (ix2 r c) = num (f r) (v c.val) N

/-- One update: from `N` keys to `N + W`. -/
theorem step {W : ℕ} {f : Fin 1024 → ℕ → EReal} {v : ℕ → ℕ → EReal} {N : ℕ} {m l : FVec Ideal S1024x128 .f32}
    {a : FVec Ideal S1024x256 .f32} (H : Holds f v N m l a) (s : FVec Ideal (Mat W) .f32) (h : (Mat W).Reduces [1] S1024)
    (hs : ∀ r (j : Fin W), s (ix2 r j) = f r (N + j.val)) (vb : FVec Ideal ⟨2, ![W, 256]⟩ .bf16)
    (hv : ∀ (j : Fin W) (c : Fin 256), vb (ix2 j c) = v c.val (N + j.val))
    (ps : FVec Ideal S1024x128 .f32) (p : FVec Ideal (Mat W) .bf16)
    (hps : ∀ r (M : EReal), (∀ x, mx s h m (ix2 r x) = M) → ∑ y : Fin 128, ps (ix2 r y) = ∑ j ∈ Finset.range W, Ideal.exp (f r (N + j) - M))
    (hp : ∀ r (M : EReal), (∀ x, mx s h m (ix2 r x) = M) → ∀ j : Fin W, p (ix2 r j) = Ideal.exp (f r (N + j.val) - M)) :
    Holds f v (N + W) (mx s h m) (ln (exp (subf m (mx s h m))) ps l) (an (exp (subf m (mx s h m))) p vb a) := by
  have hm : ∀ r x, mx s h m (ix2 r x) = top (f r) (N + W) := fun r x => by
    rw [mx_apply s h m r x (fun j => f r (N + j)) (hs r), H.max, top_add]
  have hal : ∀ r x, exp (subf m (mx s h m)) (ix2 r x) = Ideal.exp (top (f r) N - top (f r) (N + W)) := fun r x => by
    show Ideal.exp (m (ix2 r x) - mx s h m (ix2 r x)) = _
    rw [hm, H.max]
  refine ⟨hm, fun r x => ?_, fun r c => ?_⟩
  · rw [ln_apply, hal, H.sum, hps r _ (hm r), den_add]
  · rw [an_apply, hal, H.acc, num_add]
    congr 1
    rw [← Fin.sum_univ_eq_sum_range (fun j => Ideal.exp (f r (N + j) - top (f r) (N + W)) * v c.val (N + j)) W]
    exact Finset.sum_congr rfl fun j _ => by rw [hp r _ (hm r), hv]

end Cert.Attn

end
-- ==== Proof.Slab.lean ====
/-
  A block of `W` keys taken into the two slabs of 1024 rows: what the scratch arrays hold before, what is stored over
  them, and what they hold after.
-/
module

public import proofs.«01_k».proof.Proof.Update
public import proofs.«01_k».proof.Proof.Gen.KernelIdeal.Loops
public import Idealize.ShloMosaic.Lib.WritesUnit
public import Idealize.ShloMosaic.Lib.Writes

@[expose] public section

noncomputable section

namespace Cert.Attn

open Idealize.ShloMosaic Idealize.ShloMosaic.TcCoe Idealize.ShloMosaic.ValueIdx Cert.KernelIdeal Cert.KernelIdeal.Facts₀ Cert.Online

variable [Facts₀]

/-! ## The exponentials of a block, by 128 columns -/

/-- The exponentials of a block's scores, relative to the running maximum `m`: their sum over every 128th column, and
themselves in the products' format. -/
structure Exps (W : ℕ) (s : FVec Ideal (Mat W) .f32) where
  ps : FVec Ideal S1024x128 .f32 → FVec Ideal S1024x128 .f32
  pr : FVec Ideal S1024x128 .f32 → FVec Ideal (Mat W) .bf16

/-- What the exponentials of a block are at a row whose running maximum is `M`. -/
structure Exps.Is {W : ℕ} {s : FVec Ideal (Mat W) .f32} (E : Exps W s) : Prop where
  sum : ∀ (g : ℕ → EReal) (m : FVec Ideal S1024x128 .f32) (r : Fin 1024) (M : EReal), (∀ j : Fin W, s (ix2 r j) = g j.val) →
    (∀ x, m (ix2 r x) = M) → ∑ y : Fin 128, E.ps m (ix2 r y) = ∑ j ∈ Finset.range W, Ideal.exp (g j - M)
  prob : ∀ (g : ℕ → EReal) (m : FVec Ideal S1024x128 .f32) (r : Fin 1024) (M : EReal), (∀ j : Fin W, s (ix2 r j) = g j.val) →
    (∀ x, m (ix2 r x) = M) → ∀ j : Fin W, E.pr m (ix2 r j) = Ideal.exp (g j.val - M)

def exps1 (s : FVec Ideal (Mat 128) .f32) : Exps 128 s where
  ps m := exp (subf s m)
  pr m := truncf .bf16 (exp (subf s m)) bitsLt_bf16_f32

def exps2 (s : FVec Ideal (Mat 256) .f32) : Exps 256 s where
  ps m := addf (ch 0 s slices_S1024x256_o0_0_S1024x128 m) (ch 128 s slices_S1024x256_o0_128_S1024x128 m)
  pr m := concatenate (Mat 256) 1 [⟨S1024x128, truncf .bf16 (ch 0 s slices_S1024x256_o0_0_S1024x128 m) bitsLt_bf16_f32⟩,
    ⟨S1024x128, truncf .bf16 (ch 128 s slices_S1024x256_o0_128_S1024x128 m) bitsLt_bf16_f32⟩]
    concatenates_S1024x128_S1024x128_S1024x256_d1

def exps3 (s : FVec Ideal (Mat 384) .f32) : Exps 384 s where
  ps m := addf (addf (ch 0 s slices_S1024x384_o0_0_S1024x128 m) (ch 128 s slices_S1024x384_o0_128_S1024x128 m))
    (ch 256 s slices_S1024x384_o0_256_S1024x128 m)
  pr m := concatenate (Mat 384) 1 [⟨S1024x128, truncf .bf16 (ch 0 s slices_S1024x384_o0_0_S1024x128 m) bitsLt_bf16_f32⟩,
    ⟨S1024x128, truncf .bf16 (ch 128 s slices_S1024x384_o0_128_S1024x128 m) bitsLt_bf16_f32⟩,
    ⟨S1024x128, truncf .bf16 (ch 256 s slices_S1024x384_o0_256_S1024x128 m) bitsLt_bf16_f32⟩]
    concatenates_S1024x128_S1024x128_S1024x128_S1024x384_d1

def exps4 (s : FVec Ideal (Mat 512) .f32) : Exps 512 s where
  ps m := addf (addf (addf (ch 0 s slices_S1024x512_o0_0_S1024x128 m) (ch 128 s slices_S1024x512_o0_128_S1024x128 m))
    (ch 256 s slices_S1024x512_o0_256_S1024x128 m)) (ch 384 s slices_S1024x512_o0_384_S1024x128 m)
  pr m := concatenate (Mat 512) 1 [⟨S1024x128, truncf .bf16 (ch 0 s slices_S1024x512_o0_0_S1024x128 m) bitsLt_bf16_f32⟩,
    ⟨S1024x128, truncf .bf16 (ch 128 s slices_S1024x512_o0_128_S1024x128 m) bitsLt_bf16_f32⟩,
    ⟨S1024x128, truncf .bf16 (ch 256 s slices_S1024x512_o0_256_S1024x128 m) bitsLt_bf16_f32⟩,
    ⟨S1024x128, truncf .bf16 (ch 384 s slices_S1024x512_o0_384_S1024x128 m) bitsLt_bf16_f32⟩]
    concatenates_S1024x128_S1024x128_S1024x128_S1024x128_S1024x512_d1

/-- A sum over 128 lanes of a function of the lane's position is a sum over a range. -/
theorem lanes (g : ℕ → EReal) : ∑ y : Fin 128, g y.val = ∑ j ∈ Finset.range 128, g j := Fin.sum_univ_eq_sum_range g 128

/-- … over two, three and four times 128 positions. -/
theorem lanes2 (g : ℕ → EReal) : ∑ j ∈ Finset.range 256, g j = ∑ y : Fin 128, (g y.val + g (128 + y.val)) := by
  rw [show 256 = 128 + 128 from rfl, Finset.sum_range_add, Finset.sum_add_distrib, lanes, lanes fun j => g (128 + j)]

theorem lanes3 (g : ℕ → EReal) : ∑ j ∈ Finset.range 384, g j = ∑ y : Fin 128, (g y.val + g (128 + y.val) + g (256 + y.val)) := by
  rw [show 384 = 256 + 128 from rfl, Finset.sum_range_add, lanes2, Finset.sum_add_distrib (g := fun y : Fin 128 => g (256 + y.val)),
    lanes fun j => g (256 + j)]

theorem lanes4 (g : ℕ → EReal) :
    ∑ j ∈ Finset.range 512, g j = ∑ y : Fin 128, (g y.val + g (128 + y.val) + g (256 + y.val) + g (384 + y.val)) := by
  rw [show 512 = 384 + 128 from rfl, Finset.sum_range_add, lanes3, Finset.sum_add_distrib (g := fun y : Fin 128 => g (384 + y.val)),
    lanes fun j => g (384 + j)]

/-- Pieces of 128 columns laid side by side, the `k`-th the exponentials of the columns from `128 * k` on. -/
theorem pieces_apply {W : ℕ} (s : FVec Ideal (Mat W) .f32) (m : FVec Ideal S1024x128 .f32) (g : ℕ → EReal) (r : Fin 1024) (M : EReal)
    (hg : ∀ j : Fin W, s (ix2 r j) = g j.val) (hm : ∀ x, m (ix2 r x) = M)
    (xs : List ((s : Shape) × (s.Idx → EReal))) (h : Shape.Concatenates (xs.map (·.1)) (Mat W) 1) (hW : W = 128 * xs.length)
    (hx : ∀ k (hk : k < xs.length), ∃ hs, xs[k] = ⟨S1024x128, ch (128 * k) s hs m⟩ ∧
      (((xs.take k).map (·.1)).map fun s => if h : s.rank = (Mat W).rank then s.size ((1 : Fin 2).cast h.symm) else 0).sum = 128 * k)
    (j : Fin W) : concatenate (Mat W) 1 xs h (ix2 r j) = Ideal.exp (g j.val - M) := by
  have hj := j.isLt
  obtain ⟨hs, hk, hp⟩ := hx (j.val / 128) (by omega)
  refine (concatenate_apply_piece (t := Mat W) 1 xs h _ (j.val / 128) (by omega) S1024x128 _ hk rfl _ hp
    (ix2 r (⟨j.val % 128, Nat.mod_lt _ (by decide)⟩ : Fin 128)) (fun b hb => ?_) (Nat.div_add_mod _ _)).trans ?_
  · match b with
    | ⟨0, _⟩ => rfl
    | ⟨1, _⟩ => exact absurd rfl hb
  · rw [ch_apply _ s hs m r _ g hg, hm, Nat.div_add_mod]

theorem exps1_is (s : FVec Ideal (Mat 128) .f32) : (exps1 s).Is where
  sum g m r M hg hm := by
    rw [← lanes fun j => Ideal.exp (g j - M)]
    refine Finset.sum_congr rfl fun y _ => ?_
    show Ideal.exp (s (ix2 r y) - m (ix2 r y)) = _
    rw [hg, hm]
  prob g m r M hg hm j := by
    show Ideal.exp (s (ix2 r j) - m (ix2 r j)) = _
    rw [hg]; exact congrArg (fun z => Ideal.exp (g j.val - z)) (hm j)

theorem exps2_is (s : FVec Ideal (Mat 256) .f32) : (exps2 s).Is where
  sum g m r M hg hm := by
    rw [lanes2]
    refine Finset.sum_congr rfl fun y _ => ?_
    show ch 0 s _ m (ix2 r y) + ch 128 s _ m (ix2 r y) = _
    rw [ch_apply _ s _ m r y g hg, ch_apply _ s _ m r y g hg, hm, zero_add]
  prob g m r M hg hm j := by
    refine pieces_apply s m g r M hg hm _ ?h rfl (fun k hk => ?_) j
    case h => exact concatenates_S1024x128_S1024x128_S1024x256_d1
    have hk' : k < 2 := hk
    interval_cases k <;> exact ⟨_, rfl, rfl⟩

theorem exps3_is (s : FVec Ideal (Mat 384) .f32) : (exps3 s).Is where
  sum g m r M hg hm := by
    rw [lanes3]
    refine Finset.sum_congr rfl fun y _ => ?_
    show ch 0 s _ m (ix2 r y) + ch 128 s _ m (ix2 r y) + ch 256 s _ m (ix2 r y) = _
    rw [ch_apply _ s _ m r y g hg, ch_apply _ s _ m r y g hg, ch_apply _ s _ m r y g hg, hm, zero_add]
  prob g m r M hg hm j := by
    refine pieces_apply s m g r M hg hm _ ?h rfl (fun k hk => ?_) j
    case h => exact concatenates_S1024x128_S1024x128_S1024x128_S1024x384_d1
    have hk' : k < 3 := hk
    interval_cases k <;> exact ⟨_, rfl, rfl⟩

theorem exps4_is (s : FVec Ideal (Mat 512) .f32) : (exps4 s).Is where
  sum g m r M hg hm := by
    rw [lanes4]
    refine Finset.sum_congr rfl fun y _ => ?_
    show ch 0 s _ m (ix2 r y) + ch 128 s _ m (ix2 r y) + ch 256 s _ m (ix2 r y) + ch 384 s _ m (ix2 r y) = _
    rw [ch_apply _ s _ m r y g hg, ch_apply _ s _ m r y g hg, ch_apply _ s _ m r y g hg, ch_apply _ s _ m r y g hg, hm, zero_add]
  prob g m r M hg hm j := by
    refine pieces_apply s m g r M hg hm _ ?h rfl (fun k hk => ?_) j
    case h => exact concatenates_S1024x128_S1024x128_S1024x128_S1024x128_S1024x512_d1
    have hk' : k < 4 := hk
    interval_cases k <;> exact ⟨_, rfl, rfl⟩

/-! ## What a slab stores -/

/-- The running maximum stored. -/
def nextM {W : ℕ} (s : FVec Ideal (Mat W) .f32) (h : (Mat W).Reduces [1] S1024) (m : FVec Ideal S1024x128 .f32) : FVec Ideal S1024x128 .f32 :=
  shapeCast S1024x128 (mx s h m) shapeCasts_S1024x128_S1024x128

/-- The running sum stored. -/
def nextL {W : ℕ} {s : FVec Ideal (Mat W) .f32} (E : Exps W s) (h : (Mat W).Reduces [1] S1024) (m l : FVec Ideal S1024x128 .f32) :
    FVec Ideal S1024x128 .f32 :=
  shapeCast S1024x128 (ln (exp (subf m (mx s h m))) (E.ps (mx s h m)) l) shapeCasts_S1024x128_S1024x128

/-- The running weighted sum stored. -/
def nextA {W : ℕ} {s : FVec Ideal (Mat W) .f32} (E : Exps W s) (h : (Mat W).Reduces [1] S1024) (vb : FVec Ideal ⟨2, ![W, 256]⟩ .bf16)
    (m : FVec Ideal S1024x128 .f32) (a : FVec Ideal S1024x256 .f32) : FVec Ideal S1024x256 .f32 :=
  shapeCast S1024x256 (an (exp (subf m (mx s h m))) (E.pr (mx s h m)) vb a) shapeCasts_S1024x256_S1024x256

/-- One update of a slab. -/
theorem slab {W : ℕ} {f : Fin 1024 → ℕ → EReal} {v : ℕ → ℕ → EReal} {N : ℕ} {m l : FVec Ideal S1024x128 .f32}
    {a : FVec Ideal S1024x256 .f32} (H : Holds f v N m l a) {s : FVec Ideal (Mat W) .f32} {E : Exps W s} (hE : E.Is)
    (h : (Mat W).Reduces [1] S1024) (hs : ∀ r (j : Fin W), s (ix2 r j) = f r (N + j.val)) {vb : FVec Ideal ⟨2, ![W, 256]⟩ .bf16}
    (hv : ∀ (j : Fin W) (c : Fin 256), vb (ix2 j c) = v c.val (N + j.val)) :
    Holds f v (N + W) (nextM s h m) (nextL E h m l) (nextA E h vb m a) := by
  unfold nextM nextL nextA
  rw [shapeCast_self, shapeCast_self, shapeCast_self]
  exact step H s h hs vb hv _ _ (fun r M hM => hE.sum (fun j => f r (N + j)) _ r M (hs r) hM)
    (fun r M hM => hE.prob (fun j => f r (N + j)) _ r M (hs r) hM)

end Cert.Attn

end
-- ==== Proof.Block.lean ====
/-
  The scratch arrays over a block of keys: what they hold before it (`Inv`), the two slabs' stores, what they hold after.
-/
module

public import proofs.«01_k».proof.Proof.Slab

@[expose] public section

noncomputable section

namespace Cert.Attn

open Idealize.ShloMosaic Idealize.ShloMosaic.TcCoe Idealize.ShloMosaic.ValueIdx Cert.KernelIdeal Cert.KernelIdeal.Facts₀ Cert.Online

variable [Facts₀]

/-- Row `r` of slab `b` among all 2048 rows. -/
def slabRow (b : Fin 2) (r : Fin 1024) : Fin 2048 := ⟨1024 * b.val + r.val, by omega⟩

/-- What the scratch arrays hold after `N` keys. -/
structure Inv (f : Fin 2048 → ℕ → EReal) (v : ℕ → ℕ → EReal) (N : ℕ) (m l : FVec Ideal S2048x128 .f32)
    (a : FVec Ideal S2048x256 .f32) : Prop where
  max : ∀ R x, m (ix2 R x) = top (f R) N
  sum : ∀ R x, l (ix2 R x) = den (f R) N
  acc : ∀ R (c : Fin 256), a (ix2 R c) = num (f R) (v c.val) N

/-- The rectangle of a slab's rows. -/
abbrev slabRect {D : ℕ} (b : Fin 2) (inb : ∀ a : Fin 2, (![1024 * b.val, 0] : Fin 2 → ℕ) a + (![1024, D] : Fin 2 → ℕ) a ≤ (![2048, D] : Fin 2 → ℕ) a) :
    Rect ⟨2, ![2048, D]⟩ :=
  Rect.unit (s := ⟨2, ![2048, D]⟩) ![1024 * b.val, 0] ![1024, D] inb

theorem slab_inb (D : ℕ) (b : Fin 2) (a : Fin 2) :
    (![1024 * b.val, 0] : Fin 2 → ℕ) a + (![1024, D] : Fin 2 → ℕ) a ≤ (![2048, D] : Fin 2 → ℕ) a := by
  match a with
  | ⟨0, _⟩ => show 1024 * b.val + 1024 ≤ 2048; omega
  | ⟨1, _⟩ => show 0 + D ≤ D; omega

/-- A slab loaded, at an index. -/
theorem readAt_slab {D : ℕ} (arg : Memref sig .tc .vmem ⟨2, ![2048, D]⟩ .f32) (g : arg.view.ty.Contents (Elt Ideal)) (b : Fin 2)
    (r : Fin 1024) (x : Fin D) :
    arg.view.readAt (Elt Ideal) (slabRect b (slab_inb D b)).toLoadRect g (ix2 r x) = arg.view.read (Elt Ideal) g (ix2 (slabRow b r) x) := by
  show arg.view.read (Elt Ideal) g _ = _
  congr 1
  funext a
  match a with
  | ⟨0, _⟩ => exact Fin.ext (by show 1024 * b.val + 1 * r.val = 1024 * b.val + r.val; omega)
  | ⟨1, _⟩ => exact Fin.ext (by show 0 + 1 * x.val = x.val; omega)

/-- The two slabs' stores. -/
def twoSlabs {D : ℕ} (w : Fin 2 → FVec Ideal ⟨2, ![1024, D]⟩ .f32) : List (View.Piece (Elt Ideal) (⟨2, ![2048, D]⟩ : Shape) .f32) :=
  [⟨slabRect 1 (slab_inb D 1), w 1⟩, ⟨slabRect 0 (slab_inb D 0), w 0⟩]

/-- What the two slabs' stores leave. -/
theorem read_twoSlabs {D : ℕ} (arg : Memref sig .tc .vmem ⟨2, ![2048, D]⟩ .f32) (g : arg.view.ty.Contents (Elt Ideal))
    (w : Fin 2 → FVec Ideal ⟨2, ![1024, D]⟩ .f32) (b : Fin 2) (r : Fin 1024) (x : Fin D) :
    arg.view.read (Elt Ideal) (arg.view.writes (Elt Ideal) g (twoSlabs w)) (ix2 (slabRow b r) x) = w b (ix2 r x) := by
  have hr := r.isLt
  unfold twoSlabs
  match b with
  | ⟨1, _⟩ => exact View.read_writes_cons_rows_of_mem (o := 1024) arg.view g _ (w 1) _ _ (ix2 r x) rfl rfl rfl
  | ⟨0, _⟩ =>
    refine (View.read_writes_cons_rows_of_not_mem (o := 1024) (W := 1024) arg.view g _ (w 1) _ _ rfl rfl (Or.inl ?_)).trans ?_
    · show 1024 * 0 + r.val < 1024; omega
    · exact View.read_writes_cons_rows_of_mem (o := 0) arg.view g _ (w 0) _ _ (ix2 r x) rfl (by show 1024 * 0 + r.val = 0 + r.val; omega) rfl

/-- Every row lies in one of the slabs. -/
theorem exists_slabRow (R : Fin 2048) : ∃ b r, R = slabRow b r := by
  refine ⟨⟨R.val / 1024, by omega⟩, ⟨R.val % 1024, by omega⟩, Fin.ext ?_⟩
  show R.val = 1024 * (R.val / 1024) + R.val % 1024
  omega

variable (arg5 arg6 : Memref sig .tc .vmem S2048x128 .f32) (arg7 : Memref sig .tc .vmem S2048x256 .f32)

/-- A block of `W` keys taken into both slabs: from `N` keys to `N + W`. -/
theorem block {W : ℕ} {f : Fin 2048 → ℕ → EReal} {v : ℕ → ℕ → EReal} {N : ℕ} {g5 : arg5.view.ty.Contents (Elt Ideal)}
    {g6 : arg6.view.ty.Contents (Elt Ideal)} {g7 : arg7.view.ty.Contents (Elt Ideal)}
    (H : Inv f v N (arg5.view.read (Elt Ideal) g5) (arg6.view.read (Elt Ideal) g6) (arg7.view.read (Elt Ideal) g7))
    {s : Fin 2 → FVec Ideal (Mat W) .f32} {E : ∀ b, Exps W (s b)} (hE : ∀ b, (E b).Is) (h : (Mat W).Reduces [1] S1024)
    (hs : ∀ b r (j : Fin W), s b (ix2 r j) = f (slabRow b r) (N + j.val)) {vb : FVec Ideal ⟨2, ![W, 256]⟩ .bf16}
    (hv : ∀ (j : Fin W) (c : Fin 256), vb (ix2 j c) = v c.val (N + j.val)) :
    let m b := arg5.view.readAt (Elt Ideal) (slabRect b (slab_inb 128 b)).toLoadRect g5
    let l b := arg6.view.readAt (Elt Ideal) (slabRect b (slab_inb 128 b)).toLoadRect g6
    let a b := arg7.view.readAt (Elt Ideal) (slabRect b (slab_inb 256 b)).toLoadRect g7
    Inv f v (N + W)
      (arg5.view.read (Elt Ideal) (arg5.view.writes (Elt Ideal) g5 (twoSlabs fun b => nextM (s b) h (m b))))
      (arg6.view.read (Elt Ideal) (arg6.view.writes (Elt Ideal) g6 (twoSlabs fun b => nextL (E b) h (m b) (l b))))
      (arg7.view.read (Elt Ideal) (arg7.view.writes (Elt Ideal) g7 (twoSlabs fun b => nextA (E b) h vb (m b) (a b)))) := by
  intro m l a
  have hH : ∀ b, Holds (fun r => f (slabRow b r)) v N (m b) (l b) (a b) := fun b =>
    ⟨fun r x => (readAt_slab arg5 g5 b r x).trans (H.max _ _), fun r x => (readAt_slab arg6 g6 b r x).trans (H.sum _ _),
      fun r c => (readAt_slab arg7 g7 b r c).trans (H.acc _ _)⟩
  have hN := fun b => slab (hH b) (hE b) h (hs b) hv
  refine ⟨fun R x => ?_, fun R x => ?_, fun R c => ?_⟩ <;> obtain ⟨b, r, rfl⟩ := exists_slabRow R
  · exact (read_twoSlabs arg5 g5 _ b r x).trans ((hN b).max r x)
  · exact (read_twoSlabs arg6 g6 _ b r x).trans ((hN b).sum r x)
  · exact (read_twoSlabs arg7 g7 _ b r c).trans ((hN b).acc r c)

/-! ## The scores and the values of a block -/

/-- Key `k`, feature `e` of a batch's keys. -/
def keyAt (K : FVec Ideal S1x2048x384 .bf16) (k : ℕ) (e : Fin 384) : EReal :=
  if h : k < 2048 then K (ix3 0 ⟨k, h⟩ e) else 0

/-- The score of row `R` (head `R / 128`, query `R % 128` of the block) against key `k`. -/
def raw (Q : FVec Ideal S16x1x128x384 .bf16) (K : FVec Ideal S1x2048x384 .bf16) (R : Fin 2048) (k : ℕ) : EReal :=
  ∑ e : Fin 384, Q (ix4 ⟨R.val / 128, by omega⟩ 0 ⟨R.val % 128, by omega⟩ e) * keyAt K k e

/-- … with the keys after the query masked out, the query block being `a`. -/
def rowScore (a : ℕ) (Q : FVec Ideal S16x1x128x384 .bf16) (K : FVec Ideal S1x2048x384 .bf16) (R : Fin 2048) (k : ℕ) : EReal :=
  if k ≤ a * 128 + R.val % 128 then raw Q K R k else ⊥

/-- The values: a key's first 256 features. -/
def valAt (K : FVec Ideal S1x2048x384 .bf16) (c k : ℕ) : EReal := if h : c < 384 then keyAt K k ⟨c, h⟩ else 0

/-- The queries of a slab's eight heads. -/
theorem q_inb (b : Fin 2) (a : Fin 4) :
    (![8 * b.val, 0, 0, 0] : Fin 4 → ℕ) a + S8x1x128x384.size a ≤ S16x1x128x384.size a := by
  match a with
  | ⟨0, _⟩ => show 8 * b.val + 8 ≤ 16; omega
  | ⟨1, _⟩ => exact Nat.le_refl _
  | ⟨2, _⟩ => exact Nat.le_refl _
  | ⟨3, _⟩ => exact Nat.le_refl _

variable (arg2 : Memref sig .tc .vmem S16x1x128x384 .bf16) (X2 : arg2.view.ty.Contents (Elt Ideal))
  (arg3 : Memref sig .tc .vmem S1x2048x384 .bf16) (X3 : arg3.view.ty.Contents (Elt Ideal))

/-- A slab's queries, loaded. -/
def loadQ (b : Fin 2) : Vec Ideal S8x1x128x384 .bf16 :=
  arg2.view.readAt (Elt Ideal) (Rect.unit (s := S16x1x128x384) ![8 * b.val, 0, 0, 0] S8x1x128x384.size (q_inb b)).toLoadRect X2

/-- `W` keys, loaded. -/
def loadK {W : ℕ} (off : Fin 3 → ℕ) (inb : ∀ a, off a + (![1, W, 384] : Fin 3 → ℕ) a ≤ S1x2048x384.size a)
    (h : (⟨3, ![1, W, 384]⟩ : Shape).ShapeCasts ⟨2, ![W, 384]⟩) : FVec Ideal ⟨2, ![W, 384]⟩ .bf16 :=
  shapeCast ⟨2, ![W, 384]⟩ (arg3.view.readAt (Elt Ideal) (Rect.unit (s := S1x2048x384) off ![1, W, 384] inb).toLoadRect X3) h

theorem loadQ_apply (b : Fin 2) (n : Fin 8) (q : Fin 128) (e : Fin 384) :
    loadQ arg2 X2 b (ix4 n 0 q e) = arg2.view.read (Elt Ideal) X2 (ix4 ⟨8 * b.val + n.val, by omega⟩ 0 q e) := by
  unfold loadQ
  show arg2.view.read (Elt Ideal) X2 _ = _
  congr 1
  funext a
  match a with
  | ⟨0, _⟩ => exact Fin.ext (by show 8 * b.val + 1 * n.val = 8 * b.val + n.val; omega)
  | ⟨1, _⟩ => rfl
  | ⟨2, _⟩ => exact Fin.ext (by show 0 + 1 * q.val = q.val; omega)
  | ⟨3, _⟩ => exact Fin.ext (by show 0 + 1 * e.val = e.val; omega)

theorem loadK_apply {W : ℕ} (N : ℕ) {off : Fin 3 → ℕ} (ho : off = ![0, N, 0])
    (inb : ∀ a, off a + (![1, W, 384] : Fin 3 → ℕ) a ≤ S1x2048x384.size a)
    (h : (⟨3, ![1, W, 384]⟩ : Shape).ShapeCasts ⟨2, ![W, 384]⟩) (j : Fin W) (e : Fin 384) :
    loadK arg3 X3 off inb h (ix2 j e) = keyAt (arg3.view.read (Elt Ideal) X3) (N + j.val) e := by
  subst ho
  have hW : N + W ≤ 2048 := inb 1
  have hj := j.isLt
  unfold loadK keyAt
  rw [dif_pos (by omega)]
  refine (shapeCast_1ab_ab_apply _ h j e).trans ?_
  show arg3.view.read (Elt Ideal) X3 _ = _
  congr 1
  funext a
  match a with
  | ⟨0, _⟩ => rfl
  | ⟨1, _⟩ => exact Fin.ext (by show N + 1 * j.val = N + j.val; omega)
  | ⟨2, _⟩ => exact Fin.ext (by show 0 + 1 * e.val = e.val; omega)

/-- The scores of a block. -/
theorem score_raw {W : ℕ} (N : ℕ) {off : Fin 3 → ℕ} (ho : off = ![0, N, 0])
    (inb : ∀ a, off a + (![1, W, 384] : Fin 3 → ℕ) a ≤ S1x2048x384.size a)
    (h : (⟨3, ![1, W, 384]⟩ : Shape).ShapeCasts ⟨2, ![W, 384]⟩) (b : Fin 2) (r : Fin 1024) (j : Fin W) :
    score (loadK arg3 X3 off inb h) (loadQ arg2 X2 b) (ix2 r j)
      = raw (arg2.view.read (Elt Ideal) X2) (arg3.view.read (Elt Ideal) X3) (slabRow b r) (N + j.val) := by
  rw [score_apply]
  unfold raw
  refine Finset.sum_congr rfl fun e _ => ?_
  rw [loadK_apply arg3 X3 N ho, loadQ_apply]
  congr 2
  have : (⟨8 * b.val + r.val / 128, by omega⟩ : Fin 16) = ⟨(slabRow b r).val / 128, by omega⟩ := Fin.ext (by
    show 8 * b.val + r.val / 128 = (1024 * b.val + r.val) / 128; omega)
  have h2 : (⟨r.val % 128, by omega⟩ : Fin 128) = ⟨(slabRow b r).val % 128, by omega⟩ := Fin.ext (by
    show r.val % 128 = (1024 * b.val + r.val) % 128; omega)
  rw [this, h2]

/-- The values of a block. -/
theorem vals_valAt {W : ℕ} (N : ℕ) {off : Fin 3 → ℕ} (ho : off = ![0, N, 0])
    (inb : ∀ a, off a + (![1, W, 384] : Fin 3 → ℕ) a ≤ S1x2048x384.size a)
    (h : (⟨3, ![1, W, 384]⟩ : Shape).ShapeCasts ⟨2, ![W, 384]⟩) (hs : (⟨2, ![W, 384]⟩ : Shape).Slices ![0, 0] ⟨2, ![W, 256]⟩)
    (j : Fin W) (c : Fin 256) :
    vals (loadK arg3 X3 off inb h) hs (ix2 j c) = valAt (arg3.view.read (Elt Ideal) X3) c.val (N + j.val) := by
  rw [vals_apply, loadK_apply arg3 X3 N ho]
  unfold valAt
  rw [dif_pos]

end Cert.Attn

end
-- ==== Proof.Trip.lean ====
/-
  The body's loop over whole blocks of 512 keys: one trip is one unmasked block.
-/
module

public import proofs.«01_k».proof.Proof.Block

@[expose] public section

noncomputable section

namespace Cert.Attn

open Idealize.ShloMosaic Idealize.ShloMosaic.TcCoe Idealize.ShloMosaic.ValueIdx Idealize.ShloMosaic.Tactic
open Cert.KernelIdeal Cert.KernelIdeal.Gen Cert.Online

variable (𝒱 : Variants) (c : Dev nD) (bd : Option 𝒱.V) (i : grid0.Coords)
  (arg2 : Memref sig .tc .vmem S16x1x128x384 .bf16) (harg2 : arg2.IsWhole) (arg3 : Memref sig .tc .vmem S1x2048x384 .bf16) (harg3 : arg3.IsWhole)
  (arg4 : Memref sig .tc .vmem S16x1x128x256 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x256 .f32) (harg7 : arg7.IsWhole)
  (X2 : arg2.view.ty.Contents (Elt Ideal)) (X3 : arg3.view.ty.Contents (Elt Ideal)) (k : Fin (k0_t1_loop i).trips)
  (f5 : arg5.view.ty.Contents (Elt Ideal)) (f6 : arg6.view.ty.Contents (Elt Ideal)) (f7 : arg7.view.ty.Contents (Elt Ideal))

/-- The keys of trip `k`. -/
def tripK : FVec Ideal ⟨2, ![512, 384]⟩ .bf16 := loadK (W := 512) arg3 X3 (k0_off1 i k) (k0_off1_inb i k) shapeCasts_S1x512x384_S512x384

/-- A slab's scores in trip `k`. -/
def tripS (b : Fin 2) : FVec Ideal (Mat 512) .f32 := score (tripK i arg3 X3 k) (loadQ arg2 X2 b)

/-- What trip `k` stores: the update of both slabs by 512 keys. -/
theorem trip_eq : tripL_k0_t1 (F := Ideal) 𝒱 c bd i arg2 harg2 arg3 harg3 arg4 harg4 arg5 harg5 arg6 harg6 arg7 harg7 X2 X3 k f5 f6 f7
    = (twoSlabs fun b => nextM (tripS i arg2 arg3 X2 X3 k b) reduces_S1024x512_S1024
          (arg5.view.readAt (Elt Ideal) (slabRect b (slab_inb 128 b)).toLoadRect f5),
       twoSlabs fun b => nextL (exps4 (tripS i arg2 arg3 X2 X3 k b)) reduces_S1024x512_S1024
          (arg5.view.readAt (Elt Ideal) (slabRect b (slab_inb 128 b)).toLoadRect f5)
          (arg6.view.readAt (Elt Ideal) (slabRect b (slab_inb 128 b)).toLoadRect f6),
       twoSlabs fun b => nextA (exps4 (tripS i arg2 arg3 X2 X3 k b)) reduces_S1024x512_S1024
          (vals (tripK i arg3 X3 k) slices_S512x384_o0_0_S512x256)
          (arg5.view.readAt (Elt Ideal) (slabRect b (slab_inb 128 b)).toLoadRect f5)
          (arg7.view.readAt (Elt Ideal) (slabRect b (slab_inb 256 b)).toLoadRect f7)) := by
  unfold tripL_k0_t1 trip_k0_t1
  dsimp only
  rfl

/-- The first loop runs over the blocks of 512 keys that lie wholly before the query block. -/
theorem loop1_eq : k0_t1_loop i = ⟨0#32, BitVec.ofNat 32 ((i 1).val / 4), 1#32⟩ := by
  have h : (i 1).val < 16 := (i 1).isLt
  unfold k0_t1_loop
  generalize (i 1).val = n at *
  interval_cases n <;> rfl

theorem trips1 : (k0_t1_loop i).trips = (i 1).val / 4 := by
  rw [loop1_eq]
  have h : (i 1).val < 16 := (i 1).isLt
  generalize (i 1).val = n at *
  interval_cases n <;> rfl

/-- The second loop is empty. -/
theorem trips2 : (k0_t2_loop i).trips = 0 := by
  have h : (i 1).val < 16 := (i 1).isLt
  unfold k0_t2_loop
  generalize (i 1).val = n at *
  interval_cases n <;> rfl

/-- Where trip `k`'s keys begin. -/
theorem off1_eq : k0_off1 i k = ![0, 512 * k.val, 0] := by
  have h : (i 1).val < 16 := (i 1).isLt
  have hk : k.val < 4 := by have := k.isLt; have := trips1 i; omega
  unfold k0_off1
  generalize k.val = n at *
  interval_cases n <;> rfl

variable (G5 : arg5.view.ty.Contents (Elt Ideal)) (G6 : arg6.view.ty.Contents (Elt Ideal)) (G7 : arg7.view.ty.Contents (Elt Ideal))

/-- After `n` trips of the first loop the scratch arrays hold the running softmax of the first `512 * n` keys. -/
theorem loop1 (Q : FVec Ideal S16x1x128x384 .bf16) (K : FVec Ideal S1x2048x384 .bf16) (hQ : arg2.view.read (Elt Ideal) X2 = Q)
    (hK : arg3.view.read (Elt Ideal) X3 = K)
    (H : Inv (rowScore (i 1).val Q K) (valAt K) 0 (arg5.view.read (Elt Ideal) G5) (arg6.view.read (Elt Ideal) G6) (arg7.view.read (Elt Ideal) G7))
    (n : ℕ) (hn : n ≤ (k0_t1_loop i).trips) :
    let L := pb_k0_t1 (F := Ideal) 𝒱 c bd i arg2 harg2 arg3 harg3 arg4 harg4 arg5 harg5 arg6 harg6 arg7 harg7 X2 X3 G5 G6 G7 n
    Inv (rowScore (i 1).val Q K) (valAt K) (512 * n) (arg5.view.read (Elt Ideal) (arg5.view.writes (Elt Ideal) G5 L.1))
      (arg6.view.read (Elt Ideal) (arg6.view.writes (Elt Ideal) G6 L.2.1)) (arg7.view.read (Elt Ideal) (arg7.view.writes (Elt Ideal) G7 L.2.2)) := by
  induction n with
  | zero => exact H
  | succ n ih =>
    have IH := ih (by omega)
    have ht : n + 1 ≤ (i 1).val / 4 := trips1 i ▸ hn
    intro L
    have e := pb_k0_t1_succ (F := Ideal) 𝒱 c bd i arg2 harg2 arg3 harg3 arg4 harg4 arg5 harg5 arg6 harg6 arg7 harg7 X2 X3 G5 G6 G7 ⟨n, hn⟩
    rw [trip_eq] at e
    have e1 := congrArg (fun p => p.1) e
    have e2 := congrArg (fun p => p.2.1) e
    have e3 := congrArg (fun p => p.2.2) e
    dsimp only at e1 e2 e3
    rw [show L.1 = _ from e1, show L.2.1 = _ from e2, show L.2.2 = _ from e3, View.writes_append, View.writes_append, View.writes_append]
    refine block arg5 arg6 arg7 IH (fun b => exps4_is _) reduces_S1024x512_S1024 (fun b r j => ?_) (fun j c => ?_)
    · unfold tripS tripK
      rw [score_raw arg2 X2 arg3 X3 (512 * n) (off1_eq i ⟨n, hn⟩), hQ, hK]
      unfold rowScore
      rw [if_pos]
      have := j.isLt
      omega
    · unfold tripK
      rw [vals_valAt arg3 X3 (512 * n) (off1_eq i ⟨n, hn⟩), hK]

end Cert.Attn

end
-- ==== Proof.Masked.lean ====
/-
  The body's last block of keys, the one that holds the diagonal: both slabs' updates with the mask, one after the
  other, and the division that ends the body.
-/
module

public import proofs.«01_k».proof.Proof.Trip

@[expose] public section

noncomputable section

namespace Cert.Attn

open Idealize.ShloMosaic Idealize.ShloMosaic.TcCoe Idealize.ShloMosaic.ValueIdx Idealize.ShloMosaic.Tactic
open Cert.KernelIdeal Cert.KernelIdeal.Gen Cert.Online

/-! ## The two slabs' updates, the second reading after the first has stored -/

/-- One slab's store. -/
abbrev slabPiece {D : ℕ} (b : Fin 2) (w : FVec Ideal ⟨2, ![1024, D]⟩ .f32) : View.Piece (Elt Ideal) (⟨2, ![2048, D]⟩ : Shape) .f32 :=
  ⟨slabRect b (slab_inb D b), w⟩

/-- A slab loaded. -/
abbrev loadSlab {D : ℕ} (arg : Memref sig .tc .vmem ⟨2, ![2048, D]⟩ .f32) (b : Fin 2) (g : arg.view.ty.Contents (Elt Ideal)) :
    FVec Ideal ⟨2, ![1024, D]⟩ .f32 :=
  arg.view.readAt (Elt Ideal) (slabRect b (slab_inb D b)).toLoadRect g

/-- The second slab's rows are as they were after the first slab's store. -/
theorem loadSlab_after {D : ℕ} (arg : Memref sig .tc .vmem ⟨2, ![2048, D]⟩ .f32) (g : arg.view.ty.Contents (Elt Ideal))
    (w : FVec Ideal ⟨2, ![1024, D]⟩ .f32) :
    loadSlab arg 1 (arg.view.writes (Elt Ideal) g [slabPiece 0 w]) = loadSlab arg 1 g := by
  funext y
  obtain ⟨r, x, rfl⟩ : ∃ (r : Fin 1024) (x : Fin D), y = ix2 r x := ⟨y 0, y 1, by
    funext a; match a with | ⟨0, _⟩ => rfl | ⟨1, _⟩ => rfl⟩
  refine (readAt_slab arg _ 1 r x).trans (Eq.trans ?_ (readAt_slab arg g 1 r x).symm)
  refine View.read_writes_cons_rows_of_not_mem (o := 0) (W := 1024) arg.view g _ w [] _ rfl rfl (Or.inr ?_)
  show 0 + 1024 ≤ 1024 * 1 + r.val
  omega

variable (arg5 arg6 : Memref sig .tc .vmem S2048x128 .f32) (arg7 : Memref sig .tc .vmem S2048x256 .f32)

section
variable {W : ℕ} {s : Fin 2 → FVec Ideal (Mat W) .f32} (E : ∀ b, Exps W (s b)) (h : (Mat W).Reduces [1] S1024)
  (vb : FVec Ideal ⟨2, ![W, 256]⟩ .bf16) (g5 : arg5.view.ty.Contents (Elt Ideal)) (g6 : arg6.view.ty.Contents (Elt Ideal))
  (g7 : arg7.view.ty.Contents (Elt Ideal))

/-- What the first slab stores over the running maximum, sum and weighted sum. -/
def first5 (s : Fin 2 → FVec Ideal (Mat W) .f32) : View.Piece (Elt Ideal) S2048x128 .f32 := slabPiece 0 (nextM (s 0) h (loadSlab arg5 0 g5))
def first6 : View.Piece (Elt Ideal) S2048x128 .f32 := slabPiece 0 (nextL (E 0) h (loadSlab arg5 0 g5) (loadSlab arg6 0 g6))
def first7 : View.Piece (Elt Ideal) S2048x256 .f32 := slabPiece 0 (nextA (E 0) h vb (loadSlab arg5 0 g5) (loadSlab arg7 0 g7))

/-- What both slabs store over the running sum. -/
def both6 : List (View.Piece (Elt Ideal) S2048x128 .f32) :=
  [slabPiece 1 (nextL (E 1) h (loadSlab arg5 1 (arg5.view.writes (Elt Ideal) g5 [first5 arg5 h g5 s]))
      (loadSlab arg6 1 (arg6.view.writes (Elt Ideal) g6 [first6 arg5 arg6 E h g5 g6]))), first6 arg5 arg6 E h g5 g6]

/-- What both slabs store over the running weighted sum. -/
def both7 : List (View.Piece (Elt Ideal) S2048x256 .f32) :=
  [slabPiece 1 (nextA (E 1) h vb (loadSlab arg5 1 (arg5.view.writes (Elt Ideal) g5 [first5 arg5 h g5 s]))
      (loadSlab arg7 1 (arg7.view.writes (Elt Ideal) g7 [first7 arg5 arg7 E h vb g5 g7]))), first7 arg5 arg7 E h vb g5 g7]

theorem both6_eq : both6 arg5 arg6 E h g5 g6 = twoSlabs fun b => nextL (E b) h (loadSlab arg5 b g5) (loadSlab arg6 b g6) := by
  unfold both6 first5 first6
  rw [loadSlab_after, loadSlab_after]
  rfl

theorem both7_eq : both7 arg5 arg7 E h vb g5 g7 = twoSlabs fun b => nextA (E b) h vb (loadSlab arg5 b g5) (loadSlab arg7 b g7) := by
  unfold both7 first5 first7
  rw [loadSlab_after, loadSlab_after]
  rfl

end

/-! ## The division that ends the body -/

/-- The body's result at an index: the weighted sum times the reciprocal of the sum. -/
theorem pay4_apply (l : FVec Ideal S2048x128 .f32) (a : FVec Ideal S2048x256 .f32) (n : Fin 16) (q : Fin 128) (c : Fin 256) (D A : EReal)
    (hl : ∀ x, l (ix2 ⟨n.val * 128 + q.val, by omega⟩ x) = D) (ha : a (ix2 ⟨n.val * 128 + q.val, by omega⟩ c) = A) :
    k0_pay4 (F := Ideal) l a (ix4 n (0 : Fin 1) q c) = A * Ideal.div 1 D := by
  unfold k0_pay4
  refine (shapeCast_apply (α := EReal) _ _ _ (ix2 ⟨n.val * 128 + q.val, by omega⟩ c) ?_).trans ?_
  · rw [Shape.rowMajor_val_four, Shape.rowMajor_val_two]
    show (n.val * 128 + q.val) * 256 + c.val = ((n.val * 1 + 0) * 128 + q.val) * 256 + c.val
    omega
  · show a _ * _ = _
    rw [ha]
    congr 1
    have e1 : FloatOps.ofBits (F := Ideal) .f32 0x3F800000#32 = (1 : EReal) := by
      show Ideal.ofBits .f32 0x3F800000#32 = 1
      simp [Ideal.ofBits, Ideal.ieee, -EReal.coe_mul]; norm_num
    have hd : ∀ x, divf (F := Ideal) (φ := .f32) (broadcast S2048x128 (Scalar.ofBits (F := Ideal) .f32 0x3F800000#32)) l
        (ix2 ⟨n.val * 128 + q.val, by omega⟩ x) = Ideal.div 1 D := fun x => by
      show Ideal.div (FloatOps.ofBits (F := Ideal) .f32 0x3F800000#32) (l _) = _
      rw [e1, hl]
    by_cases hc : c.val < 128
    · refine (concatenate_pair_apply_left (t := S2048x256) (s₁ := S2048x128) (s₂ := S2048x128) 1 _ _ _ _ rfl (ix2 ⟨n.val * 128 + q.val, by omega⟩ (⟨c.val, hc⟩ : Fin 128)) fun b => ?_).trans (hd _)
      match b with
      | ⟨0, _⟩ => rfl
      | ⟨1, _⟩ => rfl
    · refine (concatenate_pair_apply_right (t := S2048x256) (s₁ := S2048x128) (s₂ := S2048x128) 1 _ _ _ _ rfl rfl (ix2 ⟨n.val * 128 + q.val, by omega⟩ (⟨c.val - 128, by omega⟩ : Fin 128)) (fun b hb => ?_) ?_).trans (hd _)
      · match b with
        | ⟨0, _⟩ => rfl
        | ⟨1, _⟩ => exact absurd rfl hb
      · show c.val - 128 + 128 = c.val
        omega

end Cert.Attn

end
-- ==== Proof.Cases.lean ====
/-
  The four cases of the body, by the query block's place in its group of four: what each leaves in the result's staging
  buffer.
-/
module

public import proofs.«01_k».proof.Proof.Masked
public import proofs.«01_k».proof.Proof.Gen.KernelIdeal.Frame

@[expose] public section

noncomputable section

namespace Cert.Attn

open Idealize.ShloMosaic Idealize.ShloMosaic.TcCoe Idealize.ShloMosaic.ValueIdx Idealize.ShloMosaic.Tactic
open Cert.KernelIdeal Cert.KernelIdeal.Gen Cert.Online

variable (c : Dev nD) (i : grid0.Coords)
  (arg2 : Memref sig .tc .vmem S16x1x128x384 .bf16) (harg2 : arg2.IsWhole) (arg3 : Memref sig .tc .vmem S1x2048x384 .bf16) (harg3 : arg3.IsWhole)
  (arg4 : Memref sig .tc .vmem S16x1x128x256 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x256 .f32) (harg7 : arg7.IsWhole)
  (x0 : Vec Ideal S16x1x128x384 .bf16) (x1 : Vec Ideal S1x2048x384 .bf16) (b b' : BitVec 32)

/-! ## The scratch arrays before the last block -/

/-- The store that begins each scratch array. -/
def init5 : List (View.Piece (Elt Ideal) S2048x128 .f32) :=
  [⟨Rect.unit ![0, 0] S2048x128.size inb_S2048x128_S2048x128_0_0, k0_pay125 (F := Ideal)⟩]
def init6 : List (View.Piece (Elt Ideal) S2048x128 .f32) :=
  [⟨Rect.unit ![0, 0] S2048x128.size inb_S2048x128_S2048x128_0_0, k0_pay126 (F := Ideal)⟩]
def init7 : List (View.Piece (Elt Ideal) S2048x256 .f32) :=
  [⟨Rect.unit ![0, 0] S2048x256.size inb_S2048x256_S2048x256_0_0, k0_pay127 (F := Ideal)⟩]

/-- The pieces of the first loop. -/
abbrev loopPieces := pb_k0_t1 (F := Ideal) Variants.none c none i arg2 harg2 arg3 harg3 arg4 harg4 arg5 harg5 arg6 harg6 arg7 harg7
  (harg2.unread x0) (harg3.unread x1) (arg5.view.writes (Elt Ideal) arg5.view.junk init5) (arg6.view.writes (Elt Ideal) arg6.view.junk init6)
  (arg7.view.writes (Elt Ideal) arg7.view.junk init7) (k0_t1_loop i).trips

/-- The pieces of the second loop (none). -/
abbrev emptyPieces := pb_k0_t2 (F := Ideal) Variants.none c none i arg2 harg2 arg3 harg3 arg4 harg4 arg5 harg5 arg6 harg6 arg7 harg7
  (BitVec.ofNat 32 (i 1).val) b b' (harg2.unread x0) (harg3.unread x1)
  (arg5.view.writes (Elt Ideal) arg5.view.junk ((loopPieces c i arg2 harg2 arg3 harg3 arg4 harg4 arg5 harg5 arg6 harg6 arg7 harg7 x0 x1).1 ++ init5))
  (arg6.view.writes (Elt Ideal) arg6.view.junk ((loopPieces c i arg2 harg2 arg3 harg3 arg4 harg4 arg5 harg5 arg6 harg6 arg7 harg7 x0 x1).2.1 ++ init6))
  (arg7.view.writes (Elt Ideal) arg7.view.junk ((loopPieces c i arg2 harg2 arg3 harg3 arg4 harg4 arg5 harg5 arg6 harg6 arg7 harg7 x0 x1).2.2 ++ init7))
  (k0_t2_loop i).trips

/-- The stores to each scratch array before the last block, and the arrays they leave. -/
def list5 : List (View.Piece (Elt Ideal) S2048x128 .f32) :=
  (emptyPieces c i arg2 harg2 arg3 harg3 arg4 harg4 arg5 harg5 arg6 harg6 arg7 harg7 x0 x1 b b').1
    ++ ((loopPieces c i arg2 harg2 arg3 harg3 arg4 harg4 arg5 harg5 arg6 harg6 arg7 harg7 x0 x1).1 ++ init5)
def base5 : arg5.view.ty.Contents (Elt Ideal) := arg5.view.writes (Elt Ideal) arg5.view.junk (list5 c i arg2 harg2 arg3 harg3 arg4 harg4 arg5 harg5 arg6 harg6 arg7 harg7 x0 x1 b b')
def list6 : List (View.Piece (Elt Ideal) S2048x128 .f32) :=
  (emptyPieces c i arg2 harg2 arg3 harg3 arg4 harg4 arg5 harg5 arg6 harg6 arg7 harg7 x0 x1 b b').2.1
    ++ ((loopPieces c i arg2 harg2 arg3 harg3 arg4 harg4 arg5 harg5 arg6 harg6 arg7 harg7 x0 x1).2.1 ++ init6)
def base6 : arg6.view.ty.Contents (Elt Ideal) := arg6.view.writes (Elt Ideal) arg6.view.junk (list6 c i arg2 harg2 arg3 harg3 arg4 harg4 arg5 harg5 arg6 harg6 arg7 harg7 x0 x1 b b')
def list7 : List (View.Piece (Elt Ideal) S2048x256 .f32) :=
  (emptyPieces c i arg2 harg2 arg3 harg3 arg4 harg4 arg5 harg5 arg6 harg6 arg7 harg7 x0 x1 b b').2.2
    ++ ((loopPieces c i arg2 harg2 arg3 harg3 arg4 harg4 arg5 harg5 arg6 harg6 arg7 harg7 x0 x1).2.2 ++ init7)
def base7 : arg7.view.ty.Contents (Elt Ideal) := arg7.view.writes (Elt Ideal) arg7.view.junk (list7 c i arg2 harg2 arg3 harg3 arg4 harg4 arg5 harg5 arg6 harg6 arg7 harg7 x0 x1 b b')

/-- The body's result after the last block of `W` keys. -/
def result {W : ℕ} {s : Fin 2 → FVec Ideal (Mat W) .f32} (E : ∀ b, Exps W (s b)) (h : (Mat W).Reduces [1] S1024)
    (vb : FVec Ideal ⟨2, ![W, 256]⟩ .bf16) : FVec Ideal S16x1x128x256 .bf16 :=
  k0_pay4 (F := Ideal)
    (arg6.view.readCov (both6 arg5 arg6 E h (base5 c i arg2 harg2 arg3 harg3 arg4 harg4 arg5 harg5 arg6 harg6 arg7 harg7 x0 x1 b b') (base6 c i arg2 harg2 arg3 harg3 arg4 harg4 arg5 harg5 arg6 harg6 arg7 harg7 x0 x1 b b')
      ++ list6 c i arg2 harg2 arg3 harg3 arg4 harg4 arg5 harg5 arg6 harg6 arg7 harg7 x0 x1 b b') (Rect.unit (s := S2048x128) ![0, 0] S2048x128.size inb_S2048x128_S2048x128_0_0).toLoadRect)
    (arg7.view.readCov (both7 arg5 arg7 E h vb (base5 c i arg2 harg2 arg3 harg3 arg4 harg4 arg5 harg5 arg6 harg6 arg7 harg7 x0 x1 b b') (base7 c i arg2 harg2 arg3 harg3 arg4 harg4 arg5 harg5 arg6 harg6 arg7 harg7 x0 x1 b b')
      ++ list7 c i arg2 harg2 arg3 harg3 arg4 harg4 arg5 harg5 arg6 harg6 arg7 harg7 x0 x1 b b') (Rect.unit (s := S2048x256) ![0, 0] S2048x256.size inb_S2048x256_S2048x256_0_0).toLoadRect)

/-- The one store to the result's staging buffer. -/
abbrev whole4 (w : FVec Ideal S16x1x128x256 .bf16) : List (View.Piece (Elt Ideal) S16x1x128x256 .bf16) :=
  [⟨Rect.unit (s := S16x1x128x256) ![0, 0, 0, 0] S16x1x128x256.size inb_S16x1x128x256_S16x1x128x256_0_0_0_0, w⟩]

/-- A list of stores is its last store over the others' contents. -/
theorem writes_one {D : ℕ} (arg : Memref sig .tc .vmem ⟨2, ![2048, D]⟩ .f32) (f : arg.view.ty.Contents (Elt Ideal))
    (p : View.Piece (Elt Ideal) (⟨2, ![2048, D]⟩ : Shape) .f32) (L : List (View.Piece (Elt Ideal) (⟨2, ![2048, D]⟩ : Shape) .f32)) :
    arg.view.writes (Elt Ideal) f (p :: L) = arg.view.writes (Elt Ideal) (arg.view.writes (Elt Ideal) f L) [p] := rfl

section
variable {arg5 arg6 arg7} {W : ℕ} {s : Fin 2 → FVec Ideal (Mat W) .f32} {E : ∀ b, Exps W (s b)} {h : (Mat W).Reduces [1] S1024}
  {vb : FVec Ideal ⟨2, ![W, 256]⟩ .bf16} {g5 : arg5.view.ty.Contents (Elt Ideal)} {g6 : arg6.view.ty.Contents (Elt Ideal)}
  {g7 : arg7.view.ty.Contents (Elt Ideal)} {m0 m1 l0 l1 w5 w6 w6' : FVec Ideal S1024x128 .f32} {a0 a1 w7 w7' : FVec Ideal S1024x256 .f32}

/-- The stores to the running sum, from what each slab loads and stores. -/
theorem both6_of (hm0 : m0 = loadSlab arg5 0 g5) (hl0 : l0 = loadSlab arg6 0 g6) (hw5 : w5 = nextM (s 0) h m0)
    (hw6 : w6 = nextL (E 0) h m0 l0) (hm1 : m1 = loadSlab arg5 1 (arg5.view.writes (Elt Ideal) g5 [slabPiece 0 w5]))
    (hl1 : l1 = loadSlab arg6 1 (arg6.view.writes (Elt Ideal) g6 [slabPiece 0 w6])) (hw6' : w6' = nextL (E 1) h m1 l1) :
    [slabPiece 1 w6', slabPiece 0 w6] = both6 arg5 arg6 E h g5 g6 := by
  subst hm0 hl0 hw5 hw6 hm1 hl1 hw6'; rfl

/-- The stores to the running weighted sum, from what each slab loads and stores. -/
theorem both7_of (hm0 : m0 = loadSlab arg5 0 g5) (ha0 : a0 = loadSlab arg7 0 g7) (hw5 : w5 = nextM (s 0) h m0)
    (hw7 : w7 = nextA (E 0) h vb m0 a0) (hm1 : m1 = loadSlab arg5 1 (arg5.view.writes (Elt Ideal) g5 [slabPiece 0 w5]))
    (ha1 : a1 = loadSlab arg7 1 (arg7.view.writes (Elt Ideal) g7 [slabPiece 0 w7])) (hw7' : w7' = nextA (E 1) h vb m1 a1) :
    [slabPiece 1 w7', slabPiece 0 w7] = both7 arg5 arg7 E h vb g5 g7 := by
  subst hm0 ha0 hw5 hw7 hm1 ha1 hw7'; rfl
end

end Cert.Attn

end
-- ==== Proof.CaseA.lean ====
/-
  The case of the first query block of four: the last block has 128 keys.
-/
module

public import proofs.«01_k».proof.Proof.Cases

@[expose] public section

noncomputable section

namespace Cert.Attn

open Idealize.ShloMosaic Idealize.ShloMosaic.TcCoe Idealize.ShloMosaic.ValueIdx Idealize.ShloMosaic.Tactic
open Cert.KernelIdeal Cert.KernelIdeal.Gen Cert.Online

section
variable (a b : BitVec 32) (k : Vec Ideal S1x128x384 .bf16) (q : Vec Ideal S8x1x128x384 .bf16) (m l : FVec Ideal S1024x128 .f32)
  (v : FVec Ideal S1024x256 .f32)

/-- The masked scores of a slab against the last 128 keys. -/
abbrev scoresA : FVec Ideal (Mat 128) .f32 :=
  masked iota_S1024x128_d0_w32 iota_S1024x128_d1_w32 a b (score (shapeCast ⟨2, ![128, 384]⟩ k shapeCasts_S1x128x384_S128x384) q)

/-! The scores of the first and of the second slab, and what each slab stores. -/

theorem sA0 : (k0_pay50 (F := Ideal) a b k q) = (scoresA a b k q) := by
  unfold k0_pay50 scoresA masked; dsimp only; rfl
theorem sA1 : (k0_pay59 (F := Ideal) a b (k0_pay49 k) q) = (scoresA a b k q) := by
  unfold k0_pay59 scoresA masked; dsimp only; rfl
theorem mA0 : (k0_pay58 (F := Ideal) (k0_pay52 (F := Ideal) a b k q m)) = nextM (scoresA a b k q) reduces_S1024x128_S1024 m := by
  unfold k0_pay58 k0_pay52; rw [sA0]; rfl
theorem lA0 : (k0_pay56 (F := Ideal) (k0_pay55 (F := Ideal) a b k q m l)) = nextL (exps1 (scoresA a b k q)) reduces_S1024x128_S1024 m l := by
  unfold k0_pay56 k0_pay55 k0_pay53 k0_pay54 k0_pay52; rw [sA0]; rfl
theorem aA0 : (k0_pay57 (F := Ideal) (k0_pay51 k) (k0_pay53 (F := Ideal) a b k q m) (k0_pay54 (F := Ideal) a b k q m) v)
    = nextA (exps1 (scoresA a b k q)) reduces_S1024x128_S1024 (vals (shapeCast ⟨2, ![128, 384]⟩ k shapeCasts_S1x128x384_S128x384) slices_S128x384_o0_0_S128x256) m v := by
  unfold k0_pay57 k0_pay53 k0_pay54 k0_pay52; rw [sA0]; rfl
theorem lA1 : (k0_pay135 (F := Ideal) (k0_pay59 (F := Ideal) a b (k0_pay49 k) q) (k0_pay61 (F := Ideal) a b (k0_pay49 k) q m) (k0_pay62 (F := Ideal) a b (k0_pay49 k) q m) l)
    = nextL (exps1 (scoresA a b k q)) reduces_S1024x128_S1024 m l := by
  unfold k0_pay135 k0_pay134 k0_pay62 k0_pay61; rw [sA1]; rfl
theorem aA1 : (k0_pay136 (F := Ideal) (k0_pay59 (F := Ideal) a b (k0_pay49 k) q) (k0_pay60 (k0_pay49 k)) (k0_pay61 (F := Ideal) a b (k0_pay49 k) q m) (k0_pay62 (F := Ideal) a b (k0_pay49 k) q m) v)
    = nextA (exps1 (scoresA a b k q)) reduces_S1024x128_S1024 (vals (shapeCast ⟨2, ![128, 384]⟩ k shapeCasts_S1x128x384_S128x384) slices_S128x384_o0_0_S128x256) m v := by
  unfold k0_pay136 k0_pay134 k0_pay62 k0_pay61; rw [sA1]; rfl
end

variable (c : Dev nD) (i : grid0.Coords)
  (arg2 : Memref sig .tc .vmem S16x1x128x384 .bf16) (harg2 : arg2.IsWhole) (arg3 : Memref sig .tc .vmem S1x2048x384 .bf16) (harg3 : arg3.IsWhole)
  (arg4 : Memref sig .tc .vmem S16x1x128x256 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x256 .f32) (harg7 : arg7.IsWhole)
  (x0 : Vec Ideal S16x1x128x384 .bf16) (x1 : Vec Ideal S1x2048x384 .bf16)

/-- The last block's keys, loaded. -/
abbrev keysA (h : cond0_0 i) : Vec Ideal S1x128x384 .bf16 :=
  arg3.view.readAt (Elt Ideal) (Rect.unit (s := S1x2048x384) (k0_off3 i) S1x128x384.size (k0_off3_inb i h)).toLoadRect (harg3.unread x1)

/-- What the body stores in the result's buffer. -/
theorem runA (h0 : cond0_0 i) (h1 : ¬cond0_1 i) (h2 : ¬cond0_2 i) (h3 : ¬cond0_3 i) :
    (kernelRun0_A (F := Ideal) c i arg2 harg2 arg3 harg3 arg4 harg4 arg5 harg5 arg6 harg6 arg7 harg7 h0 h1 h2 h3 x0 x1).1
      = whole4 (result c i arg2 harg2 arg3 harg3 arg4 harg4 arg5 harg5 arg6 harg6 arg7 harg7 x0 x1 (kernelRun0_A.sl.v28 i) (kernelRun0_A.sl.v33 i)
          (fun b => exps1 (scoresA (BitVec.ofNat 32 (i 1).val) (kernelRun0_A.sl.v28 i) (keysA i arg3 harg3 x1 h0) (loadQ arg2 (harg2.unread x0) b)))
          reduces_S1024x128_S1024
          (vals (shapeCast ⟨2, ![128, 384]⟩ (keysA i arg3 harg3 x1 h0) shapeCasts_S1x128x384_S128x384) slices_S128x384_o0_0_S128x256)) := by
  have hm0 : kernelRun0_A.sl.v118 c i arg2 harg2 arg3 harg3 arg4 harg4 arg5 harg5 arg6 harg6 arg7 harg7 x0 x1 = loadSlab arg5 0 (base5 c i arg2 harg2 arg3 harg3 arg4 harg4 arg5 harg5 arg6 harg6 arg7 harg7 x0 x1 (kernelRun0_A.sl.v28 i) (kernelRun0_A.sl.v33 i)) := rfl
  have hl0 : kernelRun0_A.sl.v127 c i arg2 harg2 arg3 harg3 arg4 harg4 arg5 harg5 arg6 harg6 arg7 harg7 x0 x1 = loadSlab arg6 0 (base6 c i arg2 harg2 arg3 harg3 arg4 harg4 arg5 harg5 arg6 harg6 arg7 harg7 x0 x1 (kernelRun0_A.sl.v28 i) (kernelRun0_A.sl.v33 i)) := rfl
  have ha0 : kernelRun0_A.sl.v138 c i arg2 harg2 arg3 harg3 arg4 harg4 arg5 harg5 arg6 harg6 arg7 harg7 x0 x1 = loadSlab arg7 0 (base7 c i arg2 harg2 arg3 harg3 arg4 harg4 arg5 harg5 arg6 harg6 arg7 harg7 x0 x1 (kernelRun0_A.sl.v28 i) (kernelRun0_A.sl.v33 i)) := rfl
  have hw5 := mA0 (BitVec.ofNat 32 (i 1).val) (kernelRun0_A.sl.v28 i) (keysA i arg3 harg3 x1 h0) (loadQ arg2 (harg2.unread x0) 0) (kernelRun0_A.sl.v118 c i arg2 harg2 arg3 harg3 arg4 harg4 arg5 harg5 arg6 harg6 arg7 harg7 x0 x1)
  unfold kernelRun0_A
  dsimp only
  refine congrArg (fun w => whole4 w) (congrArg₂ (k0_pay4 (F := Ideal)) ?_ ?_)
  · refine congrArg (fun L => View.readCov (Val := Elt Ideal) arg6.view L _) ?_
    unfold kernelRun0_A.sl.HS1_2 kernelRun0_A.sl.HS1_1_1
    refine Eq.trans ?_ (congrArg (fun L => L ++ list6 c i arg2 harg2 arg3 harg3 arg4 harg4 arg5 harg5 arg6 harg6 arg7 harg7 x0 x1 (kernelRun0_A.sl.v28 i) (kernelRun0_A.sl.v33 i)) (both6_of (E := (fun b => exps1 (scoresA (BitVec.ofNat 32 (i 1).val) (kernelRun0_A.sl.v28 i) (keysA i arg3 harg3 x1 h0) (loadQ arg2 (harg2.unread x0) b)))) (h := reduces_S1024x128_S1024)
      hm0 hl0 hw5 (lA0 (BitVec.ofNat 32 (i 1).val) (kernelRun0_A.sl.v28 i) (keysA i arg3 harg3 x1 h0) (loadQ arg2 (harg2.unread x0) 0) (kernelRun0_A.sl.v118 c i arg2 harg2 arg3 harg3 arg4 harg4 arg5 harg5 arg6 harg6 arg7 harg7 x0 x1) (kernelRun0_A.sl.v127 c i arg2 harg2 arg3 harg3 arg4 harg4 arg5 harg5 arg6 harg6 arg7 harg7 x0 x1))
      (m1 := kernelRun0_A.sl.v166 c i arg2 harg2 arg3 harg3 arg4 harg4 arg5 harg5 arg6 harg6 arg7 harg7 h0 x0 x1) (l1 := kernelRun0_A.sl.v175 c i arg2 harg2 arg3 harg3 arg4 harg4 arg5 harg5 arg6 harg6 arg7 harg7 h0 x0 x1)
      ?_ ?_ (lA1 (BitVec.ofNat 32 (i 1).val) (kernelRun0_A.sl.v28 i) (keysA i arg3 harg3 x1 h0) (loadQ arg2 (harg2.unread x0) 1) _ _)))
    · rfl
    · rfl
    · rfl
  · refine congrArg (fun L => View.readCov (Val := Elt Ideal) arg7.view L _) ?_
    unfold kernelRun0_A.sl.HS2_2 kernelRun0_A.sl.HS2_1_1
    refine Eq.trans ?_ (congrArg (fun L => L ++ list7 c i arg2 harg2 arg3 harg3 arg4 harg4 arg5 harg5 arg6 harg6 arg7 harg7 x0 x1 (kernelRun0_A.sl.v28 i) (kernelRun0_A.sl.v33 i)) (both7_of (E := (fun b => exps1 (scoresA (BitVec.ofNat 32 (i 1).val) (kernelRun0_A.sl.v28 i) (keysA i arg3 harg3 x1 h0) (loadQ arg2 (harg2.unread x0) b)))) (h := reduces_S1024x128_S1024)
      (vb := (vals (shapeCast ⟨2, ![128, 384]⟩ (keysA i arg3 harg3 x1 h0) shapeCasts_S1x128x384_S128x384) slices_S128x384_o0_0_S128x256))
      hm0 ha0 hw5 (aA0 (BitVec.ofNat 32 (i 1).val) (kernelRun0_A.sl.v28 i) (keysA i arg3 harg3 x1 h0) (loadQ arg2 (harg2.unread x0) 0) (kernelRun0_A.sl.v118 c i arg2 harg2 arg3 harg3 arg4 harg4 arg5 harg5 arg6 harg6 arg7 harg7 x0 x1) (kernelRun0_A.sl.v138 c i arg2 harg2 arg3 harg3 arg4 harg4 arg5 harg5 arg6 harg6 arg7 harg7 x0 x1))
      (m1 := kernelRun0_A.sl.v166 c i arg2 harg2 arg3 harg3 arg4 harg4 arg5 harg5 arg6 harg6 arg7 harg7 h0 x0 x1) (a1 := kernelRun0_A.sl.v186 c i arg2 harg2 arg3 harg3 arg4 harg4 arg5 harg5 arg6 harg6 arg7 harg7 h0 x0 x1)
      ?_ ?_ (aA1 (BitVec.ofNat 32 (i 1).val) (kernelRun0_A.sl.v28 i) (keysA i arg3 harg3 x1 h0) (loadQ arg2 (harg2.unread x0) 1) _ _)))
    · rfl
    · rfl
    · rfl

end Cert.Attn

end
-- ==== Proof.CaseB.lean ====
/-
  The case of the second query block of four: the last block has 256 keys.
-/
module

public import proofs.«01_k».proof.Proof.Cases

@[expose] public section

noncomputable section

namespace Cert.Attn

open Idealize.ShloMosaic Idealize.ShloMosaic.TcCoe Idealize.ShloMosaic.ValueIdx Idealize.ShloMosaic.Tactic
open Cert.KernelIdeal Cert.KernelIdeal.Gen Cert.Online

section
variable (a b : BitVec 32) (k : Vec Ideal S1x256x384 .bf16) (q : Vec Ideal S8x1x128x384 .bf16) (m l : FVec Ideal S1024x128 .f32)
  (v : FVec Ideal S1024x256 .f32)

/-- The masked scores of a slab against the last 256 keys. -/
abbrev scoresB : FVec Ideal (Mat 256) .f32 :=
  masked iota_S1024x256_d0_w32 iota_S1024x256_d1_w32 a b (score (shapeCast ⟨2, ![256, 384]⟩ k shapeCasts_S1x256x384_S256x384) q)

/-! The scores of the first and of the second slab, and what each slab stores. -/

theorem sB0 : (k0_pay64 (F := Ideal) a b k q) = (scoresB a b k q) := by
  unfold k0_pay64 scoresB masked; dsimp only; rfl
theorem sB1 : (k0_pay75 (F := Ideal) a b (k0_pay63 k) q) = (scoresB a b k q) := by
  unfold k0_pay75 scoresB masked; dsimp only; rfl
theorem mB0 : (k0_pay74 (F := Ideal) (k0_pay66 (F := Ideal) a b k q m)) = nextM (scoresB a b k q) reduces_S1024x256_S1024 m := by
  unfold k0_pay74 k0_pay66; rw [sB0]; rfl
theorem lB0 : (k0_pay72 (F := Ideal) (k0_pay70 (F := Ideal) a b k q m l) (k0_pay71 (F := Ideal) a b k q m)) = nextL (exps2 (scoresB a b k q)) reduces_S1024x256_S1024 m l := by
  unfold k0_pay72 k0_pay70 k0_pay71 k0_pay67 k0_pay68 k0_pay69 k0_pay66; rw [sB0]; rfl
theorem aB0 : (k0_pay73 (F := Ideal) (k0_pay65 k) (k0_pay67 (F := Ideal) a b k q m) (k0_pay68 (F := Ideal) a b k q m) (k0_pay69 (F := Ideal) a b k q m) v)
    = nextA (exps2 (scoresB a b k q)) reduces_S1024x256_S1024 (vals (shapeCast ⟨2, ![256, 384]⟩ k shapeCasts_S1x256x384_S256x384) slices_S256x384_o0_0_S256x256) m v := by
  unfold k0_pay73 k0_pay67 k0_pay68 k0_pay69 k0_pay66; rw [sB0]; rfl
theorem lB1 : (k0_pay142 (F := Ideal) (k0_pay75 (F := Ideal) a b (k0_pay63 k) q) m l)
    = nextL (exps2 (scoresB a b k q)) reduces_S1024x256_S1024 m l := by
  unfold k0_pay142 k0_pay139 k0_pay140 k0_pay141 k0_pay138; rw [sB1]; rfl
theorem aB1 : (k0_pay143 (F := Ideal) (k0_pay75 (F := Ideal) a b (k0_pay63 k) q) (k0_pay76 (k0_pay63 k)) m v)
    = nextA (exps2 (scoresB a b k q)) reduces_S1024x256_S1024 (vals (shapeCast ⟨2, ![256, 384]⟩ k shapeCasts_S1x256x384_S256x384) slices_S256x384_o0_0_S256x256) m v := by
  unfold k0_pay143 k0_pay139 k0_pay140 k0_pay141 k0_pay138; rw [sB1]; rfl
end

variable (c : Dev nD) (i : grid0.Coords)
  (arg2 : Memref sig .tc .vmem S16x1x128x384 .bf16) (harg2 : arg2.IsWhole) (arg3 : Memref sig .tc .vmem S1x2048x384 .bf16) (harg3 : arg3.IsWhole)
  (arg4 : Memref sig .tc .vmem S16x1x128x256 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x256 .f32) (harg7 : arg7.IsWhole)
  (x0 : Vec Ideal S16x1x128x384 .bf16) (x1 : Vec Ideal S1x2048x384 .bf16)

/-- The last block's keys, loaded. -/
abbrev keysB (h : cond0_1 i) : Vec Ideal S1x256x384 .bf16 :=
  arg3.view.readAt (Elt Ideal) (Rect.unit (s := S1x2048x384) (k0_off4 i) S1x256x384.size (k0_off4_inb i h)).toLoadRect (harg3.unread x1)

/-- What the body stores in the result's buffer. -/
theorem runB (h0 : ¬cond0_0 i) (h1 : cond0_1 i) (h2 : ¬cond0_2 i) (h3 : ¬cond0_3 i) :
    (kernelRun0_B (F := Ideal) c i arg2 harg2 arg3 harg3 arg4 harg4 arg5 harg5 arg6 harg6 arg7 harg7 h0 h1 h2 h3 x0 x1).1
      = whole4 (result c i arg2 harg2 arg3 harg3 arg4 harg4 arg5 harg5 arg6 harg6 arg7 harg7 x0 x1 (kernelRun0_B.sl.v28 i) (kernelRun0_B.sl.v33 i)
          (fun b => exps2 (scoresB (BitVec.ofNat 32 (i 1).val) (kernelRun0_B.sl.v28 i) (keysB i arg3 harg3 x1 h1) (loadQ arg2 (harg2.unread x0) b)))
          reduces_S1024x256_S1024
          (vals (shapeCast ⟨2, ![256, 384]⟩ (keysB i arg3 harg3 x1 h1) shapeCasts_S1x256x384_S256x384) slices_S256x384_o0_0_S256x256)) := by
  have hm0 : kernelRun0_B.sl.v118 c i arg2 harg2 arg3 harg3 arg4 harg4 arg5 harg5 arg6 harg6 arg7 harg7 x0 x1 = loadSlab arg5 0 (base5 c i arg2 harg2 arg3 harg3 arg4 harg4 arg5 harg5 arg6 harg6 arg7 harg7 x0 x1 (kernelRun0_B.sl.v28 i) (kernelRun0_B.sl.v33 i)) := rfl
  have hl0 : kernelRun0_B.sl.v132 c i arg2 harg2 arg3 harg3 arg4 harg4 arg5 harg5 arg6 harg6 arg7 harg7 x0 x1 = loadSlab arg6 0 (base6 c i arg2 harg2 arg3 harg3 arg4 harg4 arg5 harg5 arg6 harg6 arg7 harg7 x0 x1 (kernelRun0_B.sl.v28 i) (kernelRun0_B.sl.v33 i)) := rfl
  have ha0 : kernelRun0_B.sl.v145 c i arg2 harg2 arg3 harg3 arg4 harg4 arg5 harg5 arg6 harg6 arg7 harg7 x0 x1 = loadSlab arg7 0 (base7 c i arg2 harg2 arg3 harg3 arg4 harg4 arg5 harg5 arg6 harg6 arg7 harg7 x0 x1 (kernelRun0_B.sl.v28 i) (kernelRun0_B.sl.v33 i)) := rfl
  have hw5 := mB0 (BitVec.ofNat 32 (i 1).val) (kernelRun0_B.sl.v28 i) (keysB i arg3 harg3 x1 h1) (loadQ arg2 (harg2.unread x0) 0) (kernelRun0_B.sl.v118 c i arg2 harg2 arg3 harg3 arg4 harg4 arg5 harg5 arg6 harg6 arg7 harg7 x0 x1)
  unfold kernelRun0_B
  dsimp only
  refine congrArg (fun w => whole4 w) (congrArg₂ (k0_pay4 (F := Ideal)) ?_ ?_)
  · refine congrArg (fun L => View.readCov (Val := Elt Ideal) arg6.view L _) ?_
    unfold kernelRun0_B.sl.HS1_2 kernelRun0_B.sl.HS1_1_1
    refine Eq.trans ?_ (congrArg (fun L => L ++ list6 c i arg2 harg2 arg3 harg3 arg4 harg4 arg5 harg5 arg6 harg6 arg7 harg7 x0 x1 (kernelRun0_B.sl.v28 i) (kernelRun0_B.sl.v33 i)) (both6_of (E := (fun b => exps2 (scoresB (BitVec.ofNat 32 (i 1).val) (kernelRun0_B.sl.v28 i) (keysB i arg3 harg3 x1 h1) (loadQ arg2 (harg2.unread x0) b)))) (h := reduces_S1024x256_S1024)
      hm0 hl0 hw5 (lB0 (BitVec.ofNat 32 (i 1).val) (kernelRun0_B.sl.v28 i) (keysB i arg3 harg3 x1 h1) (loadQ arg2 (harg2.unread x0) 0) (kernelRun0_B.sl.v118 c i arg2 harg2 arg3 harg3 arg4 harg4 arg5 harg5 arg6 harg6 arg7 harg7 x0 x1) (kernelRun0_B.sl.v132 c i arg2 harg2 arg3 harg3 arg4 harg4 arg5 harg5 arg6 harg6 arg7 harg7 x0 x1))
      (m1 := kernelRun0_B.sl.v173 c i arg2 harg2 arg3 harg3 arg4 harg4 arg5 harg5 arg6 harg6 arg7 harg7 h1 x0 x1) (l1 := kernelRun0_B.sl.v187 c i arg2 harg2 arg3 harg3 arg4 harg4 arg5 harg5 arg6 harg6 arg7 harg7 h1 x0 x1)
      ?_ ?_ (lB1 (BitVec.ofNat 32 (i 1).val) (kernelRun0_B.sl.v28 i) (keysB i arg3 harg3 x1 h1) (loadQ arg2 (harg2.unread x0) 1) _ _)))
    · rfl
    · rfl
    · rfl
  · refine congrArg (fun L => View.readCov (Val := Elt Ideal) arg7.view L _) ?_
    unfold kernelRun0_B.sl.HS2_2 kernelRun0_B.sl.HS2_1_1
    refine Eq.trans ?_ (congrArg (fun L => L ++ list7 c i arg2 harg2 arg3 harg3 arg4 harg4 arg5 harg5 arg6 harg6 arg7 harg7 x0 x1 (kernelRun0_B.sl.v28 i) (kernelRun0_B.sl.v33 i)) (both7_of (E := (fun b => exps2 (scoresB (BitVec.ofNat 32 (i 1).val) (kernelRun0_B.sl.v28 i) (keysB i arg3 harg3 x1 h1) (loadQ arg2 (harg2.unread x0) b)))) (h := reduces_S1024x256_S1024)
      (vb := (vals (shapeCast ⟨2, ![256, 384]⟩ (keysB i arg3 harg3 x1 h1) shapeCasts_S1x256x384_S256x384) slices_S256x384_o0_0_S256x256))
      hm0 ha0 hw5 (aB0 (BitVec.ofNat 32 (i 1).val) (kernelRun0_B.sl.v28 i) (keysB i arg3 harg3 x1 h1) (loadQ arg2 (harg2.unread x0) 0) (kernelRun0_B.sl.v118 c i arg2 harg2 arg3 harg3 arg4 harg4 arg5 harg5 arg6 harg6 arg7 harg7 x0 x1) (kernelRun0_B.sl.v145 c i arg2 harg2 arg3 harg3 arg4 harg4 arg5 harg5 arg6 harg6 arg7 harg7 x0 x1))
      (m1 := kernelRun0_B.sl.v173 c i arg2 harg2 arg3 harg3 arg4 harg4 arg5 harg5 arg6 harg6 arg7 harg7 h1 x0 x1) (a1 := kernelRun0_B.sl.v200 c i arg2 harg2 arg3 harg3 arg4 harg4 arg5 harg5 arg6 harg6 arg7 harg7 h1 x0 x1)
      ?_ ?_ (aB1 (BitVec.ofNat 32 (i 1).val) (kernelRun0_B.sl.v28 i) (keysB i arg3 harg3 x1 h1) (loadQ arg2 (harg2.unread x0) 1) _ _)))
    · rfl
    · rfl
    · rfl

end Cert.Attn

end
-- ==== Proof.CaseC.lean ====
/-
  The case of the third query block of four: the last block has 384 keys.
-/
module

public import proofs.«01_k».proof.Proof.Cases

@[expose] public section

noncomputable section

namespace Cert.Attn

open Idealize.ShloMosaic Idealize.ShloMosaic.TcCoe Idealize.ShloMosaic.ValueIdx Idealize.ShloMosaic.Tactic
open Cert.KernelIdeal Cert.KernelIdeal.Gen Cert.Online

section
variable (a b : BitVec 32) (k : Vec Ideal S1x384x384 .bf16) (q : Vec Ideal S8x1x128x384 .bf16) (m l : FVec Ideal S1024x128 .f32)
  (v : FVec Ideal S1024x256 .f32)

/-- The masked scores of a slab against the last 384 keys. -/
abbrev scoresC : FVec Ideal (Mat 384) .f32 :=
  masked iota_S1024x384_d0_w32 iota_S1024x384_d1_w32 a b (score (shapeCast ⟨2, ![384, 384]⟩ k shapeCasts_S1x384x384_S384x384) q)

/-! The scores of the first and of the second slab, and what each slab stores. -/

theorem sC0 : (k0_pay78 (F := Ideal) a b k q) = (scoresC a b k q) := by
  unfold k0_pay78 scoresC masked; dsimp only; rfl
theorem sC1 : (k0_pay93 (F := Ideal) (k0_pay90 (k0_pay77 k) q) (k0_pay91 a b) k0_pay92) = (scoresC a b k q) := by
  unfold k0_pay93 k0_pay92 k0_pay91 k0_pay90 scoresC masked; dsimp only; rfl
theorem mC0 : (k0_pay89 (F := Ideal) (k0_pay80 (F := Ideal) a b k q m)) = nextM (scoresC a b k q) reduces_S1024x384_S1024 m := by
  unfold k0_pay89 k0_pay80; rw [sC0]; rfl
theorem lC0 : (k0_pay87 (F := Ideal) (k0_pay85 (F := Ideal) a b k q m) (k0_pay86 (F := Ideal) a b k q m l)) = nextL (exps3 (scoresC a b k q)) reduces_S1024x384_S1024 m l := by
  unfold k0_pay87 k0_pay86 k0_pay85 k0_pay84 k0_pay83 k0_pay82 k0_pay81 k0_pay80; rw [sC0]; rfl
theorem aC0 : (k0_pay88 (F := Ideal) (k0_pay79 k) (k0_pay81 (F := Ideal) a b k q m) (k0_pay82 (F := Ideal) a b k q m) (k0_pay83 (F := Ideal) a b k q m) (k0_pay84 (F := Ideal) a b k q m) v)
    = nextA (exps3 (scoresC a b k q)) reduces_S1024x384_S1024 (vals (shapeCast ⟨2, ![384, 384]⟩ k shapeCasts_S1x384x384_S384x384) slices_S384x384_o0_0_S384x256) m v := by
  unfold k0_pay88 k0_pay84 k0_pay83 k0_pay82 k0_pay81 k0_pay80; rw [sC0]; rfl
theorem lC1 : (k0_pay99 (F := Ideal) (k0_pay90 (k0_pay77 k) q) (k0_pay91 a b) k0_pay92 m l)
    = nextL (exps3 (scoresC a b k q)) reduces_S1024x384_S1024 m l := by
  unfold k0_pay99 k0_pay98 k0_pay97 k0_pay96 k0_pay95 k0_pay94; rw [sC1]; rfl
theorem aC1 : (k0_pay100 (F := Ideal) (k0_pay77 k) (k0_pay90 (k0_pay77 k) q) (k0_pay91 a b) k0_pay92 m v)
    = nextA (exps3 (scoresC a b k q)) reduces_S1024x384_S1024 (vals (shapeCast ⟨2, ![384, 384]⟩ k shapeCasts_S1x384x384_S384x384) slices_S384x384_o0_0_S384x256) m v := by
  unfold k0_pay100 k0_pay98 k0_pay97 k0_pay96 k0_pay95 k0_pay94; rw [sC1]; rfl
end

variable (c : Dev nD) (i : grid0.Coords)
  (arg2 : Memref sig .tc .vmem S16x1x128x384 .bf16) (harg2 : arg2.IsWhole) (arg3 : Memref sig .tc .vmem S1x2048x384 .bf16) (harg3 : arg3.IsWhole)
  (arg4 : Memref sig .tc .vmem S16x1x128x256 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x256 .f32) (harg7 : arg7.IsWhole)
  (x0 : Vec Ideal S16x1x128x384 .bf16) (x1 : Vec Ideal S1x2048x384 .bf16)

/-- The last block's keys, loaded. -/
abbrev keysC (h : cond0_2 i) : Vec Ideal S1x384x384 .bf16 :=
  arg3.view.readAt (Elt Ideal) (Rect.unit (s := S1x2048x384) (k0_off5 i) S1x384x384.size (k0_off5_inb i h)).toLoadRect (harg3.unread x1)

/-- What the body stores in the result's buffer. -/
theorem runC (h0 : ¬cond0_0 i) (h1 : ¬cond0_1 i) (h2 : cond0_2 i) (h3 : ¬cond0_3 i) :
    (kernelRun0_C (F := Ideal) c i arg2 harg2 arg3 harg3 arg4 harg4 arg5 harg5 arg6 harg6 arg7 harg7 h0 h1 h2 h3 x0 x1).1
      = whole4 (result c i arg2 harg2 arg3 harg3 arg4 harg4 arg5 harg5 arg6 harg6 arg7 harg7 x0 x1 (kernelRun0_C.sl.v28 i) (kernelRun0_C.sl.v33 i)
          (fun b => exps3 (scoresC (BitVec.ofNat 32 (i 1).val) (kernelRun0_C.sl.v28 i) (keysC i arg3 harg3 x1 h2) (loadQ arg2 (harg2.unread x0) b)))
          reduces_S1024x384_S1024
          (vals (shapeCast ⟨2, ![384, 384]⟩ (keysC i arg3 harg3 x1 h2) shapeCasts_S1x384x384_S384x384) slices_S384x384_o0_0_S384x256)) := by
  have hm0 : kernelRun0_C.sl.v118 c i arg2 harg2 arg3 harg3 arg4 harg4 arg5 harg5 arg6 harg6 arg7 harg7 x0 x1 = loadSlab arg5 0 (base5 c i arg2 harg2 arg3 harg3 arg4 harg4 arg5 harg5 arg6 harg6 arg7 harg7 x0 x1 (kernelRun0_C.sl.v28 i) (kernelRun0_C.sl.v33 i)) := rfl
  have hl0 : kernelRun0_C.sl.v136 c i arg2 harg2 arg3 harg3 arg4 harg4 arg5 harg5 arg6 harg6 arg7 harg7 x0 x1 = loadSlab arg6 0 (base6 c i arg2 harg2 arg3 harg3 arg4 harg4 arg5 harg5 arg6 harg6 arg7 harg7 x0 x1 (kernelRun0_C.sl.v28 i) (kernelRun0_C.sl.v33 i)) := rfl
  have ha0 : kernelRun0_C.sl.v150 c i arg2 harg2 arg3 harg3 arg4 harg4 arg5 harg5 arg6 harg6 arg7 harg7 x0 x1 = loadSlab arg7 0 (base7 c i arg2 harg2 arg3 harg3 arg4 harg4 arg5 harg5 arg6 harg6 arg7 harg7 x0 x1 (kernelRun0_C.sl.v28 i) (kernelRun0_C.sl.v33 i)) := rfl
  have hw5 := mC0 (BitVec.ofNat 32 (i 1).val) (kernelRun0_C.sl.v28 i) (keysC i arg3 harg3 x1 h2) (loadQ arg2 (harg2.unread x0) 0) (kernelRun0_C.sl.v118 c i arg2 harg2 arg3 harg3 arg4 harg4 arg5 harg5 arg6 harg6 arg7 harg7 x0 x1)
  unfold kernelRun0_C
  dsimp only
  refine congrArg (fun w => whole4 w) (congrArg₂ (k0_pay4 (F := Ideal)) ?_ ?_)
  · refine congrArg (fun L => View.readCov (Val := Elt Ideal) arg6.view L _) ?_
    unfold kernelRun0_C.sl.HS1_2 kernelRun0_C.sl.HS1_1_1
    refine Eq.trans ?_ (congrArg (fun L => L ++ list6 c i arg2 harg2 arg3 harg3 arg4 harg4 arg5 harg5 arg6 harg6 arg7 harg7 x0 x1 (kernelRun0_C.sl.v28 i) (kernelRun0_C.sl.v33 i)) (both6_of (E := (fun b => exps3 (scoresC (BitVec.ofNat 32 (i 1).val) (kernelRun0_C.sl.v28 i) (keysC i arg3 harg3 x1 h2) (loadQ arg2 (harg2.unread x0) b)))) (h := reduces_S1024x384_S1024)
      hm0 hl0 hw5 (lC0 (BitVec.ofNat 32 (i 1).val) (kernelRun0_C.sl.v28 i) (keysC i arg3 harg3 x1 h2) (loadQ arg2 (harg2.unread x0) 0) (kernelRun0_C.sl.v118 c i arg2 harg2 arg3 harg3 arg4 harg4 arg5 harg5 arg6 harg6 arg7 harg7 x0 x1) (kernelRun0_C.sl.v136 c i arg2 harg2 arg3 harg3 arg4 harg4 arg5 harg5 arg6 harg6 arg7 harg7 x0 x1))
      (m1 := kernelRun0_C.sl.v178 c i arg2 harg2 arg3 harg3 arg4 harg4 arg5 harg5 arg6 harg6 arg7 harg7 h2 x0 x1) (l1 := kernelRun0_C.sl.v196 c i arg2 harg2 arg3 harg3 arg4 harg4 arg5 harg5 arg6 harg6 arg7 harg7 h2 x0 x1)
      ?_ ?_ (lC1 (BitVec.ofNat 32 (i 1).val) (kernelRun0_C.sl.v28 i) (keysC i arg3 harg3 x1 h2) (loadQ arg2 (harg2.unread x0) 1) _ _)))
    · rfl
    · rfl
    · rfl
  · refine congrArg (fun L => View.readCov (Val := Elt Ideal) arg7.view L _) ?_
    unfold kernelRun0_C.sl.HS2_2 kernelRun0_C.sl.HS2_1_1
    refine Eq.trans ?_ (congrArg (fun L => L ++ list7 c i arg2 harg2 arg3 harg3 arg4 harg4 arg5 harg5 arg6 harg6 arg7 harg7 x0 x1 (kernelRun0_C.sl.v28 i) (kernelRun0_C.sl.v33 i)) (both7_of (E := (fun b => exps3 (scoresC (BitVec.ofNat 32 (i 1).val) (kernelRun0_C.sl.v28 i) (keysC i arg3 harg3 x1 h2) (loadQ arg2 (harg2.unread x0) b)))) (h := reduces_S1024x384_S1024)
      (vb := (vals (shapeCast ⟨2, ![384, 384]⟩ (keysC i arg3 harg3 x1 h2) shapeCasts_S1x384x384_S384x384) slices_S384x384_o0_0_S384x256))
      hm0 ha0 hw5 (aC0 (BitVec.ofNat 32 (i 1).val) (kernelRun0_C.sl.v28 i) (keysC i arg3 harg3 x1 h2) (loadQ arg2 (harg2.unread x0) 0) (kernelRun0_C.sl.v118 c i arg2 harg2 arg3 harg3 arg4 harg4 arg5 harg5 arg6 harg6 arg7 harg7 x0 x1) (kernelRun0_C.sl.v150 c i arg2 harg2 arg3 harg3 arg4 harg4 arg5 harg5 arg6 harg6 arg7 harg7 x0 x1))
      (m1 := kernelRun0_C.sl.v178 c i arg2 harg2 arg3 harg3 arg4 harg4 arg5 harg5 arg6 harg6 arg7 harg7 h2 x0 x1) (a1 := kernelRun0_C.sl.v210 c i arg2 harg2 arg3 harg3 arg4 harg4 arg5 harg5 arg6 harg6 arg7 harg7 h2 x0 x1)
      ?_ ?_ (aC1 (BitVec.ofNat 32 (i 1).val) (kernelRun0_C.sl.v28 i) (keysC i arg3 harg3 x1 h2) (loadQ arg2 (harg2.unread x0) 1) _ _)))
    · rfl
    · rfl
    · rfl

end Cert.Attn

end
-- ==== Proof.CaseD.lean ====
/-
  The case of the fourth query block of four: the last block has 512 keys.
-/
module

public import proofs.«01_k».proof.Proof.Cases

@[expose] public section

noncomputable section

namespace Cert.Attn

open Idealize.ShloMosaic Idealize.ShloMosaic.TcCoe Idealize.ShloMosaic.ValueIdx Idealize.ShloMosaic.Tactic
open Cert.KernelIdeal Cert.KernelIdeal.Gen Cert.Online

section
variable (a b : BitVec 32) (k : Vec Ideal S1x512x384 .bf16) (q : Vec Ideal S8x1x128x384 .bf16) (m l : FVec Ideal S1024x128 .f32)
  (v : FVec Ideal S1024x256 .f32)

/-- The masked scores of a slab against the last 512 keys. -/
abbrev scoresD : FVec Ideal (Mat 512) .f32 :=
  masked iota_S1024x512_d0_w32 iota_S1024x512_d1_w32 a b (score (shapeCast ⟨2, ![512, 384]⟩ k shapeCasts_S1x512x384_S512x384) q)

/-! The scores of the first and of the second slab, and what each slab stores. -/

theorem sD0 : (k0_pay102 (F := Ideal) a b k q) = (scoresD a b k q) := by
  unfold k0_pay102 scoresD masked; dsimp only; rfl
theorem sD1 : (k0_pay116 (F := Ideal) (k0_pay114 (k0_pay101 k) q) (k0_pay115 a) (Scalar.muli b 512#32) (iota .tc S1024x512 32 [1] iota_S1024x512_d1_w32)) = (scoresD a b k q) := by
  unfold k0_pay116 k0_pay115 k0_pay114 scoresD masked; dsimp only; rfl
theorem mD0 : (k0_pay113 (F := Ideal) (k0_pay104 (F := Ideal) a b k q m)) = nextM (scoresD a b k q) reduces_S1024x512_S1024 m := by
  unfold k0_pay113 k0_pay104; rw [sD0]; rfl
theorem lD0 : (k0_pay111 (F := Ideal) (k0_pay105 (F := Ideal) a b k q m) (k0_pay110 (F := Ideal) a b k q m) l) = nextL (exps4 (scoresD a b k q)) reduces_S1024x512_S1024 m l := by
  unfold k0_pay111 k0_pay110 k0_pay109 k0_pay108 k0_pay107 k0_pay106 k0_pay105 k0_pay104; rw [sD0]; rfl
theorem aD0 : (k0_pay112 (F := Ideal) (k0_pay103 k) (k0_pay105 (F := Ideal) a b k q m) (k0_pay106 (F := Ideal) a b k q m) (k0_pay107 (F := Ideal) a b k q m) (k0_pay108 (F := Ideal) a b k q m) (k0_pay109 (F := Ideal) a b k q m) v)
    = nextA (exps4 (scoresD a b k q)) reduces_S1024x512_S1024 (vals (shapeCast ⟨2, ![512, 384]⟩ k shapeCasts_S1x512x384_S512x384) slices_S512x384_o0_0_S512x256) m v := by
  unfold k0_pay112 k0_pay109 k0_pay108 k0_pay107 k0_pay106 k0_pay105 k0_pay104; rw [sD0]; rfl
theorem lD1 : (k0_pay123 (F := Ideal) (k0_pay114 (k0_pay101 k) q) (k0_pay115 a) (Scalar.muli b 512#32) (iota .tc S1024x512 32 [1] iota_S1024x512_d1_w32) m l)
    = nextL (exps4 (scoresD a b k q)) reduces_S1024x512_S1024 m l := by
  unfold k0_pay123 k0_pay122 k0_pay121 k0_pay120 k0_pay119 k0_pay118 k0_pay117; rw [sD1]; rfl
theorem aD1 : (k0_pay2 (F := Ideal) (k0_pay124 (F := Ideal) (k0_pay101 k) (k0_pay114 (k0_pay101 k) q) (k0_pay115 a) (Scalar.muli b 512#32) (iota .tc S1024x512 32 [1] iota_S1024x512_d1_w32) m v))
    = nextA (exps4 (scoresD a b k q)) reduces_S1024x512_S1024 (vals (shapeCast ⟨2, ![512, 384]⟩ k shapeCasts_S1x512x384_S512x384) slices_S512x384_o0_0_S512x256) m v := by
  unfold k0_pay2 k0_pay124 k0_pay122 k0_pay121 k0_pay120 k0_pay119 k0_pay118 k0_pay117; rw [sD1]; rfl
end

variable (c : Dev nD) (i : grid0.Coords)
  (arg2 : Memref sig .tc .vmem S16x1x128x384 .bf16) (harg2 : arg2.IsWhole) (arg3 : Memref sig .tc .vmem S1x2048x384 .bf16) (harg3 : arg3.IsWhole)
  (arg4 : Memref sig .tc .vmem S16x1x128x256 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x256 .f32) (harg7 : arg7.IsWhole)
  (x0 : Vec Ideal S16x1x128x384 .bf16) (x1 : Vec Ideal S1x2048x384 .bf16)

/-- The last block's keys, loaded. -/
abbrev keysD (h : cond0_3 i) : Vec Ideal S1x512x384 .bf16 :=
  arg3.view.readAt (Elt Ideal) (Rect.unit (s := S1x2048x384) (k0_off6 i) S1x512x384.size (k0_off6_inb i h)).toLoadRect (harg3.unread x1)

/-- What the body stores in the result's buffer. -/
theorem runD (h0 : ¬cond0_0 i) (h1 : ¬cond0_1 i) (h2 : ¬cond0_2 i) (h3 : cond0_3 i) :
    (kernelRun0_D (F := Ideal) c i arg2 harg2 arg3 harg3 arg4 harg4 arg5 harg5 arg6 harg6 arg7 harg7 h0 h1 h2 h3 x0 x1).1
      = whole4 (result c i arg2 harg2 arg3 harg3 arg4 harg4 arg5 harg5 arg6 harg6 arg7 harg7 x0 x1 (kernelRun0_D.sl.v28 i) (kernelRun0_D.sl.v33 i)
          (fun b => exps4 (scoresD (BitVec.ofNat 32 (i 1).val) (kernelRun0_D.sl.v28 i) (keysD i arg3 harg3 x1 h3) (loadQ arg2 (harg2.unread x0) b)))
          reduces_S1024x512_S1024
          (vals (shapeCast ⟨2, ![512, 384]⟩ (keysD i arg3 harg3 x1 h3) shapeCasts_S1x512x384_S512x384) slices_S512x384_o0_0_S512x256)) := by
  have hm0 : kernelRun0_D.sl.v118 c i arg2 harg2 arg3 harg3 arg4 harg4 arg5 harg5 arg6 harg6 arg7 harg7 x0 x1 = loadSlab arg5 0 (base5 c i arg2 harg2 arg3 harg3 arg4 harg4 arg5 harg5 arg6 harg6 arg7 harg7 x0 x1 (kernelRun0_D.sl.v28 i) (kernelRun0_D.sl.v33 i)) := rfl
  have hl0 : kernelRun0_D.sl.v140 c i arg2 harg2 arg3 harg3 arg4 harg4 arg5 harg5 arg6 harg6 arg7 harg7 x0 x1 = loadSlab arg6 0 (base6 c i arg2 harg2 arg3 harg3 arg4 harg4 arg5 harg5 arg6 harg6 arg7 harg7 x0 x1 (kernelRun0_D.sl.v28 i) (kernelRun0_D.sl.v33 i)) := rfl
  have ha0 : kernelRun0_D.sl.v155 c i arg2 harg2 arg3 harg3 arg4 harg4 arg5 harg5 arg6 harg6 arg7 harg7 x0 x1 = loadSlab arg7 0 (base7 c i arg2 harg2 arg3 harg3 arg4 harg4 arg5 harg5 arg6 harg6 arg7 harg7 x0 x1 (kernelRun0_D.sl.v28 i) (kernelRun0_D.sl.v33 i)) := rfl
  have hw5 := mD0 (BitVec.ofNat 32 (i 1).val) (kernelRun0_D.sl.v28 i) (keysD i arg3 harg3 x1 h3) (loadQ arg2 (harg2.unread x0) 0) (kernelRun0_D.sl.v118 c i arg2 harg2 arg3 harg3 arg4 harg4 arg5 harg5 arg6 harg6 arg7 harg7 x0 x1)
  unfold kernelRun0_D
  dsimp only
  refine congrArg (fun w => whole4 w) (congrArg₂ (k0_pay4 (F := Ideal)) ?_ ?_)
  · refine congrArg (fun L => View.readCov (Val := Elt Ideal) arg6.view L _) ?_
    unfold kernelRun0_D.sl.HS1_2 kernelRun0_D.sl.HS1_1_1
    refine Eq.trans ?_ (congrArg (fun L => L ++ list6 c i arg2 harg2 arg3 harg3 arg4 harg4 arg5 harg5 arg6 harg6 arg7 harg7 x0 x1 (kernelRun0_D.sl.v28 i) (kernelRun0_D.sl.v33 i)) (both6_of (E := (fun b => exps4 (scoresD (BitVec.ofNat 32 (i 1).val) (kernelRun0_D.sl.v28 i) (keysD i arg3 harg3 x1 h3) (loadQ arg2 (harg2.unread x0) b)))) (h := reduces_S1024x512_S1024)
      hm0 hl0 hw5 (lD0 (BitVec.ofNat 32 (i 1).val) (kernelRun0_D.sl.v28 i) (keysD i arg3 harg3 x1 h3) (loadQ arg2 (harg2.unread x0) 0) (kernelRun0_D.sl.v118 c i arg2 harg2 arg3 harg3 arg4 harg4 arg5 harg5 arg6 harg6 arg7 harg7 x0 x1) (kernelRun0_D.sl.v140 c i arg2 harg2 arg3 harg3 arg4 harg4 arg5 harg5 arg6 harg6 arg7 harg7 x0 x1))
      (m1 := kernelRun0_D.sl.v183 c i arg2 harg2 arg3 harg3 arg4 harg4 arg5 harg5 arg6 harg6 arg7 harg7 h3 x0 x1) (l1 := kernelRun0_D.sl.v205 c i arg2 harg2 arg3 harg3 arg4 harg4 arg5 harg5 arg6 harg6 arg7 harg7 h3 x0 x1)
      ?_ ?_ (lD1 (BitVec.ofNat 32 (i 1).val) (kernelRun0_D.sl.v28 i) (keysD i arg3 harg3 x1 h3) (loadQ arg2 (harg2.unread x0) 1) _ _)))
    · rfl
    · rfl
    · rfl
  · refine congrArg (fun L => View.readCov (Val := Elt Ideal) arg7.view L _) ?_
    unfold kernelRun0_D.sl.HS2_2 kernelRun0_D.sl.HS2_1_1
    refine Eq.trans ?_ (congrArg (fun L => L ++ list7 c i arg2 harg2 arg3 harg3 arg4 harg4 arg5 harg5 arg6 harg6 arg7 harg7 x0 x1 (kernelRun0_D.sl.v28 i) (kernelRun0_D.sl.v33 i)) (both7_of (E := (fun b => exps4 (scoresD (BitVec.ofNat 32 (i 1).val) (kernelRun0_D.sl.v28 i) (keysD i arg3 harg3 x1 h3) (loadQ arg2 (harg2.unread x0) b)))) (h := reduces_S1024x512_S1024)
      (vb := (vals (shapeCast ⟨2, ![512, 384]⟩ (keysD i arg3 harg3 x1 h3) shapeCasts_S1x512x384_S512x384) slices_S512x384_o0_0_S512x256))
      hm0 ha0 hw5 (aD0 (BitVec.ofNat 32 (i 1).val) (kernelRun0_D.sl.v28 i) (keysD i arg3 harg3 x1 h3) (loadQ arg2 (harg2.unread x0) 0) (kernelRun0_D.sl.v118 c i arg2 harg2 arg3 harg3 arg4 harg4 arg5 harg5 arg6 harg6 arg7 harg7 x0 x1) (kernelRun0_D.sl.v155 c i arg2 harg2 arg3 harg3 arg4 harg4 arg5 harg5 arg6 harg6 arg7 harg7 x0 x1))
      (m1 := kernelRun0_D.sl.v183 c i arg2 harg2 arg3 harg3 arg4 harg4 arg5 harg5 arg6 harg6 arg7 harg7 h3 x0 x1) (a1 := kernelRun0_D.sl.v220 c i arg2 harg2 arg3 harg3 arg4 harg4 arg5 harg5 arg6 harg6 arg7 harg7 h3 x0 x1)
      ?_ ?_ (aD1 (BitVec.ofNat 32 (i 1).val) (kernelRun0_D.sl.v28 i) (keysD i arg3 harg3 x1 h3) (loadQ arg2 (harg2.unread x0) 1) _ _)))
    · rfl
    · rfl
    · rfl

end Cert.Attn

end
-- ==== Proof.Finish.lean ====
/-
  What each case leaves in the result's staging buffer, index by index: the weighted sum of the values over the sum of
  the weights, over the keys up to the end of the query block.
-/
module

public import proofs.«01_k».proof.Proof.CaseA
public import proofs.«01_k».proof.Proof.CaseB
public import proofs.«01_k».proof.Proof.CaseC
public import proofs.«01_k».proof.Proof.CaseD
public import Idealize.ShloMosaic.Lib.VecWindow

@[expose] public section

noncomputable section

namespace Cert.Attn

open Idealize.ShloMosaic Idealize.ShloMosaic.TcCoe Idealize.ShloMosaic.ValueIdx Idealize.ShloMosaic.Tactic
open Cert.KernelIdeal Cert.KernelIdeal.Gen Cert.Online

variable (c : Dev nD) (i : grid0.Coords)
  (arg2 : Memref sig .tc .vmem S16x1x128x384 .bf16) (harg2 : arg2.IsWhole) (arg3 : Memref sig .tc .vmem S1x2048x384 .bf16) (harg3 : arg3.IsWhole)
  (arg4 : Memref sig .tc .vmem S16x1x128x256 .bf16) (harg4 : arg4.IsWhole) (arg5 : Memref sig .tc .vmem S2048x128 .f32) (harg5 : arg5.IsWhole)
  (arg6 : Memref sig .tc .vmem S2048x128 .f32) (harg6 : arg6.IsWhole) (arg7 : Memref sig .tc .vmem S2048x256 .f32) (harg7 : arg7.IsWhole)
  (x0 : Vec Ideal S16x1x128x384 .bf16) (x1 : Vec Ideal S1x2048x384 .bf16)

/-- Before the first block the scratch arrays hold the running softmax of no keys. -/
theorem inv_init : Inv (rowScore (i 1).val x0 x1) (valAt x1) 0 (arg5.view.read (Elt Ideal) (arg5.view.writes (Elt Ideal) arg5.view.junk init5))
    (arg6.view.read (Elt Ideal) (arg6.view.writes (Elt Ideal) arg6.view.junk init6))
    (arg7.view.read (Elt Ideal) (arg7.view.writes (Elt Ideal) arg7.view.junk init7)) where
  max R x := by
    unfold init5
    rw [View.read_writes_full]
    unfold k0_pay125
    dsimp only
    refine (shapeCast_apply (α := EReal) _ _ _ (ix2 R x) rfl).trans ?_
    exact ofBits_neg_inf
  sum R x := by
    unfold init6
    rw [View.read_writes_full]
    unfold k0_pay126
    dsimp only
    refine (shapeCast_apply (α := EReal) _ _ _ (ix2 R x) rfl).trans ?_
    exact Ideal.ofBits_zero_f32
  acc R x := by
    unfold init7
    rw [View.read_writes_full]
    unfold k0_pay127
    dsimp only
    refine (shapeCast_apply (α := EReal) _ _ _ (ix2 R x) rfl).trans ?_
    exact Ideal.ofBits_zero_f32

/-- Before the last block the scratch arrays hold the running softmax of the whole blocks of keys before it. -/
theorem inv_base (b b' : BitVec 32) : Inv (rowScore (i 1).val x0 x1) (valAt x1) (512 * ((i 1).val / 4))
    (arg5.view.read (Elt Ideal) (base5 c i arg2 harg2 arg3 harg3 arg4 harg4 arg5 harg5 arg6 harg6 arg7 harg7 x0 x1 b b'))
    (arg6.view.read (Elt Ideal) (base6 c i arg2 harg2 arg3 harg3 arg4 harg4 arg5 harg5 arg6 harg6 arg7 harg7 x0 x1 b b'))
    (arg7.view.read (Elt Ideal) (base7 c i arg2 harg2 arg3 harg3 arg4 harg4 arg5 harg5 arg6 harg6 arg7 harg7 x0 x1 b b')) := by
  have e : emptyPieces c i arg2 harg2 arg3 harg3 arg4 harg4 arg5 harg5 arg6 harg6 arg7 harg7 x0 x1 b b' = ([], [], []) := by
    unfold emptyPieces
    rw [trips2]
    rfl
  unfold base5 base6 base7 list5 list6 list7
  rw [e]
  simp only [List.nil_append]
  rw [View.writes_append, View.writes_append, View.writes_append]
  have H := loop1 Variants.none c none i arg2 harg2 arg3 harg3 arg4 harg4 arg5 harg5 arg6 harg6 arg7 harg7 (harg2.unread x0) (harg3.unread x1)
    (arg5.view.writes (Elt Ideal) arg5.view.junk init5) (arg6.view.writes (Elt Ideal) arg6.view.junk init6)
    (arg7.view.writes (Elt Ideal) arg7.view.junk init7) x0 x1 (harg2.read_unread x0) (harg3.read_unread x1)
    (inv_init i arg5 arg6 arg7 x0 x1) (k0_t1_loop i).trips (le_refl _)
  rw [← trips1]
  exact H

/-- The body's result at an index. -/
theorem result_apply (b b' : BitVec 32) {W : ℕ} {s : Fin 2 → FVec Ideal (Mat W) .f32} (E : ∀ b, Exps W (s b)) (hE : ∀ b, (E b).Is)
    (h : (Mat W).Reduces [1] S1024) (vb : FVec Ideal ⟨2, ![W, 256]⟩ .bf16)
    (hs : ∀ b r (j : Fin W), s b (ix2 r j) = rowScore (i 1).val x0 x1 (slabRow b r) (512 * ((i 1).val / 4) + j.val))
    (hv : ∀ (j : Fin W) (e : Fin 256), vb (ix2 j e) = valAt x1 e.val (512 * ((i 1).val / 4) + j.val))
    (n : Fin 16) (q : Fin 128) (e : Fin 256) :
    result c i arg2 harg2 arg3 harg3 arg4 harg4 arg5 harg5 arg6 harg6 arg7 harg7 x0 x1 b b' E h vb (ix4 n (0 : Fin 1) q e)
      = num (rowScore (i 1).val x0 x1 ⟨n.val * 128 + q.val, by omega⟩) (valAt x1 e.val) (512 * ((i 1).val / 4) + W)
        * Ideal.div 1 (den (rowScore (i 1).val x0 x1 ⟨n.val * 128 + q.val, by omega⟩) (512 * ((i 1).val / 4) + W)) := by
  have B := block arg5 arg6 arg7 (inv_base c i arg2 harg2 arg3 harg3 arg4 harg4 arg5 harg5 arg6 harg6 arg7 harg7 x0 x1 b b') hE h hs hv
  unfold result
  refine pay4_apply _ _ n q e _ _ (fun x => ?_) ?_
  · show arg6.view.readAt (Elt Ideal) _ (arg6.view.writes (Elt Ideal) arg6.view.junk _) _ = _
    rw [View.readAt_full, View.writes_append, both6_eq]
    exact B.sum _ x
  · show arg7.view.readAt (Elt Ideal) _ (arg7.view.writes (Elt Ideal) arg7.view.junk _) _ = _
    rw [View.readAt_full, View.writes_append, both7_eq]
    exact B.acc _ e

/-- The last block's masked scores. -/
theorem masked_raw {W : ℕ} (hW : W ≤ 512) (h0 : (Mat W).Iotas .tc 32 [0]) (h1 : (Mat W).Iotas .tc 32 [1])
    {w : BitVec 32} (hw : w = BitVec.ofNat 32 ((i 1).val / 4)) {off : Fin 3 → ℕ} (ho : off = ![0, 512 * ((i 1).val / 4), 0])
    (inb : ∀ a, off a + (![1, W, 384] : Fin 3 → ℕ) a ≤ S1x2048x384.size a) (h : (⟨3, ![1, W, 384]⟩ : Shape).ShapeCasts ⟨2, ![W, 384]⟩)
    (b : Fin 2) (r : Fin 1024) (j : Fin W) :
    masked h0 h1 (BitVec.ofNat 32 (i 1).val) w (score (loadK arg3 (harg3.unread x1) off inb h) (loadQ arg2 (harg2.unread x0) b)) (ix2 r j)
      = rowScore (i 1).val x0 x1 (slabRow b r) (512 * ((i 1).val / 4) + j.val) := by
  have hi : (i 1).val < 16 := (i 1).isLt
  rw [hw, masked_apply h0 h1 _ _ hi (by omega) hW, score_raw arg2 _ arg3 _ _ ho, harg2.read_unread, harg3.read_unread]
  unfold rowScore
  have e : (slabRow b r).val % 128 = r.val % 128 := by
    show (1024 * b.val + r.val) % 128 = _
    omega
  rw [e, Nat.mul_comm 512]

/-! ## The words of the four cases -/

theorem blkA : kernelRun0_A.sl.v28 i = BitVec.ofNat 32 ((i 1).val / 4) := by
  have h : (i 1).val < 16 := (i 1).isLt
  sl_unfold_words
  generalize (i 1).val = n at *
  interval_cases n <;> rfl
theorem offA : k0_off3 i = ![0, 512 * ((i 1).val / 4), 0] := by
  have h : (i 1).val < 16 := (i 1).isLt
  unfold k0_off3
  generalize (i 1).val = n at *
  interval_cases n <;> rfl

theorem blkB : kernelRun0_B.sl.v28 i = BitVec.ofNat 32 ((i 1).val / 4) := by
  have h : (i 1).val < 16 := (i 1).isLt
  sl_unfold_words
  generalize (i 1).val = n at *
  interval_cases n <;> rfl
theorem offB : k0_off4 i = ![0, 512 * ((i 1).val / 4), 0] := by
  have h : (i 1).val < 16 := (i 1).isLt
  unfold k0_off4
  generalize (i 1).val = n at *
  interval_cases n <;> rfl

theorem blkC : kernelRun0_C.sl.v28 i = BitVec.ofNat 32 ((i 1).val / 4) := by
  have h : (i 1).val < 16 := (i 1).isLt
  sl_unfold_words
  generalize (i 1).val = n at *
  interval_cases n <;> rfl
theorem offC : k0_off5 i = ![0, 512 * ((i 1).val / 4), 0] := by
  have h : (i 1).val < 16 := (i 1).isLt
  unfold k0_off5
  generalize (i 1).val = n at *
  interval_cases n <;> rfl

theorem blkD : kernelRun0_D.sl.v28 i = BitVec.ofNat 32 ((i 1).val / 4) := by
  have h : (i 1).val < 16 := (i 1).isLt
  sl_unfold_words
  generalize (i 1).val = n at *
  interval_cases n <;> rfl
theorem offD : k0_off6 i = ![0, 512 * ((i 1).val / 4), 0] := by
  have h : (i 1).val < 16 := (i 1).isLt
  unfold k0_off6
  generalize (i 1).val = n at *
  interval_cases n <;> rfl

/-! ## The result's buffer after each case -/

/-- The attention of query `R % 128` of block `a`, head `R / 128`, at feature `e`: over the keys up to the block's end. -/
def attn (a : ℕ) (Q : FVec Ideal S16x1x128x384 .bf16) (K : FVec Ideal S1x2048x384 .bf16) (R : Fin 2048) (e : ℕ) : EReal :=
  num (rowScore a Q K R) (valAt K e) (128 * (a + 1)) * Ideal.div 1 (den (rowScore a Q K R) (128 * (a + 1)))

/-- One store of the whole buffer, read back. -/
theorem read_whole4 {κ : Kind} {sp : Space} (v : View sig κ sp S16x1x128x256 .bf16) (w : FVec Ideal S16x1x128x256 .bf16) :
    v.read (Elt Ideal) (v.writes (Elt Ideal) v.junk (whole4 w)) = w := by
  unfold whole4
  rw [View.read_writes_full]

theorem outA_apply (ha : (i 1).val % 4 = 0) (h0 : cond0_0 i) (h1 : ¬cond0_1 i) (h2 : ¬cond0_2 i) (h3 : ¬cond0_3 i)
    (n : Fin 16) (q : Fin 128) (e : Fin 256) :
    out0_A_2 (F := Ideal) c i arg2 harg2 arg3 harg3 arg4 harg4 arg5 harg5 arg6 harg6 arg7 harg7 h0 h1 h2 h3 x0 x1 (ix4 n (0 : Fin 1) q e)
      = attn (i 1).val x0 x1 ⟨n.val * 128 + q.val, by omega⟩ e.val := by
  unfold out0_A_2
  rw [runA, read_whole4]
  refine (result_apply c i arg2 harg2 arg3 harg3 arg4 harg4 arg5 harg5 arg6 harg6 arg7 harg7 x0 x1 _ _ _ (fun b => exps1_is _) _ _
    (fun b r j => masked_raw i arg2 harg2 arg3 harg3 x0 x1 (by omega) _ _ (blkA i) (offA i) _ _ b r j)
    (fun j e => (vals_valAt arg3 (harg3.unread x1) _ (offA i) _ _ _ j e).trans (by rw [harg3.read_unread])) n q e).trans ?_
  unfold attn
  rw [show 512 * ((i 1).val / 4) + 128 = 128 * ((i 1).val + 1) by omega]

theorem outB_apply (ha : (i 1).val % 4 = 1) (h0 : ¬cond0_0 i) (h1 : cond0_1 i) (h2 : ¬cond0_2 i) (h3 : ¬cond0_3 i)
    (n : Fin 16) (q : Fin 128) (e : Fin 256) :
    out0_B_2 (F := Ideal) c i arg2 harg2 arg3 harg3 arg4 harg4 arg5 harg5 arg6 harg6 arg7 harg7 h0 h1 h2 h3 x0 x1 (ix4 n (0 : Fin 1) q e)
      = attn (i 1).val x0 x1 ⟨n.val * 128 + q.val, by omega⟩ e.val := by
  unfold out0_B_2
  rw [runB, read_whole4]
  refine (result_apply c i arg2 harg2 arg3 harg3 arg4 harg4 arg5 harg5 arg6 harg6 arg7 harg7 x0 x1 _ _ _ (fun b => exps2_is _) _ _
    (fun b r j => masked_raw i arg2 harg2 arg3 harg3 x0 x1 (by omega) _ _ (blkB i) (offB i) _ _ b r j)
    (fun j e => (vals_valAt arg3 (harg3.unread x1) _ (offB i) _ _ _ j e).trans (by rw [harg3.read_unread])) n q e).trans ?_
  unfold attn
  rw [show 512 * ((i 1).val / 4) + 256 = 128 * ((i 1).val + 1) by omega]

theorem outC_apply (ha : (i 1).val % 4 = 2) (h0 : ¬cond0_0 i) (h1 : ¬cond0_1 i) (h2 : cond0_2 i) (h3 : ¬cond0_3 i)
    (n : Fin 16) (q : Fin 128) (e : Fin 256) :
    out0_C_2 (F := Ideal) c i arg2 harg2 arg3 harg3 arg4 harg4 arg5 harg5 arg6 harg6 arg7 harg7 h0 h1 h2 h3 x0 x1 (ix4 n (0 : Fin 1) q e)
      = attn (i 1).val x0 x1 ⟨n.val * 128 + q.val, by omega⟩ e.val := by
  unfold out0_C_2
  rw [runC, read_whole4]
  refine (result_apply c i arg2 harg2 arg3 harg3 arg4 harg4 arg5 harg5 arg6 harg6 arg7 harg7 x0 x1 _ _ _ (fun b => exps3_is _) _ _
    (fun b r j => masked_raw i arg2 harg2 arg3 harg3 x0 x1 (by omega) _ _ (blkC i) (offC i) _ _ b r j)
    (fun j e => (vals_valAt arg3 (harg3.unread x1) _ (offC i) _ _ _ j e).trans (by rw [harg3.read_unread])) n q e).trans ?_
  unfold attn
  rw [show 512 * ((i 1).val / 4) + 384 = 128 * ((i 1).val + 1) by omega]

theorem outD_apply (ha : (i 1).val % 4 = 3) (h0 : ¬cond0_0 i) (h1 : ¬cond0_1 i) (h2 : ¬cond0_2 i) (h3 : cond0_3 i)
    (n : Fin 16) (q : Fin 128) (e : Fin 256) :
    out0_D_2 (F := Ideal) c i arg2 harg2 arg3 harg3 arg4 harg4 arg5 harg5 arg6 harg6 arg7 harg7 h0 h1 h2 h3 x0 x1 (ix4 n (0 : Fin 1) q e)
      = attn (i 1).val x0 x1 ⟨n.val * 128 + q.val, by omega⟩ e.val := by
  unfold out0_D_2
  rw [runD, read_whole4]
  refine (result_apply c i arg2 harg2 arg3 harg3 arg4 harg4 arg5 harg5 arg6 harg6 arg7 harg7 x0 x1 _ _ _ (fun b => exps4_is _) _ _
    (fun b r j => masked_raw i arg2 harg2 arg3 harg3 x0 x1 (by omega) _ _ (blkD i) (offD i) _ _ b r j)
    (fun j e => (vals_valAt arg3 (harg3.unread x1) _ (offD i) _ _ _ j e).trans (by rw [harg3.read_unread])) n q e).trans ?_
  unfold attn
  rw [show 512 * ((i 1).val / 4) + 512 = 128 * ((i 1).val + 1) by omega]

end Cert.Attn

end
-- ==== Proof.Array.lean ====
/-
  The kernel's result array, index by index, from what each grid point leaves in the staging buffer.
-/
module

public import proofs.«01_k».proof.Proof.Finish
public import proofs.«01_k».proof.Proof.Gen.KernelIdeal.Value
public import Idealize.ShloMosaic.Lib.Pipeline.ValueKit

@[expose] public section

noncomputable section

namespace Cert.Attn

open Idealize.ShloMosaic Idealize.ShloMosaic.TcCoe Idealize.ShloMosaic.ValueIdx Idealize.ShloMosaic.Tactic Idealize.ShloMosaic.Pipeline
open Cert.KernelIdeal Cert.KernelIdeal.Gen Cert.Online

variable (m : (ℓ : Loc nD τ sig) → Buf (Elt Ideal) ℓ) (c : Dev nD)

/-- The block of queries of grid row `b`, column `a`, of the laid-out queries. -/
def queryBlock (Q : FVec Ideal S16x16x2048x384 .bf16) (b : Fin 16) (a : Fin 16) : FVec Ideal S16x1x128x384 .bf16 :=
  fun y => Q (ValueIdx.ix4 (n0 := 16) (n1 := 16) (n2 := 2048) (n3 := 384) (y 0) b ⟨a.val * 128 + (y 2).val, by have : (y 2).val < 128 := (y 2).isLt; omega⟩ (y 3))

/-- The block of keys of grid row `b`. -/
def keyBlock (K : FVec Ideal S16x2048x384 .bf16) (b : Fin 16) : FVec Ideal S1x2048x384 .bf16 :=
  fun y => K (ValueIdx.ix3 (n0 := 16) (n1 := 2048) (n2 := 384) b (y 1) (y 2))

/-- The result array as a function of the two laid-out operands. -/
def attnArray (Q : FVec Ideal S16x16x2048x384 .bf16) (K : FVec Ideal S16x2048x384 .bf16) : FVec Ideal S16x16x2048x256 .bf16 := fun i =>
  attn ((i 2).val / 128)
    (queryBlock Q (i 1) ⟨(i 2).val / 128, by have : (i 2).val < 2048 := (i 2).isLt; omega⟩) (keyBlock K (i 1))
    ⟨(i 0).val * 128 + (i 2).val % 128, by have : (i 0).val < 16 := (i 0).isLt; omega⟩ (i 3).val

theorem index0 : ∀ t : Fin cfg0.N, win0_0.index t = ![0, (grid0.coords t 0).val, (grid0.coords t 1).val, 0] :=
  (by decide +kernel : ∀ t : Fin grid0.N, _)
theorem index1 : ∀ t : Fin cfg0.N, win0_1.index t = ![(grid0.coords t 0).val, 0, 0] :=
  (by decide +kernel : ∀ t : Fin grid0.N, _)
theorem index2 : ∀ t : Fin cfg0.N, win0_2.index t = ![0, (grid0.coords t 0).val, (grid0.coords t 1).val, 0] :=
  (by decide +kernel : ∀ t : Fin grid0.N, _)
theorem coord1 : ∀ t : Fin cfg0.N, (grid0.coords t 1).val = t.val % 16 :=
  (by decide +kernel : ∀ t : Fin grid0.N, _)

theorem read0 (f : FVec Ideal S16x16x2048x384 .bf16) (t : Fin cfg0.N) :
    (win0_0.blk t).view.read (Elt Ideal) f = queryBlock f (grid0.coords t 0) (grid0.coords t 1) := by
  funext y
  unfold queryBlock
  blk_simp
  refine congrArg f ?_
  blk_ext [index0] <;> rfl

theorem read1 (f : FVec Ideal S16x2048x384 .bf16) (t : Fin cfg0.N) :
    (win0_1.blk t).view.read (Elt Ideal) f = keyBlock f (grid0.coords t 0) := by
  funext y
  unfold keyBlock
  blk_simp
  refine congrArg f ?_
  blk_ext [index1] <;> rfl

theorem iblk0 (t : Fin cfg0.N) : iblk m c 0 t = queryBlock (V m c main_v24) (grid0.coords t 0) (grid0.coords t 1) :=
  read0 (V m c main_v24) t

theorem iblk1 (t : Fin cfg0.N) : iblk m c 1 t = keyBlock (V m c main_v25) (grid0.coords t 0) :=
  read1 (V m c main_v25) t

/-- What point `t` leaves in the result's staging buffer, whatever its case. -/
theorem flushed_apply (t : Fin cfg0.N) (n : Fin 16) (q : Fin 128) (e : Fin 256) :
    (dats m 0 c).flushed 2 t (ValueIdx.ix4 n (0 : Fin 1) q e)
      = attn (grid0.coords t 1).val (queryBlock (V m c main_v24) (grid0.coords t 0) (grid0.coords t 1))
          (keyBlock (V m c main_v25) (grid0.coords t 0)) ⟨n.val * 128 + q.val, by omega⟩ e.val := by
  have h16 := coord1 t
  rw [← iblk0 m c t, ← iblk1 m c t]
  obtain h | h | h | h : t.val % 4 = 0 ∨ t.val % 4 = 1 ∨ t.val % 4 = 2 ∨ t.val % 4 = 3 := by omega
  · rw [Value.flushed2_A m c t h (by omega) (by omega) (by omega)]
    exact outA_apply c (grid0.coords t) _ _ _ _ _ _ _ _ _ _ _ _ _ _ (by omega) _ _ _ _ n q e
  · rw [Value.flushed2_B m c t (by omega) h (by omega) (by omega)]
    exact outB_apply c (grid0.coords t) _ _ _ _ _ _ _ _ _ _ _ _ _ _ (by omega) _ _ _ _ n q e
  · rw [Value.flushed2_C m c t (by omega) (by omega) h (by omega)]
    exact outC_apply c (grid0.coords t) _ _ _ _ _ _ _ _ _ _ _ _ _ _ (by omega) _ _ _ _ n q e
  · rw [Value.flushed2_D m c t (by omega) (by omega) (by omega) h]
    exact outD_apply c (grid0.coords t) _ _ _ _ _ _ _ _ _ _ _ _ _ _ (by omega) _ _ _ _ n q e

/-- The attention array at an index of point `t`'s block. -/
theorem attnArray_block (Q : FVec Ideal S16x16x2048x384 .bf16) (K : FVec Ideal S16x2048x384 .bf16) (b a n : Fin 16) (q : Fin 128) (e : Fin 256)
    (i : S16x16x2048x256.Idx) (h0 : (i 0).val = n.val) (h1 : (i 1).val = b.val) (h2 : (i 2).val = a.val * 128 + q.val) (h3 : (i 3).val = e.val) :
    attnArray Q K i = attn a.val (queryBlock Q b a) (keyBlock K b) ⟨n.val * 128 + q.val, by omega⟩ e.val := by
  have e1 : i 1 = b := Fin.ext h1
  have e2 : (i 2).val / 128 = a.val := by omega
  have e4 : (i 2).val % 128 = q.val := by omega
  unfold attnArray
  simp only [e1, e2, e4, h0, h3]

/-- The result array after the run: the attention of the laid-out operands. -/
theorem arr_eq : (dats m 0 c).arrAt 2 cfg0.N = attnArray (V m c main_v24) (V m c main_v25) := by
  refine (dats m 0 c).arrAt_eq_of_covers 2 _ (by decide +kernel) fun t _ y => ?_
  have hy : y = ValueIdx.ix4 (n0 := 16) (n1 := 1) (n2 := 128) (n3 := 256) (y 0) 0 (y 2) (y 3) := by
    funext k
    match k with
    | ⟨0, _⟩ => rfl
    | ⟨1, _⟩ => exact Fin.ext (by have : (y 1).val < 1 := (y 1).isLt; show (y 1).val = 0; omega)
    | ⟨2, _⟩ => rfl
    | ⟨3, _⟩ => rfl
  have h := flushed_apply m c t (y 0) (y 2) (y 3)
  rw [attnArray_block (V m c main_v24) (V m c main_v25) (grid0.coords t 0) (grid0.coords t 1) (y 0) (y 2) (y 3)
    (((cfg0.win 2).blk t).view.emb y)
    (by blk_simp [index2]) (by blk_simp [index2])
    (by blk_simp [index2]) (by blk_simp [index2])]
  rw [← h, ← hy]
  rfl

end Cert.Attn

end
-- ==== Proof.Layout.lean ====
/-
  The arrays the host lays out for the call, read at an index.
-/
module

public import proofs.«01_k».proof.Proof.Array
public import Idealize.ShloMosaic.Lib.Pipeline.Value

@[expose] public section

noncomputable section

namespace Cert.Attn

open Idealize.ShloMosaic Idealize.ShloMosaic.TcCoe Idealize.ShloMosaic.Tactic Idealize.ShloMosaic.Pipeline
open Cert.KernelIdeal Cert.KernelIdeal.Gen

/-- The scale of the scores. -/
abbrev scaleBits : EReal := Ideal.ofBits .f32 0x3D93CD3A#32

/-- The latent queries, head first, scaled. -/
def latPart (a0 : FVec Ideal S16x2048x16x256 .f32) : FVec Ideal S16x16x2048x256 .f32 :=
  mulf (transpose S16x16x2048x256 [2, 0, 1, 3] a0 transposes_S16x2048x16x256_S16x16x2048x256_2_0_1_3)
    (broadcastInDim S16x16x2048x256 ![] bcast_S_S16x16x2048x256 (constant S_ .f32 0x3D93CD3A#32))

/-- The rotated queries, head first, scaled. -/
def ropePart (a1 : FVec Ideal S16x2048x16x64 .f32) : FVec Ideal S16x16x2048x64 .f32 :=
  mulf (transpose S16x16x2048x64 [2, 0, 1, 3] a1 transposes_S16x2048x16x64_S16x16x2048x64_2_0_1_3)
    (broadcastInDim S16x16x2048x64 ![] bcast_S_S16x16x2048x64 (constant S_ .f32 0x3D93CD3A#32))

/-- Which lanes of the rotated block a head keeps. -/
def keep : IVec S16x16x2048x128 1 :=
  cmpi .eq
    (cmpi .slt (iotaInDim S16x16x2048x128 32 3) (broadcastInDim S16x16x2048x128 ![] bcast_S_S16x16x2048x128 (constantI S_ 32 64#32)))
    (cmpi .eq (andi (iotaInDim S16x16x2048x128 32 0) (broadcastInDim S16x16x2048x128 ![] bcast_S_S16x16x2048x128 (constantI S_ 32 1#32)))
      (broadcastInDim S16x16x2048x128 ![] bcast_S_S16x16x2048x128 (constantI S_ 32 0#32)))

/-- The rotated block: twice the rotated queries, the lanes a head does not keep zeroed. -/
def ropeBlock (a1 : FVec Ideal S16x2048x16x64 .f32) : FVec Ideal S16x16x2048x128 .f32 :=
  select keep
    (concatenate S16x16x2048x128 3 [⟨S16x16x2048x64, ropePart a1⟩, ⟨S16x16x2048x64, ropePart a1⟩]
      concatenates_S16x16x2048x64_S16x16x2048x64_S16x16x2048x128_d3)
    (broadcastInDim S16x16x2048x128 ![] bcast_S_S16x16x2048x128 (constant S_ .f32 0x00000000#32))

/-- The laid-out queries. -/
def queries (a0 : FVec Ideal S16x2048x16x256 .f32) (a1 : FVec Ideal S16x2048x16x64 .f32) : FVec Ideal S16x16x2048x384 .bf16 :=
  concatenate S16x16x2048x384 3 [⟨S16x16x2048x256, truncf .bf16 (latPart a0) bitsLt_bf16_f32⟩, ⟨S16x16x2048x128, truncf .bf16 (ropeBlock a1) bitsLt_bf16_f32⟩]
    concatenates_S16x16x2048x256_S16x16x2048x128_S16x16x2048x384_d3

/-- The laid-out keys. -/
def keysCat (a2 : FVec Ideal S16x2048x256 .f32) (a3 : FVec Ideal S16x2048x64 .f32) : FVec Ideal S16x2048x384 .bf16 :=
  truncf .bf16 (concatenate S16x2048x384 2 [⟨S16x2048x256, a2⟩, ⟨S16x2048x64, a3⟩, ⟨S16x2048x64, a3⟩]
    concatenates_S16x2048x256_S16x2048x64_S16x2048x64_S16x2048x384_d2) bitsLt_bf16_f32

variable (m : (ℓ : Loc nD τ sig) → Buf (Elt Ideal) ℓ) (c : Dev nD)

theorem V_queries : V m c main_v24 = queries (m ((c : Thread nD τ).loc main_arg0)) (m ((c : Thread nD τ).loc main_arg1)) := by
  have h : V m c main_v24 = shapeCast S16x16x2048x384 (shapeCast S16x32768x384
      (queries (m ((c : Thread nD τ).loc main_arg0)) (m ((c : Thread nD τ).loc main_arg1)))
      shapeCasts_S16x16x2048x384_S16x32768x384) shapeCasts_S16x32768x384_S16x16x2048x384 := by
    unfold V
    simp only [hostOps0, hostOps0_1, hostOps0_2, List.flatten_cons, List.flatten_nil, List.cons_append, List.nil_append, List.append_nil, StableHlo.TRef.ternary, StableHlo.TRef.unary, StableHlo.TRef.toBuf, StableHlo.TRef.ofBuf, cast_eq]
    after_results_simp
    rfl
  rw [h, shapeCast_shapeCast]

theorem V_keys : V m c main_v25 = keysCat (m ((c : Thread nD τ).loc main_arg2)) (m ((c : Thread nD τ).loc main_arg3)) := by
  have h : V m c main_v25 = shapeCast S16x2048x384 (shapeCast S32768x384
      (keysCat (m ((c : Thread nD τ).loc main_arg2)) (m ((c : Thread nD τ).loc main_arg3)))
      shapeCasts_S16x2048x384_S32768x384) shapeCasts_S32768x384_S16x2048x384 := by
    unfold V
    simp only [hostOps0, hostOps0_1, hostOps0_2, List.flatten_cons, List.flatten_nil, List.cons_append, List.nil_append, List.append_nil, StableHlo.TRef.ternary, StableHlo.TRef.unary, StableHlo.TRef.toBuf, StableHlo.TRef.ofBuf, cast_eq]
    after_results_simp
    rfl
  rw [h, shapeCast_shapeCast]

/-! ## The laid-out arrays at an index -/

variable (a0 : FVec Ideal S16x2048x16x256 .f32) (a1 : FVec Ideal S16x2048x16x64 .f32) (a2 : FVec Ideal S16x2048x256 .f32)
  (a3 : FVec Ideal S16x2048x64 .f32) (n b : Fin 16) (p k : Fin 2048)

theorem latPart_apply (e : Fin 256) : latPart a0 (ValueIdx.ix4 n b p e) = a0 (ValueIdx.ix4 b p n e) * scaleBits := by
  unfold latPart
  show transpose S16x16x2048x256 [2, 0, 1, 3] a0 _ (ValueIdx.ix4 n b p e) * scaleBits = _
  rw [transpose_apply [2, 0, 1, 3] a0 _ (ValueIdx.ix4 n b p e) (ValueIdx.ix4 b p n e) (fun a => match a with
    | ⟨0, _⟩ => rfl
    | ⟨1, _⟩ => rfl
    | ⟨2, _⟩ => rfl
    | ⟨3, _⟩ => rfl)]

theorem ropePart_apply (r : Fin 64) : ropePart a1 (ValueIdx.ix4 n b p r) = a1 (ValueIdx.ix4 b p n r) * scaleBits := by
  unfold ropePart
  show transpose S16x16x2048x64 [2, 0, 1, 3] a1 _ (ValueIdx.ix4 n b p r) * scaleBits = _
  rw [transpose_apply [2, 0, 1, 3] a1 _ (ValueIdx.ix4 n b p r) (ValueIdx.ix4 b p n r) (fun a => match a with
    | ⟨0, _⟩ => rfl
    | ⟨1, _⟩ => rfl
    | ⟨2, _⟩ => rfl
    | ⟨3, _⟩ => rfl)]

theorem keep_word : ∀ (n : Fin 16) (r : Fin 128),
    IntOp.cmpi .eq (IntOp.cmpi .slt (BitVec.ofNat 32 r.val) 64#32) (IntOp.cmpi .eq (BitVec.ofNat 32 n.val &&& 1#32) 0#32)
      = if (r.val < 64 ↔ n.val % 2 = 0) then 1#1 else 0#1 := by decide +kernel

/-- A head of even number keeps the first half of the rotated block, one of odd number the second. -/
theorem keep_apply (r : Fin 128) : keep (ValueIdx.ix4 n b p r) = if (r.val < 64 ↔ n.val % 2 = 0) then 1#1 else 0#1 :=
  keep_word n r

theorem ropeBlock_apply (r : Fin 128) : ropeBlock a1 (ValueIdx.ix4 n b p r)
    = if (r.val < 64 ↔ n.val % 2 = 0) then a1 (ValueIdx.ix4 b p n ⟨r.val % 64, Nat.mod_lt _ (by decide)⟩) * scaleBits else 0 := by
  have hc : concatenate S16x16x2048x128 3 [⟨S16x16x2048x64, ropePart a1⟩, ⟨S16x16x2048x64, ropePart a1⟩]
      concatenates_S16x16x2048x64_S16x16x2048x64_S16x16x2048x128_d3 (ValueIdx.ix4 n b p r)
      = a1 (ValueIdx.ix4 b p n ⟨r.val % 64, Nat.mod_lt _ (by decide)⟩) * scaleBits := by
    by_cases h : r.val < 64
    · rw [concatenate_pair_apply_left 3 (ropePart a1) (ropePart a1) _ (ValueIdx.ix4 n b p r) rfl
        (ValueIdx.ix4 n b p (⟨r.val % 64, Nat.mod_lt _ (by decide)⟩ : Fin 64)) (fun a => match a with
          | ⟨0, _⟩ => rfl
          | ⟨1, _⟩ => rfl
          | ⟨2, _⟩ => rfl
          | ⟨3, _⟩ => Nat.mod_eq_of_lt h), ropePart_apply]
    · rw [concatenate_pair_apply_right 3 (ropePart a1) (ropePart a1) _ (ValueIdx.ix4 n b p r) rfl rfl
        (ValueIdx.ix4 n b p (⟨r.val % 64, Nat.mod_lt _ (by decide)⟩ : Fin 64)) (fun a ha => match a with
          | ⟨0, _⟩ => rfl
          | ⟨1, _⟩ => rfl
          | ⟨2, _⟩ => rfl
          | ⟨3, _⟩ => absurd rfl ha) (by have := r.isLt; show r.val % 64 + 64 = r.val; omega), ropePart_apply]
  unfold ropeBlock
  show Scalar.select (keep (ValueIdx.ix4 n b p r)) _ (Ideal.ofBits .f32 0#32) = _
  rw [keep_apply, hc, Ideal.ofBits_zero_f32]
  by_cases h : (r.val < 64 ↔ n.val % 2 = 0)
  · rw [if_pos h, if_pos h]; rfl
  · rw [if_neg h, if_neg h]; rfl

theorem queries_lat (e : Fin 256) : queries a0 a1 (ValueIdx.ix4 n b p (⟨e.val, by omega⟩ : Fin 384)) = a0 (ValueIdx.ix4 b p n e) * scaleBits := by
  rw [← latPart_apply]
  unfold queries
  exact concatenate_pair_apply_left (t := S16x16x2048x384) 3 (truncf .bf16 (latPart a0) bitsLt_bf16_f32) (truncf .bf16 (ropeBlock a1) bitsLt_bf16_f32) _
    (ValueIdx.ix4 n b p (⟨e.val, by omega⟩ : Fin 384)) rfl (ValueIdx.ix4 n b p e) (fun a => match a with
    | ⟨0, _⟩ => rfl
    | ⟨1, _⟩ => rfl
    | ⟨2, _⟩ => rfl
    | ⟨3, _⟩ => rfl)

theorem queries_rope (r : Fin 128) : queries a0 a1 (ValueIdx.ix4 n b p (⟨256 + r.val, by omega⟩ : Fin 384)) = ropeBlock a1 (ValueIdx.ix4 n b p r) := by
  unfold queries
  exact concatenate_pair_apply_right (t := S16x16x2048x384) 3 (truncf .bf16 (latPart a0) bitsLt_bf16_f32) (truncf .bf16 (ropeBlock a1) bitsLt_bf16_f32) _
    (ValueIdx.ix4 n b p (⟨256 + r.val, by omega⟩ : Fin 384)) rfl rfl (ValueIdx.ix4 n b p r) (fun a ha => match a with
    | ⟨0, _⟩ => rfl
    | ⟨1, _⟩ => rfl
    | ⟨2, _⟩ => rfl
    | ⟨3, _⟩ => absurd rfl ha) (by show r.val + 256 = 256 + r.val; omega)

theorem keys_lat (e : Fin 256) : keysCat a2 a3 (ValueIdx.ix3 b k (⟨e.val, by omega⟩ : Fin 384)) = a2 (ValueIdx.ix3 b k e) := by
  unfold keysCat
  exact concatenate_apply_piece (t := S16x2048x384) 2 [⟨S16x2048x256, a2⟩, ⟨S16x2048x64, a3⟩, ⟨S16x2048x64, a3⟩]
      concatenates_S16x2048x256_S16x2048x64_S16x2048x64_S16x2048x384_d2 (ValueIdx.ix3 b k (⟨e.val, by omega⟩ : Fin 384)) 0 (show 0 < 3 by decide) S16x2048x256 a2 rfl rfl 0 rfl (ValueIdx.ix3 b k e) (fun a ha => match a with
    | ⟨0, _⟩ => rfl
    | ⟨1, _⟩ => rfl
    | ⟨2, _⟩ => absurd rfl ha) (by show 0 + e.val = e.val; omega)

theorem keys_rope (r : Fin 128) : keysCat a2 a3 (ValueIdx.ix3 b k (⟨256 + r.val, by omega⟩ : Fin 384))
    = a3 (ValueIdx.ix3 b k ⟨r.val % 64, Nat.mod_lt _ (by decide)⟩) := by
  unfold keysCat
  by_cases h : r.val < 64
  · exact concatenate_apply_piece (t := S16x2048x384) 2 [⟨S16x2048x256, a2⟩, ⟨S16x2048x64, a3⟩, ⟨S16x2048x64, a3⟩]
      concatenates_S16x2048x256_S16x2048x64_S16x2048x64_S16x2048x384_d2 (ValueIdx.ix3 b k (⟨256 + r.val, by omega⟩ : Fin 384)) 1 (show 1 < 3 by decide) S16x2048x64 a3 rfl rfl 256 rfl (ValueIdx.ix3 b k ⟨r.val % 64, Nat.mod_lt _ (by decide)⟩) (fun a ha => match a with
      | ⟨0, _⟩ => rfl
      | ⟨1, _⟩ => rfl
      | ⟨2, _⟩ => absurd rfl ha) (by show 256 + r.val % 64 = 256 + r.val; omega)
  · exact concatenate_apply_piece (t := S16x2048x384) 2 [⟨S16x2048x256, a2⟩, ⟨S16x2048x64, a3⟩, ⟨S16x2048x64, a3⟩]
      concatenates_S16x2048x256_S16x2048x64_S16x2048x64_S16x2048x384_d2 (ValueIdx.ix3 b k (⟨256 + r.val, by omega⟩ : Fin 384)) 2 (show 2 < 3 by decide) S16x2048x64 a3 rfl rfl 320 rfl (ValueIdx.ix3 b k ⟨r.val % 64, Nat.mod_lt _ (by decide)⟩) (fun a ha => match a with
      | ⟨0, _⟩ => rfl
      | ⟨1, _⟩ => rfl
      | ⟨2, _⟩ => absurd rfl ha) (by have := r.isLt; show 320 + r.val % 64 = 256 + r.val; omega)

/-- The score the kernel computes: the two products of the attention's score, each query scaled. -/
theorem score_eq : (∑ e : Fin 384, queries a0 a1 (ValueIdx.ix4 n b p e) * keysCat a2 a3 (ValueIdx.ix3 b k e))
    = (∑ e : Fin 256, a0 (ValueIdx.ix4 b p n e) * scaleBits * a2 (ValueIdx.ix3 b k e))
      + ∑ r : Fin 64, a1 (ValueIdx.ix4 b p n r) * scaleBits * a3 (ValueIdx.ix3 b k r) := by
  refine (Fin.sum_univ_add (a := 256) (b := 128) fun e => queries a0 a1 (ValueIdx.ix4 n b p e) * keysCat a2 a3 (ValueIdx.ix3 b k e)).trans ?_
  refine congrArg₂ (· + ·) (Finset.sum_congr rfl fun e _ => congrArg₂ (· * ·) (queries_lat a0 a1 n b p e) (keys_lat a2 a3 b k e)) ?_
  refine (Finset.sum_congr rfl fun r _ => congrArg₂ (· * ·)
    ((queries_rope a0 a1 n b p r).trans (ropeBlock_apply a1 n b p r)) (keys_rope a2 a3 b k r)).trans ?_
  refine (Fin.sum_univ_add (a := 64) (b := 64) _).trans ?_
  have e1 (r : Fin 64) : (⟨(Fin.castAdd 64 r).val % 64, Nat.mod_lt _ (by decide)⟩ : Fin 64) = r :=
    Fin.ext (by show r.val % 64 = r.val; omega)
  have e2 (r : Fin 64) : (⟨(Fin.natAdd 64 r).val % 64, Nat.mod_lt _ (by decide)⟩ : Fin 64) = r :=
    Fin.ext (by show (64 + r.val) % 64 = r.val; omega)
  have l1 (r : Fin 64) : (Fin.castAdd 64 r).val < 64 := r.isLt
  have l2 (r : Fin 64) : ¬(Fin.natAdd 64 r).val < 64 := by show ¬64 + r.val < 64; omega
  by_cases h : n.val % 2 = 0
  · simp only [e1, e2, l1, l2, h, iff_true, if_true, if_false, zero_mul, Finset.sum_const_zero, add_zero]
  · simp only [e1, e2, l1, l2, h, iff_false, not_true_eq_false, not_false_eq_true, if_true, if_false, zero_mul, Finset.sum_const_zero, zero_add]

end Cert.Attn

end
-- ==== Proof.Ref.lean ====
/-
  The reference's result, read at an index: the softmax of the masked scores, times the values.
-/
module

public import proofs.«01_k».proof.Proof.Update
public import proofs.«01_k».proof.Proof.Gen.ReferenceIdeal.Read

@[expose] public section

noncomputable section

namespace Cert.RefAttn

open Idealize.ShloMosaic Idealize.ShloMosaic.TcCoe
open Cert.ReferenceIdeal Cert.ReferenceIdeal.Gen Cert.ReferenceIdeal.Read Cert.Online
open Cert.Attn (fold_max_bot ofBits_neg_inf)

variable (x0 : FVec Ideal S16x2048x16x256 .f32) (x1 : FVec Ideal S16x2048x16x64 .f32) (x2 : FVec Ideal S16x2048x256 .f32)
  (x3 : FVec Ideal S16x2048x64 .f32) (n b : Fin 16) (p : Fin 2048)

/-- The scaled score of query `p` of head `n` against key `k`, in batch row `b`. -/
def refRaw (k : Fin 2048) : EReal :=
  ((∑ e : Fin 256, x2 (ValueIdx.ix3 b k e) * x0 (ValueIdx.ix4 b p n e)) + ∑ r : Fin 64, x3 (ValueIdx.ix3 b k r) * x1 (ValueIdx.ix4 b p n r))
    * Ideal.ofBits .f32 0x3D93CD3A#32

/-- … with the keys after the query masked out. -/
def refScore (k : ℕ) : EReal := if k ≤ p.val then (if h : k < 2048 then refRaw x0 x1 x2 x3 n b p ⟨k, h⟩ else 0) else ⊥

/-- Feature `e` of key `k`'s value. -/
def refVal (e : Fin 256) (k : ℕ) : EReal := if h : k < 2048 then x2 (ValueIdx.ix3 b ⟨k, h⟩ e) else 0

theorem raw_apply (k : Fin 2048) : val_main_v7 (F := Ideal) x0 x1 x2 x3 (ValueIdx.ix4 b n p k) = refRaw x0 x1 x2 x3 n b p k := by
  rw [val_main_v7_apply, val_main_v5_apply, val_main_v2_apply, val_main_v1_apply, val_main_v4_apply, val_main_v3_apply, val_main_v6_apply,
    val_main_cst_apply]
  refine congrArg₂ (fun s t : EReal => (s + t) * Ideal.ofBits .f32 0x3D93CD3A#32)
    (Finset.sum_congr rfl fun e _ => congrArg₂ (· * ·) (congrArg x2 (funext fun a => ?_)) (congrArg x0 (funext fun a => ?_)))
    (Finset.sum_congr rfl fun e _ => congrArg₂ (· * ·) (congrArg x3 (funext fun a => ?_)) (congrArg x1 (funext fun a => ?_)))
  · match a with | ⟨0, _⟩ => rfl | ⟨1, _⟩ => rfl | ⟨2, _⟩ => rfl
  · match a with | ⟨0, _⟩ => rfl | ⟨1, _⟩ => rfl | ⟨2, _⟩ => rfl | ⟨3, _⟩ => rfl
  · match a with | ⟨0, _⟩ => rfl | ⟨1, _⟩ => rfl | ⟨2, _⟩ => rfl
  · match a with | ⟨0, _⟩ => rfl | ⟨1, _⟩ => rfl | ⟨2, _⟩ => rfl | ⟨3, _⟩ => rfl

/-- The causal mask. -/
theorem causal_apply (k : Fin 2048) : val_main_call0_v1 (F := Ideal) (ValueIdx.ix4 b n p k) = if k.val ≤ p.val then 1#1 else 0#1 := by
  rw [val_main_call0_v1_apply, val_main_v12_apply, val_main_v10_apply, val_main_v8_apply, val_main_v0_apply, val_main_v11_apply,
    val_main_v9_apply, val_main_v0_apply]
  show BitVec.ofBool ((BitVec.ofNat 32 k.val).sle (BitVec.ofNat 32 p.val)) = _
  have hk : (BitVec.ofNat 32 k.val).toInt = (k.val : ℤ) := by
    rw [BitVec.toInt_eq_toNat_of_lt] <;> simp <;> omega
  have hp : (BitVec.ofNat 32 p.val).toInt = (p.val : ℤ) := by
    rw [BitVec.toInt_eq_toNat_of_lt] <;> simp <;> omega
  rw [BitVec.sle, hk, hp]
  by_cases h : k.val ≤ p.val
  · rw [if_pos h, decide_eq_true (by exact_mod_cast h)]; rfl
  · rw [if_neg h, decide_eq_false (by exact_mod_cast h)]; rfl

theorem score_apply (k : Fin 2048) : val_main_v13 (F := Ideal) x0 x1 x2 x3 (ValueIdx.ix4 b n p k) = refScore x0 x1 x2 x3 n b p k.val := by
  rw [val_main_v13_apply, causal_apply, raw_apply, val_main_call0_v2_apply, val_main_call0_v0_apply, val_main_cst_0_apply]
  unfold refScore
  by_cases h : k.val ≤ p.val
  · rw [if_pos h, if_pos h, dif_pos k.isLt]; rfl
  · rw [if_neg h, if_neg h]; exact ofBits_neg_inf

theorem max_apply : val_main_v16 (F := Ideal) x0 x1 x2 x3 (ValueIdx.ix3 b n p) = top (refScore x0 x1 x2 x3 n b p) 2048 := by
  have e : FloatOps.ofBits (F := Ideal) .f32 0xFF800000#32 = (⊥ : EReal) := ofBits_neg_inf
  rw [val_main_v16_apply, val_main_v15_apply, val_main_cst_2_apply, e]
  have h : val_main_v14 (F := Ideal) x0 x1 x2 x3 (ValueIdx.ix3 b n p) = top (refScore x0 x1 x2 x3 n b p) 2048 := by
    unfold val_main_v14
    refine (Host.reduce_eq_fold_single (FloatOps.maximumf (F := Ideal) (φ := .f32)) (val_main_v13 (F := Ideal) x0 x1 x2 x3) (val_main_cst_1 (F := Ideal))
      reducesTo_S16x16x2048x2048_S16x16x2048_d3 (by decide) h_S_ (ValueIdx.ix3 b n p)).trans ?_
    rw [val_main_cst_1_apply, e]
    refine fold_max_bot (n := 2048) _ _ fun j => ?_
    refine Eq.trans ?_ (score_apply x0 x1 x2 x3 n b p j)
    exact congrArg (val_main_v13 (F := Ideal) x0 x1 x2 x3)
      (by funext a; match a with | ⟨0, _⟩ => rfl | ⟨1, _⟩ => rfl | ⟨2, _⟩ => rfl | ⟨3, _⟩ => rfl)
  rw [h]
  exact max_eq_right bot_le

theorem exp_apply (k : Fin 2048) : val_main_v20 (F := Ideal) x0 x1 x2 x3 (ValueIdx.ix4 b n p k)
    = Ideal.exp (refScore x0 x1 x2 x3 n b p k.val - top (refScore x0 x1 x2 x3 n b p) 2048) := by
  rw [val_main_v20_apply, val_main_v19_apply, score_apply, val_main_v18_apply, val_main_v17_apply, ← max_apply]
  refine congrArg (fun i => Ideal.exp (refScore x0 x1 x2 x3 n b p k.val - val_main_v16 (F := Ideal) x0 x1 x2 x3 i)) ?_
  funext a; match a with | ⟨0, _⟩ => rfl | ⟨1, _⟩ => rfl | ⟨2, _⟩ => rfl

theorem sum_apply : val_main_v21 (F := Ideal) x0 x1 x2 x3 (ValueIdx.ix3 b n p) = den (refScore x0 x1 x2 x3 n b p) 2048 := by
  have e : FloatOps.ofBits (F := Ideal) .f32 0x00000000#32 = (0 : EReal) := Ideal.ofBits_zero_f32
  rw [val_main_v21_apply, val_main_cst_3_apply, e, zero_add, den, Finset.sum_range]
  refine Finset.sum_congr rfl fun k _ => ?_
  rw [← exp_apply]
  refine congrArg (val_main_v20 (F := Ideal) x0 x1 x2 x3) ?_
  funext a; match a with | ⟨0, _⟩ => rfl | ⟨1, _⟩ => rfl | ⟨2, _⟩ => rfl | ⟨3, _⟩ => rfl

theorem weight_apply (k : Fin 2048) : val_main_v24 (F := Ideal) x0 x1 x2 x3 (ValueIdx.ix4 b n p k)
    = Ideal.div (Ideal.exp (refScore x0 x1 x2 x3 n b p k.val - top (refScore x0 x1 x2 x3 n b p) 2048)) (den (refScore x0 x1 x2 x3 n b p) 2048) := by
  rw [val_main_v24_apply, exp_apply, val_main_v23_apply, val_main_v22_apply, ← sum_apply]
  refine congrArg (fun i => Ideal.div _ (val_main_v21 (F := Ideal) x0 x1 x2 x3 i)) ?_
  funext a; match a with | ⟨0, _⟩ => rfl | ⟨1, _⟩ => rfl | ⟨2, _⟩ => rfl

/-- The reference's result at head `n`, batch row `b`, query `p`, feature `e`. -/
theorem reference_apply (e : Fin 256) : val_main_v28 (F := Ideal) x0 x1 x2 x3 (ValueIdx.ix4 n b p e)
    = ∑ k ∈ Finset.range 2048, Ideal.div (Ideal.exp (refScore x0 x1 x2 x3 n b p k - top (refScore x0 x1 x2 x3 n b p) 2048))
        (den (refScore x0 x1 x2 x3 n b p) 2048) * refVal x2 b e k := by
  rw [val_main_v28_apply, val_main_v27_apply, val_main_v26_apply, Finset.sum_range]
  refine (val_main_v25_apply x0 x1 x2 x3 _).trans (Finset.sum_congr rfl fun k _ => ?_)
  rw [← weight_apply, refVal, dif_pos k.isLt, mul_comm]
  refine congrArg₂ (· * ·) (congrArg (val_main_v24 (F := Ideal) x0 x1 x2 x3) (funext fun a => ?_)) (congrArg x2 (funext fun a => ?_))
  · match a with | ⟨0, _⟩ => rfl | ⟨1, _⟩ => rfl | ⟨2, _⟩ => rfl | ⟨3, _⟩ => rfl
  · match a with | ⟨0, _⟩ => rfl | ⟨1, _⟩ => rfl | ⟨2, _⟩ => rfl

end Cert.RefAttn

end
-- ==== Proof.Equal.lean ====
/-
  The kernel's result array is the reference's, where every entry of the arguments is finite.
-/
module

public import proofs.«01_k».proof.Proof.Layout
public import proofs.«01_k».proof.Proof.Ref

@[expose] public section

noncomputable section

namespace Cert.Attn

open Idealize.ShloMosaic Idealize.ShloMosaic.TcCoe
open Cert.KernelIdeal Cert.Online Cert.RefAttn

/-- Every entry is a real number. -/
def IsReal {s : Shape} (x : FVec Ideal s .f32) : Prop := ∀ i, ∃ r : ℝ, x i = (r : EReal)

theorem IsReal.eq {s : Shape} {x : FVec Ideal s .f32} (h : IsReal x) : ∃ r : s.Idx → ℝ, x = fun i => ((r i : ℝ) : EReal) :=
  ⟨fun i => (h i).choose, funext fun i => (h i).choose_spec⟩

theorem scale_real : ∃ r : ℝ, scaleBits = (r : EReal) := by
  unfold scaleBits
  simp only [Ideal.ofBits, Ideal.ieee]
  exact ⟨_, rfl⟩

variable (a0 : FVec Ideal S16x2048x16x256 .f32) (a1 : FVec Ideal S16x2048x16x64 .f32) (a2 : FVec Ideal S16x2048x256 .f32)
  (a3 : FVec Ideal S16x2048x64 .f32) (n b : Fin 16) (p k : Fin 2048)

/-- At finite arguments a score is a real number, and scaling the queries scales the score. -/
theorem raw_real (h0 : IsReal a0) (h1 : IsReal a1) (h2 : IsReal a2) (h3 : IsReal a3) :
    ∃ r : ℝ, refRaw a0 a1 a2 a3 n b p k = (r : EReal)
      ∧ (∑ e : Fin 384, queries a0 a1 (ValueIdx.ix4 n b p e) * keysCat a2 a3 (ValueIdx.ix3 b k e)) = (r : EReal) := by
  rw [score_eq]
  obtain ⟨s, hs⟩ := scale_real
  obtain ⟨r0, rfl⟩ := h0.eq
  obtain ⟨r1, rfl⟩ := h1.eq
  obtain ⟨r2, rfl⟩ := h2.eq
  obtain ⟨r3, rfl⟩ := h3.eq
  refine ⟨((∑ e : Fin 256, r2 (ValueIdx.ix3 b k e) * r0 (ValueIdx.ix4 b p n e)) + ∑ r : Fin 64, r3 (ValueIdx.ix3 b k r) * r1 (ValueIdx.ix4 b p n r)) * s, ?_, ?_⟩
  · unfold refRaw
    rw [show Ideal.ofBits .f32 0x3D93CD3A#32 = (s : EReal) from hs]
    simp only [EReal.coe_mul, EReal.coe_add, coe_sum]
  · rw [hs, add_mul, Finset.sum_mul, Finset.sum_mul]
    simp only [EReal.coe_add, coe_sum]
    refine congrArg₂ (· + ·) (Finset.sum_congr rfl fun e _ => ?_) (Finset.sum_congr rfl fun e _ => ?_) <;>
    · simp only [← EReal.coe_mul]
      congr 1
      ring

/-- A row's scores are the reference's. -/
theorem rowScore_eq (h0 : IsReal a0) (h1 : IsReal a1) (h2 : IsReal a2) (h3 : IsReal a3) (hR : n.val * 128 + p.val % 128 < 2048) :
    rowScore (p.val / 128) (queryBlock (queries a0 a1) b ⟨p.val / 128, by omega⟩) (keyBlock (keysCat a2 a3) b) ⟨n.val * 128 + p.val % 128, hR⟩
      = refScore a0 a1 a2 a3 n b p := by
  funext k
  have e1 : (n.val * 128 + p.val % 128) / 128 = n.val := by omega
  have e2 : (n.val * 128 + p.val % 128) % 128 = p.val % 128 := by omega
  have e3 : p.val / 128 * 128 + p.val % 128 = p.val := by omega
  unfold rowScore refScore
  simp only [e2, e3]
  by_cases h : k ≤ p.val
  · have hk : k < 2048 := by omega
    obtain ⟨r, hr, hr'⟩ := raw_real a0 a1 a2 a3 n b p ⟨k, hk⟩ h0 h1 h2 h3
    rw [if_pos h, if_pos h, dif_pos hk, hr, ← hr']
    unfold raw keyAt
    refine Finset.sum_congr rfl fun e _ => ?_
    rw [dif_pos hk]
    refine congrArg₂ (· * ·) (congrArg (queries a0 a1) (funext fun a => ?_)) (congrArg (keysCat a2 a3) (funext fun a => ?_))
    · match a with
      | ⟨0, _⟩ => exact Fin.ext e1
      | ⟨1, _⟩ => rfl
      | ⟨2, _⟩ => exact Fin.ext (by show p.val / 128 * 128 + (n.val * 128 + p.val % 128) % 128 = p.val; omega)
      | ⟨3, _⟩ => rfl
    · match a with
      | ⟨0, _⟩ => rfl
      | ⟨1, _⟩ => rfl
      | ⟨2, _⟩ => rfl
  · rw [if_neg h, if_neg h]

theorem valAt_eq (e : Fin 256) : valAt (keyBlock (keysCat a2 a3) b) e.val = refVal a2 b e := by
  funext k
  unfold valAt refVal keyAt
  rw [dif_pos (show e.val < 384 by omega)]
  by_cases h : k < 2048
  · rw [dif_pos h, dif_pos h, ← keys_lat a2 a3]
    refine congrArg (keysCat a2 a3) (funext fun a => ?_)
    match a with
    | ⟨0, _⟩ => rfl
    | ⟨1, _⟩ => rfl
    | ⟨2, _⟩ => rfl
  · rw [dif_neg h, dif_neg h]

/-- The two results agree at every index. -/
theorem attn_eq_apply (h0 : IsReal a0) (h1 : IsReal a1) (h2 : IsReal a2) (h3 : IsReal a3) (e : Fin 256) :
    attnArray (queries a0 a1) (keysCat a2 a3) (ValueIdx.ix4 n b p e)
      = ReferenceIdeal.Read.val_main_v28 (F := Ideal) a0 a1 a2 a3 (ValueIdx.ix4 n b p e) := by
  rw [reference_apply]
  have hR : n.val * 128 + p.val % 128 < 2048 := by omega
  have hb : ∀ k, 128 * (p.val / 128 + 1) ≤ k → k < 2048 → refScore a0 a1 a2 a3 n b p k = ⊥ := fun k hk _ => by
    unfold refScore; rw [if_neg (by omega)]
  have hN : 128 * (p.val / 128 + 1) ≤ 2048 := by omega
  have hreal (k : Fin 2048) := raw_real a0 a1 a2 a3 n b p k h0 h1 h2 h3
  show attn (p.val / 128) (queryBlock (queries a0 a1) b ⟨p.val / 128, _⟩) (keyBlock (keysCat a2 a3) b) ⟨n.val * 128 + p.val % 128, hR⟩ e.val = _
  unfold attn
  rw [rowScore_eq a0 a1 a2 a3 n b p h0 h1 h2 h3 hR, valAt_eq, ← num_of_bot hN hb, ← den_of_bot hN hb]
  refine num_div _ (fun k hk => ?_) (show 0 < 2048 by decide) ?_
  · unfold refScore
    by_cases h : k ≤ p.val
    · obtain ⟨r, hr, _⟩ := hreal ⟨k, hk⟩
      rw [if_pos h, dif_pos hk, hr]; exact EReal.coe_ne_top r
    · rw [if_neg h]; exact bot_ne_top
  · obtain ⟨r, hr, _⟩ := hreal ⟨0, by decide⟩
    unfold refScore
    rw [if_pos (Nat.zero_le _), dif_pos (by decide), hr]; exact EReal.coe_ne_bot r

/-- The two result arrays are equal. -/
theorem attn_eq (h0 : IsReal a0) (h1 : IsReal a1) (h2 : IsReal a2) (h3 : IsReal a3) :
    attnArray (queries a0 a1) (keysCat a2 a3) = ReferenceIdeal.Read.val_main_v28 (F := Ideal) a0 a1 a2 a3 := by
  funext i
  have hi : i = ValueIdx.ix4 (n0 := 16) (n1 := 16) (n2 := 2048) (n3 := 256) (i 0) (i 1) (i 2) (i 3) := by
    funext k
    match k with
    | ⟨0, _⟩ => rfl
    | ⟨1, _⟩ => rfl
    | ⟨2, _⟩ => rfl
    | ⟨3, _⟩ => rfl
  rw [hi]
  exact attn_eq_apply a0 a1 a2 a3 (i 0) (i 1) (i 2) h0 h1 h2 h3 (i 3)

end Cert.Attn

end
-- ==== Proof.Finite.lean ====
/-
  The precondition, read: an array whose entries' magnitudes are below infinity has a real number at each entry.
-/
module

public import proofs.«01_k».proof.Pre_finite
public import proofs.«01_k».proof.Proof.Equal

@[expose] public section

noncomputable section

namespace Cert.Attn

open Idealize.ShloMosaic

theorem ofBits_pos_inf : Ideal.ofBits .f32 0x7F800000#32 = (⊤ : EReal) := by
  simp [Ideal.ofBits, Ideal.ieee]

/-- An extended real whose magnitude is below `⊤` is a real number. -/
theorem real_of_abs_lt (x : EReal) (h : max x (-x) < ⊤) : ∃ r : ℝ, x = (r : EReal) := by
  induction x using EReal.rec with
  | bot => simp at h
  | coe r => exact ⟨r, rfl⟩
  | top => simp at h

/-- The side conditions of the precondition's operations. -/
theorem finiteFacts : Cert.Pre_finite.Facts where
  bcast_S_S16x2048x16x256 := by decide
  bcast_S_S16x2048x16x64 := by decide
  bcast_S_S16x2048x256 := by decide
  bcast_S_S16x2048x64 := by decide

/-- An array that compares below infinity in magnitude at every entry holds real numbers. -/
theorem isReal_of_finite {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) :
    IsReal x := fun i => by
  have h := congrFun h i
  have h' : Ideal.cmp .olt (max (x i) (-(x i))) (Ideal.ofBits .f32 0x7F800000#32) = 1#1 := h
  rw [ofBits_pos_inf] at h'
  refine real_of_abs_lt _ ?_
  by_contra hn
  simp only [Ideal.cmp, if_neg hn] at h'
  simp [hn] at h'

end Cert.Attn

end
-- ==== Proof.Swiglu.lean ====
/-
  The feed-forward half step on one row, and the pieces of the kernel's body that compute it for a block of rows at once:
  the root-mean-square norm, and the hidden features taken 256 at a time, each chunk's contribution added to a running
  sum. `accum_apply` reads the running sum after `l` chunks as the sum over the first `256 * l` hidden features.
-/
module

public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.Lib.Pipeline.ValueKit

@[expose] public section

noncomputable section

namespace Cert.Swiglu

open Idealize.ShloMosaic hiding ix1 ix2
open Idealize.ShloMosaic.ValueIdx

/-! ## One row -/

/-- A row divided by the root of its mean square, times the norm's weights. -/
def norm (x g : Fin 1024 → EReal) (i : Fin 1024) : EReal :=
  x i * Ideal.rsqrt (Ideal.div (∑ k, x k * x k) (Ideal.ofBits .f32 0x44800000#32) + Ideal.ofBits .f32 0x358637BD#32) * g i

/-- One hidden feature: the gate times its logistic, times the other projection. -/
def act (h : Fin 1024 → EReal) (wg wu : Fin 1024 → EReal) : EReal :=
  (∑ k, h k * wg k) * Ideal.logistic (∑ k, h k * wg k) * ∑ k, h k * wu k

/-- The half step: the row plus half of the feed-forward layer of its norm. -/
def half (x g : Fin 1024 → EReal) (wg wu : Fin 1024 → Fin 2816 → EReal) (wd : Fin 2816 → Fin 1024 → EReal)
    (j : Fin 1024) : EReal :=
  x j + Ideal.ofBits .f32 0x3F000000#32 * ∑ f, act (norm x g) (wg · f) (wu · f) * wd f j

/-- The last half step: the half step, then the closing norm. -/
def last (x g : Fin 1024 → EReal) (wg wu : Fin 1024 → Fin 2816 → EReal) (wd : Fin 2816 → Fin 1024 → EReal)
    (gf : Fin 1024 → EReal) : Fin 1024 → EReal :=
  norm (half x g wg wu wd) gf

/-! ## The body's pieces -/

/-- Rows of the residual stream. -/
abbrev RowsOf (n : ℕ) : Shape := ⟨2, ![n, 1024]⟩
/-- 1024 rows of the residual stream. -/
abbrev Rows : Shape := RowsOf 1024
/-- One row. -/
abbrev Row : Shape := ⟨2, ![1, 1024]⟩
/-- The weights into the hidden features. -/
abbrev Win : Shape := ⟨2, ![1024, 2816]⟩
/-- The weights out of the hidden features. -/
abbrev Wout : Shape := ⟨2, ![2816, 1024]⟩
/-- 256 columns of the weights into the hidden features. -/
abbrev Cols : Shape := ⟨2, ![1024, 256]⟩
/-- Rows of 256 hidden features. -/
abbrev Hidden (n : ℕ) : Shape := ⟨2, ![n, 256]⟩
/-- 256 rows of the weights out of the hidden features. -/
abbrev Outs : Shape := ⟨2, ![256, 1024]⟩

/-- The residual stream, a row per position. -/
abbrev Stream : Shape := ⟨2, ![32768, 1024]⟩

/-- Rows `1024 * t` onwards of the residual stream. -/
def tile {α : Type} (x : Stream.Idx → α) (t : Fin 32) : Rows.Idx → α :=
  fun y => x (ix2 (n0 := 32768) (n1 := 1024) ⟨t.val * 1024 + (y 0).val, by have : (y 0).val < 1024 := (y 0).isLt; omega⟩ (y 1))

/-- The half step of every row. -/
def halfArray (x : FVec Ideal Stream .f32) (g : FVec Ideal Row .f32) (wg wu : FVec Ideal Win .bf16) (wd : FVec Ideal Wout .bf16) :
    FVec Ideal Stream .f32 := fun i =>
  half (fun k => x (ix2 (n0 := 32768) (n1 := 1024) (i 0) k)) (fun k => g (ix2 0 k)) (fun k f => wg (ix2 k f)) (fun k f => wu (ix2 k f))
    (fun f k => wd (ix2 f k)) (i 1)

/-- The last half step of every row. -/
def lastArray (x : FVec Ideal Stream .f32) (g : FVec Ideal Row .f32) (wg wu : FVec Ideal Win .bf16) (wd : FVec Ideal Wout .bf16)
    (gf : FVec Ideal Row .f32) : FVec Ideal Stream .f32 := fun i =>
  last (fun k => x (ix2 (n0 := 32768) (n1 := 1024) (i 0) k)) (fun k => g (ix2 0 k)) (fun k f => wg (ix2 k f)) (fun k f => wu (ix2 k f))
    (fun f k => wd (ix2 f k)) (fun k => gf (ix2 0 k)) (i 1)

/-- The half step of every row, at an index of tile `t`. -/
theorem halfArray_tile (x : FVec Ideal Stream .f32) (g : FVec Ideal Row .f32) (wg wu : FVec Ideal Win .bf16) (wd : FVec Ideal Wout .bf16)
    (t : Fin 32) (r j : Fin 1024) (i : Stream.Idx) (h0 : (i 0).val = t.val * 1024 + r.val) (h1 : (i 1).val = j.val) :
    halfArray x g wg wu wd i = half (fun k => tile x t (ix2 r k)) (fun k => g (ix2 0 k)) (fun k f => wg (ix2 k f)) (fun k f => wu (ix2 k f))
      (fun f k => wd (ix2 f k)) j := by
  have e0 : i 0 = ⟨t.val * 1024 + r.val, by have := t.isLt; have := r.isLt; omega⟩ := Fin.ext h0
  have e1 : i 1 = j := Fin.ext h1
  unfold halfArray
  rw [e0, e1]
  rfl

/-- The last half step of every row, at an index of tile `t`. -/
theorem lastArray_tile (x : FVec Ideal Stream .f32) (g : FVec Ideal Row .f32) (wg wu : FVec Ideal Win .bf16) (wd : FVec Ideal Wout .bf16)
    (gf : FVec Ideal Row .f32)
    (t : Fin 32) (r j : Fin 1024) (i : Stream.Idx) (h0 : (i 0).val = t.val * 1024 + r.val) (h1 : (i 1).val = j.val) :
    lastArray x g wg wu wd gf i = last (fun k => tile x t (ix2 r k)) (fun k => g (ix2 0 k)) (fun k f => wg (ix2 k f)) (fun k f => wu (ix2 k f))
      (fun f k => wd (ix2 f k)) (fun k => gf (ix2 0 k)) j := by
  have e0 : i 0 = ⟨t.val * 1024 + r.val, by have := t.isLt; have := r.isLt; omega⟩ := Fin.ext h0
  have e1 : i 1 = j := Fin.ext h1
  unfold lastArray
  rw [e0, e1]
  rfl

/-- 256 columns of an array, from column `o`. -/
def cols {α : Type} (o : ℕ) (w : Win.Idx → α) : Cols.Idx → α :=
  fun y => w (ix2 (n0 := 1024) (n1 := 2816) (y 0) ⟨(o + (y 1).val) % 2816, Nat.mod_lt _ (by decide)⟩)

/-- 256 rows of an array, from row `o`. -/
def rows {α : Type} (o : ℕ) (w : Wout.Idx → α) : Outs.Idx → α :=
  fun y => w (ix2 (n0 := 2816) (n1 := 1024) ⟨(o + (y 0).val) % 2816, Nat.mod_lt _ (by decide)⟩ (y 1))

/-- The norm of 1024 rows. -/
def normed (h₁ : Rows.Reduces [1] ⟨1, ![1024]⟩) (h₂ : (⟨1, ![1024]⟩ : Shape).ShapeCasts ⟨2, ![1024, 1]⟩)
    (h₃ : (⟨2, ![1024, 1]⟩ : Shape).Broadcasts Rows) (h₄ : Row.Broadcasts Rows)
    (x : FVec Ideal Rows .f32) (g : FVec Ideal Row .f32) : FVec Ideal Rows .f32 :=
  mulf (mulf x (broadcastTo Rows (rsqrt (addf
      (divf (shapeCast ⟨2, ![1024, 1]⟩ (multiReduction .add [1] ⟨1, ![1024]⟩ (mulf x x) 0x00000000#32 h₁ (.inl rfl) rfl) h₂)
        (broadcast ⟨2, ![1024, 1]⟩ (Scalar.ofBits .f32 0x44800000#32)))
      (broadcast ⟨2, ![1024, 1]⟩ (Scalar.ofBits .f32 0x358637BD#32)))) h₃))
    (broadcastTo Rows g h₄)

variable {n : ℕ}

/-- 256 columns of a projection of rows. -/
def proj (hc : Cols.ShapeCasts Cols) (h : FVec Ideal (RowsOf n) .bf16) (w : FVec Ideal Cols .bf16) : FVec Ideal (Hidden n) .f32 :=
  matmul (DotDims.plain n 1024 256) none h (shapeCast Cols w hc) (constant (Hidden n) .f32 0x00000000#32)

/-- The running sum with one chunk's contribution added. -/
def chunk (hc : Cols.ShapeCasts Cols) (ho : Outs.ShapeCasts Outs) (hb : FTy.bits .bf16 < FTy.bits .f32)
    (h : FVec Ideal (RowsOf n) .bf16) (wg wu : FVec Ideal Cols .bf16) (wd : FVec Ideal Outs .bf16) (acc : FVec Ideal (RowsOf n) .f32) :
    FVec Ideal (RowsOf n) .f32 :=
  addf acc (matmul (φ₁ := .bf16) (DotDims.plain n 256 1024) none
    (truncf .bf16 (mulf (mulf (proj hc h wg) (logistic (proj hc h wg))) (proj hc h wu)) hb)
    (shapeCast Outs wd ho) (constant (RowsOf n) .f32 0x00000000#32))

/-- The running sum after `l` chunks. -/
def accum (hc : Cols.ShapeCasts Cols) (ho : Outs.ShapeCasts Outs) (hb : FTy.bits .bf16 < FTy.bits .f32)
    (h : FVec Ideal (RowsOf n) .bf16) (wg wu : FVec Ideal Win .bf16) (wd : FVec Ideal Wout .bf16) : ℕ → FVec Ideal (RowsOf n) .f32
  | 0 => broadcast (RowsOf n) (Scalar.ofBits .f32 0x00000000#32)
  | l + 1 => chunk hc ho hb h (cols (256 * l) wg) (cols (256 * l) wu) (rows (256 * l) wd) (accum hc ho hb h wg wu wd l)

/-- What the body stores: the rows plus half of the running sum after `l` chunks. -/
def halved (x acc : FVec Ideal (RowsOf n) .f32) : FVec Ideal (RowsOf n) .f32 :=
  addf x (mulf (broadcast (RowsOf n) (Scalar.ofBits .f32 0x3F000000#32)) acc)

/-! ## The pieces at an index -/

/-- A load of 256 columns. -/
theorem ld_cols {Val : EltTy → Type} {e : EltTy} (w : Win.Idx → Val e) (o : ℕ) (inb) :
    View.ld w (Rect.unit (s := Win) ![0, o] Cols.size inb) = cols o w := by
  have ho : o + 256 ≤ 2816 := inb 1
  funext y
  have h1 : (y 1).val < 256 := (y 1).isLt
  refine View.ld_unit_apply_of w _ _ inb y _ fun a => ?_
  match a with
  | ⟨0, _⟩ => exact (Nat.zero_add _).symm
  | ⟨1, _⟩ => exact Nat.mod_eq_of_lt (by omega)

/-- A load of 256 rows. -/
theorem ld_rows {Val : EltTy → Type} {e : EltTy} (w : Wout.Idx → Val e) (o : ℕ) (inb) :
    View.ld w (Rect.unit (s := Wout) ![o, 0] Outs.size inb) = rows o w := by
  have ho : o + 256 ≤ 2816 := inb 0
  funext y
  have h1 : (y 0).val < 256 := (y 0).isLt
  refine View.ld_unit_apply_of w _ _ inb y _ fun a => ?_
  match a with
  | ⟨0, _⟩ => exact Nat.mod_eq_of_lt (by omega)
  | ⟨1, _⟩ => exact (Nat.zero_add _).symm

theorem normed_apply (h₁ : Rows.Reduces [1] ⟨1, ![1024]⟩) (h₂ : (⟨1, ![1024]⟩ : Shape).ShapeCasts ⟨2, ![1024, 1]⟩)
    (h₃ : (⟨2, ![1024, 1]⟩ : Shape).Broadcasts Rows) (h₄ : Row.Broadcasts Rows)
    (x : FVec Ideal Rows .f32) (g : FVec Ideal Row .f32) (r i : Fin 1024) :
    normed h₁ h₂ h₃ h₄ x g (ix2 r i) = norm (fun k => x (ix2 r k)) (fun k => g (ix2 0 k)) i := by
  have e : shapeCast ⟨2, ![1024, 1]⟩ (multiReduction .add [1] ⟨1, ![1024]⟩ (mulf x x) 0x00000000#32 h₁ (.inl rfl) rfl) h₂ (ix2 r (0 : Fin 1))
      = ∑ k : Fin 1024, x (ix2 r k) * x (ix2 r k) := by
    refine (shapeCast_a_a1_apply _ h₂ r 0).trans ((Ideal.multiReduction_add_single (mulf x x) _ h₁ _ _ (ix1 r)).trans ?_)
    refine Finset.sum_congr rfl fun k _ => ?_
    exact congrArg (mulf x x) (by funext a; match a with | ⟨0, _⟩ => rfl | ⟨1, _⟩ => rfl)
  unfold normed norm
  rw [mulf_apply, mulf_apply, broadcastTo_1b_ab_apply,
    broadcastTo_apply _ h₃ (ix2 r i) (ix2 r (0 : Fin 1)) (fun a => match a with | ⟨0, _⟩ => rfl | ⟨1, _⟩ => rfl)]
  show _ * Ideal.rsqrt (Ideal.div (shapeCast _ _ h₂ (ix2 r (0 : Fin 1))) _ + _) * _ = _
  rw [e]
  rfl

theorem proj_apply (hc : Cols.ShapeCasts Cols) (h : FVec Ideal (RowsOf n) .bf16) (w : FVec Ideal Cols .bf16) (r : Fin n) (f : Fin 256) :
    proj hc h w (ix2 r f) = ∑ k : Fin 1024, h (ix2 r k) * w (ix2 k f) := by
  unfold proj
  rw [shapeCast_self]
  refine (Ideal.matmul_plain_apply none h w _ r f).trans ?_
  rw [constant_apply, Ideal.ofBits_zero_f32, zero_add]

/-- What the chunk starting at feature 0 of the given weights adds. -/
theorem chunk_apply (hc : Cols.ShapeCasts Cols) (ho : Outs.ShapeCasts Outs) (hb : FTy.bits .bf16 < FTy.bits .f32)
    (h : FVec Ideal (RowsOf n) .bf16) (wg wu : FVec Ideal Cols .bf16) (wd : FVec Ideal Outs .bf16) (acc : FVec Ideal (RowsOf n) .f32)
    (r : Fin n) (j : Fin 1024) :
    chunk hc ho hb h wg wu wd acc (ix2 r j)
      = acc (ix2 r j) + ∑ f : Fin 256, act (fun k => h (ix2 r k)) (fun k => wg (ix2 k f)) (fun k => wu (ix2 k f)) * wd (ix2 f j) := by
  unfold chunk
  rw [addf_apply, shapeCast_self]
  refine congrArg (acc (ix2 r j) + ·) ((Ideal.matmul_plain_apply none _ wd _ r j).trans ?_)
  rw [constant_apply, Ideal.ofBits_zero_f32, zero_add]
  refine Finset.sum_congr rfl fun f _ => ?_
  unfold act
  rw [← proj_apply hc h wg r f, ← proj_apply hc h wu r f]
  rfl

/-- The running sum after `l` chunks is the sum over the first `256 * l` hidden features. -/
theorem accum_apply (hc : Cols.ShapeCasts Cols) (ho : Outs.ShapeCasts Outs) (hb : FTy.bits .bf16 < FTy.bits .f32)
    (h : FVec Ideal (RowsOf n) .bf16) (wg wu : FVec Ideal Win .bf16) (wd : FVec Ideal Wout .bf16) (r : Fin n) (j : Fin 1024) (l : ℕ) :
    accum hc ho hb h wg wu wd l (ix2 r j)
      = ∑ q ∈ Finset.range (256 * l), act (fun k => h (ix2 r k))
          (fun k => wg (ix2 k ⟨q % 2816, Nat.mod_lt _ (by decide)⟩)) (fun k => wu (ix2 k ⟨q % 2816, Nat.mod_lt _ (by decide)⟩))
          * wd (ix2 ⟨q % 2816, Nat.mod_lt _ (by decide)⟩ j) := by
  induction l with
  | zero => exact Ideal.ofBits_zero_f32
  | succ l ih =>
    rw [accum, chunk_apply, ih, Nat.mul_succ, Finset.sum_range_add, ← Fin.sum_univ_eq_sum_range]
    rfl

/-- The half step of rows, at an index. -/
theorem halved_apply (hc : Cols.ShapeCasts Cols) (ho : Outs.ShapeCasts Outs) (hb : FTy.bits .bf16 < FTy.bits .f32)
    (x : FVec Ideal (RowsOf n) .f32) (g : FVec Ideal Row .f32) (h : FVec Ideal (RowsOf n) .bf16) (wg wu : FVec Ideal Win .bf16) (wd : FVec Ideal Wout .bf16)
    (hh : ∀ r i, h (ix2 r i) = norm (fun k => x (ix2 r k)) (fun k => g (ix2 0 k)) i) (r : Fin n) (j : Fin 1024) :
    halved x (accum hc ho hb h wg wu wd 11) (ix2 r j)
      = half (fun k => x (ix2 r k)) (fun k => g (ix2 0 k)) (fun k f => wg (ix2 k f)) (fun k f => wu (ix2 k f))
          (fun f k => wd (ix2 f k)) j := by
  show x (ix2 r j) + Ideal.ofBits .f32 0x3F000000#32 * accum hc ho hb h wg wu wd 11 (ix2 r j) = _
  rw [accum_apply, Finset.sum_range (n := 2816)]
  unfold half
  refine congrArg (x (ix2 r j) + _ * ·) (Finset.sum_congr rfl fun f _ => ?_)
  have e : (⟨f.val % 2816, Nat.mod_lt _ (by decide)⟩ : Fin 2816) = f := Fin.ext (Nat.mod_eq_of_lt f.isLt)
  simp only [e, hh]

end Cert.Swiglu

end
-- ==== Proof.FfnValue.lean ====
/-
  The half step's result array, index by index: what one grid point's body stores, the blocks it reads, and the
  arrays the host hands over.
-/
module

public import proofs.«01_k».proof.Proof.Swiglu
public import proofs.«01_k».proof.Proof.Gen.FfnIdeal.Value

@[expose] public section

noncomputable section

namespace Cert.HalfStep

open Idealize.ShloMosaic hiding ix1 ix2
open Idealize.ShloMosaic.TcCoe Idealize.ShloMosaic.ValueIdx Idealize.ShloMosaic.Tactic Idealize.ShloMosaic.Pipeline
open Cert.FfnIdeal Cert.FfnIdeal.Gen Cert.Swiglu

variable (m : (ℓ : Loc nD τ sig) → Buf (Elt Ideal) ℓ) (c : Dev nD)

/-- The norm the body takes of its rows. -/
abbrev bodyNorm (x : FVec Ideal Rows .f32) (g : FVec Ideal Row .f32) : FVec Ideal Rows .f32 :=
  normed reduces_S1024x1024_S1024 shapeCasts_S1024_S1024x1 broadcasts_S1024x1_S1024x1024 broadcasts_S1x1024_S1024x1024 x g

/-- What the body stores: half of eleven chunks' running sum, added to its rows. -/
theorem out_eq (x0 : FVec Ideal Rows .f32) (x1 : FVec Ideal Row .f32) (x2 x3 : FVec Ideal Win .bf16) (x4 : FVec Ideal Wout .bf16) :
    out0_5 (F := Ideal) x0 x1 x2 x3 x4 = halved x0 (accum shapeCasts_S1024x256_S1024x256 shapeCasts_S256x1024_S256x1024 bitsLt_bf16_f32
      (truncf .bf16 (bodyNorm x0 x1) bitsLt_bf16_f32) x2 x3 x4 11) := by
  have e2 : k0_pay2 (F := Ideal) x0 = x0 := shapeCast_self x0 _
  have e3 : k0_pay3 (F := Ideal) x0 x1 = truncf .bf16 (bodyNorm x0 x1) bitsLt_bf16_f32 := by
    unfold k0_pay3
    rw [e2, shapeCast_self]
    rfl
  have l0 : ∀ x : Vec Ideal S1024x1024 .f32, View.ld x r0_0 = x := fun x =>
    View.ld_unit_lit (Val := Elt Ideal) (e := .f32) inb_S1024x1024_S1024x1024_0_0 x (by decide)
  have l1 : ∀ x : Vec Ideal S1x1024 .f32, View.ld x r0_1 = x := fun x =>
    View.ld_unit_lit (Val := Elt Ideal) (e := .f32) inb_S1x1024_S1x1024_0_0 x (by decide)
  have lc : ∀ (w : Vec Ideal S1024x2816 .bf16) (o : ℕ) (inb),
    View.ld w (Rect.unit (s := S1024x2816) ![0, o] S1024x256.size inb) = cols o w := ld_cols
  have lr : ∀ (w : Vec Ideal S2816x1024 .bf16) (o : ℕ) (inb),
    View.ld w (Rect.unit (s := S2816x1024) ![o, 0] S256x1024.size inb) = rows o w := ld_rows
  unfold out0_5 k0_pay12
  rw [View.canon_cons_unit_lit _ _ _ (by decide), l0, l1, lc x2 0, lc x2 256]
  simp only [lc, lr]
  rw [e2, ← e3]
  rfl

/-! ## The blocks a grid point reads -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)

theorem read0 (f : FVec Ideal Stream .f32) (t : Fin cfg0.N) : (win0_0.blk t).view.read (Elt Ideal) f = tile f t := by
  funext y
  unfold tile
  blk_simp
  refine congrArg f ?_
  blk_ext [index0] <;> rfl

theorem read1 (f : FVec Ideal Row .f32) (t : Fin cfg0.N) : (win0_1.blk t).view.read (Elt Ideal) f = f := by
  funext y
  blk_simp
  refine congrArg f ?_
  blk_ext [index1] <;> rfl

theorem read2 (f : FVec Ideal Win .bf16) (t : Fin cfg0.N) : (win0_2.blk t).view.read (Elt Ideal) f = f := by
  funext y
  blk_simp
  refine congrArg f ?_
  blk_ext [index2] <;> rfl

theorem read3 (f : FVec Ideal Win .bf16) (t : Fin cfg0.N) : (win0_3.blk t).view.read (Elt Ideal) f = f := by
  funext y
  blk_simp
  refine congrArg f ?_
  blk_ext [index3] <;> rfl

theorem read4 (f : FVec Ideal Wout .bf16) (t : Fin cfg0.N) : (win0_4.blk t).view.read (Elt Ideal) f = f := by
  funext y
  blk_simp
  refine congrArg f ?_
  blk_ext [index4] <;> rfl

/-- What point `t` leaves in the result's staging buffer. -/
theorem flushed_apply (t : Fin cfg0.N) (r j : Fin 1024) :
    (dats m 0 c).flushed 5 t (ix2 r j)
      = half (fun k => tile (V m c main_v0) t (ix2 r k)) (fun k => V m c main_v4 (ix2 0 k)) (fun k f => V m c main_v1 (ix2 k f))
          (fun k f => V m c main_v2 (ix2 k f)) (fun f k => V m c main_v3 (ix2 f k)) j := by
  have e0 : iblk m c 0 t = tile (V m c main_v0) t := read0 _ t
  have e1 : iblk m c 1 t = V m c main_v4 := read1 _ t
  have e2 : iblk m c 2 t = V m c main_v1 := read2 _ t
  have e3 : iblk m c 3 t = V m c main_v2 := read3 _ t
  have e4 : iblk m c 4 t = V m c main_v3 := read4 _ t
  rw [Value.flushed5, e0, e1, e2, e3, e4, out_eq]
  refine Eq.trans ?_ (halved_apply shapeCasts_S1024x256_S1024x256 shapeCasts_S256x1024_S256x1024 bitsLt_bf16_f32
    (tile (V m c main_v0) t) (V m c main_v4) _ (V m c main_v1) (V m c main_v2) (V m c main_v3)
    (fun r i => normed_apply reduces_S1024x1024_S1024 shapeCasts_S1024_S1024x1 broadcasts_S1024x1_S1024x1024 broadcasts_S1x1024_S1024x1024 _ _ r i) r j)
  rfl

/-- The result array after the run: the half step of every row of the laid-out operands. -/
theorem arr_eq : (dats m 0 c).arrAt 5 cfg0.N
    = halfArray (V m c main_v0) (V m c main_v4) (V m c main_v1) (V m c main_v2) (V m c main_v3) := by
  refine (dats m 0 c).arrAt_eq_of_covers 5 _ (by decide +kernel) fun t _ y => ?_
  have hy : y = ix2 (n0 := 1024) (n1 := 1024) (y 0) (y 1) := by
    funext k
    match k with
    | ⟨0, _⟩ => rfl
    | ⟨1, _⟩ => rfl
  have h := flushed_apply m c t (y 0) (y 1)
  rw [halfArray_tile (V m c main_v0) (V m c main_v4) (V m c main_v1) (V m c main_v2) (V m c main_v3) t (y 0) (y 1)
    (((cfg0.win 5).blk t).view.emb y) (by blk_simp [index5]) (by blk_simp [index5]), ← h, ← hy]
  rfl

/-! ## The arrays the host hands over -/

theorem V_x : V m c main_v0 = shapeCast S32768x1024 (m ((c : Thread nD τ).loc main_arg0)) shapeCasts_S16x2048x1024_S32768x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_g : V m c main_v4 = shapeCast S1x1024 (m ((c : Thread nD τ).loc main_arg1)) shapeCasts_S1024_S1x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_wg : V m c main_v1 = truncf (F := Ideal) (s := Win) (φ := .f32) .bf16 (m ((c : Thread nD τ).loc main_arg2)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

theorem V_wu : V m c main_v2 = truncf (F := Ideal) (s := Win) (φ := .f32) .bf16 (m ((c : Thread nD τ).loc main_arg3)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

theorem V_wd : V m c main_v3 = truncf (F := Ideal) (s := Wout) (φ := .f32) .bf16 (m ((c : Thread nD τ).loc main_arg4)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

end Cert.HalfStep

end
-- ==== Proof.FfnRef.lean ====
/-
  The half step's reference, read at an index, and the equality of the two results.
-/
module

public import proofs.«01_k».proof.Proof.FfnValue
public import proofs.«01_k».proof.Proof.Gen.FfnReferenceIdeal.Read

@[expose] public section

noncomputable section

namespace Cert.HalfStep

open Idealize.ShloMosaic hiding ix1 ix2
open Idealize.ShloMosaic.TcCoe Idealize.ShloMosaic.ValueIdx
open Cert.FfnReferenceIdeal Cert.FfnReferenceIdeal.Read Cert.Swiglu

variable (x0 : FVec Ideal S16x2048x1024 .f32) (x1 : FVec Ideal S1024 .f32) (x2 x3 : FVec Ideal S1024x2816 .f32)
  (x4 : FVec Ideal S2816x1024 .f32) (r : Fin 32768)

/-- A row of the residual stream. -/
abbrev refRow : Fin 1024 → EReal := fun k => val_main_v0 (F := Ideal) x0 (ix2 r k)

/-- The reference's norm of a row. -/
theorem ref_norm (i : Fin 1024) : val_main_v13 (F := Ideal) x0 x1 (ix2 r i) = norm (refRow x0 r) (fun k => x1 (ix1 k)) i := by
  rw [val_main_v13_apply, val_main_v10_apply, val_main_v12_apply, val_main_v11_apply, val_main_v9_apply, val_main_v8_apply,
    val_main_v7_apply, val_main_v5_apply, val_main_v6_apply, val_main_v4_apply, val_main_v3_apply, val_main_v2_apply,
    val_main_cst_apply]
  rw [show FloatOps.ofBits (F := Ideal) .f32 0x00000000#32 = (0 : EReal) from Ideal.ofBits_zero_f32, zero_add]
  have e : ∀ k : Fin 1024, val_main_v1 (F := Ideal) x0 (idx_main_v2 (idx_main_v3 (idx_main_v9 (ix2 r i))) k)
      = refRow x0 r k * refRow x0 r k := fun k => by
    rw [val_main_v1_apply]
    have : idx_main_v2 (idx_main_v3 (idx_main_v9 (ix2 r i))) k = ix2 r k := by
      funext a; match a with | ⟨0, _⟩ => rfl | ⟨1, _⟩ => rfl
    rw [this]
    rfl
  simp only [e]
  have e1 : idx_main_v11 (idx_main_v12 (ix2 r i)) = ix1 i := by funext a; match a with | ⟨0, _⟩ => rfl
  rw [e1]
  rfl

/-- The reference's gate projection. -/
theorem ref_gate (f : Fin 2816) : val_main_v14 (F := Ideal) x0 x1 x2 (ix2 r f)
    = ∑ k : Fin 1024, norm (refRow x0 r) (fun k => x1 (ix1 k)) k * x2 (ix2 k f) := by
  rw [val_main_v14_apply]
  refine Finset.sum_congr rfl fun k _ => ?_
  rw [← ref_norm]
  refine congrArg₂ (· * ·) (congrArg _ ?_) (congrArg _ ?_) <;>
  · funext a; match a with | ⟨0, _⟩ => rfl | ⟨1, _⟩ => rfl

/-- The reference's other projection. -/
theorem ref_up (f : Fin 2816) : val_main_v16 (F := Ideal) x0 x1 x3 (ix2 r f)
    = ∑ k : Fin 1024, norm (refRow x0 r) (fun k => x1 (ix1 k)) k * x3 (ix2 k f) := by
  rw [val_main_v16_apply]
  refine Finset.sum_congr rfl fun k _ => ?_
  rw [← ref_norm]
  refine congrArg₂ (· * ·) (congrArg _ ?_) (congrArg _ ?_) <;>
  · funext a; match a with | ⟨0, _⟩ => rfl | ⟨1, _⟩ => rfl

/-- The reference's hidden feature. -/
theorem ref_act (f : Fin 2816) : val_main_v17 (F := Ideal) x0 x1 x2 x3 (ix2 r f)
    = act (norm (refRow x0 r) fun k => x1 (ix1 k)) (fun k => x2 (ix2 k f)) (fun k => x3 (ix2 k f)) := by
  rw [val_main_v17_apply, val_main_v15_apply, val_main_call0_v5_apply, val_main_call0_v4_apply, val_main_call0_v3_apply,
    val_main_call0_v2_apply, val_main_call0_v1_apply, val_main_call0_v0_apply, val_main_call0_cst_apply, val_main_call0_cst_0_apply,
    ref_gate, ref_up]
  rw [show FloatOps.ofBits (F := Ideal) .f32 0x3F800000#32 = (1 : EReal) from Ideal.ofBits_one_f32]
  rfl

/-- The reference's result at an index. -/
theorem ref_half (j : Fin 1024) : val_main_v21 (F := Ideal) x0 x1 x2 x3 x4 (ix2 r j)
    = half (refRow x0 r) (fun k => x1 (ix1 k)) (fun k f => x2 (ix2 k f)) (fun k f => x3 (ix2 k f)) (fun f k => x4 (ix2 f k)) j := by
  rw [val_main_v21_apply, val_main_v20_apply, val_main_v19_apply, val_main_v18_apply, val_main_cst_2_apply]
  have e : ∀ f : Fin 2816, val_main_v17 (F := Ideal) x0 x1 x2 x3 (lidx_main_v18 (ix2 r j) f) * x4 (ridx_main_v18 (ix2 r j) f)
      = act (norm (refRow x0 r) fun k => x1 (ix1 k)) (fun k => x2 (ix2 k f)) (fun k => x3 (ix2 k f)) * x4 (ix2 f j) := fun f => by
    rw [← ref_act]
    refine congrArg₂ (· * ·) (congrArg _ ?_) (congrArg _ ?_) <;>
    · funext a; match a with | ⟨0, _⟩ => rfl | ⟨1, _⟩ => rfl
  simp only [e]
  rfl

/-- A vector laid out as one row. -/
theorem row_apply (x : FVec Ideal S1024 .f32) (h : S1024.ShapeCasts ⟨2, ![1, 1024]⟩) (k : Fin 1024) :
    shapeCast ⟨2, ![1, 1024]⟩ x h (ix2 0 k) = x (ix1 k) :=
  shapeCast_apply x h _ _ (by
    rw [Shape.rowMajor_val_two, Shape.rowMajor_val_one]
    show k.val = 0 * 1024 + k.val
    omega)

/-- The kernel's result is the reference's. -/
theorem half_eq (h₀ : S16x2048x1024.ShapeCasts S32768x1024) (h₁ : S1024.ShapeCasts ⟨2, ![1, 1024]⟩) (hb : FTy.bits .bf16 < FTy.bits .f32) :
    halfArray (shapeCast S32768x1024 x0 h₀) (shapeCast ⟨2, ![1, 1024]⟩ x1 h₁) (truncf .bf16 x2 hb) (truncf .bf16 x3 hb) (truncf .bf16 x4 hb)
      = val_main_v21 (F := Ideal) x0 x1 x2 x3 x4 := by
  funext i
  have hi : i = ix2 (n0 := 32768) (n1 := 1024) (i 0) (i 1) := by
    funext a; match a with | ⟨0, _⟩ => rfl | ⟨1, _⟩ => rfl
  refine Eq.trans ?_ ((ref_half x0 x1 x2 x3 x4 (i 0) (i 1)).symm.trans (congrArg _ hi.symm))
  unfold halfArray
  simp only [row_apply]
  rfl

end Cert.HalfStep

end
-- ==== Proof.LastValue.lean ====
/-
  The last half step's result array, index by index: what one grid point's body stores, the blocks it reads, and the
  arrays the host hands over.
-/
module

public import proofs.«01_k».proof.Proof.Swiglu
public import proofs.«01_k».proof.Proof.Gen.LastIdeal.Value

@[expose] public section

noncomputable section

namespace Cert.LastStep

open Idealize.ShloMosaic hiding ix1 ix2
open Idealize.ShloMosaic.TcCoe Idealize.ShloMosaic.ValueIdx Idealize.ShloMosaic.Tactic Idealize.ShloMosaic.Pipeline
open Cert.LastIdeal Cert.LastIdeal.Gen Cert.Swiglu

variable (m : (ℓ : Loc nD τ sig) → Buf (Elt Ideal) ℓ) (c : Dev nD)

/-- The norm the body takes of its rows. -/
abbrev bodyNorm (x : FVec Ideal Rows .f32) (g : FVec Ideal Row .f32) : FVec Ideal Rows .f32 :=
  normed reduces_S1024x1024_S1024 shapeCasts_S1024_S1024x1 broadcasts_S1024x1_S1024x1024 broadcasts_S1x1024_S1024x1024 x g

/-- What the body stores: the norm of the half step of its rows, the hidden features taken in eleven chunks. -/
theorem out_eq (x0 : FVec Ideal Rows .f32) (x1 : FVec Ideal Row .f32) (x2 x3 : FVec Ideal Win .bf16) (x4 : FVec Ideal Wout .bf16)
    (x5 : FVec Ideal Row .f32) :
    out0_6 (F := Ideal) x0 x1 x2 x3 x4 x5 = bodyNorm (halved x0 (accum shapeCasts_S1024x256_S1024x256 shapeCasts_S256x1024_S256x1024 bitsLt_bf16_f32
      (truncf .bf16 (bodyNorm x0 x1) bitsLt_bf16_f32) x2 x3 x4 11)) x5 := by
  have e2 : k0_pay2 (F := Ideal) x0 = x0 := shapeCast_self x0 _
  have e3 : k0_pay3 (F := Ideal) x0 x1 = truncf .bf16 (bodyNorm x0 x1) bitsLt_bf16_f32 := by
    unfold k0_pay3
    rw [e2, shapeCast_self]
    rfl
  have l0 : ∀ x : Vec Ideal S1024x1024 .f32, View.ld x r0_0 = x := fun x =>
    View.ld_unit_lit (Val := Elt Ideal) (e := .f32) inb_S1024x1024_S1024x1024_0_0 x (by decide)
  have l1 : ∀ x : Vec Ideal S1x1024 .f32, View.ld x r0_1 = x := fun x =>
    View.ld_unit_lit (Val := Elt Ideal) (e := .f32) inb_S1x1024_S1x1024_0_0 x (by decide)
  have lc : ∀ (w : Vec Ideal S1024x2816 .bf16) (o : ℕ) (inb),
    View.ld w (Rect.unit (s := S1024x2816) ![0, o] S1024x256.size inb) = cols o w := ld_cols
  have lr : ∀ (w : Vec Ideal S2816x1024 .bf16) (o : ℕ) (inb),
    View.ld w (Rect.unit (s := S2816x1024) ![o, 0] S256x1024.size inb) = rows o w := ld_rows
  have e13 : k0_pay13 (F := Ideal) x5 = x5 := shapeCast_self x5 _
  unfold out0_6 k0_pay18 k0_pay17 k0_pay16 k0_pay15
  rw [View.canon_cons_unit_lit _ _ _ (by decide), l0, l1, l1]
  simp only [lc, lr]
  rw [e2, e13, ← e3]
  rfl

/-! ## The blocks a grid point reads -/

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)

theorem read0 (f : FVec Ideal Stream .f32) (t : Fin cfg0.N) : (win0_0.blk t).view.read (Elt Ideal) f = tile f t := by
  funext y
  unfold tile
  blk_simp
  refine congrArg f ?_
  blk_ext [index0] <;> rfl

theorem read1 (f : FVec Ideal Row .f32) (t : Fin cfg0.N) : (win0_1.blk t).view.read (Elt Ideal) f = f := by
  funext y
  blk_simp
  refine congrArg f ?_
  blk_ext [index1] <;> rfl

theorem read2 (f : FVec Ideal Win .bf16) (t : Fin cfg0.N) : (win0_2.blk t).view.read (Elt Ideal) f = f := by
  funext y
  blk_simp
  refine congrArg f ?_
  blk_ext [index2] <;> rfl

theorem read3 (f : FVec Ideal Win .bf16) (t : Fin cfg0.N) : (win0_3.blk t).view.read (Elt Ideal) f = f := by
  funext y
  blk_simp
  refine congrArg f ?_
  blk_ext [index3] <;> rfl

theorem read4 (f : FVec Ideal Wout .bf16) (t : Fin cfg0.N) : (win0_4.blk t).view.read (Elt Ideal) f = f := by
  funext y
  blk_simp
  refine congrArg f ?_
  blk_ext [index4] <;> rfl

theorem read5 (f : FVec Ideal Row .f32) (t : Fin cfg0.N) : (win0_5.blk t).view.read (Elt Ideal) f = f := by
  funext y
  blk_simp
  refine congrArg f ?_
  blk_ext [index5] <;> rfl

/-- What point `t` leaves in the result's staging buffer. -/
theorem flushed_apply (t : Fin cfg0.N) (r j : Fin 1024) :
    (dats m 0 c).flushed 6 t (ix2 r j)
      = last (fun k => tile (V m c main_v0) t (ix2 r k)) (fun k => V m c main_v4 (ix2 0 k)) (fun k f => V m c main_v1 (ix2 k f))
          (fun k f => V m c main_v2 (ix2 k f)) (fun f k => V m c main_v3 (ix2 f k)) (fun k => V m c main_v5 (ix2 0 k)) j := by
  have e0 : iblk m c 0 t = tile (V m c main_v0) t := read0 _ t
  have e1 : iblk m c 1 t = V m c main_v4 := read1 _ t
  have e2 : iblk m c 2 t = V m c main_v1 := read2 _ t
  have e3 : iblk m c 3 t = V m c main_v2 := read3 _ t
  have e4 : iblk m c 4 t = V m c main_v3 := read4 _ t
  have e5 : iblk m c 5 t = V m c main_v5 := read5 _ t
  rw [Value.flushed6, e0, e1, e2, e3, e4, e5, out_eq]
  refine Eq.trans ?_ ((normed_apply reduces_S1024x1024_S1024 shapeCasts_S1024_S1024x1 broadcasts_S1024x1_S1024x1024 broadcasts_S1x1024_S1024x1024
    (halved (tile (V m c main_v0) t) (accum shapeCasts_S1024x256_S1024x256 shapeCasts_S256x1024_S256x1024 bitsLt_bf16_f32
      (truncf .bf16 (bodyNorm (tile (V m c main_v0) t) (V m c main_v4)) bitsLt_bf16_f32) (V m c main_v1) (V m c main_v2) (V m c main_v3) 11))
    (V m c main_v5) r j).trans ?_)
  · rfl
  · unfold last
    refine congrArg (norm · _ j) (funext fun i => ?_)
    exact halved_apply shapeCasts_S1024x256_S1024x256 shapeCasts_S256x1024_S256x1024 bitsLt_bf16_f32
      (tile (V m c main_v0) t) (V m c main_v4) _ (V m c main_v1) (V m c main_v2) (V m c main_v3)
      (fun r i => normed_apply reduces_S1024x1024_S1024 shapeCasts_S1024_S1024x1 broadcasts_S1024x1_S1024x1024 broadcasts_S1x1024_S1024x1024 _ _ r i) r i

/-- The result array after the run: the last half step of every row of the laid-out operands. -/
theorem arr_eq : (dats m 0 c).arrAt 6 cfg0.N
    = lastArray (V m c main_v0) (V m c main_v4) (V m c main_v1) (V m c main_v2) (V m c main_v3) (V m c main_v5) := by
  refine (dats m 0 c).arrAt_eq_of_covers 6 _ (by decide +kernel) fun t _ y => ?_
  have hy : y = ix2 (n0 := 1024) (n1 := 1024) (y 0) (y 1) := by
    funext k
    match k with
    | ⟨0, _⟩ => rfl
    | ⟨1, _⟩ => rfl
  have h := flushed_apply m c t (y 0) (y 1)
  rw [lastArray_tile (V m c main_v0) (V m c main_v4) (V m c main_v1) (V m c main_v2) (V m c main_v3) (V m c main_v5) t (y 0) (y 1)
    (((cfg0.win 6).blk t).view.emb y) (by blk_simp [index6]) (by blk_simp [index6]), ← h, ← hy]
  rfl

/-! ## The arrays the host hands over -/

theorem V_x : V m c main_v0 = shapeCast S32768x1024 (m ((c : Thread nD τ).loc main_arg0)) shapeCasts_S16x2048x1024_S32768x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_g : V m c main_v4 = shapeCast S1x1024 (m ((c : Thread nD τ).loc main_arg1)) shapeCasts_S1024_S1x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_gf : V m c main_v5 = shapeCast S1x1024 (m ((c : Thread nD τ).loc main_arg5)) shapeCasts_S1024_S1x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_wg : V m c main_v1 = truncf (F := Ideal) (s := Win) (φ := .f32) .bf16 (m ((c : Thread nD τ).loc main_arg2)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

theorem V_wu : V m c main_v2 = truncf (F := Ideal) (s := Win) (φ := .f32) .bf16 (m ((c : Thread nD τ).loc main_arg3)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

theorem V_wd : V m c main_v3 = truncf (F := Ideal) (s := Wout) (φ := .f32) .bf16 (m ((c : Thread nD τ).loc main_arg4)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

end Cert.LastStep

end
-- ==== Proof.LastRef.lean ====
/-
  The last half step's reference, read at an index, and the equality of the two results.
-/
module

public import proofs.«01_k».proof.Proof.FfnRef
public import proofs.«01_k».proof.Proof.LastValue
public import proofs.«01_k».proof.Proof.Gen.LastReferenceIdeal.Read

@[expose] public section

noncomputable section

namespace Cert.LastStep

open Idealize.ShloMosaic hiding ix1 ix2
open Idealize.ShloMosaic.TcCoe Idealize.ShloMosaic.ValueIdx
open Cert.LastReferenceIdeal Cert.LastReferenceIdeal.Read Cert.Swiglu

variable (x0 : FVec Ideal S16x2048x1024 .f32) (x1 : FVec Ideal S1024 .f32) (x2 x3 : FVec Ideal S1024x2816 .f32)
  (x4 : FVec Ideal S2816x1024 .f32) (x5 : FVec Ideal S1024 .f32) (r : Fin 32768)

/-- Up to the closing norm the reference is the half step's. -/
theorem ref_half : val_main_v21 (F := Ideal) x0 x1 x2 x3 x4 = Cert.FfnReferenceIdeal.Read.val_main_v21 (F := Ideal) x0 x1 x2 x3 x4 := rfl

/-- A row of the half step. -/
abbrev refRow : Fin 1024 → EReal := fun k => val_main_v21 (F := Ideal) x0 x1 x2 x3 x4 (ix2 r k)

/-- The reference's closing norm of a row. -/
theorem ref_norm (i : Fin 1024) : val_main_v34 (F := Ideal) x0 x1 x2 x3 x4 x5 (ix2 r i)
    = norm (refRow x0 x1 x2 x3 x4 r) (fun k => x5 (ix1 k)) i := by
  rw [val_main_v34_apply, val_main_v31_apply, val_main_v33_apply, val_main_v32_apply, val_main_v30_apply, val_main_v29_apply,
    val_main_v28_apply, val_main_v26_apply, val_main_v27_apply, val_main_v25_apply, val_main_v24_apply, val_main_v23_apply,
    val_main_cst_3_apply]
  rw [show FloatOps.ofBits (F := Ideal) .f32 0x00000000#32 = (0 : EReal) from Ideal.ofBits_zero_f32, zero_add]
  have e : ∀ k : Fin 1024, val_main_v22 (F := Ideal) x0 x1 x2 x3 x4 (idx_main_v23 (idx_main_v24 (idx_main_v30 (ix2 r i))) k)
      = refRow x0 x1 x2 x3 x4 r k * refRow x0 x1 x2 x3 x4 r k := fun k => by
    rw [val_main_v22_apply]
    have : idx_main_v23 (idx_main_v24 (idx_main_v30 (ix2 r i))) k = ix2 r k := by
      funext a; match a with | ⟨0, _⟩ => rfl | ⟨1, _⟩ => rfl
    rw [this]
    rfl
  simp only [e]
  have e1 : idx_main_v32 (idx_main_v33 (ix2 r i)) = ix1 i := by funext a; match a with | ⟨0, _⟩ => rfl
  rw [e1]
  rfl

/-- The reference's result at an index. -/
theorem ref_last (j : Fin 1024) : val_main_v34 (F := Ideal) x0 x1 x2 x3 x4 x5 (ix2 r j)
    = last (Cert.HalfStep.refRow x0 r) (fun k => x1 (ix1 k)) (fun k f => x2 (ix2 k f)) (fun k f => x3 (ix2 k f)) (fun f k => x4 (ix2 f k))
        (fun k => x5 (ix1 k)) j := by
  rw [ref_norm]
  unfold last
  refine congrArg (norm · _ j) (funext fun k => ?_)
  exact (congrFun (ref_half x0 x1 x2 x3 x4) _).trans (Cert.HalfStep.ref_half x0 x1 x2 x3 x4 r k)

/-- The kernel's result is the reference's. -/
theorem last_eq (h₀ : S16x2048x1024.ShapeCasts S32768x1024) (h₁ h₅ : S1024.ShapeCasts ⟨2, ![1, 1024]⟩) (hb : FTy.bits .bf16 < FTy.bits .f32) :
    lastArray (shapeCast S32768x1024 x0 h₀) (shapeCast ⟨2, ![1, 1024]⟩ x1 h₁) (truncf .bf16 x2 hb) (truncf .bf16 x3 hb) (truncf .bf16 x4 hb)
        (shapeCast ⟨2, ![1, 1024]⟩ x5 h₅)
      = val_main_v34 (F := Ideal) x0 x1 x2 x3 x4 x5 := by
  funext i
  have hi : i = ix2 (n0 := 32768) (n1 := 1024) (i 0) (i 1) := by
    funext a; match a with | ⟨0, _⟩ => rfl | ⟨1, _⟩ => rfl
  refine Eq.trans ?_ ((ref_last x0 x1 x2 x3 x4 x5 (i 0) (i 1)).symm.trans (congrArg _ hi.symm))
  unfold lastArray
  simp only [Cert.HalfStep.row_apply]
  rfl

end Cert.LastStep

end
-- ==== Proof.Project.lean ====
/-
  Projections of normed rows, for any number of rows: the root-mean-square norm of a row, a product of rows by a
  weight matrix, blocks of rows and columns, and the arrays that the projecting calls return.
-/
module

public import proofs.«01_k».proof.Proof.Swiglu

@[expose] public section

noncomputable section

namespace Cert.Project

open Idealize.ShloMosaic hiding ix1 ix2
open Idealize.ShloMosaic.ValueIdx

/-- A matrix's shape. -/
abbrev Mat (a b : ℕ) : Shape := ⟨2, ![a, b]⟩

variable {n d k p M T : ℕ}

/-- An index of a matrix by its row and its column. -/
theorem mat_eta (y : (Mat n d).Idx) : y = ix2 (n0 := n) (n1 := d) (y 0) (y 1) := by
  funext a; match a with | ⟨0, _⟩ => rfl | ⟨1, _⟩ => rfl

/-! ## The norm -/

/-- A row divided by the root of its mean square, times the norm's weights; `w` is the word of the row's length. -/
def norm (w : BitVec 32) (x g : Fin d → EReal) (i : Fin d) : EReal :=
  x i * Ideal.rsqrt (Ideal.div (∑ k, x k * x k) (Ideal.ofBits .f32 w) + Ideal.ofBits .f32 0x358637BD#32) * g i

/-- The norm of every row of a block. -/
def normed (w : BitVec 32) (h₁ : (Mat n d).Reduces [1] ⟨1, ![n]⟩) (h₂ : (⟨1, ![n]⟩ : Shape).ShapeCasts (Mat n 1))
    (h₃ : (Mat n 1).Broadcasts (Mat n d)) (h₄ : (Mat 1 d).Broadcasts (Mat n d))
    (x : FVec Ideal (Mat n d) .f32) (g : FVec Ideal (Mat 1 d) .f32) : FVec Ideal (Mat n d) .f32 :=
  mulf (mulf x (broadcastTo (Mat n d) (rsqrt (addf
      (divf (shapeCast (Mat n 1) (multiReduction .add [1] ⟨1, ![n]⟩ (mulf x x) 0x00000000#32 h₁ (.inl rfl) rfl) h₂)
        (broadcast (Mat n 1) (Scalar.ofBits .f32 w)))
      (broadcast (Mat n 1) (Scalar.ofBits .f32 0x358637BD#32)))) h₃))
    (broadcastTo (Mat n d) g h₄)

theorem normed_apply (w : BitVec 32) (h₁ : (Mat n d).Reduces [1] ⟨1, ![n]⟩) (h₂ : (⟨1, ![n]⟩ : Shape).ShapeCasts (Mat n 1))
    (h₃ : (Mat n 1).Broadcasts (Mat n d)) (h₄ : (Mat 1 d).Broadcasts (Mat n d))
    (x : FVec Ideal (Mat n d) .f32) (g : FVec Ideal (Mat 1 d) .f32) (r : Fin n) (i : Fin d) :
    normed w h₁ h₂ h₃ h₄ x g (ix2 r i) = norm w (fun k => x (ix2 r k)) (fun k => g (ix2 0 k)) i := by
  have e : shapeCast (Mat n 1) (multiReduction .add [1] ⟨1, ![n]⟩ (mulf x x) 0x00000000#32 h₁ (.inl rfl) rfl) h₂ (ix2 r (0 : Fin 1))
      = ∑ k : Fin d, x (ix2 r k) * x (ix2 r k) := by
    refine (shapeCast_a_a1_apply _ h₂ r 0).trans ((Ideal.multiReduction_add_single (mulf x x) _ h₁ _ _ (ix1 r)).trans ?_)
    refine Finset.sum_congr rfl fun k _ => ?_
    exact congrArg (mulf x x) (by funext a; match a with | ⟨0, _⟩ => rfl | ⟨1, _⟩ => rfl)
  unfold normed norm
  rw [mulf_apply, mulf_apply, broadcastTo_1b_ab_apply,
    broadcastTo_apply _ h₃ (ix2 r i) (ix2 r (0 : Fin 1)) (fun a => match a with
      | ⟨0, _⟩ => by
          show r.val = if n = 1 then 0 else r.val
          have := r.isLt
          split <;> omega
      | ⟨1, _⟩ => rfl)]
  show _ * Ideal.rsqrt (Ideal.div (shapeCast _ _ h₂ (ix2 r (0 : Fin 1))) _ + _) * _ = _
  rw [e]
  rfl

/-! ## Products and blocks -/

/-- A product of rows by a weight matrix. -/
def times (h : FVec Ideal (Mat n k) .bf16) (w : FVec Ideal (Mat k p) .bf16) : FVec Ideal (Mat n p) .f32 :=
  matmul (DotDims.plain n k p) none h w (constant (Mat n p) .f32 0x00000000#32)

theorem times_apply (h : FVec Ideal (Mat n k) .bf16) (w : FVec Ideal (Mat k p) .bf16) (r : Fin n) (j : Fin p) :
    times h w (ix2 r j) = ∑ i : Fin k, h (ix2 r i) * w (ix2 i j) := by
  refine (Ideal.matmul_plain_apply none h w _ r j).trans ?_
  rw [constant_apply, Ideal.ofBits_zero_f32, zero_add]

/-- A block of an array's columns, from column `o`. -/
def cols {α : Type} (o : ℕ) (h : o + p ≤ k) (w : (Mat n k).Idx → α) : (Mat n p).Idx → α :=
  fun y => w (ix2 (n0 := n) (n1 := k) (y 0) ⟨o + (y 1).val, by have : (y 1).val < p := (y 1).isLt; omega⟩)

/-- A load of a block of columns. -/
theorem ld_cols {Val : EltTy → Type} {e : EltTy} (w : (Mat n k).Idx → Val e) (o : ℕ) (h : o + p ≤ k) (inb) :
    View.ld w (Rect.unit (s := Mat n k) ![0, o] (Mat n p).size inb) = cols o h w := by
  funext y
  refine View.ld_unit_apply_of w _ _ inb y _ fun a => ?_
  match a with
  | ⟨0, _⟩ => exact (Nat.zero_add _).symm
  | ⟨1, _⟩ => rfl

/-- A row of tile `t`, where `T` tiles of `n` rows make `M` rows. -/
def at' (h : T * n = M) (t : Fin T) (r : Fin n) : Fin M :=
  ⟨t.val * n + r.val, by
    have h1 := Nat.mul_le_mul_right n (Nat.succ_le_of_lt t.isLt)
    have h2 := r.isLt
    rw [Nat.succ_mul] at h1
    omega⟩

/-- The rows of tile `t`. -/
def tile {α : Type} (h : T * n = M) (x : (Mat M d).Idx → α) (t : Fin T) : (Mat n d).Idx → α :=
  fun y => x (ix2 (n0 := M) (n1 := d) (at' h t (y 0)) (y 1))

/-! ## The arrays -/

/-- The norm of every row by a block of the weight's columns, from column `o`. -/
def projArray (x : FVec Ideal (Mat M d) .f32) (u : BitVec 32) (g : FVec Ideal (Mat 1 d) .f32) (w : FVec Ideal (Mat d k) .bf16)
    (o : ℕ) (ho : o + p ≤ k) : FVec Ideal (Mat M p) .f32 := fun i =>
  ∑ l, norm u (fun a => x (ix2 (n0 := M) (n1 := d) (i 0) a)) (fun a => g (ix2 0 a)) l
    * w (ix2 (n0 := d) (n1 := k) l ⟨o + (i 1).val, by have : (i 1).val < p := (i 1).isLt; omega⟩)

/-- The projection of the normed rows of tile `t`, at an index of the array. -/
theorem projArray_tile (h : T * n = M) (x : FVec Ideal (Mat M d) .f32) (u : BitVec 32) (g : FVec Ideal (Mat 1 d) .f32)
    (w : FVec Ideal (Mat d k) .bf16) (o : ℕ) (ho : o + p ≤ k) (hh : FVec Ideal (Mat n d) .bf16) (t : Fin T)
    (e : ∀ r l, hh (ix2 r l) = norm u (fun a => tile h x t (ix2 r a)) (fun a => g (ix2 0 a)) l)
    (r : Fin n) (j : Fin p) (i : (Mat M p).Idx) (h0 : (i 0).val = t.val * n + r.val) (h1 : (i 1).val = j.val) :
    projArray x u g w o ho i = times hh (cols o ho w) (ix2 r j) := by
  have ei : i = ix2 (n0 := M) (n1 := p) (at' h t r) j := by
    funext b; match b with | ⟨0, _⟩ => exact Fin.ext h0 | ⟨1, _⟩ => exact Fin.ext h1
  rw [times_apply, ei]
  simp only [e]
  rfl

/-- The rows plus a product. -/
def addArray (x : FVec Ideal (Mat M p) .f32) (a : FVec Ideal (Mat M k) .bf16) (w : FVec Ideal (Mat k p) .bf16) :
    FVec Ideal (Mat M p) .f32 := fun i =>
  x i + ∑ l, a (ix2 (n0 := M) (n1 := k) (i 0) l) * w (ix2 (n0 := k) (n1 := p) l (i 1))

theorem addArray_tile (h : T * n = M) (x : FVec Ideal (Mat M p) .f32) (a : FVec Ideal (Mat M k) .bf16) (w : FVec Ideal (Mat k p) .bf16)
    (t : Fin T) (r : Fin n) (j : Fin p) (i : (Mat M p).Idx) (h0 : (i 0).val = t.val * n + r.val) (h1 : (i 1).val = j.val) :
    addArray x a w i = addf (tile h x t) (times (tile h a t) w) (ix2 r j) := by
  have e : i = ix2 (n0 := M) (n1 := p) (at' h t r) j := by
    funext b; match b with | ⟨0, _⟩ => exact Fin.ext h0 | ⟨1, _⟩ => exact Fin.ext h1
  rw [addf_apply, times_apply, e]
  rfl

end Cert.Project

end
-- ==== Proof.KeysValue.lean ====
/-
  The stick-breaking layer's projection: what one grid point's body stores in each result, the blocks it reads, and the
  arrays the host hands over.
-/
module

public import proofs.«01_k».proof.Proof.Project
public import proofs.«01_k».proof.Proof.Gen.KeysIdeal.Value

@[expose] public section

noncomputable section

namespace Cert.KeysStep

open Idealize.ShloMosaic hiding ix1 ix2
open Idealize.ShloMosaic.TcCoe Idealize.ShloMosaic.ValueIdx Idealize.ShloMosaic.Tactic Idealize.ShloMosaic.Pipeline
open Cert.Project Cert.KeysIdeal Cert.KeysIdeal.Gen

variable (m : (ℓ : Loc nD τ sig) → Buf (Elt Ideal) ℓ) (c : Dev nD)

/-- The norm the body takes of its rows, rounded. -/
abbrev bodyNorm (x : FVec Ideal (Mat 512 1024) .f32) (g : FVec Ideal (Mat 1 1024) .f32) : FVec Ideal (Mat 512 1024) .bf16 :=
  truncf .bf16 (normed (n := 512) (d := 1024) 0x44800000#32 reduces_S512x1024_S512 shapeCasts_S512_S512x1 broadcasts_S512x1_S512x1024
    broadcasts_S1x1024_S512x1024 x g) bitsLt_bf16_f32

theorem norm_eq (x0 : FVec Ideal (Mat 512 1024) .f32) (x1 : FVec Ideal (Mat 1 1024) .f32) :
    k0_pay2 (F := Ideal) (View.ld (x0 : Vec Ideal S512x1024 .f32) r0_0) (View.ld (x1 : Vec Ideal S1x1024 .f32) r0_1) = bodyNorm x0 x1 := by
  have l0 : ∀ x : Vec Ideal S512x1024 .f32, View.ld x r0_0 = x := fun x =>
    View.ld_unit_lit (Val := Elt Ideal) (e := .f32) inb_S512x1024_S512x1024_0_0 x (by decide)
  have l1 : ∀ x : Vec Ideal S1x1024 .f32, View.ld x r0_1 = x := fun x =>
    View.ld_unit_lit (Val := Elt Ideal) (e := .f32) inb_S1x1024_S1x1024_0_0 x (by decide)
  rw [l0, l1]
  unfold k0_pay2
  simp only [shapeCast_self]
  rfl

theorem ld2 (w : Vec Ideal S1024x3072 .bf16) : View.ld w r0_2 = cols (n := 1024) (p := 1024) (k := 3072) 0 (by decide) w :=
  ld_cols (Val := Elt Ideal) (e := .bf16) w 0 (by decide) inb_S1024x3072_S1024x1024_0_0

theorem ld3 (w : Vec Ideal S1024x3072 .bf16) : View.ld w r0_3 = cols (n := 1024) (p := 1024) (k := 3072) 1024 (by decide) w :=
  ld_cols (Val := Elt Ideal) (e := .bf16) w 1024 (by decide) inb_S1024x3072_S1024x1024_0_1024

theorem ld4 (w : Vec Ideal S1024x3072 .bf16) : View.ld w r0_4 = cols (n := 1024) (p := 1024) (k := 3072) 2048 (by decide) w :=
  ld_cols (Val := Elt Ideal) (e := .bf16) w 2048 (by decide) inb_S1024x3072_S1024x1024_0_2048

section Body

variable (x0 : FVec Ideal (Mat 512 1024) .f32) (x1 : FVec Ideal (Mat 1 1024) .f32) (x2 : FVec Ideal (Mat 1024 3072) .bf16)

/-- A product of the norm by a block of 1024 columns, from column `o`. -/
abbrev part (o : ℕ) (h : o + 1024 ≤ 3072) : FVec Ideal (Mat 512 1024) .f32 := times (bodyNorm x0 x1) (cols o h x2)

/-- What the body stores as queries. -/
theorem out3_eq : out0_3 (F := Ideal) x0 x1 x2
    = truncf .bf16 (mulf (part x0 x1 x2 0 (by decide)) (broadcast (Mat 512 1024) (Scalar.ofBits .f32 0x3E000000#32))) bitsLt_bf16_f32 := by
  unfold out0_3 k0_pay3
  rw [View.canon_cons_unit_lit _ _ _ (by decide), norm_eq]
  simp only [shapeCast_self]
  rw [ld2]
  rfl

/-- What the body stores as keys. -/
theorem out4_eq : out0_4 (F := Ideal) x0 x1 x2 = part x0 x1 x2 1024 (by decide) := by
  unfold out0_4 k0_pay4
  rw [View.canon_cons_unit_lit _ _ _ (by decide), norm_eq]
  simp only [shapeCast_self]
  rw [ld3]
  rfl

/-- What the body stores as values. -/
theorem out5_eq : out0_5 (F := Ideal) x0 x1 x2 = part x0 x1 x2 2048 (by decide) := by
  unfold out0_5 k0_pay7 k0_pay6
  rw [View.canon_cons_unit_lit _ _ _ (by decide), norm_eq]
  simp only [shapeCast_self]
  rw [ld4]
  rfl

/-- What the body stores as rounded keys. -/
theorem out6_eq : out0_6 (F := Ideal) x0 x1 x2 = truncf .bf16 (part x0 x1 x2 1024 (by decide)) bitsLt_bf16_f32 := by
  rw [← out4_eq]
  unfold out0_6 out0_4 k0_pay5
  rw [View.canon_cons_unit_lit _ _ _ (by decide), View.canon_cons_unit_lit _ _ _ (by decide)]

/-- What the body stores as rounded values. -/
theorem out7_eq : out0_7 (F := Ideal) x0 x1 x2 = truncf .bf16 (part x0 x1 x2 2048 (by decide)) bitsLt_bf16_f32 := by
  rw [← out5_eq]
  unfold out0_7 out0_5 k0_pay1
  rw [View.canon_cons_unit_lit _ _ _ (by decide), View.canon_cons_unit_lit _ _ _ (by decide)]

end Body

/-! ## The blocks a grid point reads -/

theorem index0 : ∀ t : Fin cfg0.N, win0_0.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

/-- 64 tiles of 512 rows. -/
theorem tiles : 64 * 512 = 32768 := by decide

theorem read0 (f : FVec Ideal (Mat 32768 1024) .f32) (t : Fin cfg0.N) : (win0_0.blk t).view.read (Elt Ideal) f = tile (T := 64) tiles f t := by
  funext y
  unfold tile at'
  blk_simp
  refine congrArg f ?_
  blk_ext [index0] <;> rfl

theorem read1 (f : FVec Ideal (Mat 1 1024) .f32) (t : Fin cfg0.N) : (win0_1.blk t).view.read (Elt Ideal) f = f := by
  funext y
  blk_simp
  refine congrArg f ?_
  blk_ext [index1] <;> rfl

theorem read2 (f : FVec Ideal (Mat 1024 3072) .bf16) (t : Fin cfg0.N) : (win0_2.blk t).view.read (Elt Ideal) f = f := by
  funext y
  blk_simp
  refine congrArg f ?_
  blk_ext [index2] <;> rfl

theorem blk0 (t : Fin cfg0.N) : iblk m c 0 t = tile (T := 64) tiles (V m c main_v0) t := read0 _ t
theorem blk1 (t : Fin cfg0.N) : iblk m c 1 t = V m c main_v2 := read1 _ t
theorem blk2 (t : Fin cfg0.N) : iblk m c 2 t = V m c main_v1 := read2 _ t

/-! ## What point `t` leaves in the results' staging buffers -/

theorem flush3 (t : Fin cfg0.N) : (dats m 0 c).flushed 3 t = truncf .bf16 (mulf (part (tile (T := 64) tiles (V m c main_v0) t) (V m c main_v2) (V m c main_v1) 0 (by decide)) (broadcast (Mat 512 1024) (Scalar.ofBits .f32 0x3E000000#32))) bitsLt_bf16_f32 := by
  rw [Value.flushed3, blk0, blk1, blk2, out3_eq]
  rfl

theorem flush4 (t : Fin cfg0.N) : (dats m 0 c).flushed 4 t = part (tile (T := 64) tiles (V m c main_v0) t) (V m c main_v2) (V m c main_v1) 1024 (by decide) := by
  rw [Value.flushed4, blk0, blk1, blk2, out4_eq]
  rfl

theorem flush5 (t : Fin cfg0.N) : (dats m 0 c).flushed 5 t = part (tile (T := 64) tiles (V m c main_v0) t) (V m c main_v2) (V m c main_v1) 2048 (by decide) := by
  rw [Value.flushed5, blk0, blk1, blk2, out5_eq]
  rfl

theorem flush6 (t : Fin cfg0.N) : (dats m 0 c).flushed 6 t = truncf .bf16 (part (tile (T := 64) tiles (V m c main_v0) t) (V m c main_v2) (V m c main_v1) 1024 (by decide)) bitsLt_bf16_f32 := by
  rw [Value.flushed6, blk0, blk1, blk2, out6_eq]
  rfl

theorem flush7 (t : Fin cfg0.N) : (dats m 0 c).flushed 7 t = truncf .bf16 (part (tile (T := 64) tiles (V m c main_v0) t) (V m c main_v2) (V m c main_v1) 2048 (by decide)) bitsLt_bf16_f32 := by
  rw [Value.flushed7, blk0, blk1, blk2, out7_eq]
  rfl

/-! ## The results -/

/-- The norm of every row by 1024 of the weight's columns, from column `o`. -/
abbrev columns (o : ℕ) (h : o + 1024 ≤ 3072) : FVec Ideal (Mat 32768 1024) .f32 :=
  projArray (V m c main_v0) 0x44800000#32 (V m c main_v2) (V m c main_v1) o h

/-- That array at an index of tile `t`. -/
theorem columns_tile (o : ℕ) (h : o + 1024 ≤ 3072) (t : Fin 64) (r : Fin 512) (j : Fin 1024) (i : (Mat 32768 1024).Idx)
    (h0 : (i 0).val = t.val * 512 + r.val) (h1 : (i 1).val = j.val) :
    columns m c o h i = part (tile (T := 64) tiles (V m c main_v0) t) (V m c main_v2) (V m c main_v1) o h (ix2 r j) :=
  projArray_tile (n := 512) tiles (V m c main_v0) _ (V m c main_v2) (V m c main_v1) o h _ t
    (fun r l => normed_apply _ reduces_S512x1024_S512 shapeCasts_S512_S512x1 broadcasts_S512x1_S512x1024
      broadcasts_S1x1024_S512x1024 _ _ r l) r j i h0 h1

/-- The queries after the run. -/
theorem arr3 : (dats m 0 c).arrAt 3 cfg0.N = truncf .bf16 (mulf (columns m c 0 (by decide)) (broadcast (Mat 32768 1024) (Scalar.ofBits .f32 0x3E000000#32))) bitsLt_bf16_f32 := by
  refine (dats m 0 c).arrAt_eq_of_covers 3 _ (by decide +kernel) fun t _ y => ?_
  have hy : y = ix2 (n0 := 512) (n1 := 1024) (y 0) (y 1) := mat_eta (n := 512) (d := 1024) y
  have h := columns_tile m c 0 (by decide) t (y 0) (y 1) (((cfg0.win 3).blk t).view.emb y) (by blk_simp [index3]) (by blk_simp [index3])
  rw [← hy] at h
  exact (congrFun (flush3 m c t) y).trans (congrArg (· * Ideal.ofBits .f32 0x3E000000#32) h).symm

/-- The keys after the run. -/
theorem arr4 : (dats m 0 c).arrAt 4 cfg0.N = columns m c 1024 (by decide) := by
  refine (dats m 0 c).arrAt_eq_of_covers 4 _ (by decide +kernel) fun t _ y => ?_
  have hy : y = ix2 (n0 := 512) (n1 := 1024) (y 0) (y 1) := mat_eta (n := 512) (d := 1024) y
  have h := columns_tile m c 1024 (by decide) t (y 0) (y 1) (((cfg0.win 4).blk t).view.emb y) (by blk_simp [index4]) (by blk_simp [index4])
  rw [← hy] at h
  exact (congrFun (flush4 m c t) y).trans (h).symm

/-- The values after the run. -/
theorem arr5 : (dats m 0 c).arrAt 5 cfg0.N = columns m c 2048 (by decide) := by
  refine (dats m 0 c).arrAt_eq_of_covers 5 _ (by decide +kernel) fun t _ y => ?_
  have hy : y = ix2 (n0 := 512) (n1 := 1024) (y 0) (y 1) := mat_eta (n := 512) (d := 1024) y
  have h := columns_tile m c 2048 (by decide) t (y 0) (y 1) (((cfg0.win 5).blk t).view.emb y) (by blk_simp [index5]) (by blk_simp [index5])
  rw [← hy] at h
  exact (congrFun (flush5 m c t) y).trans (h).symm

/-- The rounded keys after the run. -/
theorem arr6 : (dats m 0 c).arrAt 6 cfg0.N = truncf .bf16 (columns m c 1024 (by decide)) bitsLt_bf16_f32 := by
  refine (dats m 0 c).arrAt_eq_of_covers 6 _ (by decide +kernel) fun t _ y => ?_
  have hy : y = ix2 (n0 := 512) (n1 := 1024) (y 0) (y 1) := mat_eta (n := 512) (d := 1024) y
  have h := columns_tile m c 1024 (by decide) t (y 0) (y 1) (((cfg0.win 6).blk t).view.emb y) (by blk_simp [index6]) (by blk_simp [index6])
  rw [← hy] at h
  exact (congrFun (flush6 m c t) y).trans (h).symm

/-- The rounded values after the run. -/
theorem arr7 : (dats m 0 c).arrAt 7 cfg0.N = truncf .bf16 (columns m c 2048 (by decide)) bitsLt_bf16_f32 := by
  refine (dats m 0 c).arrAt_eq_of_covers 7 _ (by decide +kernel) fun t _ y => ?_
  have hy : y = ix2 (n0 := 512) (n1 := 1024) (y 0) (y 1) := mat_eta (n := 512) (d := 1024) y
  have h := columns_tile m c 2048 (by decide) t (y 0) (y 1) (((cfg0.win 7).blk t).view.emb y) (by blk_simp [index7]) (by blk_simp [index7])
  rw [← hy] at h
  exact (congrFun (flush7 m c t) y).trans (h).symm

/-! ## The arrays the host hands over -/

theorem V_x : V m c main_v0 = shapeCast S32768x1024 (m ((c : Thread nD τ).loc main_arg0)) shapeCasts_S16x2048x1024_S32768x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_g : V m c main_v2 = shapeCast S1x1024 (m ((c : Thread nD τ).loc main_arg1)) shapeCasts_S1024_S1x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_w : V m c main_v1 = truncf (F := Ideal) (s := Mat 1024 3072) (φ := .f32) .bf16 (m ((c : Thread nD τ).loc main_arg2)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

end Cert.KeysStep

end
-- ==== Proof.KeysRef.lean ====
/-
  The stick-breaking projection's reference, read at an index, and the equality of the five results.
-/
module

public import proofs.«01_k».proof.Proof.KeysValue
public import proofs.«01_k».proof.Proof.FfnRef
public import proofs.«01_k».proof.Proof.Gen.KeysReferenceIdeal.Read

@[expose] public section

noncomputable section

namespace Cert.KeysStep

open Idealize.ShloMosaic hiding ix1 ix2
open Idealize.ShloMosaic.TcCoe Idealize.ShloMosaic.ValueIdx
open Cert.KeysReferenceIdeal Cert.KeysReferenceIdeal.Read Cert.Project

variable (x0 : FVec Ideal S16x2048x1024 .f32) (x1 : FVec Ideal S1024 .f32) (x2 : FVec Ideal S1024x3072 .f32)

/-- The reference's norm of a row. -/
theorem ref_norm (r : Fin 32768) (i : Fin 1024) : val_main_v13 (F := Ideal) x0 x1 (ix2 r i)
    = norm 0x44800000#32 (fun k => val_main_v0 (F := Ideal) x0 (ix2 r k)) (fun k => x1 (ix1 k)) i :=
  Cert.HalfStep.ref_norm x0 x1 r i

/-- The reference's projection. -/
theorem ref_proj (r : Fin 32768) (f : Fin 3072) : val_main_v14 (F := Ideal) x0 x1 x2 (ix2 r f)
    = ∑ k : Fin 1024, norm 0x44800000#32 (fun k => val_main_v0 (F := Ideal) x0 (ix2 r k)) (fun k => x1 (ix1 k)) k * x2 (ix2 k f) := by
  rw [val_main_v14_apply]
  refine Finset.sum_congr rfl fun k _ => ?_
  rw [← ref_norm]
  refine congrArg₂ (· * ·) (congrArg _ ?_) (congrArg _ ?_) <;>
  · funext a; match a with | ⟨0, _⟩ => rfl | ⟨1, _⟩ => rfl

variable (h₀ : S16x2048x1024.ShapeCasts S32768x1024) (h₁ : S1024.ShapeCasts (Mat 1 1024)) (hb : FTy.bits .bf16 < FTy.bits .f32)

/-- The kernel's projection of the laid-out operands. -/
abbrev laid (o : ℕ) (h : o + 1024 ≤ 3072) : FVec Ideal (Mat 32768 1024) .f32 :=
  projArray (shapeCast S32768x1024 x0 h₀) 0x44800000#32 (shapeCast (Mat 1 1024) x1 h₁) (truncf (s := Mat 1024 3072) .bf16 x2 hb) o h

/-- The kernel's projection at an index is the reference's. -/
theorem laid_apply (o : ℕ) (h : o + 1024 ≤ 3072) (i : S32768x1024.Idx) (j : S32768x3072.Idx) (h0 : (j 0).val = (i 0).val)
    (h1 : (j 1).val = o + (i 1).val) : laid x0 x1 x2 h₀ h₁ hb o h i = val_main_v14 (F := Ideal) x0 x1 x2 j := by
  have hj : j = ix2 (n0 := 32768) (n1 := 3072) (i 0) ⟨o + (i 1).val, by have : (i 1).val < 1024 := (i 1).isLt; omega⟩ := by
    funext a; match a with | ⟨0, _⟩ => exact Fin.ext h0 | ⟨1, _⟩ => exact Fin.ext h1
  rw [hj]
  refine Eq.trans ?_ (ref_proj x0 x1 x2 (i 0) ⟨o + (i 1).val, _⟩).symm
  unfold laid projArray
  simp only [Cert.HalfStep.row_apply]
  rfl

theorem queries_eq : truncf .bf16 (mulf (laid x0 x1 x2 h₀ h₁ hb 0 (by decide)) (broadcast (Mat 32768 1024) (Scalar.ofBits .f32 0x3E000000#32))) hb
    = val_main_v20 (F := Ideal) x0 x1 x2 := by
  funext i
  rw [val_main_v20_apply, val_main_v19_apply, val_main_v15_apply, val_main_v18_apply, val_main_cst_2_apply]
  exact congrArg (· * Ideal.ofBits .f32 0x3E000000#32)
    (laid_apply x0 x1 x2 h₀ h₁ hb 0 (by decide) i (idx_main_v15 i) rfl (Nat.zero_add _).symm)

theorem keys_eq : laid x0 x1 x2 h₀ h₁ hb 1024 (by decide) = val_main_v16 (F := Ideal) x0 x1 x2 := by
  funext i
  rw [val_main_v16_apply]
  exact laid_apply x0 x1 x2 h₀ h₁ hb 1024 (by decide) i (idx_main_v16 i) rfl rfl

theorem values_eq : laid x0 x1 x2 h₀ h₁ hb 2048 (by decide) = val_main_v17 (F := Ideal) x0 x1 x2 := by
  funext i
  rw [val_main_v17_apply]
  exact laid_apply x0 x1 x2 h₀ h₁ hb 2048 (by decide) i (idx_main_v17 i) rfl rfl

theorem keysb_eq : truncf .bf16 (laid x0 x1 x2 h₀ h₁ hb 1024 (by decide)) hb = val_main_v21 (F := Ideal) x0 x1 x2 := by
  funext i
  rw [val_main_v21_apply, ← keys_eq x0 x1 x2 h₀ h₁ hb]
  rfl

theorem valuesb_eq : truncf .bf16 (laid x0 x1 x2 h₀ h₁ hb 2048 (by decide)) hb = val_main_v22 (F := Ideal) x0 x1 x2 := by
  funext i
  rw [val_main_v22_apply, ← values_eq x0 x1 x2 h₀ h₁ hb]
  rfl

/-! ## The kernel's results are the reference's -/

section Results

variable (m : (ℓ : Loc Cert.KeysIdeal.nD Cert.KeysIdeal.τ Cert.KeysIdeal.sig) → Buf (Elt Ideal) ℓ) (c : Dev Cert.KeysIdeal.nD)

/-- The kernel's columns, of the operands as they are laid out. -/
theorem columns_laid (o : ℕ) (h : o + 1024 ≤ 3072) : columns m c o h = laid (m ((c : Thread Cert.KeysIdeal.nD Cert.KeysIdeal.τ).loc Cert.KeysIdeal.main_arg0))
    (m ((c : Thread Cert.KeysIdeal.nD Cert.KeysIdeal.τ).loc Cert.KeysIdeal.main_arg1)) (m ((c : Thread Cert.KeysIdeal.nD Cert.KeysIdeal.τ).loc Cert.KeysIdeal.main_arg2))
    (by decide) (by decide) (by decide) o h := by
  unfold columns laid
  rw [V_x m c, V_g m c, V_w m c]

/-- The queries. -/
theorem arr3_ref : (Cert.KeysIdeal.Gen.dats m 0 c).arrAt 3 Cert.KeysIdeal.cfg0.N = val_main_v20 (F := Ideal) (m ((c : Thread Cert.KeysIdeal.nD Cert.KeysIdeal.τ).loc Cert.KeysIdeal.main_arg0))
    (m ((c : Thread Cert.KeysIdeal.nD Cert.KeysIdeal.τ).loc Cert.KeysIdeal.main_arg1)) (m ((c : Thread Cert.KeysIdeal.nD Cert.KeysIdeal.τ).loc Cert.KeysIdeal.main_arg2)) := by
  rw [arr3 m c, columns_laid m c]
  exact queries_eq _ _ _ _ _ _

/-- The keys. -/
theorem arr4_ref : (Cert.KeysIdeal.Gen.dats m 0 c).arrAt 4 Cert.KeysIdeal.cfg0.N = val_main_v16 (F := Ideal) (m ((c : Thread Cert.KeysIdeal.nD Cert.KeysIdeal.τ).loc Cert.KeysIdeal.main_arg0))
    (m ((c : Thread Cert.KeysIdeal.nD Cert.KeysIdeal.τ).loc Cert.KeysIdeal.main_arg1)) (m ((c : Thread Cert.KeysIdeal.nD Cert.KeysIdeal.τ).loc Cert.KeysIdeal.main_arg2)) := by
  rw [arr4 m c, columns_laid m c]
  exact keys_eq _ _ _ _ _ _

/-- The values. -/
theorem arr5_ref : (Cert.KeysIdeal.Gen.dats m 0 c).arrAt 5 Cert.KeysIdeal.cfg0.N = val_main_v17 (F := Ideal) (m ((c : Thread Cert.KeysIdeal.nD Cert.KeysIdeal.τ).loc Cert.KeysIdeal.main_arg0))
    (m ((c : Thread Cert.KeysIdeal.nD Cert.KeysIdeal.τ).loc Cert.KeysIdeal.main_arg1)) (m ((c : Thread Cert.KeysIdeal.nD Cert.KeysIdeal.τ).loc Cert.KeysIdeal.main_arg2)) := by
  rw [arr5 m c, columns_laid m c]
  exact values_eq _ _ _ _ _ _

/-- The rounded keys. -/
theorem arr6_ref : (Cert.KeysIdeal.Gen.dats m 0 c).arrAt 6 Cert.KeysIdeal.cfg0.N = val_main_v21 (F := Ideal) (m ((c : Thread Cert.KeysIdeal.nD Cert.KeysIdeal.τ).loc Cert.KeysIdeal.main_arg0))
    (m ((c : Thread Cert.KeysIdeal.nD Cert.KeysIdeal.τ).loc Cert.KeysIdeal.main_arg1)) (m ((c : Thread Cert.KeysIdeal.nD Cert.KeysIdeal.τ).loc Cert.KeysIdeal.main_arg2)) := by
  rw [arr6 m c, columns_laid m c]
  exact keysb_eq _ _ _ _ _ _

/-- The rounded values. -/
theorem arr7_ref : (Cert.KeysIdeal.Gen.dats m 0 c).arrAt 7 Cert.KeysIdeal.cfg0.N = val_main_v22 (F := Ideal) (m ((c : Thread Cert.KeysIdeal.nD Cert.KeysIdeal.τ).loc Cert.KeysIdeal.main_arg0))
    (m ((c : Thread Cert.KeysIdeal.nD Cert.KeysIdeal.τ).loc Cert.KeysIdeal.main_arg1)) (m ((c : Thread Cert.KeysIdeal.nD Cert.KeysIdeal.τ).loc Cert.KeysIdeal.main_arg2)) := by
  rw [arr7 m c, columns_laid m c]
  exact valuesb_eq _ _ _ _ _ _

end Results

end Cert.KeysStep

end
-- ==== Proof.KeysSampleRef.lean ====
/-
  The stick-breaking layer's projection of the sample batch: what its one grid point reads and stores, and the equality of
  the five results with the reference's. What the body does with a block is `KeysValue`'s.
-/
module

public import proofs.«01_k».proof.Proof.KeysRef
public import proofs.«01_k».proof.Proof.Gen.KeysSampleIdeal.Value
public import proofs.«01_k».proof.Proof.Gen.KeysSampleReferenceIdeal.Read

@[expose] public section

noncomputable section

namespace Cert.KeysSampleStep

open Idealize.ShloMosaic hiding ix1 ix2
open Idealize.ShloMosaic.TcCoe Idealize.ShloMosaic.ValueIdx Idealize.ShloMosaic.Tactic Idealize.ShloMosaic.Pipeline
open Cert.Project
open Cert.KeysStep (part bodyNorm)

section Kernel

open Cert.KeysSampleIdeal Cert.KeysSampleIdeal.Gen

variable (m : (ℓ : Loc nD τ sig) → Buf (Elt Ideal) ℓ) (c : Dev nD)

/-! ## What the body stores, as for the prompt batch's block of rows -/

section Body

variable (x0 : FVec Ideal (Mat 512 1024) .f32) (x1 : FVec Ideal (Mat 1 1024) .f32) (x2 : FVec Ideal (Mat 1024 3072) .bf16)

theorem out3_eq' : out0_3 (F := Ideal) x0 x1 x2
    = truncf .bf16 (mulf (part x0 x1 x2 0 (by decide)) (broadcast (Mat 512 1024) (Scalar.ofBits .f32 0x3E000000#32))) bitsLt_bf16_f32 :=
  Cert.KeysStep.out3_eq x0 x1 x2

theorem out4_eq' : out0_4 (F := Ideal) x0 x1 x2 = part x0 x1 x2 1024 (by decide) :=
  Cert.KeysStep.out4_eq x0 x1 x2

theorem out5_eq' : out0_5 (F := Ideal) x0 x1 x2 = part x0 x1 x2 2048 (by decide) :=
  Cert.KeysStep.out5_eq x0 x1 x2

theorem out6_eq' : out0_6 (F := Ideal) x0 x1 x2 = truncf .bf16 (part x0 x1 x2 1024 (by decide)) bitsLt_bf16_f32 :=
  Cert.KeysStep.out6_eq x0 x1 x2

theorem out7_eq' : out0_7 (F := Ideal) x0 x1 x2 = truncf .bf16 (part x0 x1 x2 2048 (by decide)) bitsLt_bf16_f32 :=
  Cert.KeysStep.out7_eq x0 x1 x2

end Body

/-! ## The blocks a grid point reads -/

theorem index0 : ∀ t : Fin cfg0.N, win0_0.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

/-- One tile of 512 rows. -/
theorem tiles : 1 * 512 = 512 := by decide

theorem read0 (f : FVec Ideal (Mat 512 1024) .f32) (t : Fin cfg0.N) : (win0_0.blk t).view.read (Elt Ideal) f = tile (T := 1) tiles f t := by
  funext y
  unfold tile at'
  blk_simp
  refine congrArg f ?_
  blk_ext [index0] <;> rfl

theorem read1 (f : FVec Ideal (Mat 1 1024) .f32) (t : Fin cfg0.N) : (win0_1.blk t).view.read (Elt Ideal) f = f := by
  funext y
  blk_simp
  refine congrArg f ?_
  blk_ext [index1] <;> rfl

theorem read2 (f : FVec Ideal (Mat 1024 3072) .bf16) (t : Fin cfg0.N) : (win0_2.blk t).view.read (Elt Ideal) f = f := by
  funext y
  blk_simp
  refine congrArg f ?_
  blk_ext [index2] <;> rfl

theorem blk0 (t : Fin cfg0.N) : iblk m c 0 t = tile (T := 1) tiles (V m c main_v0) t := read0 _ t
theorem blk1 (t : Fin cfg0.N) : iblk m c 1 t = V m c main_v2 := read1 _ t
theorem blk2 (t : Fin cfg0.N) : iblk m c 2 t = V m c main_v1 := read2 _ t

/-! ## What point `t` leaves in the results' staging buffers -/

theorem flush3 (t : Fin cfg0.N) : (dats m 0 c).flushed 3 t = truncf .bf16 (mulf (part (tile (T := 1) tiles (V m c main_v0) t) (V m c main_v2) (V m c main_v1) 0 (by decide)) (broadcast (Mat 512 1024) (Scalar.ofBits .f32 0x3E000000#32))) bitsLt_bf16_f32 := by
  rw [Value.flushed3, blk0, blk1, blk2, out3_eq']
  rfl

theorem flush4 (t : Fin cfg0.N) : (dats m 0 c).flushed 4 t = part (tile (T := 1) tiles (V m c main_v0) t) (V m c main_v2) (V m c main_v1) 1024 (by decide) := by
  rw [Value.flushed4, blk0, blk1, blk2, out4_eq']
  rfl

theorem flush5 (t : Fin cfg0.N) : (dats m 0 c).flushed 5 t = part (tile (T := 1) tiles (V m c main_v0) t) (V m c main_v2) (V m c main_v1) 2048 (by decide) := by
  rw [Value.flushed5, blk0, blk1, blk2, out5_eq']
  rfl

theorem flush6 (t : Fin cfg0.N) : (dats m 0 c).flushed 6 t = truncf .bf16 (part (tile (T := 1) tiles (V m c main_v0) t) (V m c main_v2) (V m c main_v1) 1024 (by decide)) bitsLt_bf16_f32 := by
  rw [Value.flushed6, blk0, blk1, blk2, out6_eq']
  rfl

theorem flush7 (t : Fin cfg0.N) : (dats m 0 c).flushed 7 t = truncf .bf16 (part (tile (T := 1) tiles (V m c main_v0) t) (V m c main_v2) (V m c main_v1) 2048 (by decide)) bitsLt_bf16_f32 := by
  rw [Value.flushed7, blk0, blk1, blk2, out7_eq']
  rfl

/-! ## The results -/

/-- The norm of every row by 1024 of the weight's columns, from column `o`. -/
abbrev columns (o : ℕ) (h : o + 1024 ≤ 3072) : FVec Ideal (Mat 512 1024) .f32 :=
  projArray (V m c main_v0) 0x44800000#32 (V m c main_v2) (V m c main_v1) o h

/-- That array at an index of tile `t`. -/
theorem columns_tile (o : ℕ) (h : o + 1024 ≤ 3072) (t : Fin 1) (r : Fin 512) (j : Fin 1024) (i : (Mat 512 1024).Idx)
    (h0 : (i 0).val = t.val * 512 + r.val) (h1 : (i 1).val = j.val) :
    columns m c o h i = part (tile (T := 1) tiles (V m c main_v0) t) (V m c main_v2) (V m c main_v1) o h (ix2 r j) :=
  projArray_tile (n := 512) tiles (V m c main_v0) _ (V m c main_v2) (V m c main_v1) o h _ t
    (fun r l => normed_apply _ reduces_S512x1024_S512 shapeCasts_S512_S512x1 broadcasts_S512x1_S512x1024
      broadcasts_S1x1024_S512x1024 _ _ r l) r j i h0 h1

/-- The queries after the run. -/
theorem arr3 : (dats m 0 c).arrAt 3 cfg0.N = truncf .bf16 (mulf (columns m c 0 (by decide)) (broadcast (Mat 512 1024) (Scalar.ofBits .f32 0x3E000000#32))) bitsLt_bf16_f32 := by
  refine (dats m 0 c).arrAt_eq_of_covers 3 _ (by decide +kernel) fun t _ y => ?_
  have hy : y = ix2 (n0 := 512) (n1 := 1024) (y 0) (y 1) := mat_eta (n := 512) (d := 1024) y
  have h := columns_tile m c 0 (by decide) t (y 0) (y 1) (((cfg0.win 3).blk t).view.emb y) (by blk_simp [index3]) (by blk_simp [index3])
  rw [← hy] at h
  exact (congrFun (flush3 m c t) y).trans (congrArg (· * Ideal.ofBits .f32 0x3E000000#32) h).symm

/-- The keys after the run. -/
theorem arr4 : (dats m 0 c).arrAt 4 cfg0.N = columns m c 1024 (by decide) := by
  refine (dats m 0 c).arrAt_eq_of_covers 4 _ (by decide +kernel) fun t _ y => ?_
  have hy : y = ix2 (n0 := 512) (n1 := 1024) (y 0) (y 1) := mat_eta (n := 512) (d := 1024) y
  have h := columns_tile m c 1024 (by decide) t (y 0) (y 1) (((cfg0.win 4).blk t).view.emb y) (by blk_simp [index4]) (by blk_simp [index4])
  rw [← hy] at h
  exact (congrFun (flush4 m c t) y).trans (h).symm

/-- The values after the run. -/
theorem arr5 : (dats m 0 c).arrAt 5 cfg0.N = columns m c 2048 (by decide) := by
  refine (dats m 0 c).arrAt_eq_of_covers 5 _ (by decide +kernel) fun t _ y => ?_
  have hy : y = ix2 (n0 := 512) (n1 := 1024) (y 0) (y 1) := mat_eta (n := 512) (d := 1024) y
  have h := columns_tile m c 2048 (by decide) t (y 0) (y 1) (((cfg0.win 5).blk t).view.emb y) (by blk_simp [index5]) (by blk_simp [index5])
  rw [← hy] at h
  exact (congrFun (flush5 m c t) y).trans (h).symm

/-- The rounded keys after the run. -/
theorem arr6 : (dats m 0 c).arrAt 6 cfg0.N = truncf .bf16 (columns m c 1024 (by decide)) bitsLt_bf16_f32 := by
  refine (dats m 0 c).arrAt_eq_of_covers 6 _ (by decide +kernel) fun t _ y => ?_
  have hy : y = ix2 (n0 := 512) (n1 := 1024) (y 0) (y 1) := mat_eta (n := 512) (d := 1024) y
  have h := columns_tile m c 1024 (by decide) t (y 0) (y 1) (((cfg0.win 6).blk t).view.emb y) (by blk_simp [index6]) (by blk_simp [index6])
  rw [← hy] at h
  exact (congrFun (flush6 m c t) y).trans (h).symm

/-- The rounded values after the run. -/
theorem arr7 : (dats m 0 c).arrAt 7 cfg0.N = truncf .bf16 (columns m c 2048 (by decide)) bitsLt_bf16_f32 := by
  refine (dats m 0 c).arrAt_eq_of_covers 7 _ (by decide +kernel) fun t _ y => ?_
  have hy : y = ix2 (n0 := 512) (n1 := 1024) (y 0) (y 1) := mat_eta (n := 512) (d := 1024) y
  have h := columns_tile m c 2048 (by decide) t (y 0) (y 1) (((cfg0.win 7).blk t).view.emb y) (by blk_simp [index7]) (by blk_simp [index7])
  rw [← hy] at h
  exact (congrFun (flush7 m c t) y).trans (h).symm

/-! ## The arrays the host hands over -/

theorem V_x : V m c main_v0 = shapeCast S512x1024 (m ((c : Thread nD τ).loc main_arg0)) shapeCasts_S128x4x1024_S512x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_g : V m c main_v2 = shapeCast S1x1024 (m ((c : Thread nD τ).loc main_arg1)) shapeCasts_S1024_S1x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_w : V m c main_v1 = truncf (F := Ideal) (s := Mat 1024 3072) (φ := .f32) .bf16 (m ((c : Thread nD τ).loc main_arg2)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

end Kernel

section Reference

open Cert.KeysSampleReferenceIdeal Cert.KeysSampleReferenceIdeal.Read

variable (x0 : FVec Ideal S128x4x1024 .f32) (x1 : FVec Ideal S1024 .f32) (x2 : FVec Ideal S1024x3072 .f32)

/-- The reference's norm of a row. -/
theorem ref_norm (r : Fin 512) (i : Fin 1024) : val_main_v13 (F := Ideal) x0 x1 (ix2 r i)
    = norm 0x44800000#32 (fun k => val_main_v0 (F := Ideal) x0 (ix2 r k)) (fun k => x1 (ix1 k)) i := by
  rw [val_main_v13_apply, val_main_v10_apply, val_main_v12_apply, val_main_v11_apply, val_main_v9_apply, val_main_v8_apply,
    val_main_v7_apply, val_main_v5_apply, val_main_v6_apply, val_main_v4_apply, val_main_v3_apply, val_main_v2_apply,
    val_main_cst_apply]
  rw [show FloatOps.ofBits (F := Ideal) .f32 0x00000000#32 = (0 : EReal) from Ideal.ofBits_zero_f32, zero_add]
  have e : ∀ k : Fin 1024, val_main_v1 (F := Ideal) x0 (idx_main_v2 (idx_main_v3 (idx_main_v9 (ix2 r i))) k)
      = val_main_v0 (F := Ideal) x0 (ix2 r k) * val_main_v0 (F := Ideal) x0 (ix2 r k) := fun k => by
    rw [val_main_v1_apply]
    have : idx_main_v2 (idx_main_v3 (idx_main_v9 (ix2 r i))) k = ix2 r k := by
      funext a; match a with | ⟨0, _⟩ => rfl | ⟨1, _⟩ => rfl
    rw [this]
    rfl
  simp only [e]
  have e1 : idx_main_v11 (idx_main_v12 (ix2 r i)) = ix1 i := by funext a; match a with | ⟨0, _⟩ => rfl
  rw [e1]
  rfl

/-- The reference's projection. -/
theorem ref_proj (r : Fin 512) (f : Fin 3072) : val_main_v14 (F := Ideal) x0 x1 x2 (ix2 r f)
    = ∑ k : Fin 1024, norm 0x44800000#32 (fun k => val_main_v0 (F := Ideal) x0 (ix2 r k)) (fun k => x1 (ix1 k)) k * x2 (ix2 k f) := by
  rw [val_main_v14_apply]
  refine Finset.sum_congr rfl fun k _ => ?_
  rw [← ref_norm]
  refine congrArg₂ (· * ·) (congrArg _ ?_) (congrArg _ ?_) <;>
  · funext a; match a with | ⟨0, _⟩ => rfl | ⟨1, _⟩ => rfl

variable (h₀ : S128x4x1024.ShapeCasts S512x1024) (h₁ : S1024.ShapeCasts (Mat 1 1024)) (hb : FTy.bits .bf16 < FTy.bits .f32)

/-- The kernel's projection of the laid-out operands. -/
abbrev laid (o : ℕ) (h : o + 1024 ≤ 3072) : FVec Ideal (Mat 512 1024) .f32 :=
  projArray (shapeCast S512x1024 x0 h₀) 0x44800000#32 (shapeCast (Mat 1 1024) x1 h₁) (truncf (s := Mat 1024 3072) .bf16 x2 hb) o h

/-- The kernel's projection at an index is the reference's. -/
theorem laid_apply (o : ℕ) (h : o + 1024 ≤ 3072) (i : S512x1024.Idx) (j : S512x3072.Idx) (h0 : (j 0).val = (i 0).val)
    (h1 : (j 1).val = o + (i 1).val) : laid x0 x1 x2 h₀ h₁ hb o h i = val_main_v14 (F := Ideal) x0 x1 x2 j := by
  have hj : j = ix2 (n0 := 512) (n1 := 3072) (i 0) ⟨o + (i 1).val, by have : (i 1).val < 1024 := (i 1).isLt; omega⟩ := by
    funext a; match a with | ⟨0, _⟩ => exact Fin.ext h0 | ⟨1, _⟩ => exact Fin.ext h1
  rw [hj]
  refine Eq.trans ?_ (ref_proj x0 x1 x2 (i 0) ⟨o + (i 1).val, _⟩).symm
  unfold laid projArray
  simp only [Cert.HalfStep.row_apply]
  rfl

theorem queries_eq : truncf .bf16 (mulf (laid x0 x1 x2 h₀ h₁ hb 0 (by decide)) (broadcast (Mat 512 1024) (Scalar.ofBits .f32 0x3E000000#32))) hb
    = val_main_v20 (F := Ideal) x0 x1 x2 := by
  funext i
  rw [val_main_v20_apply, val_main_v19_apply, val_main_v15_apply, val_main_v18_apply, val_main_cst_2_apply]
  exact congrArg (· * Ideal.ofBits .f32 0x3E000000#32)
    (laid_apply x0 x1 x2 h₀ h₁ hb 0 (by decide) i (idx_main_v15 i) rfl (Nat.zero_add _).symm)

theorem keys_eq : laid x0 x1 x2 h₀ h₁ hb 1024 (by decide) = val_main_v16 (F := Ideal) x0 x1 x2 := by
  funext i
  rw [val_main_v16_apply]
  exact laid_apply x0 x1 x2 h₀ h₁ hb 1024 (by decide) i (idx_main_v16 i) rfl rfl

theorem values_eq : laid x0 x1 x2 h₀ h₁ hb 2048 (by decide) = val_main_v17 (F := Ideal) x0 x1 x2 := by
  funext i
  rw [val_main_v17_apply]
  exact laid_apply x0 x1 x2 h₀ h₁ hb 2048 (by decide) i (idx_main_v17 i) rfl rfl

theorem keysb_eq : truncf .bf16 (laid x0 x1 x2 h₀ h₁ hb 1024 (by decide)) hb = val_main_v21 (F := Ideal) x0 x1 x2 := by
  funext i
  rw [val_main_v21_apply, ← keys_eq x0 x1 x2 h₀ h₁ hb]
  rfl

theorem valuesb_eq : truncf .bf16 (laid x0 x1 x2 h₀ h₁ hb 2048 (by decide)) hb = val_main_v22 (F := Ideal) x0 x1 x2 := by
  funext i
  rw [val_main_v22_apply, ← values_eq x0 x1 x2 h₀ h₁ hb]
  rfl

/-! ## The kernel's results are the reference's -/

section Results

variable (m : (ℓ : Loc Cert.KeysSampleIdeal.nD Cert.KeysSampleIdeal.τ Cert.KeysSampleIdeal.sig) → Buf (Elt Ideal) ℓ) (c : Dev Cert.KeysSampleIdeal.nD)

/-- The kernel's columns, of the operands as they are laid out. -/
theorem columns_laid (o : ℕ) (h : o + 1024 ≤ 3072) : columns m c o h = laid (m ((c : Thread Cert.KeysSampleIdeal.nD Cert.KeysSampleIdeal.τ).loc Cert.KeysSampleIdeal.main_arg0))
    (m ((c : Thread Cert.KeysSampleIdeal.nD Cert.KeysSampleIdeal.τ).loc Cert.KeysSampleIdeal.main_arg1)) (m ((c : Thread Cert.KeysSampleIdeal.nD Cert.KeysSampleIdeal.τ).loc Cert.KeysSampleIdeal.main_arg2))
    (by decide) (by decide) (by decide) o h := by
  unfold columns laid
  rw [V_x m c, V_g m c, V_w m c]

/-- The queries. -/
theorem arr3_ref : (Cert.KeysSampleIdeal.Gen.dats m 0 c).arrAt 3 Cert.KeysSampleIdeal.cfg0.N = val_main_v20 (F := Ideal) (m ((c : Thread Cert.KeysSampleIdeal.nD Cert.KeysSampleIdeal.τ).loc Cert.KeysSampleIdeal.main_arg0))
    (m ((c : Thread Cert.KeysSampleIdeal.nD Cert.KeysSampleIdeal.τ).loc Cert.KeysSampleIdeal.main_arg1)) (m ((c : Thread Cert.KeysSampleIdeal.nD Cert.KeysSampleIdeal.τ).loc Cert.KeysSampleIdeal.main_arg2)) := by
  rw [arr3 m c, columns_laid m c]
  exact queries_eq _ _ _ _ _ _

/-- The keys. -/
theorem arr4_ref : (Cert.KeysSampleIdeal.Gen.dats m 0 c).arrAt 4 Cert.KeysSampleIdeal.cfg0.N = val_main_v16 (F := Ideal) (m ((c : Thread Cert.KeysSampleIdeal.nD Cert.KeysSampleIdeal.τ).loc Cert.KeysSampleIdeal.main_arg0))
    (m ((c : Thread Cert.KeysSampleIdeal.nD Cert.KeysSampleIdeal.τ).loc Cert.KeysSampleIdeal.main_arg1)) (m ((c : Thread Cert.KeysSampleIdeal.nD Cert.KeysSampleIdeal.τ).loc Cert.KeysSampleIdeal.main_arg2)) := by
  rw [arr4 m c, columns_laid m c]
  exact keys_eq _ _ _ _ _ _

/-- The values. -/
theorem arr5_ref : (Cert.KeysSampleIdeal.Gen.dats m 0 c).arrAt 5 Cert.KeysSampleIdeal.cfg0.N = val_main_v17 (F := Ideal) (m ((c : Thread Cert.KeysSampleIdeal.nD Cert.KeysSampleIdeal.τ).loc Cert.KeysSampleIdeal.main_arg0))
    (m ((c : Thread Cert.KeysSampleIdeal.nD Cert.KeysSampleIdeal.τ).loc Cert.KeysSampleIdeal.main_arg1)) (m ((c : Thread Cert.KeysSampleIdeal.nD Cert.KeysSampleIdeal.τ).loc Cert.KeysSampleIdeal.main_arg2)) := by
  rw [arr5 m c, columns_laid m c]
  exact values_eq _ _ _ _ _ _

/-- The rounded keys. -/
theorem arr6_ref : (Cert.KeysSampleIdeal.Gen.dats m 0 c).arrAt 6 Cert.KeysSampleIdeal.cfg0.N = val_main_v21 (F := Ideal) (m ((c : Thread Cert.KeysSampleIdeal.nD Cert.KeysSampleIdeal.τ).loc Cert.KeysSampleIdeal.main_arg0))
    (m ((c : Thread Cert.KeysSampleIdeal.nD Cert.KeysSampleIdeal.τ).loc Cert.KeysSampleIdeal.main_arg1)) (m ((c : Thread Cert.KeysSampleIdeal.nD Cert.KeysSampleIdeal.τ).loc Cert.KeysSampleIdeal.main_arg2)) := by
  rw [arr6 m c, columns_laid m c]
  exact keysb_eq _ _ _ _ _ _

/-- The rounded values. -/
theorem arr7_ref : (Cert.KeysSampleIdeal.Gen.dats m 0 c).arrAt 7 Cert.KeysSampleIdeal.cfg0.N = val_main_v22 (F := Ideal) (m ((c : Thread Cert.KeysSampleIdeal.nD Cert.KeysSampleIdeal.τ).loc Cert.KeysSampleIdeal.main_arg0))
    (m ((c : Thread Cert.KeysSampleIdeal.nD Cert.KeysSampleIdeal.τ).loc Cert.KeysSampleIdeal.main_arg1)) (m ((c : Thread Cert.KeysSampleIdeal.nD Cert.KeysSampleIdeal.τ).loc Cert.KeysSampleIdeal.main_arg2)) := by
  rw [arr7 m c, columns_laid m c]
  exact valuesb_eq _ _ _ _ _ _

end Results

end Reference

end Cert.KeysSampleStep

end
-- ==== Proof.LastSampleValue.lean ====
/-
  The last half step of the sample batch: what its one grid point's body stores for the 512 rows, and the arrays the host
  hands over. The hidden features' running sum is `Swiglu`'s, the row norm `Project`'s.
-/
module

public import proofs.«01_k».proof.Proof.Swiglu
public import proofs.«01_k».proof.Proof.Project
public import proofs.«01_k».proof.Proof.Gen.LastSampleIdeal.Value

@[expose] public section

noncomputable section

namespace Cert.LastSampleStep

open Idealize.ShloMosaic hiding ix1 ix2
open Idealize.ShloMosaic.TcCoe Idealize.ShloMosaic.ValueIdx Idealize.ShloMosaic.Tactic Idealize.ShloMosaic.Pipeline
open Cert.LastSampleIdeal Cert.LastSampleIdeal.Gen Cert.Swiglu

variable (m : (ℓ : Loc nD τ sig) → Buf (Elt Ideal) ℓ) (c : Dev nD)

/-- The norm the body takes of its rows. -/
abbrev bodyNorm (x : FVec Ideal (RowsOf 512) .f32) (g : FVec Ideal Row .f32) : FVec Ideal (RowsOf 512) .f32 :=
  Cert.Project.normed (n := 512) (d := 1024) 0x44800000#32 reduces_S512x1024_S512 shapeCasts_S512_S512x1 broadcasts_S512x1_S512x1024
    broadcasts_S1x1024_S512x1024 x g

theorem bodyNorm_apply (x : FVec Ideal (RowsOf 512) .f32) (g : FVec Ideal Row .f32) (r : Fin 512) (i : Fin 1024) :
    bodyNorm x g (ix2 r i) = norm (fun k => x (ix2 r k)) (fun k => g (ix2 0 k)) i :=
  Cert.Project.normed_apply (n := 512) (d := 1024) 0x44800000#32 reduces_S512x1024_S512 shapeCasts_S512_S512x1 broadcasts_S512x1_S512x1024
    broadcasts_S1x1024_S512x1024 x g r i

/-- What the body stores: the norm of the half step of its rows, the hidden features taken in eleven chunks. -/
theorem out_eq (x0 : FVec Ideal (RowsOf 512) .f32) (x1 : FVec Ideal Row .f32) (x2 x3 : FVec Ideal Win .bf16) (x4 : FVec Ideal Wout .bf16)
    (x5 : FVec Ideal Row .f32) :
    out0_6 (F := Ideal) x0 x1 x2 x3 x4 x5 = bodyNorm (halved x0 (accum shapeCasts_S1024x256_S1024x256 shapeCasts_S256x1024_S256x1024 bitsLt_bf16_f32
      (truncf .bf16 (bodyNorm x0 x1) bitsLt_bf16_f32) x2 x3 x4 11)) x5 := by
  have e2 : k0_pay2 (F := Ideal) x0 = x0 := shapeCast_self x0 _
  have e3 : k0_pay3 (F := Ideal) x0 x1 = truncf .bf16 (bodyNorm x0 x1) bitsLt_bf16_f32 := by
    unfold k0_pay3
    rw [e2, shapeCast_self]
    rfl
  have l0 : ∀ x : Vec Ideal S512x1024 .f32, View.ld x r0_0 = x := fun x =>
    View.ld_unit_lit (Val := Elt Ideal) (e := .f32) inb_S512x1024_S512x1024_0_0 x (by decide)
  have l1 : ∀ x : Vec Ideal S1x1024 .f32, View.ld x r0_1 = x := fun x =>
    View.ld_unit_lit (Val := Elt Ideal) (e := .f32) inb_S1x1024_S1x1024_0_0 x (by decide)
  have lc : ∀ (w : Vec Ideal S1024x2816 .bf16) (o : ℕ) (inb),
    View.ld w (Rect.unit (s := S1024x2816) ![0, o] S1024x256.size inb) = cols o w := ld_cols
  have lr : ∀ (w : Vec Ideal S2816x1024 .bf16) (o : ℕ) (inb),
    View.ld w (Rect.unit (s := S2816x1024) ![o, 0] S256x1024.size inb) = rows o w := ld_rows
  have e13 : k0_pay13 (F := Ideal) x5 = x5 := shapeCast_self x5 _
  unfold out0_6 k0_pay18 k0_pay17 k0_pay16 k0_pay15
  rw [View.canon_cons_unit_lit _ _ _ (by decide), l0, l1, l1]
  simp only [lc, lr]
  rw [e2, e13, ← e3]
  rfl

/-! ## The blocks a grid point reads -/

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)

theorem read0 (f : FVec Ideal (RowsOf 512) .f32) (t : Fin cfg0.N) : (win0_0.blk t).view.read (Elt Ideal) f = f := by
  funext y
  blk_simp
  refine congrArg f ?_
  blk_ext [index0] <;> rfl

theorem read1 (f : FVec Ideal Row .f32) (t : Fin cfg0.N) : (win0_1.blk t).view.read (Elt Ideal) f = f := by
  funext y
  blk_simp
  refine congrArg f ?_
  blk_ext [index1] <;> rfl

theorem read2 (f : FVec Ideal Win .bf16) (t : Fin cfg0.N) : (win0_2.blk t).view.read (Elt Ideal) f = f := by
  funext y
  blk_simp
  refine congrArg f ?_
  blk_ext [index2] <;> rfl

theorem read3 (f : FVec Ideal Win .bf16) (t : Fin cfg0.N) : (win0_3.blk t).view.read (Elt Ideal) f = f := by
  funext y
  blk_simp
  refine congrArg f ?_
  blk_ext [index3] <;> rfl

theorem read4 (f : FVec Ideal Wout .bf16) (t : Fin cfg0.N) : (win0_4.blk t).view.read (Elt Ideal) f = f := by
  funext y
  blk_simp
  refine congrArg f ?_
  blk_ext [index4] <;> rfl

theorem read5 (f : FVec Ideal Row .f32) (t : Fin cfg0.N) : (win0_5.blk t).view.read (Elt Ideal) f = f := by
  funext y
  blk_simp
  refine congrArg f ?_
  blk_ext [index5] <;> rfl

/-- The last half step of every row. -/
def lastRows (x : FVec Ideal (RowsOf 512) .f32) (g : FVec Ideal Row .f32) (wg wu : FVec Ideal Win .bf16) (wd : FVec Ideal Wout .bf16)
    (gf : FVec Ideal Row .f32) : FVec Ideal (RowsOf 512) .f32 := fun i =>
  last (fun k => x (ix2 (n0 := 512) (n1 := 1024) (i 0) k)) (fun k => g (ix2 0 k)) (fun k f => wg (ix2 k f)) (fun k f => wu (ix2 k f))
    (fun f k => wd (ix2 f k)) (fun k => gf (ix2 0 k)) (i 1)

/-- What the body stores, at an index. -/
theorem stored_apply (x0 : FVec Ideal (RowsOf 512) .f32) (x1 : FVec Ideal Row .f32) (x2 x3 : FVec Ideal Win .bf16) (x4 : FVec Ideal Wout .bf16)
    (x5 : FVec Ideal Row .f32) (r : Fin 512) (j : Fin 1024) :
    out0_6 (F := Ideal) x0 x1 x2 x3 x4 x5 (ix2 r j) = lastRows x0 x1 x2 x3 x4 x5 (ix2 r j) := by
  rw [out_eq]
  refine (bodyNorm_apply _ x5 r j).trans ?_
  unfold lastRows last
  refine congrArg (norm · _ j) (funext fun i => ?_)
  exact halved_apply shapeCasts_S1024x256_S1024x256 shapeCasts_S256x1024_S256x1024 bitsLt_bf16_f32 x0 x1 _ x2 x3 x4
    (fun r i => bodyNorm_apply x0 x1 r i) r i

/-- What the point leaves in the result's staging buffer. -/
theorem flushed_apply (t : Fin cfg0.N) (r : Fin 512) (j : Fin 1024) : (dats m 0 c).flushed 6 t (ix2 r j)
    = lastRows (V m c main_v0) (V m c main_v4) (V m c main_v1) (V m c main_v2) (V m c main_v3) (V m c main_v5) (ix2 r j) := by
  have e0 : iblk m c 0 t = V m c main_v0 := read0 _ t
  have e1 : iblk m c 1 t = V m c main_v4 := read1 _ t
  have e2 : iblk m c 2 t = V m c main_v1 := read2 _ t
  have e3 : iblk m c 3 t = V m c main_v2 := read3 _ t
  have e4 : iblk m c 4 t = V m c main_v3 := read4 _ t
  have e5 : iblk m c 5 t = V m c main_v5 := read5 _ t
  rw [Value.flushed6, e0, e1, e2, e3, e4, e5]
  exact stored_apply _ _ _ _ _ _ r j

/-- The result array after the run: the last half step of every row of the laid-out operands. -/
theorem arr_eq : (dats m 0 c).arrAt 6 cfg0.N
    = lastRows (V m c main_v0) (V m c main_v4) (V m c main_v1) (V m c main_v2) (V m c main_v3) (V m c main_v5) := by
  refine (dats m 0 c).arrAt_eq_of_covers 6 _ (by decide +kernel) fun t _ y => ?_
  have hy : y = ix2 (n0 := 512) (n1 := 1024) (y 0) (y 1) := Cert.Project.mat_eta (n := 512) (d := 1024) y
  have he : ((cfg0.win 6).blk t).view.emb y = ix2 (n0 := 512) (n1 := 1024) (y 0) (y 1) := by
    blk_ext [index6] <;> rfl
  have h := flushed_apply m c t (y 0) (y 1)
  rw [he, ← h, ← hy]
  rfl

/-! ## The arrays the host hands over -/

theorem V_x : V m c main_v0 = shapeCast S512x1024 (m ((c : Thread nD τ).loc main_arg0)) shapeCasts_S128x4x1024_S512x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_g : V m c main_v4 = shapeCast S1x1024 (m ((c : Thread nD τ).loc main_arg1)) shapeCasts_S1024_S1x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_gf : V m c main_v5 = shapeCast S1x1024 (m ((c : Thread nD τ).loc main_arg5)) shapeCasts_S1024_S1x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_wg : V m c main_v1 = truncf (F := Ideal) (s := Win) (φ := .f32) .bf16 (m ((c : Thread nD τ).loc main_arg2)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

theorem V_wu : V m c main_v2 = truncf (F := Ideal) (s := Win) (φ := .f32) .bf16 (m ((c : Thread nD τ).loc main_arg3)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

theorem V_wd : V m c main_v3 = truncf (F := Ideal) (s := Wout) (φ := .f32) .bf16 (m ((c : Thread nD τ).loc main_arg4)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

end Cert.LastSampleStep

end
-- ==== Proof.LastSampleRef.lean ====
/-
  The sample batch's last half step: its reference, read at an index, and the equality of the two results.
-/
module

public import proofs.«01_k».proof.Proof.KeysSampleRef
public import proofs.«01_k».proof.Proof.LastSampleValue
public import proofs.«01_k».proof.Proof.Gen.LastSampleReferenceIdeal.Read

@[expose] public section

noncomputable section

namespace Cert.LastSampleStep

open Idealize.ShloMosaic hiding ix1 ix2
open Idealize.ShloMosaic.TcCoe Idealize.ShloMosaic.ValueIdx
open Cert.LastSampleReferenceIdeal Cert.LastSampleReferenceIdeal.Read Cert.Swiglu

variable (x0 : FVec Ideal S128x4x1024 .f32) (x1 : FVec Ideal S1024 .f32) (x2 x3 : FVec Ideal S1024x2816 .f32)
  (x4 : FVec Ideal S2816x1024 .f32) (x5 : FVec Ideal S1024 .f32) (r : Fin 512)

/-- A row of the residual stream. -/
abbrev refRow : Fin 1024 → EReal := fun k => val_main_v0 (F := Ideal) x0 (ix2 r k)

/-- The reference's norm of a row. -/
theorem ref_norm (i : Fin 1024) : val_main_v13 (F := Ideal) x0 x1 (ix2 r i) = norm (refRow x0 r) (fun k => x1 (ix1 k)) i :=
  Cert.KeysSampleStep.ref_norm x0 x1 r i

/-- The reference's gate projection. -/
theorem ref_gate (f : Fin 2816) : val_main_v14 (F := Ideal) x0 x1 x2 (ix2 r f)
    = ∑ k : Fin 1024, norm (refRow x0 r) (fun k => x1 (ix1 k)) k * x2 (ix2 k f) := by
  rw [val_main_v14_apply]
  refine Finset.sum_congr rfl fun k _ => ?_
  rw [← ref_norm]
  refine congrArg₂ (· * ·) (congrArg _ ?_) (congrArg _ ?_) <;>
  · funext a; match a with | ⟨0, _⟩ => rfl | ⟨1, _⟩ => rfl

/-- The reference's other projection. -/
theorem ref_up (f : Fin 2816) : val_main_v16 (F := Ideal) x0 x1 x3 (ix2 r f)
    = ∑ k : Fin 1024, norm (refRow x0 r) (fun k => x1 (ix1 k)) k * x3 (ix2 k f) := by
  rw [val_main_v16_apply]
  refine Finset.sum_congr rfl fun k _ => ?_
  rw [← ref_norm]
  refine congrArg₂ (· * ·) (congrArg _ ?_) (congrArg _ ?_) <;>
  · funext a; match a with | ⟨0, _⟩ => rfl | ⟨1, _⟩ => rfl

/-- The reference's hidden feature. -/
theorem ref_act (f : Fin 2816) : val_main_v17 (F := Ideal) x0 x1 x2 x3 (ix2 r f)
    = act (norm (refRow x0 r) fun k => x1 (ix1 k)) (fun k => x2 (ix2 k f)) (fun k => x3 (ix2 k f)) := by
  rw [val_main_v17_apply, val_main_v15_apply, val_main_call0_v5_apply, val_main_call0_v4_apply, val_main_call0_v3_apply,
    val_main_call0_v2_apply, val_main_call0_v1_apply, val_main_call0_v0_apply, val_main_call0_cst_apply, val_main_call0_cst_0_apply,
    ref_gate, ref_up]
  rw [show FloatOps.ofBits (F := Ideal) .f32 0x3F800000#32 = (1 : EReal) from Ideal.ofBits_one_f32]
  rfl

/-- The reference's result at an index. -/
theorem ref_half (j : Fin 1024) : val_main_v21 (F := Ideal) x0 x1 x2 x3 x4 (ix2 r j)
    = half (refRow x0 r) (fun k => x1 (ix1 k)) (fun k f => x2 (ix2 k f)) (fun k f => x3 (ix2 k f)) (fun f k => x4 (ix2 f k)) j := by
  rw [val_main_v21_apply, val_main_v20_apply, val_main_v19_apply, val_main_v18_apply, val_main_cst_2_apply]
  have e : ∀ f : Fin 2816, val_main_v17 (F := Ideal) x0 x1 x2 x3 (lidx_main_v18 (ix2 r j) f) * x4 (ridx_main_v18 (ix2 r j) f)
      = act (norm (refRow x0 r) fun k => x1 (ix1 k)) (fun k => x2 (ix2 k f)) (fun k => x3 (ix2 k f)) * x4 (ix2 f j) := fun f => by
    rw [← ref_act]
    refine congrArg₂ (· * ·) (congrArg _ ?_) (congrArg _ ?_) <;>
    · funext a; match a with | ⟨0, _⟩ => rfl | ⟨1, _⟩ => rfl
  simp only [e]
  rfl

/-- A row of the half step. -/
abbrev halfRow : Fin 1024 → EReal := fun k => val_main_v21 (F := Ideal) x0 x1 x2 x3 x4 (ix2 r k)

/-- The reference's closing norm of a row. -/
theorem ref_last_norm (i : Fin 1024) : val_main_v34 (F := Ideal) x0 x1 x2 x3 x4 x5 (ix2 r i)
    = norm (halfRow x0 x1 x2 x3 x4 r) (fun k => x5 (ix1 k)) i := by
  rw [val_main_v34_apply, val_main_v31_apply, val_main_v33_apply, val_main_v32_apply, val_main_v30_apply, val_main_v29_apply,
    val_main_v28_apply, val_main_v26_apply, val_main_v27_apply, val_main_v25_apply, val_main_v24_apply, val_main_v23_apply,
    val_main_cst_3_apply]
  rw [show FloatOps.ofBits (F := Ideal) .f32 0x00000000#32 = (0 : EReal) from Ideal.ofBits_zero_f32, zero_add]
  have e : ∀ k : Fin 1024, val_main_v22 (F := Ideal) x0 x1 x2 x3 x4 (idx_main_v23 (idx_main_v24 (idx_main_v30 (ix2 r i))) k)
      = halfRow x0 x1 x2 x3 x4 r k * halfRow x0 x1 x2 x3 x4 r k := fun k => by
    rw [val_main_v22_apply]
    have : idx_main_v23 (idx_main_v24 (idx_main_v30 (ix2 r i))) k = ix2 r k := by
      funext a; match a with | ⟨0, _⟩ => rfl | ⟨1, _⟩ => rfl
    rw [this]
    rfl
  simp only [e]
  have e1 : idx_main_v32 (idx_main_v33 (ix2 r i)) = ix1 i := by funext a; match a with | ⟨0, _⟩ => rfl
  rw [e1]
  rfl

/-- The reference's result at an index. -/
theorem ref_last (j : Fin 1024) : val_main_v34 (F := Ideal) x0 x1 x2 x3 x4 x5 (ix2 r j)
    = last (refRow x0 r) (fun k => x1 (ix1 k)) (fun k f => x2 (ix2 k f)) (fun k f => x3 (ix2 k f)) (fun f k => x4 (ix2 f k))
        (fun k => x5 (ix1 k)) j := by
  rw [ref_last_norm]
  unfold last
  refine congrArg (norm · _ j) (funext fun k => ?_)
  exact ref_half x0 x1 x2 x3 x4 r k

/-- The kernel's result is the reference's. -/
theorem last_eq (h₀ : S128x4x1024.ShapeCasts S512x1024) (h₁ h₅ : S1024.ShapeCasts ⟨2, ![1, 1024]⟩) (hb : FTy.bits .bf16 < FTy.bits .f32) :
    lastRows (shapeCast S512x1024 x0 h₀) (shapeCast ⟨2, ![1, 1024]⟩ x1 h₁) (truncf .bf16 x2 hb) (truncf .bf16 x3 hb) (truncf .bf16 x4 hb)
        (shapeCast ⟨2, ![1, 1024]⟩ x5 h₅)
      = val_main_v34 (F := Ideal) x0 x1 x2 x3 x4 x5 := by
  funext i
  have hi : i = ix2 (n0 := 512) (n1 := 1024) (i 0) (i 1) := by
    funext a; match a with | ⟨0, _⟩ => rfl | ⟨1, _⟩ => rfl
  refine Eq.trans ?_ ((ref_last x0 x1 x2 x3 x4 x5 (i 0) (i 1)).symm.trans (congrArg _ hi.symm))
  unfold lastRows
  simp only [Cert.HalfStep.row_apply]
  rfl

end Cert.LastSampleStep

end
-- ==== Proof.GdnValue.lean ====
/-
  The gated DeltaNet's projection: what one grid point's body stores in the two claimed results, the blocks it reads, and
  the arrays the host hands over.
-/
module

public import proofs.«01_k».proof.Proof.Project
public import proofs.«01_k».proof.Proof.Gen.GdnIdeal.Value
public import Idealize.ShloMosaic.Lib.KernelVsHost

@[expose] public section

noncomputable section

namespace Cert.GdnStep

open Idealize.ShloMosaic hiding ix1 ix2
open Idealize.ShloMosaic.TcCoe Idealize.ShloMosaic.ValueIdx Idealize.ShloMosaic.Tactic Idealize.ShloMosaic.Pipeline
open Cert.Project Cert.GdnIdeal Cert.GdnIdeal.Gen

variable (m : (ℓ : Loc nD τ sig) → Buf (Elt Ideal) ℓ) (c : Dev nD)

/-- The norm the body takes of its rows, rounded. -/
abbrev bodyNorm (x : FVec Ideal (Mat 512 1024) .f32) (g : FVec Ideal (Mat 1 1024) .f32) : FVec Ideal (Mat 512 1024) .bf16 :=
  truncf .bf16 (normed (n := 512) (d := 1024) 0x44800000#32 reduces_S512x1024_S512 shapeCasts_S512_S512x1 broadcasts_S512x1_S512x1024
    broadcasts_S1x1024_S512x1024 x g) bitsLt_bf16_f32

theorem norm_eq (x0 : FVec Ideal (Mat 512 1024) .f32) (x1 : FVec Ideal (Mat 1 1024) .f32) :
    k0_pay4 (F := Ideal) (View.ld (x0 : Vec Ideal S512x1024 .f32) r0_0) (View.ld (x1 : Vec Ideal S1x1024 .f32) r0_1) = bodyNorm x0 x1 := by
  have l0 : ∀ x : Vec Ideal S512x1024 .f32, View.ld x r0_0 = x := fun x =>
    View.ld_unit_lit (Val := Elt Ideal) (e := .f32) inb_S512x1024_S512x1024_0_0 x (by decide)
  have l1 : ∀ x : Vec Ideal S1x1024 .f32, View.ld x r0_1 = x := fun x =>
    View.ld_unit_lit (Val := Elt Ideal) (e := .f32) inb_S1x1024_S1x1024_0_0 x (by decide)
  rw [l0, l1]
  unfold k0_pay4
  simp only [shapeCast_self]
  rfl

/-- A block of 1024 columns of the weights. -/
theorem ld_w (w : Vec Ideal S1024x4224 .bf16) (o : ℕ) (h : o + 1024 ≤ 4224) (inb) :
    View.ld w (Rect.unit (s := S1024x4224) ![0, o] S1024x1024.size inb) = cols (n := 1024) (p := 1024) (k := 4224) o h w :=
  ld_cols (Val := Elt Ideal) (e := .bf16) w o h inb

section Body

variable (x0 : FVec Ideal (Mat 512 1024) .f32) (x1 : FVec Ideal (Mat 1 1024) .f32) (x2 : FVec Ideal (Mat 1024 4224) .bf16)
  (x3 : FVec Ideal (Mat 128 1024) .bf16)

/-- A product of the norm by a block of columns, from column `o`. -/
abbrev part (p o : ℕ) (h : o + p ≤ 4224) : FVec Ideal (Mat 512 p) .f32 := times (bodyNorm x0 x1) (cols (n := 1024) (p := p) (k := 4224) o h x2)

/-- A coordinate of an index of a stored block. -/
theorem emb_val (o : ℕ) (inb) (x : S512x1024.Idx) (a : Fin 2) :
    ((Rect.unit (s := S512x3072) ![0, o] S512x1024.size inb).emb x a).val = (![0, o] : Fin 2 → ℕ) a + (x a).val := by
  show (![0, o] : Fin 2 → ℕ) a + 1 * (x a).val = _
  rw [Nat.one_mul]

/-- A block of 1024 columns of the first 3072. -/
theorem part_emb (o : ℕ) (h : o + 1024 ≤ 4224) (h' : o + 1024 ≤ 3072) (inb) (x : (Mat 512 1024).Idx) :
    part x0 x1 x2 1024 o h x = part x0 x1 x2 3072 0 (by decide) ((Rect.unit (s := S512x3072) ![0, o] S512x1024.size inb).emb x) := by
  have hx : x = ix2 (n0 := 512) (n1 := 1024) (x 0) (x 1) := mat_eta x
  have e : (Rect.unit (s := S512x3072) ![0, o] S512x1024.size inb).emb x
      = ix2 (n0 := 512) (n1 := 3072) (x 0) ⟨o + (x 1).val, by have : (x 1).val < 1024 := (x 1).isLt; omega⟩ := by
    funext a
    match a with
    | ⟨0, _⟩ => exact Fin.ext (by rw [emb_val]; exact Nat.zero_add _)
    | ⟨1, _⟩ => exact Fin.ext (by rw [emb_val]; rfl)
  rw [e]
  refine (congrArg (part x0 x1 x2 1024 o h) hx).trans ?_
  unfold part
  refine (times_apply _ _ (x 0) (x 1)).trans (Eq.trans ?_ (times_apply _ _ (x 0) ⟨o + (x 1).val, _⟩).symm)
  refine Finset.sum_congr rfl fun k _ => congrArg _ ?_
  unfold cols
  refine congrArg x2 ?_
  funext a
  match a with
  | ⟨0, _⟩ => rfl
  | ⟨1, _⟩ => exact Fin.ext (Nat.zero_add _).symm

/-- What the body stores for the convolution. -/
theorem out4_eq : out0_4 (F := Ideal) x0 x1 x2 x3 = part x0 x1 x2 3072 0 (by decide) := by
  funext y
  unfold out0_4
  refine View.canon_apply_of_pieces (Val := Elt Ideal) (e := .f32) (part x0 x1 x2 3072 0 (by decide)) _ ?_ y (cover0_4 _ _ _ y)
  intro p hp x
  simp only [List.mem_cons, List.not_mem_nil, or_false] at hp
  rcases hp with rfl | rfl | rfl
  · refine Eq.trans ?_ (part_emb x0 x1 x2 2048 (by decide) (by decide) inb_S512x3072_S512x1024_0_2048 x)
    unfold k0_pay7
    rw [norm_eq, ld_w x2 2048 (by decide)]
    simp only [shapeCast_self]
    rfl
  · refine Eq.trans ?_ (part_emb x0 x1 x2 1024 (by decide) (by decide) inb_S512x3072_S512x1024_0_1024 x)
    unfold k0_pay6
    rw [norm_eq, ld_w x2 1024 (by decide)]
    simp only [shapeCast_self]
    rfl
  · refine Eq.trans ?_ (part_emb x0 x1 x2 0 (by decide) (by decide) inb_S512x3072_S512x1024_0_0 x)
    unfold k0_pay5
    rw [norm_eq, ld_w x2 0 (by decide)]
    simp only [shapeCast_self]
    rfl

/-- What the body stores as the output gate. -/
theorem out5_eq : out0_5 (F := Ideal) x0 x1 x2 x3 = part x0 x1 x2 1024 3072 (by decide) := by
  unfold out0_5 k0_pay1 k0_pay8 k0_pay9
  rw [View.canon_cons_unit_lit _ _ _ (by decide), norm_eq, ld_w x2 3072 (by decide)]
  simp only [shapeCast_self]
  rfl

end Body

/-! ## The blocks a grid point reads -/

theorem index0 : ∀ t : Fin cfg0.N, win0_0.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

/-- 64 tiles of 512 rows. -/
theorem tiles : 64 * 512 = 32768 := by decide

theorem read0 (f : FVec Ideal (Mat 32768 1024) .f32) (t : Fin cfg0.N) : (win0_0.blk t).view.read (Elt Ideal) f = tile (T := 64) tiles f t := by
  funext y
  unfold tile at'
  blk_simp
  refine congrArg f ?_
  blk_ext [index0] <;> rfl

theorem read1 (f : FVec Ideal (Mat 1 1024) .f32) (t : Fin cfg0.N) : (win0_1.blk t).view.read (Elt Ideal) f = f := by
  funext y
  blk_simp
  refine congrArg f ?_
  blk_ext [index1] <;> rfl

theorem read2 (f : FVec Ideal (Mat 1024 4224) .bf16) (t : Fin cfg0.N) : (win0_2.blk t).view.read (Elt Ideal) f = f := by
  funext y
  blk_simp
  refine congrArg f ?_
  blk_ext [index2] <;> rfl

theorem blk0 (t : Fin cfg0.N) : iblk m c 0 t = tile (T := 64) tiles (V m c main_v4) t := read0 _ t
theorem blk1 (t : Fin cfg0.N) : iblk m c 1 t = V m c main_v5 := read1 _ t
theorem blk2 (t : Fin cfg0.N) : iblk m c 2 t = V m c main_v1 := read2 _ t

/-! ## What point `t` leaves in the results' staging buffers -/

theorem flush4 (t : Fin cfg0.N) : (dats m 0 c).flushed 4 t = part (tile (T := 64) tiles (V m c main_v4) t) (V m c main_v5) (V m c main_v1) 3072 0 (by decide) := by
  rw [Value.flushed4, blk0, blk1, blk2, out4_eq]
  rfl

theorem flush5 (t : Fin cfg0.N) : (dats m 0 c).flushed 5 t = part (tile (T := 64) tiles (V m c main_v4) t) (V m c main_v5) (V m c main_v1) 1024 3072 (by decide) := by
  rw [Value.flushed5, blk0, blk1, blk2, out5_eq]
  rfl

/-! ## The results -/

/-- The norm of every row by `p` of the weight's columns, from column `o`. -/
abbrev columns (p o : ℕ) (h : o + p ≤ 4224) : FVec Ideal (Mat 32768 p) .f32 :=
  projArray (V m c main_v4) 0x44800000#32 (V m c main_v5) (V m c main_v1) o h

/-- That array at an index of tile `t`. -/
theorem columns_tile (p o : ℕ) (h : o + p ≤ 4224) (t : Fin 64) (r : Fin 512) (j : Fin p) (i : (Mat 32768 p).Idx)
    (h0 : (i 0).val = t.val * 512 + r.val) (h1 : (i 1).val = j.val) :
    columns m c p o h i = part (tile (T := 64) tiles (V m c main_v4) t) (V m c main_v5) (V m c main_v1) p o h (ix2 r j) :=
  projArray_tile (n := 512) tiles (V m c main_v4) _ (V m c main_v5) (V m c main_v1) o h _ t
    (fun r l => normed_apply _ reduces_S512x1024_S512 shapeCasts_S512_S512x1 broadcasts_S512x1_S512x1024
      broadcasts_S1x1024_S512x1024 _ _ r l) r j i h0 h1

/-- What the convolution takes, after the run. -/
theorem arr4 : (dats m 0 c).arrAt 4 cfg0.N = columns m c 3072 0 (by decide) := by
  refine (dats m 0 c).arrAt_eq_of_covers 4 _ (by decide +kernel) fun t _ y => ?_
  have hy : y = ix2 (n0 := 512) (n1 := 3072) (y 0) (y 1) := mat_eta (n := 512) (d := 3072) y
  have h := columns_tile m c 3072 0 (by decide) t (y 0) (y 1) (((cfg0.win 4).blk t).view.emb y) (by blk_simp [index4]) (by blk_simp [index4])
  rw [← hy] at h
  exact (congrFun (flush4 m c t) y).trans h.symm

/-- The output gate, after the run. -/
theorem arr5 : (dats m 0 c).arrAt 5 cfg0.N = columns m c 1024 3072 (by decide) := by
  refine (dats m 0 c).arrAt_eq_of_covers 5 _ (by decide +kernel) fun t _ y => ?_
  have hy : y = ix2 (n0 := 512) (n1 := 1024) (y 0) (y 1) := mat_eta (n := 512) (d := 1024) y
  have h := columns_tile m c 1024 3072 (by decide) t (y 0) (y 1) (((cfg0.win 5).blk t).view.emb y) (by blk_simp [index5]) (by blk_simp [index5])
  rw [← hy] at h
  exact (congrFun (flush5 m c t) y).trans h.symm

/-! ## The arrays the host hands over -/

theorem V_x : V m c main_v4 = shapeCast S32768x1024 (m ((c : Thread nD τ).loc main_arg0)) shapeCasts_S16x2048x1024_S32768x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_g : V m c main_v5 = shapeCast S1x1024 (m ((c : Thread nD τ).loc main_arg1)) shapeCasts_S1024_S1x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

/-- The padded weights are the weights on their 4112 columns. -/
theorem V_w (k : Fin 1024) (f : ℕ) (h : f < 4112) : V m c main_v1 (ix2 (n0 := 1024) (n1 := 4224) k ⟨f, by omega⟩)
    = m ((c : Thread nD τ).loc main_arg2) (ix2 (n0 := 1024) (n1 := 4112) k ⟨f, h⟩) := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  refine pad_apply_of_inside ![0, 0] ![0, 112] ![0, 0] (m ((c : Thread nD τ).loc main_arg2)) _ pads_S1024x4112_S1024x4224_000_01120 h_S_ _ _ fun a => ?_
  match a with
  | ⟨0, _⟩ => exact (show k.val = 0 + k.val * 1 by omega)
  | ⟨1, _⟩ => exact (show f = 0 + f * 1 by omega)

end Cert.GdnStep

end
-- ==== Proof.GdnRef.lean ====
/-
  The gated DeltaNet's projection: its reference, read at an index, and the equality of the two claimed results.
-/
module

public import proofs.«01_k».proof.Proof.GdnValue
public import proofs.«01_k».proof.Proof.FfnRef
public import proofs.«01_k».proof.Proof.Gen.GdnReferenceIdeal.Read

@[expose] public section

noncomputable section

namespace Cert.GdnStep

open Idealize.ShloMosaic hiding ix1 ix2
open Idealize.ShloMosaic.TcCoe Idealize.ShloMosaic.ValueIdx
open Cert.GdnReferenceIdeal Cert.GdnReferenceIdeal.Read Cert.Project

section Ref

variable (x0 : FVec Ideal S16x2048x1024 .f32) (x1 : FVec Ideal S1024 .f32) (x2 : FVec Ideal S1024x4112 .f32)

/-- The reference's norm of a row. -/
theorem ref_norm (r : Fin 32768) (i : Fin 1024) : val_main_v13 (F := Ideal) x0 x1 (ix2 r i)
    = norm 0x44800000#32 (fun k => val_main_v0 (F := Ideal) x0 (ix2 r k)) (fun k => x1 (ix1 k)) i :=
  Cert.HalfStep.ref_norm x0 x1 r i

/-- The reference's projection. -/
theorem ref_proj (r : Fin 32768) (f : Fin 4112) : val_main_v14 (F := Ideal) x0 x1 x2 (ix2 r f)
    = ∑ k : Fin 1024, norm 0x44800000#32 (fun k => val_main_v0 (F := Ideal) x0 (ix2 r k)) (fun k => x1 (ix1 k)) k * x2 (ix2 k f) := by
  rw [val_main_v14_apply]
  refine Finset.sum_congr rfl fun k _ => ?_
  rw [← ref_norm]
  refine congrArg₂ (· * ·) (congrArg _ ?_) (congrArg _ ?_) <;>
  · funext a; match a with | ⟨0, _⟩ => rfl | ⟨1, _⟩ => rfl

variable (h₀ : S16x2048x1024.ShapeCasts S32768x1024) (h₁ : S1024.ShapeCasts (Mat 1 1024)) (w : FVec Ideal (Mat 1024 4224) .bf16)
  (hw : ∀ (k : Fin 1024) (f : ℕ) (h : f < 4112), w (ix2 k ⟨f, by omega⟩) = x2 (ix2 k ⟨f, h⟩))

include hw in
/-- The kernel's projection by weights padded to 4224 columns, at an index, is the reference's. -/
theorem laid_apply (p o : ℕ) (h : o + p ≤ 4112) (i : (Mat 32768 p).Idx) (j : S32768x4112.Idx) (h0 : (j 0).val = (i 0).val)
    (h1 : (j 1).val = o + (i 1).val) : projArray (p := p) (k := 4224) (shapeCast S32768x1024 x0 h₀) 0x44800000#32
      (shapeCast (Mat 1 1024) x1 h₁) w o (by omega) i = val_main_v14 (F := Ideal) x0 x1 x2 j := by
  have hi : (i 1).val < p := (i 1).isLt
  have hj : j = ix2 (n0 := 32768) (n1 := 4112) (i 0) ⟨o + (i 1).val, by omega⟩ := by
    funext a; match a with | ⟨0, _⟩ => exact Fin.ext h0 | ⟨1, _⟩ => exact Fin.ext h1
  refine Eq.trans ?_ (congrArg (val_main_v14 (F := Ideal) x0 x1 x2) hj).symm
  refine Eq.trans ?_ (ref_proj x0 x1 x2 (i 0) ⟨o + (i 1).val, _⟩).symm
  unfold projArray
  simp only [Cert.HalfStep.row_apply]
  refine Finset.sum_congr rfl fun k _ => ?_
  exact congrArg₂ (· * ·) rfl (hw k (o + (i 1).val) (by omega))

end Ref

/-! ## The kernel's results are the reference's -/

variable (m : (ℓ : Loc Cert.GdnIdeal.nD Cert.GdnIdeal.τ Cert.GdnIdeal.sig) → Buf (Elt Ideal) ℓ) (c : Dev Cert.GdnIdeal.nD)

/-- What the convolution takes. -/
theorem arr4_ref : (Cert.GdnIdeal.Gen.dats m 0 c).arrAt 4 Cert.GdnIdeal.cfg0.N = val_main_v15 (F := Ideal) (m ((c : Thread Cert.GdnIdeal.nD Cert.GdnIdeal.τ).loc Cert.GdnIdeal.main_arg0))
    (m ((c : Thread Cert.GdnIdeal.nD Cert.GdnIdeal.τ).loc Cert.GdnIdeal.main_arg1)) (m ((c : Thread Cert.GdnIdeal.nD Cert.GdnIdeal.τ).loc Cert.GdnIdeal.main_arg2)) := by
  rw [arr4 m c]
  funext i
  rw [val_main_v15_apply]
  unfold columns
  rw [V_x m c, V_g m c]
  exact laid_apply _ _ _ _ _ (Cert.GdnIdeal.Gen.V m c Cert.GdnIdeal.main_v1) (V_w m c) 3072 0 (by decide) i (idx_main_v15 i) rfl (Nat.zero_add _).symm

/-- The output gate. -/
theorem arr5_ref : (Cert.GdnIdeal.Gen.dats m 0 c).arrAt 5 Cert.GdnIdeal.cfg0.N = val_main_v16 (F := Ideal) (m ((c : Thread Cert.GdnIdeal.nD Cert.GdnIdeal.τ).loc Cert.GdnIdeal.main_arg0))
    (m ((c : Thread Cert.GdnIdeal.nD Cert.GdnIdeal.τ).loc Cert.GdnIdeal.main_arg1)) (m ((c : Thread Cert.GdnIdeal.nD Cert.GdnIdeal.τ).loc Cert.GdnIdeal.main_arg2)) := by
  rw [arr5 m c]
  funext i
  rw [val_main_v16_apply]
  unfold columns
  rw [V_x m c, V_g m c]
  exact laid_apply _ _ _ _ _ (Cert.GdnIdeal.Gen.V m c Cert.GdnIdeal.main_v1) (V_w m c) 1024 3072 (by decide) i (idx_main_v16 i) rfl rfl

end Cert.GdnStep

end
-- ==== Proof.GdnSampleRef.lean ====
/-
  The gated DeltaNet's projection of the sample batch: what its one grid point reads and stores, and the equality of the two
  claimed results with the reference's. What the body does with a block is `GdnValue`'s.
-/
module

public import proofs.«01_k».proof.Proof.GdnRef
public import proofs.«01_k».proof.Proof.KeysSampleRef
public import proofs.«01_k».proof.Proof.Gen.GdnSampleIdeal.Value
public import proofs.«01_k».proof.Proof.Gen.GdnSampleReferenceIdeal.Read

@[expose] public section

noncomputable section

namespace Cert.GdnSampleStep

open Idealize.ShloMosaic hiding ix1 ix2
open Idealize.ShloMosaic.TcCoe Idealize.ShloMosaic.ValueIdx Idealize.ShloMosaic.Tactic Idealize.ShloMosaic.Pipeline
open Cert.Project
open Cert.GdnStep (part bodyNorm)

section Kernel

open Cert.GdnSampleIdeal Cert.GdnSampleIdeal.Gen

variable (m : (ℓ : Loc nD τ sig) → Buf (Elt Ideal) ℓ) (c : Dev nD)

/-! ## What the body stores, as for the prompt batch's block of rows -/

section Body

variable (x0 : FVec Ideal (Mat 512 1024) .f32) (x1 : FVec Ideal (Mat 1 1024) .f32) (x2 : FVec Ideal (Mat 1024 4224) .bf16)
  (x3 : FVec Ideal (Mat 128 1024) .bf16)

theorem out4_eq' : out0_4 (F := Ideal) x0 x1 x2 x3 = part x0 x1 x2 3072 0 (by decide) :=
  Cert.GdnStep.out4_eq x0 x1 x2 x3

theorem out5_eq' : out0_5 (F := Ideal) x0 x1 x2 x3 = part x0 x1 x2 1024 3072 (by decide) :=
  Cert.GdnStep.out5_eq x0 x1 x2 x3

end Body

/-! ## The blocks a grid point reads -/

theorem index0 : ∀ t : Fin cfg0.N, win0_0.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)

/-- One tile of 512 rows. -/
theorem tiles : 1 * 512 = 512 := by decide

theorem read0 (f : FVec Ideal (Mat 512 1024) .f32) (t : Fin cfg0.N) : (win0_0.blk t).view.read (Elt Ideal) f = tile (T := 1) tiles f t := by
  funext y
  unfold tile at'
  blk_simp
  refine congrArg f ?_
  blk_ext [index0] <;> rfl

theorem read1 (f : FVec Ideal (Mat 1 1024) .f32) (t : Fin cfg0.N) : (win0_1.blk t).view.read (Elt Ideal) f = f := by
  funext y
  blk_simp
  refine congrArg f ?_
  blk_ext [index1] <;> rfl

theorem read2 (f : FVec Ideal (Mat 1024 4224) .bf16) (t : Fin cfg0.N) : (win0_2.blk t).view.read (Elt Ideal) f = f := by
  funext y
  blk_simp
  refine congrArg f ?_
  blk_ext [index2] <;> rfl

theorem blk0 (t : Fin cfg0.N) : iblk m c 0 t = tile (T := 1) tiles (V m c main_v4) t := read0 _ t
theorem blk1 (t : Fin cfg0.N) : iblk m c 1 t = V m c main_v5 := read1 _ t
theorem blk2 (t : Fin cfg0.N) : iblk m c 2 t = V m c main_v1 := read2 _ t

/-! ## What point `t` leaves in the results' staging buffers -/

theorem flush4 (t : Fin cfg0.N) : (dats m 0 c).flushed 4 t = part (tile (T := 1) tiles (V m c main_v4) t) (V m c main_v5) (V m c main_v1) 3072 0 (by decide) := by
  rw [Value.flushed4, blk0, blk1, blk2, out4_eq']
  rfl

theorem flush5 (t : Fin cfg0.N) : (dats m 0 c).flushed 5 t = part (tile (T := 1) tiles (V m c main_v4) t) (V m c main_v5) (V m c main_v1) 1024 3072 (by decide) := by
  rw [Value.flushed5, blk0, blk1, blk2, out5_eq']
  rfl

/-! ## The results -/

/-- The norm of every row by `p` of the weight's columns, from column `o`. -/
abbrev columns (p o : ℕ) (h : o + p ≤ 4224) : FVec Ideal (Mat 512 p) .f32 :=
  projArray (V m c main_v4) 0x44800000#32 (V m c main_v5) (V m c main_v1) o h

/-- That array at an index of tile `t`. -/
theorem columns_tile (p o : ℕ) (h : o + p ≤ 4224) (t : Fin 1) (r : Fin 512) (j : Fin p) (i : (Mat 512 p).Idx)
    (h0 : (i 0).val = t.val * 512 + r.val) (h1 : (i 1).val = j.val) :
    columns m c p o h i = part (tile (T := 1) tiles (V m c main_v4) t) (V m c main_v5) (V m c main_v1) p o h (ix2 r j) :=
  projArray_tile (n := 512) tiles (V m c main_v4) _ (V m c main_v5) (V m c main_v1) o h _ t
    (fun r l => normed_apply _ reduces_S512x1024_S512 shapeCasts_S512_S512x1 broadcasts_S512x1_S512x1024
      broadcasts_S1x1024_S512x1024 _ _ r l) r j i h0 h1

/-- What the convolution takes, after the run. -/
theorem arr4 : (dats m 0 c).arrAt 4 cfg0.N = columns m c 3072 0 (by decide) := by
  refine (dats m 0 c).arrAt_eq_of_covers 4 _ (by decide +kernel) fun t _ y => ?_
  have hy : y = ix2 (n0 := 512) (n1 := 3072) (y 0) (y 1) := mat_eta (n := 512) (d := 3072) y
  have h := columns_tile m c 3072 0 (by decide) t (y 0) (y 1) (((cfg0.win 4).blk t).view.emb y) (by blk_simp [index4]) (by blk_simp [index4])
  rw [← hy] at h
  exact (congrFun (flush4 m c t) y).trans h.symm

/-- The output gate, after the run. -/
theorem arr5 : (dats m 0 c).arrAt 5 cfg0.N = columns m c 1024 3072 (by decide) := by
  refine (dats m 0 c).arrAt_eq_of_covers 5 _ (by decide +kernel) fun t _ y => ?_
  have hy : y = ix2 (n0 := 512) (n1 := 1024) (y 0) (y 1) := mat_eta (n := 512) (d := 1024) y
  have h := columns_tile m c 1024 3072 (by decide) t (y 0) (y 1) (((cfg0.win 5).blk t).view.emb y) (by blk_simp [index5]) (by blk_simp [index5])
  rw [← hy] at h
  exact (congrFun (flush5 m c t) y).trans h.symm

/-! ## The arrays the host hands over -/

theorem V_x : V m c main_v4 = shapeCast S512x1024 (m ((c : Thread nD τ).loc main_arg0)) shapeCasts_S128x4x1024_S512x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_g : V m c main_v5 = shapeCast S1x1024 (m ((c : Thread nD τ).loc main_arg1)) shapeCasts_S1024_S1x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

/-- The padded weights are the weights on their 4112 columns. -/
theorem V_w (k : Fin 1024) (f : ℕ) (h : f < 4112) : V m c main_v1 (ix2 (n0 := 1024) (n1 := 4224) k ⟨f, by omega⟩)
    = m ((c : Thread nD τ).loc main_arg2) (ix2 (n0 := 1024) (n1 := 4112) k ⟨f, h⟩) := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  refine pad_apply_of_inside ![0, 0] ![0, 112] ![0, 0] (m ((c : Thread nD τ).loc main_arg2)) _ pads_S1024x4112_S1024x4224_000_01120 h_S_ _ _ fun a => ?_
  match a with
  | ⟨0, _⟩ => exact (show k.val = 0 + k.val * 1 by omega)
  | ⟨1, _⟩ => exact (show f = 0 + f * 1 by omega)

end Kernel

section Reference

open Cert.GdnSampleReferenceIdeal Cert.GdnSampleReferenceIdeal.Read

section Ref

variable (x0 : FVec Ideal S128x4x1024 .f32) (x1 : FVec Ideal S1024 .f32) (x2 : FVec Ideal S1024x4112 .f32)

/-- The reference's norm of a row. -/
theorem ref_norm (r : Fin 512) (i : Fin 1024) : val_main_v13 (F := Ideal) x0 x1 (ix2 r i)
    = norm 0x44800000#32 (fun k => val_main_v0 (F := Ideal) x0 (ix2 r k)) (fun k => x1 (ix1 k)) i :=
  Cert.KeysSampleStep.ref_norm x0 x1 r i

/-- The reference's projection. -/
theorem ref_proj (r : Fin 512) (f : Fin 4112) : val_main_v14 (F := Ideal) x0 x1 x2 (ix2 r f)
    = ∑ k : Fin 1024, norm 0x44800000#32 (fun k => val_main_v0 (F := Ideal) x0 (ix2 r k)) (fun k => x1 (ix1 k)) k * x2 (ix2 k f) := by
  rw [val_main_v14_apply]
  refine Finset.sum_congr rfl fun k _ => ?_
  rw [← ref_norm]
  refine congrArg₂ (· * ·) (congrArg _ ?_) (congrArg _ ?_) <;>
  · funext a; match a with | ⟨0, _⟩ => rfl | ⟨1, _⟩ => rfl

variable (h₀ : S128x4x1024.ShapeCasts S512x1024) (h₁ : S1024.ShapeCasts (Mat 1 1024)) (w : FVec Ideal (Mat 1024 4224) .bf16)
  (hw : ∀ (k : Fin 1024) (f : ℕ) (h : f < 4112), w (ix2 k ⟨f, by omega⟩) = x2 (ix2 k ⟨f, h⟩))

include hw in
/-- The kernel's projection by weights padded to 4224 columns, at an index, is the reference's. -/
theorem laid_apply (p o : ℕ) (h : o + p ≤ 4112) (i : (Mat 512 p).Idx) (j : S512x4112.Idx) (h0 : (j 0).val = (i 0).val)
    (h1 : (j 1).val = o + (i 1).val) : projArray (p := p) (k := 4224) (shapeCast S512x1024 x0 h₀) 0x44800000#32
      (shapeCast (Mat 1 1024) x1 h₁) w o (by omega) i = val_main_v14 (F := Ideal) x0 x1 x2 j := by
  have hi : (i 1).val < p := (i 1).isLt
  have hj : j = ix2 (n0 := 512) (n1 := 4112) (i 0) ⟨o + (i 1).val, by omega⟩ := by
    funext a; match a with | ⟨0, _⟩ => exact Fin.ext h0 | ⟨1, _⟩ => exact Fin.ext h1
  refine Eq.trans ?_ (congrArg (val_main_v14 (F := Ideal) x0 x1 x2) hj).symm
  refine Eq.trans ?_ (ref_proj x0 x1 x2 (i 0) ⟨o + (i 1).val, _⟩).symm
  unfold projArray
  simp only [Cert.HalfStep.row_apply]
  refine Finset.sum_congr rfl fun k _ => ?_
  exact congrArg₂ (· * ·) rfl (hw k (o + (i 1).val) (by omega))

end Ref

/-! ## The kernel's results are the reference's -/

variable (m : (ℓ : Loc Cert.GdnSampleIdeal.nD Cert.GdnSampleIdeal.τ Cert.GdnSampleIdeal.sig) → Buf (Elt Ideal) ℓ) (c : Dev Cert.GdnSampleIdeal.nD)

/-- What the convolution takes. -/
theorem arr4_ref : (Cert.GdnSampleIdeal.Gen.dats m 0 c).arrAt 4 Cert.GdnSampleIdeal.cfg0.N = val_main_v15 (F := Ideal) (m ((c : Thread Cert.GdnSampleIdeal.nD Cert.GdnSampleIdeal.τ).loc Cert.GdnSampleIdeal.main_arg0))
    (m ((c : Thread Cert.GdnSampleIdeal.nD Cert.GdnSampleIdeal.τ).loc Cert.GdnSampleIdeal.main_arg1)) (m ((c : Thread Cert.GdnSampleIdeal.nD Cert.GdnSampleIdeal.τ).loc Cert.GdnSampleIdeal.main_arg2)) := by
  rw [arr4 m c]
  funext i
  rw [val_main_v15_apply]
  unfold columns
  rw [V_x m c, V_g m c]
  exact laid_apply _ _ _ _ _ (Cert.GdnSampleIdeal.Gen.V m c Cert.GdnSampleIdeal.main_v1) (V_w m c) 3072 0 (by decide) i (idx_main_v15 i) rfl (Nat.zero_add _).symm

/-- The output gate. -/
theorem arr5_ref : (Cert.GdnSampleIdeal.Gen.dats m 0 c).arrAt 5 Cert.GdnSampleIdeal.cfg0.N = val_main_v16 (F := Ideal) (m ((c : Thread Cert.GdnSampleIdeal.nD Cert.GdnSampleIdeal.τ).loc Cert.GdnSampleIdeal.main_arg0))
    (m ((c : Thread Cert.GdnSampleIdeal.nD Cert.GdnSampleIdeal.τ).loc Cert.GdnSampleIdeal.main_arg1)) (m ((c : Thread Cert.GdnSampleIdeal.nD Cert.GdnSampleIdeal.τ).loc Cert.GdnSampleIdeal.main_arg2)) := by
  rw [arr5 m c]
  funext i
  rw [val_main_v16_apply]
  unfold columns
  rw [V_x m c, V_g m c]
  exact laid_apply _ _ _ _ _ (Cert.GdnSampleIdeal.Gen.V m c Cert.GdnSampleIdeal.main_v1) (V_w m c) 1024 3072 (by decide) i (idx_main_v16 i) rfl rfl

end Reference

end Cert.GdnSampleStep

end
-- ==== Proof.OutValue.lean ====
/-
  The output projection's result array: what one grid point's body stores, the blocks it reads, and the arrays the host
  hands over; its reference; and the equality of the two results.
-/
module

public import proofs.«01_k».proof.Proof.Project
public import proofs.«01_k».proof.Proof.Gen.OutIdeal.Value
public import proofs.«01_k».proof.Proof.Gen.OutReferenceIdeal.Read

@[expose] public section

noncomputable section

namespace Cert.OutStep

open Idealize.ShloMosaic hiding ix1 ix2
open Idealize.ShloMosaic.TcCoe Idealize.ShloMosaic.ValueIdx Idealize.ShloMosaic.Tactic Idealize.ShloMosaic.Pipeline
open Cert.Project

section Kernel

open Cert.OutIdeal Cert.OutIdeal.Gen

variable (m : (ℓ : Loc nD τ sig) → Buf (Elt Ideal) ℓ) (c : Dev nD)

/-- What the body stores: its rows plus the product. -/
theorem out_eq (x0 : FVec Ideal (Mat 512 1024) .f32) (x1 : FVec Ideal (Mat 512 1024) .bf16) (x2 : FVec Ideal (Mat 1024 1024) .bf16) :
    out0_3 (F := Ideal) x0 x1 x2 = addf x0 (times x1 x2) := by
  have l0 : ∀ x : Vec Ideal S512x1024 .f32, View.ld x r0_0 = x := fun x =>
    View.ld_unit_lit (Val := Elt Ideal) (e := .f32) inb_S512x1024_S512x1024_0_0 x (by decide)
  have l0' : ∀ x : Vec Ideal S512x1024 .bf16, View.ld x r0_0 = x := fun x =>
    View.ld_unit_lit (Val := Elt Ideal) (e := .bf16) inb_S512x1024_S512x1024_0_0 x (by decide)
  have l1 : ∀ x : Vec Ideal S1024x1024 .bf16, View.ld x r0_1 = x := fun x =>
    View.ld_unit_lit (Val := Elt Ideal) (e := .bf16) inb_S1024x1024_S1024x1024_0_0 x (by decide)
  unfold out0_3 k0_pay1
  rw [View.canon_cons_unit_lit _ _ _ (by decide), l0, l0', l1]
  simp only [shapeCast_self]
  rfl

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)

/-- 64 tiles of 512 rows. -/
theorem tiles : 64 * 512 = 32768 := by decide

theorem read0 (f : FVec Ideal (Mat 32768 1024) .f32) (t : Fin cfg0.N) : (win0_0.blk t).view.read (Elt Ideal) f = tile (T := 64) tiles f t := by
  funext y
  unfold tile at'
  blk_simp
  refine congrArg f ?_
  blk_ext [index0] <;> rfl

theorem read1 (f : FVec Ideal (Mat 32768 1024) .bf16) (t : Fin cfg0.N) : (win0_1.blk t).view.read (Elt Ideal) f = tile (T := 64) tiles f t := by
  funext y
  unfold tile at'
  blk_simp
  refine congrArg f ?_
  blk_ext [index1] <;> rfl

theorem read2 (f : FVec Ideal (Mat 1024 1024) .bf16) (t : Fin cfg0.N) : (win0_2.blk t).view.read (Elt Ideal) f = f := by
  funext y
  blk_simp
  refine congrArg f ?_
  blk_ext [index2] <;> rfl

/-- What point `t` leaves in the result's staging buffer. -/
theorem flushed_eq (t : Fin cfg0.N) : (dats m 0 c).flushed 3 t
    = addf (tile (T := 64) tiles (V m c main_v0) t) (times (tile (T := 64) tiles (V m c main_arg1) t) (V m c main_v1)) := by
  have e0 : iblk m c 0 t = tile (T := 64) tiles (V m c main_v0) t := read0 _ t
  have e1 : iblk m c 1 t = tile (T := 64) tiles (V m c main_arg1) t := read1 _ t
  have e2 : iblk m c 2 t = V m c main_v1 := read2 _ t
  rw [Value.flushed3, e0, e1, e2, out_eq]
  rfl

/-- The result array after the run: the rows plus the product. -/
theorem arr_eq : (dats m 0 c).arrAt 3 cfg0.N = addArray (V m c main_v0) (V m c main_arg1) (V m c main_v1) := by
  refine (dats m 0 c).arrAt_eq_of_covers 3 _ (by decide +kernel) fun t _ y => ?_
  have hy : y = ix2 (n0 := 512) (n1 := 1024) (y 0) (y 1) := mat_eta (n := 512) (d := 1024) y
  rw [addArray_tile (T := 64) tiles (V m c main_v0) (V m c main_arg1) (V m c main_v1) t (y 0) (y 1)
    (((cfg0.win 3).blk t).view.emb y) (by blk_simp [index3]) (by blk_simp [index3]), ← flushed_eq m c t, ← hy]
  rfl

theorem V_x : V m c main_v0 = shapeCast S32768x1024 (m ((c : Thread nD τ).loc main_arg0)) shapeCasts_S16x2048x1024_S32768x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_w : V m c main_v1 = truncf (F := Ideal) (s := Mat 1024 1024) (φ := .f32) .bf16 (m ((c : Thread nD τ).loc main_arg2)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

end Kernel

section Reference

open Cert.OutReferenceIdeal Cert.OutReferenceIdeal.Read

/-- The kernel's result is the reference's. -/
theorem out_ref (x0 : FVec Ideal S16x2048x1024 .f32) (x1 : FVec Ideal S32768x1024 .bf16) (x2 : FVec Ideal S1024x1024 .f32)
    (h₀ : S16x2048x1024.ShapeCasts S32768x1024) (hb : FTy.bits .bf16 < FTy.bits .f32) :
    addArray (shapeCast S32768x1024 x0 h₀) x1 (truncf (s := Mat 1024 1024) .bf16 x2 hb) = val_main_v3 (F := Ideal) x0 x1 x2 := by
  funext i
  rw [val_main_v3_apply, val_main_v2_apply]
  refine congrArg (_ + ·) (Finset.sum_congr rfl fun l _ => ?_)
  rw [val_main_v1_apply]
  refine congrArg₂ (· * ·) (congrArg x1 ?_) (congrArg x2 ?_) <;>
  · funext a; match a with | ⟨0, _⟩ => rfl | ⟨1, _⟩ => rfl

end Reference

end Cert.OutStep

end
-- ==== Proof.MlaOutValue.lean ====
/-
  The MLA's output product's result array: what one grid point's body stores, the blocks it reads, and the arrays the
  host hands over.
-/
module

public import proofs.«01_k».proof.Proof.Project
public import proofs.«01_k».proof.Proof.Gen.MlaOutIdeal.Value

@[expose] public section

noncomputable section

namespace Cert.MlaOutStep

open Idealize.ShloMosaic hiding ix1 ix2 ix3
open Idealize.ShloMosaic.TcCoe Idealize.ShloMosaic.ValueIdx Idealize.ShloMosaic.Tactic Idealize.ShloMosaic.Pipeline
open Cert.Project

/-! ## Slabs, rows and pairs of heads -/

/-- Sixteen matrices. -/
abbrev Slabs (a b : ℕ) : Shape := ⟨3, ![16, a, b]⟩

/-- One of the sixteen matrices. -/
def slab {α : Type} {a b : ℕ} (h : Fin 16) (x : (Slabs a b).Idx → α) : (Mat a b).Idx → α :=
  fun y => x (ix3 (n0 := 16) (n1 := a) (n2 := b) h (y 0) (y 1))

/-- A load of one of the sixteen matrices. -/
theorem ld_slab {Val : EltTy → Type} {e : EltTy} {a b : ℕ} (x : (Slabs a b).Idx → Val e) (h : ℕ) (hh : h < 16) (inb)
    (hc : (⟨3, ![1, a, b]⟩ : Shape).ShapeCasts (Mat a b)) :
    shapeCast (Mat a b) (View.ld x (Rect.unit (s := Slabs a b) ![h, 0, 0] (⟨3, ![1, a, b]⟩ : Shape).size inb)) hc = slab ⟨h, hh⟩ x := by
  funext y
  rw [mat_eta y]
  refine (shapeCast_1ab_ab_apply _ hc (y 0) (y 1)).trans ?_
  refine View.ld_unit_apply_of x _ _ inb _ _ fun c => ?_
  match c with
  | ⟨0, _⟩ => exact (Nat.add_zero _).symm
  | ⟨1, _⟩ => exact (Nat.zero_add _).symm
  | ⟨2, _⟩ => exact (Nat.zero_add _).symm

/-- A block of a matrix's rows, from row `o`. -/
def rows {α : Type} {k n p : ℕ} (o : ℕ) (h : o + n ≤ k) (w : (Mat k p).Idx → α) : (Mat n p).Idx → α :=
  fun y => w (ix2 (n0 := k) (n1 := p) ⟨o + (y 0).val, by have : (y 0).val < n := (y 0).isLt; omega⟩ (y 1))

/-- A load of a block of rows. -/
theorem ld_rows {Val : EltTy → Type} {e : EltTy} {k n p : ℕ} (w : (Mat k p).Idx → Val e) (o : ℕ) (h : o + n ≤ k) (inb) :
    View.ld w (Rect.unit (s := Mat k p) ![o, 0] (Mat n p).size inb) = rows o h w := by
  funext y
  refine View.ld_unit_apply_of w _ _ inb y _ fun a => ?_
  match a with
  | ⟨0, _⟩ => rfl
  | ⟨1, _⟩ => exact (Nat.zero_add _).symm

variable (o : FVec Ideal (Slabs 512 256) .bf16) (u : FVec Ideal (Slabs 256 128) .bf16) (w : FVec Ideal (Mat 2048 1024) .bf16)

/-- A head's values of a matrix of latent outputs by its value weights. -/
def headOf (a : FVec Ideal (Mat 512 256) .bf16) (b : FVec Ideal (Mat 256 128) .bf16) : FVec Ideal (Mat 512 128) .bf16 :=
  truncf .bf16 (times a b) (by decide)

/-- Two heads' 128 features make 256. -/
theorem two_heads : Shape.Concatenates [Mat 512 128, Mat 512 128] (Mat 512 256) 1 := by decide

/-- Two heads' values side by side. -/
def beside (a b : FVec Ideal (Mat 512 128) .bf16) : FVec Ideal (Mat 512 256) .bf16 :=
  concatenate (Mat 512 256) 1 [⟨Mat 512 128, a⟩, ⟨Mat 512 128, b⟩] two_heads

/-- A head's values. -/
def head (h : Fin 16) : FVec Ideal (Mat 512 128) .bf16 := headOf (slab h o) (slab h u)

/-- Two heads' values side by side, by their rows of the output weights. -/
def pair (j : ℕ) (hj : 256 * j + 256 ≤ 2048) : FVec Ideal (Mat 512 1024) .f32 :=
  times (beside (head o u ⟨2 * j, by omega⟩) (head o u ⟨2 * j + 1, by omega⟩)) (rows (256 * j) hj w)

/-- Row `r`'s value at feature `n` of the sixteen heads' 2048, for any number of rows. -/
def value {M : ℕ} (o : FVec Ideal (Slabs M 256) .bf16) (u : FVec Ideal (Slabs 256 128) .bf16) (r : Fin M) (n : Fin 2048) : EReal :=
  ∑ c : Fin 256, o (ix3 (n0 := 16) (n1 := M) (n2 := 256) ⟨n.val / 128, by omega⟩ r c)
    * u (ix3 (n0 := 16) (n1 := 256) (n2 := 128) ⟨n.val / 128, by omega⟩ c ⟨n.val % 128, by omega⟩)

theorem head_apply (h : Fin 16) (r : Fin 512) (v : Fin 128) (n : Fin 2048) (hn : n.val = h.val * 128 + v.val) :
    head o u h (ix2 r v) = value o u r n := by
  have e1 : (⟨n.val / 128, by omega⟩ : Fin 16) = h := Fin.ext (by show n.val / 128 = h.val; omega)
  have e2 : (⟨n.val % 128, by omega⟩ : Fin 128) = v := Fin.ext (by show n.val % 128 = v.val; omega)
  unfold value
  rw [e1, e2]
  exact times_apply (slab h o) (slab h u) r v

/-- A pair of heads adds its 256 features. -/
theorem pair_apply (j : ℕ) (hj : 256 * j + 256 ≤ 2048)
    (r : Fin 512) (f : Fin 1024) : pair o u w j hj (ix2 r f)
      = ∑ k : Fin 256, value o u r ⟨256 * j + k.val, by omega⟩ * w (ix2 ⟨256 * j + k.val, by omega⟩ f) := by
  unfold pair
  rw [times_apply]
  refine Finset.sum_congr rfl fun k _ => congrArg₂ (· * ·) ?_ rfl
  by_cases hk : k.val < 128
  · refine (concatenate_pair_apply_left (t := Mat 512 256) (s₁ := Mat 512 128) (s₂ := Mat 512 128) 1 _ _ _ _ rfl
      (ix2 r (⟨k.val, hk⟩ : Fin 128)) fun b => ?_).trans (head_apply o u _ r _ _ ?_)
    · match b with
      | ⟨0, _⟩ => rfl
      | ⟨1, _⟩ => rfl
    · show 256 * j + k.val = 2 * j * 128 + k.val
      omega
  · refine (concatenate_pair_apply_right (t := Mat 512 256) (s₁ := Mat 512 128) (s₂ := Mat 512 128) 1 _ _ _ _ rfl rfl
      (ix2 r (⟨k.val - 128, by omega⟩ : Fin 128)) (fun b hb => ?_) ?_).trans (head_apply o u _ r _ _ ?_)
    · match b with
      | ⟨0, _⟩ => rfl
      | ⟨1, _⟩ => exact absurd rfl hb
    · show k.val - 128 + 128 = k.val
      omega
    · show 256 * j + k.val = (2 * j + 1) * 128 + (k.val - 128)
      omega

/-- Eight blocks of 256 make the 2048 features. -/
theorem sum_blocks (T : Fin 2048 → EReal) :
    ∑ j : Fin 8, ∑ k : Fin 256, T ⟨256 * j.val + k.val, by omega⟩ = ∑ n, T n := by
  rw [← (finProdFinEquiv (m := 8) (n := 256)).sum_comp T, Fintype.sum_prod_type]
  refine Finset.sum_congr rfl fun j _ => Finset.sum_congr rfl fun k _ => congrArg T (Fin.ext ?_)
  show 256 * j.val + k.val = k.val + 256 * j.val
  omega

/-- The rows plus the eight pairs, one after the other. -/
def accum (x : FVec Ideal (Mat 512 1024) .f32) :
    FVec Ideal (Mat 512 1024) .f32 :=
  addf (addf (addf (addf (addf (addf (addf (addf x (pair o u w 0 (by decide))) (pair o u w 1 (by decide)))
    (pair o u w 2 (by decide))) (pair o u w 3 (by decide))) (pair o u w 4 (by decide))) (pair o u w 5 (by decide)))
    (pair o u w 6 (by decide))) (pair o u w 7 (by decide))

theorem accum_apply (x : FVec Ideal (Mat 512 1024) .f32)
    (r : Fin 512) (f : Fin 1024) : accum o u w x (ix2 r f) = x (ix2 r f) + ∑ n, value o u r n * w (ix2 n f) := by
  rw [← sum_blocks fun n => value o u r n * w (ix2 n f), Fin.sum_univ_eight]
  unfold accum
  simp only [addf_apply, pair_apply]
  simp only [← add_assoc]
  rfl

/-- The rows plus the heads' values by the output weights. -/
def outArray {M : ℕ} (x : FVec Ideal (Mat M 1024) .f32) (o : FVec Ideal (Slabs M 256) .bf16) (u : FVec Ideal (Slabs 256 128) .bf16)
    (w : FVec Ideal (Mat 2048 1024) .bf16) : FVec Ideal (Mat M 1024) .f32 := fun i =>
  x i + ∑ n, value o u (i 0) n * w (ix2 (n0 := 2048) (n1 := 1024) n (i 1))

section Kernel

open Cert.MlaOutIdeal Cert.MlaOutIdeal.Gen

variable (m : (ℓ : Loc nD τ sig) → Buf (Elt Ideal) ℓ) (c : Dev nD)

/-- One matrix of a block of latent outputs, and of value weights. -/
def asO (x : Vec Ideal S1x512x256 .bf16) : FVec Ideal (Mat 512 256) .bf16 := shapeCast S512x256 x shapeCasts_S1x512x256_S512x256
def asU (x : Vec Ideal S1x256x128 .bf16) : FVec Ideal (Mat 256 128) .bf16 := shapeCast S256x128 x shapeCasts_S1x256x128_S256x128

theorem ld_o (x : Vec Ideal S16x512x256 .bf16) (h : ℕ) (hh : h < 16) (inb) :
    asO (View.ld (Val := Elt Ideal) (e' := .bf16) x (Rect.unit (s := S16x512x256) ![h, 0, 0] S1x512x256.size inb)) = slab ⟨h, hh⟩ x :=
  ld_slab (Val := Elt Ideal) (e := .bf16) x h hh inb _

theorem ld_u (x : Vec Ideal S16x256x128 .bf16) (h : ℕ) (hh : h < 16) (inb) :
    asU (View.ld (Val := Elt Ideal) (e' := .bf16) x (Rect.unit (s := S16x256x128) ![h, 0, 0] S1x256x128.size inb)) = slab ⟨h, hh⟩ x :=
  ld_slab (Val := Elt Ideal) (e := .bf16) x h hh inb _

theorem ld_w (x : Vec Ideal S2048x1024 .bf16) (q : ℕ) (h : q + 256 ≤ 2048) (inb) :
    View.ld (Val := Elt Ideal) (e' := .bf16) x (Rect.unit (s := S2048x1024) ![q, 0] S256x1024.size inb) = rows q h x :=
  ld_rows (Val := Elt Ideal) (e := .bf16) x q h inb

section Payloads

variable (x y : FVec Ideal (Mat 512 1024) .f32) (p : FVec Ideal (Mat 512 128) .bf16) (q z : FVec Ideal (Mat 512 256) .bf16)
  (a a' a'' : Vec Ideal S1x512x256 .bf16) (b b' b'' : Vec Ideal S1x256x128 .bf16) (v v' : FVec Ideal (Mat 256 1024) .bf16)

theorem pay1_eq : k0_pay1 (F := Ideal) x q v a b a' b' v'
    = addf (addf x (times q v)) (times (beside (headOf (asO a) (asU b)) (headOf (asO a') (asU b'))) v') := by
  unfold k0_pay1; simp only [shapeCast_self]; rfl

theorem pay2_eq : k0_pay2 (F := Ideal) x a b a' b' v
    = addf x (times (beside (headOf (asO a) (asU b)) (headOf (asO a') (asU b'))) v) := by
  unfold k0_pay2; simp only [shapeCast_self]; rfl

theorem pay3_eq : k0_pay3 (F := Ideal) a b = headOf (asO a) (asU b) := rfl
theorem pay4_eq : k0_pay4 (F := Ideal) a = asO a := rfl

theorem pay5_eq : k0_pay5 (F := Ideal) x p q b v a' b' a'' b'' v'
    = addf (addf x (times (beside p (headOf q (asU b))) v))
        (times (beside (headOf (asO a') (asU b')) (headOf (asO a'') (asU b''))) v') := by
  unfold k0_pay5; simp only [shapeCast_self]; rfl

theorem pay6_eq : k0_pay6 (F := Ideal) a b = headOf (asO a) (asU b) := rfl

theorem pay7_eq : k0_pay7 (F := Ideal) x p a b v a' b' a'' b'' v'
    = addf (addf x (times (beside p (headOf (asO a) (asU b))) v))
        (times (beside (headOf (asO a') (asU b')) (headOf (asO a'') (asU b''))) v') := by
  unfold k0_pay7; simp only [shapeCast_self]; rfl

theorem pay8_eq : k0_pay8 (F := Ideal) a = asO a := rfl

theorem pay9_eq : k0_pay9 (F := Ideal) x q b a' b' v
    = addf x (times (beside (headOf q (asU b)) (headOf (asO a') (asU b'))) v) := by
  unfold k0_pay9; simp only [shapeCast_self]; rfl

theorem pay10_eq : k0_pay10 (F := Ideal) a b a' b' = beside (headOf (asO a) (asU b)) (headOf (asO a') (asU b')) := rfl

theorem pay11_eq : k0_pay11 (F := Ideal) v = v := by
  unfold k0_pay11; simp only [shapeCast_self]

end Payloads

/-- What the body stores: its rows plus the eight pairs of heads. -/
theorem out_eq (x0 : FVec Ideal (Mat 512 1024) .f32) : out0_4 (F := Ideal) x0 o u w = accum o u w x0 := by
  have l0 : ∀ x : Vec Ideal S512x1024 .f32, View.ld x r0_0 = x := fun x =>
    View.ld_unit_lit (Val := Elt Ideal) (e := .f32) inb_S512x1024_S512x1024_0_0 x (by decide)
  unfold out0_4
  rw [View.canon_cons_unit_lit _ _ _ (by decide), l0]
  simp only [pay1_eq, pay2_eq, pay3_eq, pay4_eq, pay5_eq, pay6_eq, pay7_eq, pay8_eq, pay9_eq, pay10_eq, pay11_eq]
  unfold accum pair head
  repeat' first
    | exact (rfl : x0 = x0)
    | exact ld_o o _ _ _
    | exact ld_u u _ _ _
    | exact ld_w w _ _ _
    | refine congrArg₂ addf ?_ ?_
    | refine congrArg₂ times ?_ ?_
    | refine congrArg₂ beside ?_ ?_
    | refine congrArg₂ headOf ?_ ?_

theorem index0 : ∀ t : Fin cfg0.N, win0_0.index t = ![t.val, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, 0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)

/-- 64 tiles of 512 rows. -/
theorem tiles : 64 * 512 = 32768 := by decide

/-- The rows of tile `t` of each of the sixteen matrices. -/
def slabTile (f : FVec Ideal (Slabs 32768 256) .bf16) (t : Fin 64) : FVec Ideal (Slabs 512 256) .bf16 :=
  fun y => f (ix3 (n0 := 16) (n1 := 32768) (n2 := 256) (y 0) (at' tiles t (y 1)) (y 2))

theorem read0 (f : FVec Ideal (Mat 32768 1024) .f32) (t : Fin cfg0.N) : (win0_0.blk t).view.read (Elt Ideal) f = tile (T := 64) tiles f t := by
  funext y
  unfold tile at'
  blk_simp
  refine congrArg f ?_
  blk_ext [index0] <;> rfl

theorem read1 (f : FVec Ideal (Slabs 32768 256) .bf16) (t : Fin cfg0.N) : (win0_1.blk t).view.read (Elt Ideal) f = slabTile f t := by
  funext y
  unfold slabTile at'
  blk_simp
  refine congrArg f ?_
  blk_ext [index1] <;> rfl

theorem read2 (f : FVec Ideal (Slabs 256 128) .bf16) (t : Fin cfg0.N) : (win0_2.blk t).view.read (Elt Ideal) f = f := by
  funext y
  blk_simp
  refine congrArg f ?_
  blk_ext [index2] <;> rfl

theorem read3 (f : FVec Ideal (Mat 2048 1024) .bf16) (t : Fin cfg0.N) : (win0_3.blk t).view.read (Elt Ideal) f = f := by
  funext y
  blk_simp
  refine congrArg f ?_
  blk_ext [index3] <;> rfl

/-- What point `t` leaves in the result's staging buffer. -/
theorem flushed_eq (t : Fin cfg0.N) : (dats m 0 c).flushed 4 t
    = accum (slabTile (V m c main_v3) t) (V m c main_v1) (V m c main_v4) (tile (T := 64) tiles (V m c main_v2) t) := by
  have e0 : iblk m c 0 t = tile (T := 64) tiles (V m c main_v2) t := read0 _ t
  have e1 : iblk m c 1 t = slabTile (V m c main_v3) t := read1 _ t
  have e2 : iblk m c 2 t = V m c main_v1 := read2 _ t
  have e3 : iblk m c 3 t = V m c main_v4 := read3 _ t
  rw [Value.flushed4, e0, e1, e2, e3, out_eq]
  rfl

/-- The result array after the run: the rows plus the heads' values by the output weights. -/
theorem arr_eq : (dats m 0 c).arrAt 4 cfg0.N = outArray (V m c main_v2) (V m c main_v3) (V m c main_v1) (V m c main_v4) := by
  refine (dats m 0 c).arrAt_eq_of_covers 4 _ (by decide +kernel) fun t _ y => ?_
  have hy : y = ix2 (n0 := 512) (n1 := 1024) (y 0) (y 1) := mat_eta (n := 512) (d := 1024) y
  have e : ((cfg0.win 4).blk t).view.emb y = ix2 (n0 := 32768) (n1 := 1024) (at' (T := 64) tiles t (y 0)) (y 1) := by
    funext b
    match b with
    | ⟨0, _⟩ => exact Fin.ext (by blk_simp [index4]; rfl)
    | ⟨1, _⟩ => exact Fin.ext (by blk_simp [index4]; rfl)
  have f : outArray (V m c main_v2) (V m c main_v3) (V m c main_v1) (V m c main_v4) (((cfg0.win 4).blk t).view.emb y)
      = (dats m 0 c).flushed 4 t y := by
    rw [e, flushed_eq m c t, hy]
    refine Eq.trans ?_ (accum_apply (slabTile (V m c main_v3) t) (V m c main_v1) (V m c main_v4)
      (tile (T := 64) tiles (V m c main_v2) t) (y 0) (y 1)).symm
    rfl
  rw [f]
  rfl

theorem V_x : V m c main_v2 = shapeCast S32768x1024 (m ((c : Thread nD τ).loc main_arg0)) shapeCasts_S16x2048x1024_S32768x1024 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_o : V m c main_v3 = shapeCast S16x32768x256 (m ((c : Thread nD τ).loc main_arg1)) shapeCasts_S16x16x2048x256_S16x32768x256 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp
  rfl

theorem V_u : V m c main_v1 = truncf (F := Ideal) (s := S16x256x128) (φ := .f32) .bf16
    (transpose S16x256x128 [1, 0, 2] (m ((c : Thread nD τ).loc main_arg2)) transposes_S256x16x128_S16x256x128_1_0_2) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

theorem V_w : V m c main_v4 = truncf (F := Ideal) (s := Mat 2048 1024) (φ := .f32) .bf16 (m ((c : Thread nD τ).loc main_arg3)) bitsLt_bf16_f32 := by
  unfold V
  simp only [hostOps0, List.flatten_cons, List.flatten_nil, List.cons_append, List.nil_append, List.append_nil, StableHlo.TRef.ternary, StableHlo.TRef.unary, StableHlo.TRef.toBuf, StableHlo.TRef.ofBuf, cast_eq]
  after_results_simp

end Kernel

end Cert.MlaOutStep

end
-- ==== Proof.MlaOutRef.lean ====
/-
  The MLA's output product's reference, read at an index, and the equality of the two results.
-/
module

public import proofs.«01_k».proof.Proof.MlaOutValue
public import proofs.«01_k».proof.Proof.Gen.MlaOutReferenceIdeal.Read

@[expose] public section

noncomputable section

namespace Cert.MlaOutStep

open Idealize.ShloMosaic hiding ix1 ix2 ix3 ix4
open Idealize.ShloMosaic.TcCoe Idealize.ShloMosaic.ValueIdx
open Cert.MlaOutReferenceIdeal Cert.MlaOutReferenceIdeal.Read Cert.Project

variable (x0 : FVec Ideal S16x2048x1024 .f32) (x1 : FVec Ideal S16x16x2048x256 .bf16) (x2 : FVec Ideal S256x16x128 .f32)
  (x3 : FVec Ideal S2048x1024 .f32)

/-- The kernel's latent outputs, the batch's rows one after the other, at an index. -/
theorem lat_apply (h₁ : S16x16x2048x256.ShapeCasts (Slabs 32768 256)) (h : Fin 16) (r : Fin 32768) (c : Fin 256) :
    shapeCast (Slabs 32768 256) x1 h₁ (ix3 (n0 := 16) (n1 := 32768) (n2 := 256) h r c)
      = x1 (ix4 (n0 := 16) (n1 := 16) (n2 := 2048) (n3 := 256) h ⟨r.val / 2048, by omega⟩ ⟨r.val % 2048, by omega⟩ c) := by
  refine shapeCast_apply x1 h₁ _ _ ?_
  rw [Shape.rowMajor_val_four, Shape.rowMajor_val_three]
  show ((h.val * 16 + r.val / 2048) * 2048 + r.val % 2048) * 256 + c.val = (h.val * 32768 + r.val) * 256 + c.val
  omega

/-- The kernel's value weights, heads first, at an index. -/
theorem uv_apply (h₂ : S256x16x128.Transposes [1, 0, 2] (Slabs 256 128)) (h : Fin 16) (c : Fin 256) (v : Fin 128) :
    transpose (Slabs 256 128) [1, 0, 2] x2 h₂ (ix3 (n0 := 16) (n1 := 256) (n2 := 128) h c v)
      = x2 (ix3 (n0 := 256) (n1 := 16) (n2 := 128) c h v) :=
  transpose_apply [1, 0, 2] x2 h₂ _ _ (fun a => match a with
    | ⟨0, _⟩ => rfl
    | ⟨1, _⟩ => rfl
    | ⟨2, _⟩ => rfl)

/-- The heads' values are the reference's. -/
theorem value_ref (h₁ : S16x16x2048x256.ShapeCasts (Slabs 32768 256)) (h₂ : S256x16x128.Transposes [1, 0, 2] (Slabs 256 128))
    (hb : FTy.bits .bf16 < FTy.bits .f32) (i : S32768x2048.Idx) :
    value (shapeCast (Slabs 32768 256) x1 h₁) (truncf (s := Slabs 256 128) .bf16 (transpose (Slabs 256 128) [1, 0, 2] x2 h₂) hb) (i 0) (i 1)
      = val_main_v4 (F := Ideal) x1 x2 i := by
  have hi0 : (i 0).val < 32768 := (i 0).isLt
  have hi1 : (i 1).val < 2048 := (i 1).isLt
  rw [val_main_v4_apply, val_main_v3_apply, val_main_v2_apply]
  unfold value
  refine Finset.sum_congr rfl fun c _ => ?_
  rw [mul_comm, val_main_v1_apply]
  refine congrArg₂ (· * ·) ((uv_apply x2 h₂ _ c _).trans (congrArg x2 ?_)) ((lat_apply x1 h₁ _ (i 0) c).trans (congrArg x1 ?_))
  · funext a
    match a with
    | ⟨0, _⟩ => rfl
    | ⟨1, _⟩ => exact Fin.ext (by show (i 1).val / 128 = ((i 0).val * 2048 + (i 1).val) / 128 % 16; omega)
    | ⟨2, _⟩ => exact Fin.ext (by show (i 1).val % 128 = ((i 0).val * 2048 + (i 1).val) % 128; omega)
  · funext a
    match a with
    | ⟨0, _⟩ => exact Fin.ext (by show (i 1).val / 128 = ((i 0).val * 2048 + (i 1).val) / 128 % 16; omega)
    | ⟨1, _⟩ => exact Fin.ext (by show (i 0).val / 2048 = ((i 0).val * 2048 + (i 1).val) / 4194304; omega)
    | ⟨2, _⟩ => exact Fin.ext (by show (i 0).val % 2048 = ((i 0).val * 2048 + (i 1).val) / 2048 % 2048; omega)
    | ⟨3, _⟩ => rfl

/-- The kernel's result is the reference's. -/
theorem out_ref (h₀ : S16x2048x1024.ShapeCasts S32768x1024) (h₁ : S16x16x2048x256.ShapeCasts (Slabs 32768 256))
    (h₂ : S256x16x128.Transposes [1, 0, 2] (Slabs 256 128)) (hb : FTy.bits .bf16 < FTy.bits .f32) :
    outArray (shapeCast S32768x1024 x0 h₀) (shapeCast (Slabs 32768 256) x1 h₁)
        (truncf (s := Slabs 256 128) .bf16 (transpose (Slabs 256 128) [1, 0, 2] x2 h₂) hb) (truncf (s := Mat 2048 1024) .bf16 x3 hb)
      = val_main_v6 (F := Ideal) x0 x1 x2 x3 := by
  funext i
  rw [val_main_v6_apply, val_main_v5_apply]
  refine congrArg (_ + ·) (Finset.sum_congr rfl fun n _ => congrArg₂ (· * ·) ?_ (congrArg x3 ?_))
  · exact value_ref x1 x2 h₁ h₂ hb (lidx_main_v5 i n)
  · funext a; match a with | ⟨0, _⟩ => rfl | ⟨1, _⟩ => rfl

end Cert.MlaOutStep

end
-- ==== Proof.lean ====
/-
  The certificate's claim. For the attention: the frames of the kernel, of its idealization and of the reference, the
  named mask constant, and the equality of the kernel's result with the reference's where every entry of the arguments
  is finite. For every other call (the feed-forward half steps, the output products, the projections, and the sample
  batch's projections and last half step): the three frames, and the equality of the results.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Finite
public import proofs.«01_k».proof.Proof.FfnRef
public import proofs.«01_k».proof.Proof.LastRef
public import proofs.«01_k».proof.Proof.Gen.Ffn
public import proofs.«01_k».proof.Proof.Gen.Ffn.Frame
public import proofs.«01_k».proof.Proof.Gen.FfnIdeal
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.FfnReferenceIdeal.Read
public import proofs.«01_k».proof.Proof.Gen.Last
public import proofs.«01_k».proof.Proof.Gen.Last.Frame
public import proofs.«01_k».proof.Proof.Gen.LastIdeal
public import proofs.«01_k».proof.Proof.Gen.LastIdeal.Value
public import proofs.«01_k».proof.Proof.Gen.LastReferenceIdeal
public import proofs.«01_k».proof.Proof.Gen.LastReferenceIdeal.Run
public import proofs.«01_k».proof.Proof.Gen.LastReferenceIdeal.Read
public import proofs.«01_k».proof.Proof.LastSampleRef
public import proofs.«01_k».proof.Proof.Gen.LastSample
public import proofs.«01_k».proof.Proof.Gen.LastSample.Frame
public import proofs.«01_k».proof.Proof.Gen.LastSampleIdeal
public import proofs.«01_k».proof.Proof.Gen.LastSampleIdeal.Value
public import proofs.«01_k».proof.Proof.Gen.LastSampleReferenceIdeal
public import proofs.«01_k».proof.Proof.Gen.LastSampleReferenceIdeal.Run
public import proofs.«01_k».proof.Proof.Gen.LastSampleReferenceIdeal.Read
public import proofs.«01_k».proof.Proof.KeysSampleRef
public import proofs.«01_k».proof.Proof.Gen.KeysSample
public import proofs.«01_k».proof.Proof.Gen.KeysSample.Frame
public import proofs.«01_k».proof.Proof.Gen.KeysSampleIdeal
public import proofs.«01_k».proof.Proof.Gen.KeysSampleIdeal.Value
public import proofs.«01_k».proof.Proof.Gen.KeysSampleReferenceIdeal
public import proofs.«01_k».proof.Proof.Gen.KeysSampleReferenceIdeal.Run
public import proofs.«01_k».proof.Proof.Gen.KeysSampleReferenceIdeal.Read
public import proofs.«01_k».proof.Proof.GdnSampleRef
public import proofs.«01_k».proof.Proof.Gen.GdnSample
public import proofs.«01_k».proof.Proof.Gen.GdnSample.Frame
public import proofs.«01_k».proof.Proof.Gen.GdnSampleIdeal
public import proofs.«01_k».proof.Proof.Gen.GdnSampleIdeal.Value
public import proofs.«01_k».proof.Proof.Gen.GdnSampleReferenceIdeal
public import proofs.«01_k».proof.Proof.Gen.GdnSampleReferenceIdeal.Run
public import proofs.«01_k».proof.Proof.Gen.GdnSampleReferenceIdeal.Read
public import proofs.«01_k».proof.Proof.OutValue
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutReferenceIdeal
public import proofs.«01_k».proof.Proof.Gen.OutReferenceIdeal.Run
public import proofs.«01_k».proof.Proof.Gen.OutReferenceIdeal.Read
public import proofs.«01_k».proof.Proof.MlaOutValue
public import proofs.«01_k».proof.Proof.MlaOutRef
public import proofs.«01_k».proof.Proof.Gen.MlaOut
public import proofs.«01_k».proof.Proof.Gen.MlaOut.Frame
public import proofs.«01_k».proof.Proof.Gen.MlaOutIdeal
public import proofs.«01_k».proof.Proof.Gen.MlaOutIdeal.Value
public import proofs.«01_k».proof.Proof.Gen.MlaOutReferenceIdeal
public import proofs.«01_k».proof.Proof.Gen.MlaOutReferenceIdeal.Run
public import proofs.«01_k».proof.Proof.Gen.MlaOutReferenceIdeal.Read
public import proofs.«01_k».proof.Proof.KeysValue
public import proofs.«01_k».proof.Proof.KeysRef
public import proofs.«01_k».proof.Proof.Gen.Keys
public import proofs.«01_k».proof.Proof.Gen.Keys.Frame
public import proofs.«01_k».proof.Proof.Gen.KeysIdeal
public import proofs.«01_k».proof.Proof.Gen.KeysIdeal.Value
public import proofs.«01_k».proof.Proof.Gen.KeysReferenceIdeal
public import proofs.«01_k».proof.Proof.Gen.KeysReferenceIdeal.Run
public import proofs.«01_k».proof.Proof.Gen.KeysReferenceIdeal.Read
public import proofs.«01_k».proof.Proof.GdnValue
public import proofs.«01_k».proof.Proof.GdnRef
public import proofs.«01_k».proof.Proof.Gen.Gdn
public import proofs.«01_k».proof.Proof.Gen.Gdn.Frame
public import proofs.«01_k».proof.Proof.Gen.GdnIdeal
public import proofs.«01_k».proof.Proof.Gen.GdnIdeal.Value
public import proofs.«01_k».proof.Proof.Gen.GdnReferenceIdeal
public import proofs.«01_k».proof.Proof.Gen.GdnReferenceIdeal.Run
public import proofs.«01_k».proof.Proof.Gen.GdnReferenceIdeal.Read

@[expose] public section

noncomputable section

namespace Cert.Proof

open Idealize.ShloMosaic Idealize.ShloMosaic.TcCoe Idealize.SL.Sem
open Cert.Attn

attribute [local instance] Cert.Attn.finiteFacts Cert.Kernel.Gen.facts Cert.KernelIdeal.Gen.facts Cert.ReferenceIdeal.Gen.facts
  Cert.Ffn.Gen.facts Cert.FfnIdeal.Gen.facts Cert.FfnReferenceIdeal.Gen.facts
  Cert.Last.Gen.facts Cert.LastIdeal.Gen.facts Cert.LastReferenceIdeal.Gen.facts
  Cert.Out.Gen.facts Cert.OutIdeal.Gen.facts Cert.OutReferenceIdeal.Gen.facts
  Cert.MlaOut.Gen.facts Cert.MlaOutIdeal.Gen.facts Cert.MlaOutReferenceIdeal.Gen.facts
  Cert.Keys.Gen.facts Cert.KeysIdeal.Gen.facts Cert.KeysReferenceIdeal.Gen.facts
  Cert.Gdn.Gen.facts Cert.GdnIdeal.Gen.facts Cert.GdnReferenceIdeal.Gen.facts
  Cert.KeysSample.Gen.facts Cert.KeysSampleIdeal.Gen.facts Cert.KeysSampleReferenceIdeal.Gen.facts
  Cert.GdnSample.Gen.facts Cert.GdnSampleIdeal.Gen.facts Cert.GdnSampleReferenceIdeal.Gen.facts
  Cert.LastSample.Gen.facts Cert.LastSampleIdeal.Gen.facts Cert.LastSampleReferenceIdeal.Gen.facts

/-- The reference leaves its arguments as they were; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The mask constant the kernel subtracts its scores to stands for minus infinity in the idealization. -/
theorem preserves : Cert.preserves_Kernel_KernelIdeal :=
  IdealRules.named_const.statement Cert.KernelIdeal.κ "mask" .f32 0xF149F2CA#32 ⊥ rfl

/-- The kernel's result is the reference's: causal softmax attention over the latent and rotary scores. -/
theorem algebraic : Cert.algebraic_KernelIdeal_ReferenceIdeal_pre_finite := fun m g m' g' hpre hargs => by
  refine ⟨fun c => attnArray (Cert.KernelIdeal.Gen.V m c Cert.KernelIdeal.main_v24) (Cert.KernelIdeal.Gen.V m c Cert.KernelIdeal.main_v25), ?_, ?_⟩
  · exact (θ_run Cert.KernelIdeal.defs _ _).mono (fun r h c => ⟨(h c).1.trans (arr_eq m c), (h c).2⟩)
      (Cert.KernelIdeal.Value.run_blocks m g)
  · refine (θ_run Cert.ReferenceIdeal.defs _ _).mono (fun r h c => ⟨(h c).1.trans ?_, (h c).2⟩)
      (Cert.ReferenceIdeal.Value.run (F := Ideal) m' g')
    obtain ⟨p0, p1, p2, p3⟩ := hpre c
    obtain ⟨e0, e1, e2, e3⟩ := hargs c
    rw [Cert.ReferenceIdeal.Read.val_main_v28_eq, e0, e1, e2, e3]
    show _ = attnArray (Cert.KernelIdeal.Gen.V m c Cert.KernelIdeal.main_v24) (Cert.KernelIdeal.Gen.V m c Cert.KernelIdeal.main_v25)
    rw [V_queries, V_keys]
    exact (attn_eq _ _ _ _ (isReal_of_finite _ _ p0) (isReal_of_finite _ _ p1) (isReal_of_finite _ _ p2) (isReal_of_finite _ _ p3)).symm

/-- The reference of the feed-forward half step leaves its arguments as they were; it declares no semaphore. -/
theorem frame_ffn_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The kernel's result is the reference's: the feed-forward half step of every row. -/
theorem algebraic_ffn : Cert.algebraic_FfnIdeal_FfnReferenceIdeal := fun m g m' g' _ hargs => by
  refine ⟨fun c => Cert.Swiglu.halfArray
        (Cert.FfnIdeal.Gen.V m c Cert.FfnIdeal.main_v0)
        (Cert.FfnIdeal.Gen.V m c Cert.FfnIdeal.main_v4)
        (Cert.FfnIdeal.Gen.V m c Cert.FfnIdeal.main_v1)
        (Cert.FfnIdeal.Gen.V m c Cert.FfnIdeal.main_v2)
        (Cert.FfnIdeal.Gen.V m c Cert.FfnIdeal.main_v3), ?_, ?_⟩
  · exact (θ_run Cert.FfnIdeal.defs _ _).mono (fun r h c => ⟨(h c).1.trans (Cert.HalfStep.arr_eq m c), (h c).2⟩)
      (Cert.FfnIdeal.Value.run_blocks m g)
  · refine (θ_run Cert.FfnReferenceIdeal.defs _ _).mono (fun r h c => ⟨(h c).1.trans ?_, (h c).2⟩)
      (Cert.FfnReferenceIdeal.Value.run (F := Ideal) m' g')
    obtain ⟨e0, e1, e2, e3, e4⟩ := hargs c
    rw [Cert.FfnReferenceIdeal.Read.val_main_v21_eq, e0, e1, e2, e3, e4]
    show _ = Cert.Swiglu.halfArray
        (Cert.FfnIdeal.Gen.V m c Cert.FfnIdeal.main_v0)
        (Cert.FfnIdeal.Gen.V m c Cert.FfnIdeal.main_v4)
        (Cert.FfnIdeal.Gen.V m c Cert.FfnIdeal.main_v1)
        (Cert.FfnIdeal.Gen.V m c Cert.FfnIdeal.main_v2)
        (Cert.FfnIdeal.Gen.V m c Cert.FfnIdeal.main_v3)
    rw [Cert.HalfStep.V_x m c, Cert.HalfStep.V_g m c, Cert.HalfStep.V_wg m c, Cert.HalfStep.V_wu m c, Cert.HalfStep.V_wd m c]
    exact (Cert.HalfStep.half_eq _ _ _ _ _ _ _ _).symm

/-- The reference of the last feed-forward half step, closing norm included, leaves its arguments as they were; it declares no semaphore. -/
theorem frame_last_reference : Cert.quiescent_LastReferenceIdeal := fun m ρ _ =>
  (θ_run Cert.LastReferenceIdeal.defs _ _).mono (fun r h => ⟨fun c => (h c).2, sem_eq_zero_of_no_sems (by decide) r.2⟩)
    (Cert.LastReferenceIdeal.Value.run (F := Ideal) m ρ)

/-- The kernel's result is the reference's: the last feed-forward half step, closing norm included, of every row. -/
theorem algebraic_last : Cert.algebraic_LastIdeal_LastReferenceIdeal := fun m g m' g' _ hargs => by
  refine ⟨fun c => Cert.Swiglu.lastArray
        (Cert.LastIdeal.Gen.V m c Cert.LastIdeal.main_v0)
        (Cert.LastIdeal.Gen.V m c Cert.LastIdeal.main_v4)
        (Cert.LastIdeal.Gen.V m c Cert.LastIdeal.main_v1)
        (Cert.LastIdeal.Gen.V m c Cert.LastIdeal.main_v2)
        (Cert.LastIdeal.Gen.V m c Cert.LastIdeal.main_v3)
        (Cert.LastIdeal.Gen.V m c Cert.LastIdeal.main_v5), ?_, ?_⟩
  · exact (θ_run Cert.LastIdeal.defs _ _).mono (fun r h c => ⟨(h c).1.trans (Cert.LastStep.arr_eq m c), (h c).2⟩)
      (Cert.LastIdeal.Value.run_blocks m g)
  · refine (θ_run Cert.LastReferenceIdeal.defs _ _).mono (fun r h c => ⟨(h c).1.trans ?_, (h c).2⟩)
      (Cert.LastReferenceIdeal.Value.run (F := Ideal) m' g')
    obtain ⟨e0, e1, e2, e3, e4, e5⟩ := hargs c
    rw [Cert.LastReferenceIdeal.Read.val_main_v34_eq, e0, e1, e2, e3, e4, e5]
    show _ = Cert.Swiglu.lastArray
        (Cert.LastIdeal.Gen.V m c Cert.LastIdeal.main_v0)
        (Cert.LastIdeal.Gen.V m c Cert.LastIdeal.main_v4)
        (Cert.LastIdeal.Gen.V m c Cert.LastIdeal.main_v1)
        (Cert.LastIdeal.Gen.V m c Cert.LastIdeal.main_v2)
        (Cert.LastIdeal.Gen.V m c Cert.LastIdeal.main_v3)
        (Cert.LastIdeal.Gen.V m c Cert.LastIdeal.main_v5)
    rw [Cert.LastStep.V_x m c, Cert.LastStep.V_g m c, Cert.LastStep.V_wg m c, Cert.LastStep.V_wu m c, Cert.LastStep.V_wd m c, Cert.LastStep.V_gf m c]
    exact (Cert.LastStep.last_eq _ _ _ _ _ _ _ _ _ _).symm

/-- The reference of the output product leaves its arguments as they were; it declares no semaphore. -/
theorem frame_out_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- The kernel's result is the reference's: the residual stream plus the output product. -/
theorem algebraic_out : Cert.algebraic_OutIdeal_OutReferenceIdeal := fun m g m' g' _ hargs => by
  refine ⟨fun c => Cert.Project.addArray (Cert.OutIdeal.Gen.V m c Cert.OutIdeal.main_v0) (Cert.OutIdeal.Gen.V m c Cert.OutIdeal.main_arg1)
      (Cert.OutIdeal.Gen.V m c Cert.OutIdeal.main_v1), ?_, ?_⟩
  · exact (θ_run Cert.OutIdeal.defs _ _).mono (fun r h c => ⟨(h c).1.trans (Cert.OutStep.arr_eq m c), (h c).2⟩)
      (Cert.OutIdeal.Value.run_blocks m g)
  · refine (θ_run Cert.OutReferenceIdeal.defs _ _).mono (fun r h c => ⟨(h c).1.trans ?_, (h c).2⟩)
      (Cert.OutReferenceIdeal.Value.run (F := Ideal) m' g')
    obtain ⟨e0, e1, e2⟩ := hargs c
    rw [Cert.OutReferenceIdeal.Read.val_main_v3_eq, e0, e1, e2]
    show _ = Cert.Project.addArray (Cert.OutIdeal.Gen.V m c Cert.OutIdeal.main_v0) (Cert.OutIdeal.Gen.V m c Cert.OutIdeal.main_arg1)
      (Cert.OutIdeal.Gen.V m c Cert.OutIdeal.main_v1)
    rw [Cert.OutStep.V_x m c, Cert.OutIdeal.Gen.V_main_arg1 m c, Cert.OutStep.V_w m c]
    exact (Cert.OutStep.out_ref _ _ _ _ _).symm

/-- The reference of the output product of the latent attention leaves its arguments as they were; it declares no semaphore. -/
theorem frame_mlaOut_reference : Cert.quiescent_MlaOutReferenceIdeal := fun m ρ _ =>
  (θ_run Cert.MlaOutReferenceIdeal.defs _ _).mono (fun r h => ⟨fun c => (h c).2, sem_eq_zero_of_no_sems (by decide) r.2⟩)
    (Cert.MlaOutReferenceIdeal.Value.run (F := Ideal) m ρ)

/-- The kernel's result is the reference's: the residual stream plus the heads' values by the output weights. -/
theorem algebraic_mlaOut : Cert.algebraic_MlaOutIdeal_MlaOutReferenceIdeal := fun m g m' g' _ hargs => by
  refine ⟨fun c => Cert.MlaOutStep.outArray (Cert.MlaOutIdeal.Gen.V m c Cert.MlaOutIdeal.main_v2) (Cert.MlaOutIdeal.Gen.V m c Cert.MlaOutIdeal.main_v3)
      (Cert.MlaOutIdeal.Gen.V m c Cert.MlaOutIdeal.main_v1) (Cert.MlaOutIdeal.Gen.V m c Cert.MlaOutIdeal.main_v4), ?_, ?_⟩
  · exact (θ_run Cert.MlaOutIdeal.defs _ _).mono (fun r h c => ⟨(h c).1.trans (Cert.MlaOutStep.arr_eq m c), (h c).2⟩)
      (Cert.MlaOutIdeal.Value.run_blocks m g)
  · refine (θ_run Cert.MlaOutReferenceIdeal.defs _ _).mono (fun r h c => ⟨(h c).1.trans ?_, (h c).2⟩)
      (Cert.MlaOutReferenceIdeal.Value.run (F := Ideal) m' g')
    obtain ⟨e0, e1, e2, e3⟩ := hargs c
    rw [Cert.MlaOutReferenceIdeal.Read.val_main_v6_eq, e0, e1, e2, e3]
    show _ = Cert.MlaOutStep.outArray (Cert.MlaOutIdeal.Gen.V m c Cert.MlaOutIdeal.main_v2) (Cert.MlaOutIdeal.Gen.V m c Cert.MlaOutIdeal.main_v3)
      (Cert.MlaOutIdeal.Gen.V m c Cert.MlaOutIdeal.main_v1) (Cert.MlaOutIdeal.Gen.V m c Cert.MlaOutIdeal.main_v4)
    rw [Cert.MlaOutStep.V_x m c, Cert.MlaOutStep.V_o m c, Cert.MlaOutStep.V_u m c, Cert.MlaOutStep.V_w m c]
    exact (Cert.MlaOutStep.out_ref _ _ _ _ _ _ _ _).symm

/-- The reference of the stick-breaking projection leaves its arguments as they were; it declares no semaphore. -/
theorem frame_keys_reference : Cert.quiescent_KeysReferenceIdeal := fun m ρ _ =>
  (θ_run Cert.KeysReferenceIdeal.defs _ _).mono (fun r h => ⟨fun c => (h c).2.2.2.2.2, sem_eq_zero_of_no_sems (by decide) r.2⟩)
    (Cert.KeysReferenceIdeal.Value.run (F := Ideal) m ρ)

/-- The kernel's five results are the reference's: queries, keys, values, and the two last rounded. -/
theorem algebraic_keys : Cert.algebraic_KeysIdeal_KeysReferenceIdeal := fun m g m' g' _ hargs => by
  refine ⟨fun c => Cert.KeysReferenceIdeal.Read.val_main_v20 (F := Ideal) (m ((c : Thread Cert.KeysIdeal.nD Cert.KeysIdeal.τ).loc Cert.KeysIdeal.main_arg0))
        (m ((c : Thread Cert.KeysIdeal.nD Cert.KeysIdeal.τ).loc Cert.KeysIdeal.main_arg1)) (m ((c : Thread Cert.KeysIdeal.nD Cert.KeysIdeal.τ).loc Cert.KeysIdeal.main_arg2)),
    fun c => Cert.KeysReferenceIdeal.Read.val_main_v16 (F := Ideal) (m ((c : Thread Cert.KeysIdeal.nD Cert.KeysIdeal.τ).loc Cert.KeysIdeal.main_arg0))
        (m ((c : Thread Cert.KeysIdeal.nD Cert.KeysIdeal.τ).loc Cert.KeysIdeal.main_arg1)) (m ((c : Thread Cert.KeysIdeal.nD Cert.KeysIdeal.τ).loc Cert.KeysIdeal.main_arg2)),
    fun c => Cert.KeysReferenceIdeal.Read.val_main_v17 (F := Ideal) (m ((c : Thread Cert.KeysIdeal.nD Cert.KeysIdeal.τ).loc Cert.KeysIdeal.main_arg0))
        (m ((c : Thread Cert.KeysIdeal.nD Cert.KeysIdeal.τ).loc Cert.KeysIdeal.main_arg1)) (m ((c : Thread Cert.KeysIdeal.nD Cert.KeysIdeal.τ).loc Cert.KeysIdeal.main_arg2)),
    fun c => Cert.KeysReferenceIdeal.Read.val_main_v21 (F := Ideal) (m ((c : Thread Cert.KeysIdeal.nD Cert.KeysIdeal.τ).loc Cert.KeysIdeal.main_arg0))
        (m ((c : Thread Cert.KeysIdeal.nD Cert.KeysIdeal.τ).loc Cert.KeysIdeal.main_arg1)) (m ((c : Thread Cert.KeysIdeal.nD Cert.KeysIdeal.τ).loc Cert.KeysIdeal.main_arg2)),
    fun c => Cert.KeysReferenceIdeal.Read.val_main_v22 (F := Ideal) (m ((c : Thread Cert.KeysIdeal.nD Cert.KeysIdeal.τ).loc Cert.KeysIdeal.main_arg0))
        (m ((c : Thread Cert.KeysIdeal.nD Cert.KeysIdeal.τ).loc Cert.KeysIdeal.main_arg1)) (m ((c : Thread Cert.KeysIdeal.nD Cert.KeysIdeal.τ).loc Cert.KeysIdeal.main_arg2)), ?_, ?_⟩
  · refine (θ_run Cert.KeysIdeal.defs _ _).mono (fun r h c => ?_) (Cert.KeysIdeal.Value.run_blocks m g)
    obtain ⟨h3, h4, h5, h6, h7, ha⟩ := h c
    exact ⟨h3.trans (Cert.KeysStep.arr3_ref m c), h4.trans (Cert.KeysStep.arr4_ref m c), h5.trans (Cert.KeysStep.arr5_ref m c),
      h6.trans (Cert.KeysStep.arr6_ref m c), h7.trans (Cert.KeysStep.arr7_ref m c), ha⟩
  · refine (θ_run Cert.KeysReferenceIdeal.defs _ _).mono (fun r h c => ?_) (Cert.KeysReferenceIdeal.Value.run (F := Ideal) m' g')
    obtain ⟨h0, h1, h2, h3, h4, ha⟩ := h c
    obtain ⟨e0, e1, e2⟩ := hargs c
    refine ⟨h0.trans ?_, h1.trans ?_, h2.trans ?_, h3.trans ?_, h4.trans ?_, ha⟩
    · rw [Cert.KeysReferenceIdeal.Read.val_main_v20_eq, e0, e1, e2]
    · rw [Cert.KeysReferenceIdeal.Read.val_main_v16_eq, e0, e1, e2]
    · rw [Cert.KeysReferenceIdeal.Read.val_main_v17_eq, e0, e1, e2]
    · rw [Cert.KeysReferenceIdeal.Read.val_main_v21_eq, e0, e1, e2]
    · rw [Cert.KeysReferenceIdeal.Read.val_main_v22_eq, e0, e1, e2]

/-- The reference of the gated DeltaNet's projection leaves its arguments as they were; it declares no semaphore. -/
theorem frame_gdn_reference : Cert.quiescent_GdnReferenceIdeal := fun m ρ _ =>
  (θ_run Cert.GdnReferenceIdeal.defs _ _).mono (fun r h => ⟨fun c => (h c).2.2, sem_eq_zero_of_no_sems (by decide) r.2⟩)
    (Cert.GdnReferenceIdeal.Value.run (F := Ideal) m ρ)

/-- The kernel's two projections of the normed rows are the reference's. -/
theorem algebraic_gdn : Cert.algebraic_GdnIdeal_GdnReferenceIdeal := fun m g m' g' _ hargs => by
  refine ⟨fun c => Cert.GdnReferenceIdeal.Read.val_main_v15 (F := Ideal) (m ((c : Thread Cert.GdnIdeal.nD Cert.GdnIdeal.τ).loc Cert.GdnIdeal.main_arg0))
        (m ((c : Thread Cert.GdnIdeal.nD Cert.GdnIdeal.τ).loc Cert.GdnIdeal.main_arg1)) (m ((c : Thread Cert.GdnIdeal.nD Cert.GdnIdeal.τ).loc Cert.GdnIdeal.main_arg2)),
    fun c => Cert.GdnReferenceIdeal.Read.val_main_v16 (F := Ideal) (m ((c : Thread Cert.GdnIdeal.nD Cert.GdnIdeal.τ).loc Cert.GdnIdeal.main_arg0))
        (m ((c : Thread Cert.GdnIdeal.nD Cert.GdnIdeal.τ).loc Cert.GdnIdeal.main_arg1)) (m ((c : Thread Cert.GdnIdeal.nD Cert.GdnIdeal.τ).loc Cert.GdnIdeal.main_arg2)), ?_, ?_⟩
  · refine (θ_run Cert.GdnIdeal.defs _ _).mono (fun r h c => ?_) (Cert.GdnIdeal.Value.run_blocks m g)
    obtain ⟨h4, h5, _, _, ha⟩ := h c
    exact ⟨h4.trans (Cert.GdnStep.arr4_ref m c), h5.trans (Cert.GdnStep.arr5_ref m c), ha⟩
  · refine (θ_run Cert.GdnReferenceIdeal.defs _ _).mono (fun r h c => ?_) (Cert.GdnReferenceIdeal.Value.run (F := Ideal) m' g')
    obtain ⟨h0, h1, ha⟩ := h c
    obtain ⟨e0, e1, e2⟩ := hargs c
    refine ⟨h0.trans ?_, h1.trans ?_, ha⟩
    · rw [Cert.GdnReferenceIdeal.Read.val_main_v15_eq, e0, e1, e2]
    · rw [Cert.GdnReferenceIdeal.Read.val_main_v16_eq, e0, e1, e2]

/-- The reference of the stick-breaking projection of the sample batch leaves its arguments as they were; it declares no semaphore. -/
theorem frame_keysSample_reference : Cert.quiescent_KeysSampleReferenceIdeal := fun m ρ _ =>
  (θ_run Cert.KeysSampleReferenceIdeal.defs _ _).mono (fun r h => ⟨fun c => (h c).2.2.2.2.2, sem_eq_zero_of_no_sems (by decide) r.2⟩)
    (Cert.KeysSampleReferenceIdeal.Value.run (F := Ideal) m ρ)

/-- For the sample batch the kernel's five results are the reference's: queries, keys, values, and the two last rounded. -/
theorem algebraic_keysSample : Cert.algebraic_KeysSampleIdeal_KeysSampleReferenceIdeal := fun m g m' g' _ hargs => by
  refine ⟨fun c => Cert.KeysSampleReferenceIdeal.Read.val_main_v20 (F := Ideal) (m ((c : Thread Cert.KeysSampleIdeal.nD Cert.KeysSampleIdeal.τ).loc Cert.KeysSampleIdeal.main_arg0))
        (m ((c : Thread Cert.KeysSampleIdeal.nD Cert.KeysSampleIdeal.τ).loc Cert.KeysSampleIdeal.main_arg1)) (m ((c : Thread Cert.KeysSampleIdeal.nD Cert.KeysSampleIdeal.τ).loc Cert.KeysSampleIdeal.main_arg2)),
    fun c => Cert.KeysSampleReferenceIdeal.Read.val_main_v16 (F := Ideal) (m ((c : Thread Cert.KeysSampleIdeal.nD Cert.KeysSampleIdeal.τ).loc Cert.KeysSampleIdeal.main_arg0))
        (m ((c : Thread Cert.KeysSampleIdeal.nD Cert.KeysSampleIdeal.τ).loc Cert.KeysSampleIdeal.main_arg1)) (m ((c : Thread Cert.KeysSampleIdeal.nD Cert.KeysSampleIdeal.τ).loc Cert.KeysSampleIdeal.main_arg2)),
    fun c => Cert.KeysSampleReferenceIdeal.Read.val_main_v17 (F := Ideal) (m ((c : Thread Cert.KeysSampleIdeal.nD Cert.KeysSampleIdeal.τ).loc Cert.KeysSampleIdeal.main_arg0))
        (m ((c : Thread Cert.KeysSampleIdeal.nD Cert.KeysSampleIdeal.τ).loc Cert.KeysSampleIdeal.main_arg1)) (m ((c : Thread Cert.KeysSampleIdeal.nD Cert.KeysSampleIdeal.τ).loc Cert.KeysSampleIdeal.main_arg2)),
    fun c => Cert.KeysSampleReferenceIdeal.Read.val_main_v21 (F := Ideal) (m ((c : Thread Cert.KeysSampleIdeal.nD Cert.KeysSampleIdeal.τ).loc Cert.KeysSampleIdeal.main_arg0))
        (m ((c : Thread Cert.KeysSampleIdeal.nD Cert.KeysSampleIdeal.τ).loc Cert.KeysSampleIdeal.main_arg1)) (m ((c : Thread Cert.KeysSampleIdeal.nD Cert.KeysSampleIdeal.τ).loc Cert.KeysSampleIdeal.main_arg2)),
    fun c => Cert.KeysSampleReferenceIdeal.Read.val_main_v22 (F := Ideal) (m ((c : Thread Cert.KeysSampleIdeal.nD Cert.KeysSampleIdeal.τ).loc Cert.KeysSampleIdeal.main_arg0))
        (m ((c : Thread Cert.KeysSampleIdeal.nD Cert.KeysSampleIdeal.τ).loc Cert.KeysSampleIdeal.main_arg1)) (m ((c : Thread Cert.KeysSampleIdeal.nD Cert.KeysSampleIdeal.τ).loc Cert.KeysSampleIdeal.main_arg2)), ?_, ?_⟩
  · refine (θ_run Cert.KeysSampleIdeal.defs _ _).mono (fun r h c => ?_) (Cert.KeysSampleIdeal.Value.run_blocks m g)
    obtain ⟨h3, h4, h5, h6, h7, ha⟩ := h c
    exact ⟨h3.trans (Cert.KeysSampleStep.arr3_ref m c), h4.trans (Cert.KeysSampleStep.arr4_ref m c), h5.trans (Cert.KeysSampleStep.arr5_ref m c),
      h6.trans (Cert.KeysSampleStep.arr6_ref m c), h7.trans (Cert.KeysSampleStep.arr7_ref m c), ha⟩
  · refine (θ_run Cert.KeysSampleReferenceIdeal.defs _ _).mono (fun r h c => ?_) (Cert.KeysSampleReferenceIdeal.Value.run (F := Ideal) m' g')
    obtain ⟨h0, h1, h2, h3, h4, ha⟩ := h c
    obtain ⟨e0, e1, e2⟩ := hargs c
    refine ⟨h0.trans ?_, h1.trans ?_, h2.trans ?_, h3.trans ?_, h4.trans ?_, ha⟩
    · rw [Cert.KeysSampleReferenceIdeal.Read.val_main_v20_eq, e0, e1, e2]
    · rw [Cert.KeysSampleReferenceIdeal.Read.val_main_v16_eq, e0, e1, e2]
    · rw [Cert.KeysSampleReferenceIdeal.Read.val_main_v17_eq, e0, e1, e2]
    · rw [Cert.KeysSampleReferenceIdeal.Read.val_main_v21_eq, e0, e1, e2]
    · rw [Cert.KeysSampleReferenceIdeal.Read.val_main_v22_eq, e0, e1, e2]

/-- The reference of the gated DeltaNet's projection of the sample batch leaves its arguments as they were; it declares no semaphore. -/
theorem frame_gdnSample_reference : Cert.quiescent_GdnSampleReferenceIdeal := fun m ρ _ =>
  (θ_run Cert.GdnSampleReferenceIdeal.defs _ _).mono (fun r h => ⟨fun c => (h c).2.2, sem_eq_zero_of_no_sems (by decide) r.2⟩)
    (Cert.GdnSampleReferenceIdeal.Value.run (F := Ideal) m ρ)

/-- For the sample batch the kernel's two projections of the normed rows are the reference's. -/
theorem algebraic_gdnSample : Cert.algebraic_GdnSampleIdeal_GdnSampleReferenceIdeal := fun m g m' g' _ hargs => by
  refine ⟨fun c => Cert.GdnSampleReferenceIdeal.Read.val_main_v15 (F := Ideal) (m ((c : Thread Cert.GdnSampleIdeal.nD Cert.GdnSampleIdeal.τ).loc Cert.GdnSampleIdeal.main_arg0))
        (m ((c : Thread Cert.GdnSampleIdeal.nD Cert.GdnSampleIdeal.τ).loc Cert.GdnSampleIdeal.main_arg1)) (m ((c : Thread Cert.GdnSampleIdeal.nD Cert.GdnSampleIdeal.τ).loc Cert.GdnSampleIdeal.main_arg2)),
    fun c => Cert.GdnSampleReferenceIdeal.Read.val_main_v16 (F := Ideal) (m ((c : Thread Cert.GdnSampleIdeal.nD Cert.GdnSampleIdeal.τ).loc Cert.GdnSampleIdeal.main_arg0))
        (m ((c : Thread Cert.GdnSampleIdeal.nD Cert.GdnSampleIdeal.τ).loc Cert.GdnSampleIdeal.main_arg1)) (m ((c : Thread Cert.GdnSampleIdeal.nD Cert.GdnSampleIdeal.τ).loc Cert.GdnSampleIdeal.main_arg2)), ?_, ?_⟩
  · refine (θ_run Cert.GdnSampleIdeal.defs _ _).mono (fun r h c => ?_) (Cert.GdnSampleIdeal.Value.run_blocks m g)
    obtain ⟨h4, h5, _, _, ha⟩ := h c
    exact ⟨h4.trans (Cert.GdnSampleStep.arr4_ref m c), h5.trans (Cert.GdnSampleStep.arr5_ref m c), ha⟩
  · refine (θ_run Cert.GdnSampleReferenceIdeal.defs _ _).mono (fun r h c => ?_) (Cert.GdnSampleReferenceIdeal.Value.run (F := Ideal) m' g')
    obtain ⟨h0, h1, ha⟩ := h c
    obtain ⟨e0, e1, e2⟩ := hargs c
    refine ⟨h0.trans ?_, h1.trans ?_, ha⟩
    · rw [Cert.GdnSampleReferenceIdeal.Read.val_main_v15_eq, e0, e1, e2]
    · rw [Cert.GdnSampleReferenceIdeal.Read.val_main_v16_eq, e0, e1, e2]

/-- The reference of the sample batch's last half step leaves its arguments as they were; it declares no semaphore. -/
theorem frame_lastSample_reference : Cert.quiescent_LastSampleReferenceIdeal := fun m ρ _ =>
  (θ_run Cert.LastSampleReferenceIdeal.defs _ _).mono (fun r h => ⟨fun c => (h c).2, sem_eq_zero_of_no_sems (by decide) r.2⟩)
    (Cert.LastSampleReferenceIdeal.Value.run (F := Ideal) m ρ)

/-- For the sample batch the kernel's result is the reference's: the last feed-forward half step, closing norm included, of every row. -/
theorem algebraic_lastSample : Cert.algebraic_LastSampleIdeal_LastSampleReferenceIdeal := fun m g m' g' _ hargs => by
  refine ⟨fun c => Cert.LastSampleStep.lastRows
        (Cert.LastSampleIdeal.Gen.V m c Cert.LastSampleIdeal.main_v0)
        (Cert.LastSampleIdeal.Gen.V m c Cert.LastSampleIdeal.main_v4)
        (Cert.LastSampleIdeal.Gen.V m c Cert.LastSampleIdeal.main_v1)
        (Cert.LastSampleIdeal.Gen.V m c Cert.LastSampleIdeal.main_v2)
        (Cert.LastSampleIdeal.Gen.V m c Cert.LastSampleIdeal.main_v3)
        (Cert.LastSampleIdeal.Gen.V m c Cert.LastSampleIdeal.main_v5), ?_, ?_⟩
  · exact (θ_run Cert.LastSampleIdeal.defs _ _).mono (fun r h c => ⟨(h c).1.trans (Cert.LastSampleStep.arr_eq m c), (h c).2⟩)
      (Cert.LastSampleIdeal.Value.run_blocks m g)
  · refine (θ_run Cert.LastSampleReferenceIdeal.defs _ _).mono (fun r h c => ⟨(h c).1.trans ?_, (h c).2⟩)
      (Cert.LastSampleReferenceIdeal.Value.run (F := Ideal) m' g')
    obtain ⟨e0, e1, e2, e3, e4, e5⟩ := hargs c
    rw [Cert.LastSampleReferenceIdeal.Read.val_main_v34_eq, e0, e1, e2, e3, e4, e5]
    show _ = Cert.LastSampleStep.lastRows
        (Cert.LastSampleIdeal.Gen.V m c Cert.LastSampleIdeal.main_v0)
        (Cert.LastSampleIdeal.Gen.V m c Cert.LastSampleIdeal.main_v4)
        (Cert.LastSampleIdeal.Gen.V m c Cert.LastSampleIdeal.main_v1)
        (Cert.LastSampleIdeal.Gen.V m c Cert.LastSampleIdeal.main_v2)
        (Cert.LastSampleIdeal.Gen.V m c Cert.LastSampleIdeal.main_v3)
        (Cert.LastSampleIdeal.Gen.V m c Cert.LastSampleIdeal.main_v5)
    rw [Cert.LastSampleStep.V_x m c, Cert.LastSampleStep.V_g m c, Cert.LastSampleStep.V_wg m c, Cert.LastSampleStep.V_wu m c, Cert.LastSampleStep.V_wd m c, Cert.LastSampleStep.V_gf m c]
    exact (Cert.LastSampleStep.last_eq _ _ _ _ _ _ _ _ _ _).symm

theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Last.Gen.facts, Cert.LastIdeal.Gen.facts, Cert.LastReferenceIdeal.Gen.facts,
    Cert.Out.Gen.facts, Cert.OutIdeal.Gen.facts, Cert.OutReferenceIdeal.Gen.facts,
    Cert.MlaOut.Gen.facts, Cert.MlaOutIdeal.Gen.facts, Cert.MlaOutReferenceIdeal.Gen.facts,
    Cert.Keys.Gen.facts, Cert.KeysIdeal.Gen.facts, Cert.KeysReferenceIdeal.Gen.facts,
    Cert.Gdn.Gen.facts, Cert.GdnIdeal.Gen.facts, Cert.GdnReferenceIdeal.Gen.facts,
    Cert.KeysSample.Gen.facts, Cert.KeysSampleIdeal.Gen.facts, Cert.KeysSampleReferenceIdeal.Gen.facts,
    Cert.GdnSample.Gen.facts, Cert.GdnSampleIdeal.Gen.facts, Cert.GdnSampleReferenceIdeal.Gen.facts,
    Cert.LastSample.Gen.facts, Cert.LastSampleIdeal.Gen.facts, Cert.LastSampleReferenceIdeal.Gen.facts,
    finiteFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.Ffn.Gen.frame m ρ, fun m ρ _ => Cert.FfnIdeal.Gen.frame m ρ, frame_ffn_reference,
    fun m ρ _ => Cert.Last.Gen.frame m ρ, fun m ρ _ => Cert.LastIdeal.Gen.frame m ρ, frame_last_reference,
    fun m ρ _ => Cert.Out.Gen.frame m ρ, fun m ρ _ => Cert.OutIdeal.Gen.frame m ρ, frame_out_reference,
    fun m ρ _ => Cert.MlaOut.Gen.frame m ρ, fun m ρ _ => Cert.MlaOutIdeal.Gen.frame m ρ, frame_mlaOut_reference,
    fun m ρ _ => Cert.Keys.Gen.frame m ρ, fun m ρ _ => Cert.KeysIdeal.Gen.frame m ρ, frame_keys_reference,
    fun m ρ _ => Cert.Gdn.Gen.frame m ρ, fun m ρ _ => Cert.GdnIdeal.Gen.frame m ρ, frame_gdn_reference,
    fun m ρ _ => Cert.KeysSample.Gen.frame m ρ, fun m ρ _ => Cert.KeysSampleIdeal.Gen.frame m ρ, frame_keysSample_reference,
    fun m ρ _ => Cert.GdnSample.Gen.frame m ρ, fun m ρ _ => Cert.GdnSampleIdeal.Gen.frame m ρ, frame_gdnSample_reference,
    fun m ρ _ => Cert.LastSample.Gen.frame m ρ, fun m ρ _ => Cert.LastSampleIdeal.Gen.frame m ρ, frame_lastSample_reference,
    preserves, algebraic, trivial, algebraic_ffn, trivial, algebraic_last, trivial, algebraic_out, trivial, algebraic_mlaOut, trivial, algebraic_keys, trivial, algebraic_gdn,
    trivial, algebraic_keysSample,
    trivial, algebraic_gdnSample,
    trivial, algebraic_lastSample⟩

end Cert.Proof

end
